-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S32x2048x1024 : Shape := ⟨3, ![32, 2048, 1024]⟩
abbrev S1x1024 : Shape := ⟨2, ![1, 1024]⟩
abbrev S1x1024x6144 : Shape := ⟨3, ![1, 1024, 6144]⟩
abbrev S2x512 : Shape := ⟨2, ![2, 512]⟩
abbrev S1x512 : Shape := ⟨2, ![1, 512]⟩
abbrev S1x4x1024 : Shape := ⟨3, ![1, 4, 1024]⟩
abbrev S1x8x128x128 : Shape := ⟨4, ![1, 8, 128, 128]⟩
abbrev S4x128x128 : Shape := ⟨3, ![4, 128, 128]⟩
abbrev S8x1024 : Shape := ⟨2, ![8, 1024]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x6144 : S_.BroadcastsInDim S1x1024x6144 (![] : Fin 0 → Fin S1x1024x6144.rank)
  reducesTo_S1x1024x6144_S_d0_1_2 : S1x1024x6144.ReducesTo [0, 1, 2] S_
  bcast_S_S2x512 : S_.BroadcastsInDim S2x512 (![] : Fin 0 → Fin S2x512.rank)
  reducesTo_S2x512_S_d0_1 : S2x512.ReducesTo [0, 1] S_
  bcast_S_S1x512 : S_.BroadcastsInDim S1x512 (![] : Fin 0 → Fin S1x512.rank)
  reducesTo_S1x512_S_d0_1 : S1x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg4 : FVec F S1x512 .f32) (main_arg12 : FVec F S4x128x128 .f32) (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S4x128x128 .f32 := Host.absf main_arg12
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  main_v28

def fn {F : FTy → Type} [FloatOps F] (main_arg0 : FVec F S32x2048x1024 .f32) (main_arg1 : FVec F S1x1024 .f32) (main_arg2 : FVec F S1x1024x6144 .f32) (main_arg3 : FVec F S2x512 .f32) (main_arg4 : FVec F S1x512 .f32) (main_arg5 : FVec F S1x4x1024 .f32) (main_arg6 : FVec F S1x1024 .f32) (main_arg7 : FVec F S1x8x128x128 .f32) (main_arg8 : FVec F S1x1024 .f32) (main_arg9 : FVec F S1x8x128x128 .f32) (main_arg10 : FVec F S1x1024 .f32) (main_arg11 : FVec F S1x1024 .f32) (main_arg12 : FVec F S4x128x128 .f32) (main_arg13 : FVec F S1x1024 .f32) (main_arg14 : FVec F S8x1024 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x6144 .f32 := Host.absf main_arg2
  let main_cst_2 : FVec F S_ .f32 := constant S_ .f32 0x7F800000#32
  let main_v10 : FVec F S1x1024x6144 .f32 := broadcastInDim S1x1024x6144 ![] bcast_S_S1x1024x6144 main_cst_2
  let main_v11 : IVec S1x1024x6144 1 := cmpf .olt main_v9 main_v10
  let main_c_3 : IVec S_ 1 := constantI S_ 1 1#1
  let main_v12 : IVec S_ 1 := (fun x v => Host.reduce IntOp.andi x v reducesTo_S1x1024x6144_S_d0_1_2 h_S_) main_v11 main_c_3
  let main_v13 : IVec S_ 1 := andi main_v8 main_v12
  let main_v14 : FVec F S2x512 .f32 := Host.absf main_arg3
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_arg4 main_arg12 main_v13 main_v16
-- ==== Kernel.lean ====
abbrev S32x2048x1024 : Shape := ⟨3, ![32, 2048, 1024]⟩
abbrev S1x1024 : Shape := ⟨2, ![1, 1024]⟩
abbrev S1x1024x6144 : Shape := ⟨3, ![1, 1024, 6144]⟩
abbrev S2x512 : Shape := ⟨2, ![2, 512]⟩
abbrev S1x512 : Shape := ⟨2, ![1, 512]⟩
abbrev S1x4x1024 : Shape := ⟨3, ![1, 4, 1024]⟩
abbrev S1x8x128x128 : Shape := ⟨4, ![1, 8, 128, 128]⟩
abbrev S4x128x128 : Shape := ⟨3, ![4, 128, 128]⟩
abbrev S8x1024 : Shape := ⟨2, ![8, 1024]⟩
abbrev S_ : Shape := ⟨0, ![]⟩
abbrev S512 : Shape := ⟨1, ![512]⟩
abbrev S1024 : Shape := ⟨1, ![1024]⟩
abbrev S1024x6144 : Shape := ⟨2, ![1024, 6144]⟩
abbrev S4x1024 : Shape := ⟨2, ![4, 1024]⟩
abbrev S8x128x128 : Shape := ⟨3, ![8, 128, 128]⟩
abbrev S8x128x256 : Shape := ⟨3, ![8, 128, 256]⟩
abbrev S1024x2048 : Shape := ⟨2, ![1024, 2048]⟩
abbrev S1024x2x8x128 : Shape := ⟨4, ![1024, 2, 8, 128]⟩
abbrev S8x1024x2x128 : Shape := ⟨4, ![8, 1024, 2, 128]⟩
abbrev S8x1024x256 : Shape := ⟨3, ![8, 1024, 256]⟩
abbrev S65536x1024 : Shape := ⟨2, ![65536, 1024]⟩
abbrev S65536x512 : Shape := ⟨2, ![65536, 512]⟩
abbrev S32x4x128x128 : Shape := ⟨4, ![32, 4, 128, 128]⟩
abbrev S32x1x1024 : Shape := ⟨3, ![32, 1, 1024]⟩
abbrev S32x8x1024 : Shape := ⟨3, ![32, 8, 1024]⟩
abbrev S256x1024 : Shape := ⟨2, ![256, 1024]⟩
abbrev S256x512 : Shape := ⟨2, ![256, 512]⟩
abbrev S1x4x128x128 : Shape := ⟨4, ![1, 4, 128, 128]⟩
abbrev S1x1x1024 : Shape := ⟨3, ![1, 1, 1024]⟩
abbrev S1x8x1024 : Shape := ⟨3, ![1, 8, 1024]⟩
abbrev S256x2048 : Shape := ⟨2, ![256, 2048]⟩
abbrev S8x256x128 : Shape := ⟨3, ![8, 256, 128]⟩
abbrev S256 : Shape := ⟨1, ![256]⟩
abbrev S256x1 : Shape := ⟨2, ![256, 1]⟩
abbrev S256x256 : Shape := ⟨2, ![256, 256]⟩
abbrev S16x512 : Shape := ⟨2, ![16, 512]⟩
abbrev S64x512 : Shape := ⟨2, ![64, 512]⟩
abbrev S64x64 : Shape := ⟨2, ![64, 64]⟩
abbrev S64x128 : Shape := ⟨2, ![64, 128]⟩
abbrev S128x128 : Shape := ⟨2, ![128, 128]⟩
abbrev S1x128x128 : Shape := ⟨3, ![1, 128, 128]⟩
abbrev S1x128 : Shape := ⟨2, ![1, 128]⟩
abbrev S64 : Shape := ⟨1, ![64]⟩
abbrev S64x1 : Shape := ⟨2, ![64, 1]⟩
abbrev S1x8x1 : Shape := ⟨3, ![1, 8, 1]⟩
abbrev S1x1024x256 : Shape := ⟨3, ![1, 1024, 256]⟩
abbrev S1024x256 : Shape := ⟨2, ![1024, 256]⟩
abbrev S256x128 : Shape := ⟨2, ![256, 128]⟩
abbrev S1x256x128 : Shape := ⟨3, ![1, 256, 128]⟩
abbrev S8x128 : Shape := ⟨2, ![8, 128]⟩
abbrev S264x128 : Shape := ⟨2, ![264, 128]⟩
abbrev S1x128x256 : Shape := ⟨3, ![1, 128, 256]⟩
abbrev S128x256 : Shape := ⟨2, ![128, 256]⟩
abbrev S32x8x128 : Shape := ⟨3, ![32, 8, 128]⟩
abbrev S1x8x128 : Shape := ⟨3, ![1, 8, 128]⟩

abbrev nBuf : Space → Nat
  | .hbm => 65
  | .vmem => 32
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S2x512, .f32⟩
  | .hbm, ⟨4, _⟩ => ⟨S1x512, .f32⟩
  | .hbm, ⟨5, _⟩ => ⟨S1x4x1024, .f32⟩
  | .hbm, ⟨6, _⟩ => ⟨S1x1024, .f32⟩
  | .hbm, ⟨7, _⟩ => ⟨S1x8x128x128, .f32⟩
  | .hbm, ⟨8, _⟩ => ⟨S1x1024, .f32⟩
  | .hbm, ⟨9, _⟩ => ⟨S1x8x128x128, .f32⟩
  | .hbm, ⟨10, _⟩ => ⟨S1x1024, .f32⟩
  | .hbm, ⟨11, _⟩ => ⟨S1x1024, .f32⟩
  | .hbm, ⟨12, _⟩ => ⟨S4x128x128, .f32⟩
  | .hbm, ⟨13, _⟩ => ⟨S1x1024, .f32⟩
  | .hbm, ⟨14, _⟩ => ⟨S8x1024, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S1x512, .f32⟩
  | .hbm, ⟨21, _⟩ => ⟨S2x512, .f32⟩
  | .hbm, ⟨22, _⟩ => ⟨S2x512, .f32⟩
  | .hbm, ⟨23, _⟩ => ⟨S2x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S2x512, .f32⟩
  | .hbm, ⟨28, _⟩ => ⟨S2x512, .f32⟩
  | .hbm, ⟨29, _⟩ => ⟨S_, .f32⟩
  | .hbm, ⟨30, _⟩ => ⟨S_, .f32⟩
  | .hbm, ⟨31, _⟩ => ⟨S2x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S1024, .f32⟩
  | .hbm, ⟨36, _⟩ => ⟨S1x1024, .f32⟩
  | .hbm, ⟨37, _⟩ => ⟨S1024x6144, .f32⟩
  | .hbm, ⟨38, _⟩ => ⟨S1024x6144, .bf16⟩
  | .hbm, ⟨39, _⟩ => ⟨S512, .f32⟩
  | .hbm, ⟨40, _⟩ => ⟨S1x512, .f32⟩
  | .hbm, ⟨41, _⟩ => ⟨S4x1024, .f32⟩
  | .hbm, ⟨42, _⟩ => ⟨S1024, .f32⟩
  | .hbm, ⟨43, _⟩ => ⟨S1x1024, .f32⟩
  | .hbm, ⟨44, _⟩ => ⟨S8x128x128, .f32⟩
  | .hbm, ⟨45, _⟩ => ⟨S8x128x128, .f32⟩
  | .hbm, ⟨46, _⟩ => ⟨S8x128x256, .f32⟩
  | .hbm, ⟨47, _⟩ => ⟨S8x128x256, .bf16⟩
  | .hbm, ⟨48, _⟩ => ⟨S1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1024x2048, .bf16⟩
  | .hbm, ⟨55, _⟩ => ⟨S1024x2048, .bf16⟩
  | .hbm, ⟨56, _⟩ => ⟨S1024x2x8x128, .bf16⟩
  | .hbm, ⟨57, _⟩ => ⟨S8x1024x2x128, .bf16⟩
  | .hbm, ⟨58, _⟩ => ⟨S8x1024x256, .bf16⟩
  | .hbm, ⟨59, _⟩ => ⟨S65536x1024, .f32⟩
  | .hbm, ⟨60, _⟩ => ⟨S65536x512, .f32⟩
  | .hbm, ⟨61, _⟩ => ⟨S65536x1024, .f32⟩
  | .hbm, ⟨62, _⟩ => ⟨S32x4x128x128, .f32⟩
  | .hbm, ⟨63, _⟩ => ⟨S32x1x1024, .f32⟩
  | .hbm, ⟨64, _⟩ => ⟨S32x8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S8x1024x256, .bf16⟩
  | .local _ .vmem, ⟨8, _⟩ => ⟨S4x1024, .f32⟩
  | .local _ .vmem, ⟨9, _⟩ => ⟨S1x1024, .f32⟩
  | .local _ .vmem, ⟨10, _⟩ => ⟨S8x128x256, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S8x1024, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S1x4x128x128, .f32⟩
  | .local _ .vmem, ⟨21, _⟩ => ⟨S1x4x128x128, .f32⟩
  | .local _ .vmem, ⟨22, _⟩ => ⟨S1x1x1024, .f32⟩
  | .local _ .vmem, ⟨23, _⟩ => ⟨S1x1x1024, .f32⟩
  | .local _ .vmem, ⟨24, _⟩ => ⟨S1x8x1024, .f32⟩
  | .local _ .vmem, ⟨25, _⟩ => ⟨S1x8x1024, .f32⟩
  | .local _ .vmem, ⟨26, _⟩ => ⟨S4x128x128, .f32⟩
  | .local _ .vmem, ⟨27, _⟩ => ⟨S256x512, .f32⟩
  | .local _ .vmem, ⟨28, _⟩ => ⟨S256x2048, .f32⟩
  | .local _ .vmem, ⟨29, _⟩ => ⟨S8x1024, .f32⟩
  | .local _ .vmem, ⟨30, _⟩ => ⟨S1x1024, .f32⟩
  | .local _ .vmem, ⟨31, _⟩ => ⟨S8x256x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call0_call0_cst : Ref sig .tc := ⟨.hbm, 29, rfl⟩
abbrev main_call0_call0_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v40_2 : Ref sig .tc := ⟨.hbm, 62, rfl⟩
abbrev main_v40_3 : Ref sig .tc := ⟨.hbm, 63, rfl⟩
abbrev main_v40_4 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v8817 : BitVec 1 := Scalar.cmpi .eq arg1 c7_i32
  let v8818 : BitVec 32 := Scalar.extui v8817
  let c0_i32_3208 : BitVec 32 := 0#32
  let v8819 : BitVec 1 := Scalar.cmpi .ne v8818 c0_i32_3208
  v8819

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S32x2048x1024 : Shape := ⟨3, ![32, 2048, 1024]⟩
abbrev S1x1024 : Shape := ⟨2, ![1, 1024]⟩
abbrev S1x1024x6144 : Shape := ⟨3, ![1, 1024, 6144]⟩
abbrev S2x512 : Shape := ⟨2, ![2, 512]⟩
abbrev S1x512 : Shape := ⟨2, ![1, 512]⟩
abbrev S1x4x1024 : Shape := ⟨3, ![1, 4, 1024]⟩
abbrev S1x8x128x128 : Shape := ⟨4, ![1, 8, 128, 128]⟩
abbrev S4x128x128 : Shape := ⟨3, ![4, 128, 128]⟩
abbrev S8x1024 : Shape := ⟨2, ![8, 1024]⟩
abbrev S_ : Shape := ⟨0, ![]⟩
abbrev S512 : Shape := ⟨1, ![512]⟩
abbrev S32x2048 : Shape := ⟨2, ![32, 2048]⟩
abbrev S32x2048x1 : Shape := ⟨3, ![32, 2048, 1]⟩
abbrev S1024 : Shape := ⟨1, ![1024]⟩
abbrev S1x1x1024 : Shape := ⟨3, ![1, 1, 1024]⟩
abbrev S1024x6144 : Shape := ⟨2, ![1024, 6144]⟩
abbrev S1024x2048 : Shape := ⟨2, ![1024, 2048]⟩
abbrev S32x2048x2048 : Shape := ⟨3, ![32, 2048, 2048]⟩
abbrev S32x2048x512 : Shape := ⟨3, ![32, 2048, 512]⟩
abbrev S1x1x512 : Shape := ⟨3, ![1, 1, 512]⟩
abbrev S32x4x128x128 : Shape := ⟨4, ![32, 4, 128, 128]⟩
abbrev S32x2048x4x128 : Shape := ⟨4, ![32, 2048, 4, 128]⟩
abbrev S2048x32x4x128 : Shape := ⟨4, ![2048, 32, 4, 128]⟩
abbrev S1x32x4x128 : Shape := ⟨4, ![1, 32, 4, 128]⟩
abbrev S32x4x128 : Shape := ⟨3, ![32, 4, 128]⟩
abbrev S32x4x128x1 : Shape := ⟨4, ![32, 4, 128, 1]⟩
abbrev S32x4x1x128 : Shape := ⟨4, ![32, 4, 1, 128]⟩
abbrev S32x4 : Shape := ⟨2, ![32, 4]⟩
abbrev S32x4x1 : Shape := ⟨3, ![32, 4, 1]⟩
abbrev S4x128 : Shape := ⟨2, ![4, 128]⟩
abbrev S1x4x128 : Shape := ⟨3, ![1, 4, 128]⟩
abbrev S65536x512 : Shape := ⟨2, ![65536, 512]⟩

abbrev nBuf : Space → Nat
  | .hbm => 188
  | .vmem => 0
  | .smem => 0
  | _ => 0

abbrev hbmTy0_0 (i : Nat) : BufTy := match i % 128 with
  | 0 => ⟨S32x2048x1024, .f32⟩
  | 1 => ⟨S1x1024, .f32⟩
  | 2 => ⟨S1x1024x6144, .f32⟩
  | 3 => ⟨S2x512, .f32⟩
  | 4 => ⟨S1x512, .f32⟩
  | 5 => ⟨S1x4x1024, .f32⟩
  | 6 => ⟨S1x1024, .f32⟩
  | 7 => ⟨S1x8x128x128, .f32⟩
  | 8 => ⟨S1x1024, .f32⟩
  | 9 => ⟨S1x8x128x128, .f32⟩
  | 10 => ⟨S1x1024, .f32⟩
  | 11 => ⟨S1x1024, .f32⟩
  | 12 => ⟨S4x128x128, .f32⟩
  | 13 => ⟨S1x1024, .f32⟩
  | 14 => ⟨S8x1024, .f32⟩
  | 15 => ⟨S_, .f32⟩
  | 16 => ⟨S512, .f32⟩
  | 17 => ⟨S_, .f32⟩
  | 18 => ⟨S512, .f32⟩
  | 19 => ⟨S512, .f32⟩
  | 20 => ⟨S1x512, .f32⟩
  | 21 => ⟨S2x512, .f32⟩
  | 22 => ⟨S2x512, .f32⟩
  | 23 => ⟨S2x512, .f32⟩
  | 24 => ⟨S_, .f32⟩
  | 25 => ⟨S512, .f32⟩
  | 26 => ⟨S1x512, .f32⟩
  | 27 => ⟨S2x512, .f32⟩
  | 28 => ⟨S2x512, .f32⟩
  | 29 => ⟨S_, .f32⟩
  | 30 => ⟨S_, .f32⟩
  | 31 => ⟨S2x512, .f32⟩
  | 32 => ⟨S1x512, .f32⟩
  | 33 => ⟨S512, .f32⟩
  | 34 => ⟨S32x2048x1024, .f32⟩
  | 35 => ⟨S_, .f32⟩
  | 36 => ⟨S32x2048, .f32⟩
  | 37 => ⟨S32x2048x1, .f32⟩
  | 38 => ⟨S_, .f32⟩
  | 39 => ⟨S32x2048x1, .f32⟩
  | 40 => ⟨S32x2048x1, .f32⟩
  | 41 => ⟨S_, .f32⟩
  | 42 => ⟨S32x2048x1, .f32⟩
  | 43 => ⟨S32x2048x1, .f32⟩
  | 44 => ⟨S32x2048x1, .f32⟩
  | 45 => ⟨S32x2048x1024, .f32⟩
  | 46 => ⟨S32x2048x1024, .f32⟩
  | 47 => ⟨S1024, .f32⟩
  | 48 => ⟨S1x1x1024, .f32⟩
  | 49 => ⟨S32x2048x1024, .f32⟩
  | 50 => ⟨S32x2048x1024, .f32⟩
  | 51 => ⟨S1024x6144, .f32⟩
  | 52 => ⟨S1024x2048, .f32⟩
  | 53 => ⟨S32x2048x2048, .f32⟩
  | 54 => ⟨S32x2048x512, .f32⟩
  | 55 => ⟨S32x2048x512, .f32⟩
  | 56 => ⟨S32x2048x512, .f32⟩
  | 57 => ⟨S32x2048x512, .f32⟩
  | 58 => ⟨S_, .f32⟩
  | 59 => ⟨S512, .f32⟩
  | 60 => ⟨S512, .f32⟩
  | 61 => ⟨S32x2048x512, .f32⟩
  | 62 => ⟨S32x2048x512, .f32⟩
  | 63 => ⟨S_, .f32⟩
  | 64 => ⟨S32x2048x512, .f32⟩
  | 65 => ⟨S32x2048x512, .f32⟩
  | 66 => ⟨S_, .f32⟩
  | 67 => ⟨S32x2048x512, .f32⟩
  | 68 => ⟨S32x2048x512, .f32⟩
  | 69 => ⟨S1x1x512, .f32⟩
  | 70 => ⟨S32x2048x512, .f32⟩
  | 71 => ⟨S32x2048x512, .f32⟩
  | 72 => ⟨S1x1x512, .f32⟩
  | 73 => ⟨S32x2048x512, .f32⟩
  | 74 => ⟨S32x2048x512, .f32⟩
  | 75 => ⟨S_, .f32⟩
  | 76 => ⟨S512, .f32⟩
  | 77 => ⟨S512, .f32⟩
  | 78 => ⟨S32x2048x512, .f32⟩
  | 79 => ⟨S32x2048x512, .f32⟩
  | 80 => ⟨S32x2048x512, .f32⟩
  | 81 => ⟨S_, .f32⟩
  | 82 => ⟨S32x2048x512, .f32⟩
  | 83 => ⟨S32x2048x512, .f32⟩
  | 84 => ⟨S_, .f32⟩
  | 85 => ⟨S32x2048x512, .f32⟩
  | 86 => ⟨S32x2048x512, .f32⟩
  | 87 => ⟨S1x1x512, .f32⟩
  | 88 => ⟨S32x2048x512, .f32⟩
  | 89 => ⟨S32x2048x512, .f32⟩
  | 90 => ⟨S4x128x128, .f32⟩
  | 91 => ⟨S32x4x128x128, .f32⟩
  | 92 => ⟨S32x2048x4x128, .f32⟩
  | 93 => ⟨S2048x32x4x128, .f32⟩
  | 94 => ⟨S32x2048x4x128, .f32⟩
  | 95 => ⟨S2048x32x4x128, .f32⟩
  | 96 => ⟨S32x2048x4x128, .f32⟩
  | 97 => ⟨S2048x32x4x128, .f32⟩
  | 98 => ⟨S32x2048x4x128, .f32⟩
  | 99 => ⟨S2048x32x4x128, .f32⟩
  | 100 => ⟨S32x2048x4x128, .f32⟩
  | 101 => ⟨S2048x32x4x128, .f32⟩
  | 102 => ⟨S_, .f32⟩
  | 103 => ⟨S2048x32x4x128, .f32⟩
  | 104 => ⟨S_, .i32⟩
  | 105 => ⟨S2048x32x4x128, .f32⟩
  | 106 => ⟨S2048x32x4x128, .f32⟩
  | 107 => ⟨S2048x32x4x128, .f32⟩
  | 108 => ⟨S2048x32x4x128, .f32⟩
  | 109 => ⟨S2048x32x4x128, .f32⟩
  | 110 => ⟨S1x512, .f32⟩
  | 111 => ⟨S_, .i32⟩
  | 112 => ⟨S32x4x128x128, .f32⟩
  | 113 => ⟨S2048x32x4x128, .f32⟩
  | 114 => ⟨S_, .i32⟩
  | 115 => ⟨S_, .i1⟩
  | 116 => ⟨S_, .i32⟩
  | 117 => ⟨S_, .i32⟩
  | 118 => ⟨S_, .i32⟩
  | 119 => ⟨S1x32x4x128, .f32⟩
  | 120 => ⟨S32x4x128, .f32⟩
  | 121 => ⟨S_, .i32⟩
  | 122 => ⟨S_, .i32⟩
  | 123 => ⟨S_, .i32⟩
  | 124 => ⟨S1x32x4x128, .f32⟩
  | 125 => ⟨S32x4x128, .f32⟩
  | 126 => ⟨S_, .i32⟩
  | 127 => ⟨S_, .i32⟩
  | _ => ⟨S32x2048x1024, .f32⟩

abbrev hbmTy0_1 (i : Nat) : BufTy := match i % 128 with
  | 0 => ⟨S_, .i32⟩
  | 1 => ⟨S1x32x4x128, .f32⟩
  | 2 => ⟨S32x4x128, .f32⟩
  | 3 => ⟨S_, .i32⟩
  | 4 => ⟨S_, .i32⟩
  | 5 => ⟨S_, .i32⟩
  | 6 => ⟨S1x32x4x128, .f32⟩
  | 7 => ⟨S32x4x128, .f32⟩
  | 8 => ⟨S_, .i32⟩
  | 9 => ⟨S_, .i32⟩
  | 10 => ⟨S_, .i32⟩
  | 11 => ⟨S1x32x4x128, .f32⟩
  | 12 => ⟨S32x4x128, .f32⟩
  | 13 => ⟨S32x4x128x1, .f32⟩
  | 14 => ⟨S32x4x128x128, .f32⟩
  | 15 => ⟨S32x4x128x128, .f32⟩
  | 16 => ⟨S32x4x128x1, .f32⟩
  | 17 => ⟨S32x4x1x128, .f32⟩
  | 18 => ⟨S32x4x128x128, .f32⟩
  | 19 => ⟨S32x4x128x128, .f32⟩
  | 20 => ⟨S32x4x128x128, .f32⟩
  | 21 => ⟨S32x4x128x128, .f32⟩
  | 22 => ⟨S32x4x128, .f32⟩
  | 23 => ⟨S32x4x128, .f32⟩
  | 24 => ⟨S_, .f32⟩
  | 25 => ⟨S32x4, .f32⟩
  | 26 => ⟨S32x4x1, .f32⟩
  | 27 => ⟨S_, .f32⟩
  | 28 => ⟨S32x4x1, .f32⟩
  | 29 => ⟨S32x4x1, .f32⟩
  | 30 => ⟨S_, .f32⟩
  | 31 => ⟨S32x4x1, .f32⟩
  | 32 => ⟨S32x4x1, .f32⟩
  | 33 => ⟨S32x4x1, .f32⟩
  | 34 => ⟨S32x4x128, .f32⟩
  | 35 => ⟨S32x4x128, .f32⟩
  | 36 => ⟨S512, .f32⟩
  | 37 => ⟨S4x128, .f32⟩
  | 38 => ⟨S1x4x128, .f32⟩
  | 39 => ⟨S32x4x128, .f32⟩
  | 40 => ⟨S32x4x128, .f32⟩
  | 41 => ⟨S32x4x128, .f32⟩
  | 42 => ⟨S32x4x128, .f32⟩
  | 43 => ⟨S_, .f32⟩
  | 44 => ⟨S32x4x128, .f32⟩
  | 45 => ⟨S32x4x128, .f32⟩
  | 46 => ⟨S_, .f32⟩
  | 47 => ⟨S32x4x128, .f32⟩
  | 48 => ⟨S32x4x128, .f32⟩
  | 49 => ⟨S32x4x128, .f32⟩
  | 50 => ⟨S1x32x4x128, .f32⟩
  | 51 => ⟨S_, .i32⟩
  | 52 => ⟨S_, .i32⟩
  | 53 => ⟨S_, .i32⟩
  | 54 => ⟨S2048x32x4x128, .f32⟩
  | 55 => ⟨S_, .i32⟩
  | 56 => ⟨S_, .i32⟩
  | 57 => ⟨S32x2048x4x128, .f32⟩
  | 58 => ⟨S65536x512, .f32⟩
  | 59 => ⟨S32x4x128x128, .f32⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call0_call0_cst : Ref sig .tc := ⟨.hbm, 29, rfl⟩
abbrev main_call0_call0_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_c : Ref sig .tc := ⟨.hbm, 104, rfl⟩
abbrev main_v74_0 : Ref sig .tc := ⟨.hbm, 105, rfl⟩
abbrev main_v74_1 : Ref sig .tc := ⟨.hbm, 106, rfl⟩
abbrev main_v74_2 : Ref sig .tc := ⟨.hbm, 107, rfl⟩
abbrev main_v74_3 : Ref sig .tc := ⟨.hbm, 108, rfl⟩
abbrev main_v74_4 : Ref sig .tc := ⟨.hbm, 109, rfl⟩
abbrev main_v74_5 : Ref sig .tc := ⟨.hbm, 110, rfl⟩
abbrev main_v74_6 : Ref sig .tc := ⟨.hbm, 111, rfl⟩
abbrev main_v74_7 : Ref sig .tc := ⟨.hbm, 112, rfl⟩
abbrev main_v74_8 : Ref sig .tc := ⟨.hbm, 113, rfl⟩
abbrev main_while0c_c_20 : Ref sig .tc := ⟨.hbm, 114, rfl⟩
abbrev main_while0c_v78 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_c_1 : Ref sig .tc := ⟨.hbm, 118, rfl⟩
abbrev main_while0b_call1_v0 : Ref sig .tc := ⟨.hbm, 119, rfl⟩
abbrev main_while0b_v78 : Ref sig .tc := ⟨.hbm, 120, rfl⟩
abbrev main_while0b_call2_c : Ref sig .tc := ⟨.hbm, 121, rfl⟩
abbrev main_while0b_call2_c_0 : Ref sig .tc := ⟨.hbm, 122, rfl⟩
abbrev main_while0b_call2_c_1 : Ref sig .tc := ⟨.hbm, 123, rfl⟩
abbrev main_while0b_call2_v0 : Ref sig .tc := ⟨.hbm, 124, rfl⟩
abbrev main_while0b_v79 : Ref sig .tc := ⟨.hbm, 125, rfl⟩
abbrev main_while0b_call3_c : Ref sig .tc := ⟨.hbm, 126, rfl⟩
abbrev main_while0b_call3_c_0 : Ref sig .tc := ⟨.hbm, 127, rfl⟩
abbrev main_while0b_call3_c_1 : Ref sig .tc := ⟨.hbm, 128, rfl⟩
abbrev main_while0b_call3_v0 : Ref sig .tc := ⟨.hbm, 129, rfl⟩
abbrev main_while0b_v80 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_v0 : Ref sig .tc := ⟨.hbm, 134, rfl⟩
abbrev main_while0b_v81 : Ref sig .tc := ⟨.hbm, 135, rfl⟩
abbrev main_while0b_call5_c : Ref sig .tc := ⟨.hbm, 136, rfl⟩
abbrev main_while0b_call5_c_0 : Ref sig .tc := ⟨.hbm, 137, rfl⟩
abbrev main_while0b_call5_c_1 : Ref sig .tc := ⟨.hbm, 138, rfl⟩
abbrev main_while0b_call5_v0 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_cst_20 : Ref sig .tc := ⟨.hbm, 152, rfl⟩
abbrev main_while0b_v94 : Ref sig .tc := ⟨.hbm, 153, rfl⟩
abbrev main_while0b_v95 : Ref sig .tc := ⟨.hbm, 154, rfl⟩
abbrev main_while0b_cst_21 : Ref sig .tc := ⟨.hbm, 155, rfl⟩
abbrev main_while0b_v96 : Ref sig .tc := ⟨.hbm, 156, rfl⟩
abbrev main_while0b_v97 : Ref sig .tc := ⟨.hbm, 157, rfl⟩
abbrev main_while0b_cst_22 : Ref sig .tc := ⟨.hbm, 158, rfl⟩
abbrev main_while0b_v98 : Ref sig .tc := ⟨.hbm, 159, rfl⟩
abbrev main_while0b_v99 : Ref sig .tc := ⟨.hbm, 160, rfl⟩
abbrev main_while0b_v100 : Ref sig .tc := ⟨.hbm, 161, rfl⟩
abbrev main_while0b_v101 : Ref sig .tc := ⟨.hbm, 162, rfl⟩
abbrev main_while0b_v102 : Ref sig .tc := ⟨.hbm, 163, rfl⟩
abbrev main_while0b_v103 : Ref sig .tc := ⟨.hbm, 164, rfl⟩
abbrev main_while0b_v104 : Ref sig .tc := ⟨.hbm, 165, rfl⟩
abbrev main_while0b_v105 : Ref sig .tc := ⟨.hbm, 166, rfl⟩
abbrev main_while0b_v106 : Ref sig .tc := ⟨.hbm, 167, rfl⟩
abbrev main_while0b_v107 : Ref sig .tc := ⟨.hbm, 168, rfl⟩
abbrev main_while0b_v108 : Ref sig .tc := ⟨.hbm, 169, rfl⟩
abbrev main_while0b_v109 : Ref sig .tc := ⟨.hbm, 170, rfl⟩
abbrev main_while0b_cst_23 : Ref sig .tc := ⟨.hbm, 171, rfl⟩
abbrev main_while0b_v110 : Ref sig .tc := ⟨.hbm, 172, rfl⟩
abbrev main_while0b_v111 : Ref sig .tc := ⟨.hbm, 173, rfl⟩
abbrev main_while0b_cst_24 : Ref sig .tc := ⟨.hbm, 174, rfl⟩
abbrev main_while0b_v112 : Ref sig .tc := ⟨.hbm, 175, rfl⟩
abbrev main_while0b_v113 : Ref sig .tc := ⟨.hbm, 176, rfl⟩
abbrev main_while0b_v114 : Ref sig .tc := ⟨.hbm, 177, rfl⟩
abbrev main_while0b_call6_v0 : Ref sig .tc := ⟨.hbm, 178, rfl⟩
abbrev main_while0b_call6_c : Ref sig .tc := ⟨.hbm, 179, rfl⟩
abbrev main_while0b_call6_c_0 : Ref sig .tc := ⟨.hbm, 180, rfl⟩
abbrev main_while0b_call6_c_1 : Ref sig .tc := ⟨.hbm, 181, rfl⟩
abbrev main_while0b_v115 : Ref sig .tc := ⟨.hbm, 182, rfl⟩
abbrev main_while0b_c_25 : Ref sig .tc := ⟨.hbm, 183, rfl⟩
abbrev main_while0b_v116 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S32x2048x1024 : Shape := ⟨3, ![32, 2048, 1024]⟩
abbrev S1x1024 : Shape := ⟨2, ![1, 1024]⟩
abbrev S1x1024x6144 : Shape := ⟨3, ![1, 1024, 6144]⟩
abbrev S65536x512 : Shape := ⟨2, ![65536, 512]⟩
abbrev S65536x1024 : Shape := ⟨2, ![65536, 1024]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S1024 : Shape := ⟨1, ![1024]⟩
abbrev S1024x6144 : Shape := ⟨2, ![1024, 6144]⟩
abbrev S1024x2048 : Shape := ⟨2, ![1024, 2048]⟩
abbrev S1024x4 : Shape := ⟨2, ![1024, 4]⟩
abbrev S4x1024x8 : Shape := ⟨3, ![4, 1024, 8]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S4 : Shape := ⟨1, ![4]⟩
abbrev S4x8 : Shape := ⟨2, ![4, 8]⟩
abbrev S32 : Shape := ⟨1, ![32]⟩
abbrev S36 : Shape := ⟨1, ![36]⟩
abbrev S128 : Shape := ⟨1, ![128]⟩
abbrev S1x128 : Shape := ⟨2, ![1, 128]⟩
abbrev S512x1024 : Shape := ⟨2, ![512, 1024]⟩
abbrev S1024x1024 : Shape := ⟨2, ![1024, 1024]⟩
abbrev S524288x128 : Shape := ⟨2, ![524288, 128]⟩
abbrev S65536x128 : Shape := ⟨2, ![65536, 128]⟩
abbrev S128x8x512 : Shape := ⟨3, ![128, 8, 512]⟩
abbrev S512x512 : Shape := ⟨2, ![512, 512]⟩
abbrev S4096x128 : Shape := ⟨2, ![4096, 128]⟩
abbrev S512x128 : Shape := ⟨2, ![512, 128]⟩
abbrev S1x8x512 : Shape := ⟨3, ![1, 8, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩
abbrev S256x128 : Shape := ⟨2, ![256, 128]⟩
abbrev S256x256 : Shape := ⟨2, ![256, 256]⟩
abbrev S128x256 : Shape := ⟨2, ![128, 256]⟩
abbrev S8x256 : Shape := ⟨2, ![8, 256]⟩
abbrev S1x8x256 : Shape := ⟨3, ![1, 8, 256]⟩

abbrev nBuf : Space → Nat
  | .hbm => 52
  | .vmem => 25
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S65536x512, .f32⟩
  | .hbm, ⟨4, _⟩ => ⟨S65536x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x4x1024x8, .f32⟩
  | .hbm, ⟨12, _⟩ => ⟨S1x4x8, .f32⟩
  | .hbm, ⟨13, _⟩ => ⟨S1024, .f32⟩
  | .hbm, ⟨14, _⟩ => ⟨S1x1024, .f32⟩
  | .hbm, ⟨15, _⟩ => ⟨S1024x6144, .f32⟩
  | .hbm, ⟨16, _⟩ => ⟨S1024x6144, .bf16⟩
  | .hbm, ⟨17, _⟩ => ⟨S1024x2048, .bf16⟩
  | .hbm, ⟨18, _⟩ => ⟨S65536x1024, .f32⟩
  | .hbm, ⟨19, _⟩ => ⟨S1024x4, .f32⟩
  | .hbm, ⟨20, _⟩ => ⟨S4x1024x8, .f32⟩
  | .hbm, ⟨21, _⟩ => ⟨S1024x4x8, .f32⟩
  | .hbm, ⟨22, _⟩ => ⟨S1024x32, .f32⟩
  | .hbm, ⟨23, _⟩ => ⟨S1024x36, .f32⟩
  | .hbm, ⟨24, _⟩ => ⟨S_, .i32⟩
  | .hbm, ⟨25, _⟩ => ⟨S_, .f32⟩
  | .hbm, ⟨26, _⟩ => ⟨S1024x128, .f32⟩
  | .hbm, ⟨27, _⟩ => ⟨S1024x128, .bf16⟩
  | .hbm, ⟨28, _⟩ => ⟨S1024x128, .f32⟩
  | .hbm, ⟨29, _⟩ => ⟨S1024x128, .f32⟩
  | .hbm, ⟨30, _⟩ => ⟨S1024x128, .bf16⟩
  | .hbm, ⟨31, _⟩ => ⟨S4, .f32⟩
  | .hbm, ⟨32, _⟩ => ⟨S4x8, .f32⟩
  | .hbm, ⟨33, _⟩ => ⟨S32, .f32⟩
  | .hbm, ⟨34, _⟩ => ⟨S36, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S512x1024, .f32⟩
  | .hbm, ⟨40, _⟩ => ⟨S512x1024, .bf16⟩
  | .hbm, ⟨41, _⟩ => ⟨S1024x1024, .f32⟩
  | .hbm, ⟨42, _⟩ => ⟨S1024x1024, .bf16⟩
  | .hbm, ⟨43, _⟩ => ⟨S1024x1024, .f32⟩
  | .hbm, ⟨44, _⟩ => ⟨S1024x1024, .bf16⟩
  | .hbm, ⟨45, _⟩ => ⟨S1024, .f32⟩
  | .hbm, ⟨46, _⟩ => ⟨S1x1024, .f32⟩
  | .hbm, ⟨47, _⟩ => ⟨S65536x1024, .f32⟩
  | .hbm, ⟨48, _⟩ => ⟨S524288x128, .f32⟩
  | .hbm, ⟨49, _⟩ => ⟨S65536x128, .f32⟩
  | .hbm, ⟨50, _⟩ => ⟨S128x8x512, .f32⟩
  | .hbm, ⟨51, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S1024x128, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S4096x128, .f32⟩
  | .local _ .vmem, ⟨18, _⟩ => ⟨S4096x128, .f32⟩
  | .local _ .vmem, ⟨19, _⟩ => ⟨S512x128, .f32⟩
  | .local _ .vmem, ⟨20, _⟩ => ⟨S512x128, .f32⟩
  | .local _ .vmem, ⟨21, _⟩ => ⟨S1x8x512, .f32⟩
  | .local _ .vmem, ⟨22, _⟩ => ⟨S1x8x512, .f32⟩
  | .local _ .vmem, ⟨23, _⟩ => ⟨S1x128, .f32⟩
  | .local _ .vmem, ⟨24, _⟩ => ⟨S1x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_0 : Ref sig .tc := ⟨.hbm, 35, rfl⟩
abbrev main_call1_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev main_v30_3 : Ref sig .tc := ⟨.hbm, 50, rfl⟩
abbrev main_v30_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S32x2048x1024 : Shape := ⟨3, ![32, 2048, 1024]⟩
abbrev S1x1024 : Shape := ⟨2, ![1, 1024]⟩
abbrev S1x1024x6144 : Shape := ⟨3, ![1, 1024, 6144]⟩
abbrev S65536x512 : Shape := ⟨2, ![65536, 512]⟩
abbrev S65536x1024 : Shape := ⟨2, ![65536, 1024]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x4x1024x8 : Shape := ⟨4, ![1, 4, 1024, 8]⟩
abbrev S1x4x8 : Shape := ⟨3, ![1, 4, 8]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x6144 : Shape := ⟨2, ![1024, 6144]⟩
abbrev S1024x2048 : Shape := ⟨2, ![1024, 2048]⟩
abbrev S65536x2048 : Shape := ⟨2, ![65536, 2048]⟩
abbrev S512x1024 : Shape := ⟨2, ![512, 1024]⟩
abbrev S1024x1024 : Shape := ⟨2, ![1024, 1024]⟩
abbrev S524288x128 : Shape := ⟨2, ![524288, 128]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x6144, .f32⟩
  | .hbm, ⟨3, _⟩ => ⟨S65536x512, .f32⟩
  | .hbm, ⟨4, _⟩ => ⟨S65536x1024, .f32⟩
  | .hbm, ⟨5, _⟩ => ⟨S1x512x1024, .f32⟩
  | .hbm, ⟨6, _⟩ => ⟨S1x1024x1024, .f32⟩
  | .hbm, ⟨7, _⟩ => ⟨S1x1024x1024, .f32⟩
  | .hbm, ⟨8, _⟩ => ⟨S1x1024, .f32⟩
  | .hbm, ⟨9, _⟩ => ⟨S1x1024x4, .f32⟩
  | .hbm, ⟨10, _⟩ => ⟨S1x4, .f32⟩
  | .hbm, ⟨11, _⟩ => ⟨S1x4x1024x8, .f32⟩
  | .hbm, ⟨12, _⟩ => ⟨S1x4x8, .f32⟩
  | .hbm, ⟨13, _⟩ => ⟨S65536x1024, .f32⟩
  | .hbm, ⟨14, _⟩ => ⟨S1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S1024x6144, .f32⟩
  | .hbm, ⟨32, _⟩ => ⟨S1024x2048, .f32⟩
  | .hbm, ⟨33, _⟩ => ⟨S65536x2048, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1024, .f32⟩
  | .hbm, ⟨43, _⟩ => ⟨S65536x1024, .f32⟩
  | .hbm, ⟨44, _⟩ => ⟨S512x1024, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S_, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536x1024, .f32⟩
  | .hbm, ⟨54, _⟩ => ⟨S65536x1024, .f32⟩
  | .hbm, ⟨55, _⟩ => ⟨S1024x1024, .f32⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S1024x1024, .f32⟩
  | .hbm, ⟨60, _⟩ => ⟨S65536x1024, .f32⟩
  | .hbm, ⟨61, _⟩ => ⟨S65536x1024, .f32⟩
  | .hbm, ⟨62, _⟩ => ⟨S1024, .f32⟩
  | .hbm, ⟨63, _⟩ => ⟨S65536x1024, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S65536x1, .f32⟩
  | .hbm, ⟨74, _⟩ => ⟨S65536x1024, .f32⟩
  | .hbm, ⟨75, _⟩ => ⟨S65536x1024, .f32⟩
  | .hbm, ⟨76, _⟩ => ⟨S1x1024, .f32⟩
  | .hbm, ⟨77, _⟩ => ⟨S65536x1024, .f32⟩
  | .hbm, ⟨78, _⟩ => ⟨S65536x1024, .f32⟩
  | .hbm, ⟨79, _⟩ => ⟨S524288x128, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proof.Striped.lean ====
/- Stores of every eighth row, at sixteen offsets, that together fill a buffer of 4096 rows. -/
module

public import Idealize.ShloMosaic.Lib.Ring

@[expose] public section

noncomputable section

namespace Cert.Striped

open Idealize.ShloMosaic

/-- One store of the list writes the rows `2048 p + j, 2048 p + j + 8, …` (256 of them), whole. -/
def isStripe {Val : EltTy → Type} {e : EltTy} (p j : ℕ) (pc : View.Piece Val ⟨2, ![4096, 128]⟩ e) : Bool :=
  pc.1.off 0 == p * 2048 + j && pc.1.off 1 == 0 && pc.1.size 0 == 256 && pc.1.size 1 == 128
    && pc.1.stride 0 == 8 && pc.1.stride 1 == 1

/-- The list holds a stripe at each of the sixteen offsets. -/
def stripes {Val : EltTy → Type} {e : EltTy} (L : List (View.Piece Val ⟨2, ![4096, 128]⟩ e)) : Bool :=
  (List.range 16).all fun k => L.any (isStripe (k / 8) (k % 8))

/-- Such a list covers the buffer: row `y` is in the stripe of part `y / 2048` at offset `y % 8`. -/
theorem striped_cover {Val : EltTy → Type} {e : EltTy} (L : List (View.Piece Val ⟨2, ![4096, 128]⟩ e)) (h : stripes L = true)
    (y : (⟨2, ![4096, 128]⟩ : Shape).Idx) : ∃ pc ∈ L, y ∈ pc.1.set := by
  have hy0 : (y 0).val < 4096 := (y 0).isLt
  have hy1 : (y 1).val < 128 := (y 1).isLt
  have hk := List.all_eq_true.mp h ((y 0).val / 2048 * 8 + (y 0).val % 8) (List.mem_range.mpr (by omega))
  obtain ⟨pc, hpc, hs⟩ := List.any_eq_true.mp hk
  simp only [isStripe, Bool.and_eq_true, beq_iff_eq] at hs
  obtain ⟨⟨⟨⟨⟨o0, o1⟩, s0⟩, s1⟩, t0⟩, t1⟩ := hs
  refine ⟨pc, hpc, pc.1.mem_set.mpr fun a => ?_⟩
  match a with
  | ⟨0, _⟩ =>
    refine ⟨(y 0).val % 2048 / 8, lt_of_lt_of_eq (by omega) s0.symm, ?_⟩
    refine Eq.trans ?_ (congrArg₂ (fun u v => u + v * ((y 0).val % 2048 / 8)) o0 t0).symm
    show (y 0).val = _
    dsimp only
    omega
  | ⟨1, _⟩ =>
    refine ⟨(y 1).val, lt_of_lt_of_eq hy1 s1.symm, ?_⟩
    refine Eq.trans ?_ (congrArg₂ (fun u v => u + v * (y 1).val) o1 t1).symm
    show (y 1).val = _
    omega

end Cert.Striped

end
-- ==== Proof.RealVec.lean ====
/- Rectangular arrays of real numbers, and the vector operations on them.

   Every array of the recurrence is finite, so it is written `M φ m n f`: the `m × n` array whose
   element at row `a` and column `b` is the real number `f a b`. Each lemma says that one vector
   operation on such arrays is again such an array, of the function one expects. -/
module

public import Idealize.ShloMosaic.Lib.Pointwise
public import Mathlib.Analysis.SpecialFunctions.Log.Basic

@[expose] public section

set_option maxRecDepth 16384

open Idealize.ShloMosaic

namespace Hgrn

/-- The `m × n` array of the real numbers `f a b`. -/
noncomputable def M (φ : FTy) (m n : ℕ) (f : ℕ → ℕ → ℝ) : FVec Ideal ⟨2, ![m, n]⟩ φ :=
  fun i => ((f (i 0).val (i 1).val : ℝ) : EReal)

/-- The `m × n` array of the bits `p a b`. -/
def B (m n : ℕ) (p : ℕ → ℕ → Prop) [∀ a b, Decidable (p a b)] : IVec ⟨2, ![m, n]⟩ 1 :=
  fun i => BitVec.ofBool (decide (p (i 0).val (i 1).val))

variable {φ ψ : FTy} {m n k : ℕ} {f g : ℕ → ℕ → ℝ}

theorem M_apply (i : (⟨2, ![m, n]⟩ : Shape).Idx) : M φ m n f i = ((f (i 0).val (i 1).val : ℝ) : EReal) := rfl

/-- Two arrays are equal when their functions agree inside the array. -/
theorem M_congr (h : ∀ a < m, ∀ b < n, f a b = g a b) : M φ m n f = M φ m n g := by
  funext i
  simp only [M_apply]
  rw [h _ (i 0).isLt _ (i 1).isLt]

theorem addf_M : addf (M φ m n f) (M φ m n g) = M φ m n (fun a b => f a b + g a b) := by
  funext i; exact (EReal.coe_add _ _).symm

theorem subf_M : subf (M φ m n f) (M φ m n g) = M φ m n (fun a b => f a b - g a b) := by
  funext i; exact (EReal.coe_sub _ _).symm

theorem mulf_M : mulf (M φ m n f) (M φ m n g) = M φ m n (fun a b => f a b * g a b) := by
  funext i; exact (EReal.coe_mul _ _).symm

theorem exp_M : exp (M φ m n f) = M φ m n (fun a b => Real.exp (f a b)) := by
  funext i; rfl

theorem log_M (h : ∀ a < m, ∀ b < n, 0 < f a b) : log (M φ m n f) = M φ m n (fun a b => Real.log (f a b)) := by
  funext i
  change (if f (i 0).val (i 1).val ≤ 0 then (⊥ : EReal) else (Real.log (f (i 0).val (i 1).val) : EReal)) = _
  rw [if_neg (not_le.2 (h _ (i 0).isLt _ (i 1).isLt))]
  rfl

/-- Division of real numbers by a number that is not zero. -/
theorem div_real (x y : ℝ) (h : y ≠ 0) : Ideal.div (x : EReal) (y : EReal) = ((x / y : ℝ) : EReal) := by
  unfold Ideal.div
  rw [if_neg (by simpa using h), ← EReal.coe_inv, ← EReal.coe_mul, div_eq_mul_inv]

/-- The reciprocal square root of a positive real number. -/
theorem rsqrt_real (x : ℝ) (h : 0 < x) : Ideal.rsqrt (x : EReal) = (((Real.sqrt x)⁻¹ : ℝ) : EReal) := by
  change (if x < 0 then (⊥ : EReal) else if x = 0 then ⊤ else ((Real.sqrt x)⁻¹ : ℝ)) = _
  rw [if_neg (not_lt.2 h.le), if_neg h.ne']

theorem divf_M (h : ∀ a < m, ∀ b < n, g a b ≠ 0) :
    divf (M φ m n f) (M φ m n g) = M φ m n (fun a b => f a b / g a b) := by
  funext i; exact div_real _ _ (h _ (i 0).isLt _ (i 1).isLt)

theorem rsqrt_M (h : ∀ a < m, ∀ b < n, 0 < f a b) :
    rsqrt (M φ m n f) = M φ m n (fun a b => (Real.sqrt (f a b))⁻¹) := by
  funext i; exact rsqrt_real _ (h _ (i 0).isLt _ (i 1).isLt)

theorem truncf_M (h : ψ.bits < φ.bits) : truncf ψ (M φ m n f) h = M ψ m n f := rfl
theorem extf_M (h : φ.bits < ψ.bits) : extf ψ (M φ m n f) h = M ψ m n f := rfl

/-- A splat of a real number. -/
theorem broadcast_M {e : EReal} (x : ℝ) (h : e = (x : EReal)) :
    (broadcast (⟨2, ![m, n]⟩ : Shape) e : FVec Ideal ⟨2, ![m, n]⟩ φ) = M φ m n (fun _ _ => x) := by
  funext i; exact h

theorem slice_M (p q a b : ℕ) (h : (⟨2, ![m, n]⟩ : Shape).Slices ![a, b] ⟨2, ![p, q]⟩) :
    extractStridedSlice ⟨2, ![p, q]⟩ ![a, b] (M φ m n f) h = M φ p q (fun x y => f (a + x) (b + y)) := by
  funext i; rfl

theorem cast_M (h : (⟨2, ![m, n]⟩ : Shape).ShapeCasts ⟨2, ![m, n]⟩) :
    shapeCast ⟨2, ![m, n]⟩ (M φ m n f) h = M φ m n f := by
  funext i
  rw [shapeCast_self]

/-- One row repeated, of any kind of element. -/
theorem rows_any {α : Type} (f : ℕ → ℕ → α) (h : (⟨2, ![1, n]⟩ : Shape).Broadcasts ⟨2, ![m, n]⟩) :
    broadcastTo ⟨2, ![m, n]⟩ (fun i : (⟨2, ![1, n]⟩ : Shape).Idx => f (i 0).val (i 1).val) h
      = fun i => f 0 (i 1).val := by
  funext i
  unfold broadcastTo
  have e0 : ∀ a b c : ℕ, a = 0 → b = c → f a b = f 0 c := by rintro _ _ _ rfl rfl; rfl
  refine e0 _ _ _ rfl ?_
  beta_reduce
  by_cases hn : n = 1
  · rw [dif_pos (by simpa using hn)]
    have : (i 1).val < n := (i 1).isLt
    change 0 = _
    omega
  · rw [dif_neg (by simpa using hn)]
    rfl

/-- One column repeated, of any kind of element. -/
theorem cols_any {α : Type} (f : ℕ → ℕ → α) (h : (⟨2, ![m, 1]⟩ : Shape).Broadcasts ⟨2, ![m, n]⟩) :
    broadcastTo ⟨2, ![m, n]⟩ (fun i : (⟨2, ![m, 1]⟩ : Shape).Idx => f (i 0).val (i 1).val) h
      = fun i => f (i 0).val 0 := by
  funext i
  unfold broadcastTo
  have e0 : ∀ a b c : ℕ, a = c → b = 0 → f a b = f c 0 := by rintro _ _ _ rfl rfl; rfl
  refine e0 _ _ _ ?_ rfl
  beta_reduce
  by_cases hn : m = 1
  · rw [dif_pos (by simpa using hn)]
    have : (i 0).val < m := (i 0).isLt
    change 0 = _
    omega
  · rw [dif_neg (by simpa using hn)]
    rfl

/-- One row repeated. -/
theorem rows_M (h : (⟨2, ![1, n]⟩ : Shape).Broadcasts ⟨2, ![m, n]⟩) :
    broadcastTo ⟨2, ![m, n]⟩ (M φ 1 n f) h = M φ m n (fun _ b => f 0 b) :=
  rows_any (fun a b => ((f a b : ℝ) : EReal)) h

/-- One column repeated. -/
theorem cols_M (h : (⟨2, ![m, 1]⟩ : Shape).Broadcasts ⟨2, ![m, n]⟩) :
    broadcastTo ⟨2, ![m, n]⟩ (M φ m 1 f) h = M φ m n (fun a _ => f a 0) :=
  cols_any (fun a b => ((f a b : ℝ) : EReal)) h

theorem cols_B (p : ℕ → ℕ → Prop) [∀ a b, Decidable (p a b)]
    (h : (⟨2, ![m, 1]⟩ : Shape).Broadcasts ⟨2, ![m, n]⟩) :
    broadcastTo ⟨2, ![m, n]⟩ (B m 1 p) h = B m n (fun a _ => p a 0) :=
  cols_any (fun a b => BitVec.ofBool (decide (p a b))) h

theorem select_M (p : ℕ → ℕ → Prop) [∀ a b, Decidable (p a b)] :
    select (B m n p) (M φ m n f) (M φ m n g) = M φ m n (fun a b => if p a b then f a b else g a b) := by
  funext i
  change Scalar.select (BitVec.ofBool (decide (p (i 0).val (i 1).val))) _ _ = _
  unfold Scalar.select
  by_cases h : p (i 0).val (i 1).val
  · simp [h, M]
  · simp [h, M]

/-- A matrix product with a zero accumulator, read as a sum over the contracted axis. -/
theorem sum_real (K : ℕ) (u : ℕ → ℝ) : (∑ c : Fin K, ((u c.val : ℝ) : EReal)) = ((∑ c ∈ Finset.range K, u c : ℝ) : EReal) := by
  rw [Finset.sum_range]
  exact (map_sum (⟨⟨((↑) : ℝ → EReal), rfl⟩, EReal.coe_add⟩ : ℝ →+ EReal) _ _).symm

/-- The `l × m × n` array of the real numbers `f a b c`. -/
noncomputable def M3 (φ : FTy) (l m n : ℕ) (f : ℕ → ℕ → ℕ → ℝ) : FVec Ideal ⟨3, ![l, m, n]⟩ φ :=
  fun i => ((f (i 0).val (i 1).val (i 2).val : ℝ) : EReal)

theorem ofBits_1024 : Ideal.ofBits .f32 0x44800000#32 = ((1024 : ℝ) : EReal) := by
  simp [Ideal.ofBits, Ideal.ieee]
  norm_num [← EReal.coe_mul]

theorem ofBits_128 : Ideal.ofBits .f32 0x43000000#32 = ((128 : ℝ) : EReal) := by
  simp [Ideal.ofBits, Ideal.ieee]
  norm_num [← EReal.coe_mul]

/-- The small number added under both square roots, the binary32 value next to `10⁻⁶`. -/
noncomputable def eps : ℝ := (8388608 + 407485 : ℕ) * (2 : ℝ) ^ (-43 : ℤ)

theorem eps_pos : 0 < eps := by unfold eps; positivity

theorem ofBits_eps : Ideal.ofBits .f32 0x358637BD#32 = (eps : EReal) := by
  simp [Ideal.ofBits, Ideal.ieee, eps]

theorem splat_zero : (broadcast (⟨2, ![m, n]⟩ : Shape) (Scalar.ofBits (F := Ideal) .f32 0x00000000#32)
    : FVec Ideal ⟨2, ![m, n]⟩ .f32) = M .f32 m n (fun _ _ => 0) :=
  broadcast_M 0 (by exact Ideal.ofBits_zero_f32)

theorem splat_one : (broadcast (⟨2, ![m, n]⟩ : Shape) (Scalar.ofBits (F := Ideal) .f32 0x3F800000#32)
    : FVec Ideal ⟨2, ![m, n]⟩ .f32) = M .f32 m n (fun _ _ => 1) :=
  broadcast_M 1 (by exact Ideal.ofBits_one_f32)

theorem splat_1024 : (broadcast (⟨2, ![m, n]⟩ : Shape) (Scalar.ofBits (F := Ideal) .f32 0x44800000#32)
    : FVec Ideal ⟨2, ![m, n]⟩ .f32) = M .f32 m n (fun _ _ => 1024) :=
  broadcast_M 1024 (by exact ofBits_1024)

theorem splat_128 : (broadcast (⟨2, ![m, n]⟩ : Shape) (Scalar.ofBits (F := Ideal) .f32 0x43000000#32)
    : FVec Ideal ⟨2, ![m, n]⟩ .f32) = M .f32 m n (fun _ _ => 128) :=
  broadcast_M 128 (by exact ofBits_128)

theorem splat_eps : (broadcast (⟨2, ![m, n]⟩ : Shape) (Scalar.ofBits (F := Ideal) .f32 0x358637BD#32)
    : FVec Ideal ⟨2, ![m, n]⟩ .f32) = M .f32 m n (fun _ _ => eps) :=
  broadcast_M eps (by exact ofBits_eps)

end Hgrn
-- ==== Proof.MergeBlock.lean ====
/- The merge of the two branches for a block of rows, element by element. The arrays here hold
   extended real numbers: `N φ m n f` has `f a b` at row `a` and column `b`. For each row `x` of the
   block the kernel forms

     gates = (x / rms x · g) · wg,    merged = σ(gates, left half) · (oa · wa) + σ(gates, right half) · (ob · wb),
     h₂ = x + merged · wo,

   and it does so for the first 256 rows and for the last 256 rows apart. -/
module

public import proofs.«01_k».proof.Proof.RealVec
public import proofs.«01_k».proof.Proof.Gen.Kernel2Ideal.Skeleton

@[expose] public section

set_option maxRecDepth 16384

open Idealize.ShloMosaic Cert.Kernel2Ideal Cert.Kernel2Ideal.Gen

namespace Merge

/-- The array with `f a b` at row `a` and column `b`. -/
noncomputable def N (φ : FTy) (m n : ℕ) (f : ℕ → ℕ → EReal) : FVec Ideal ⟨2, ![m, n]⟩ φ :=
  fun i => f (i 0).val (i 1).val

/-- The matrix product over `K` terms. -/
noncomputable def mul (K : ℕ) (f g : ℕ → ℕ → EReal) (a b : ℕ) : EReal := ∑ c : Fin K, f a c.val * g c.val b

/-- The part of a matrix from row `r` and column `s` on. -/
def from_ (r s : ℕ) (f : ℕ → ℕ → EReal) (a b : ℕ) : EReal := f (r + a) (s + b)

/-- The logistic function. -/
noncomputable def sg (y : EReal) : EReal := Ideal.div 1 (1 + Ideal.exp (-y))

/-- A row divided by its root mean square, times the weights `g`. -/
noncomputable def rms (x g : ℕ → ℕ → EReal) (a b : ℕ) : EReal :=
  x a b * Ideal.rsqrt (Ideal.div (∑ c : Fin 1024, x a c.val * x a c.val) (Ideal.ofBits .f32 0x44800000#32)
    + Ideal.ofBits .f32 0x358637BD#32) * g 0 b

/-- The two gated branches added. -/
noncomputable def merged (gates ua ub : ℕ → ℕ → EReal) (a b : ℕ) : EReal :=
  sg (gates a b) * ua a b + sg (gates a (1024 + b)) * ub a b

/-- The rows of the merge. -/
noncomputable def rows (x g wg oa ob wa wb wo : ℕ → ℕ → EReal) (a b : ℕ) : EReal :=
  x a b + mul 1024 (merged (mul 1024 (rms x g) wg) (mul 512 oa wa) (mul 1024 ob wb)) wo a b

/-- Each row of the merge depends on its own row of the inputs only. -/
theorem rows_from (r : ℕ) (x g wg oa ob wa wb wo : ℕ → ℕ → EReal) :
    rows (fun a b => x (r + a) b) g wg (fun a b => oa (r + a) b) (fun a b => ob (r + a) b) wa wb wo
      = fun a b => rows x g wg oa ob wa wb wo (r + a) b := by
  funext a b
  simp only [rows, mul, merged, rms]

variable {φ ψ : FTy} {m n : ℕ} {f g : ℕ → ℕ → EReal}

/-! ### The operations of the kernel -/

theorem addf_N : addf (N φ m n f) (N φ m n g) = N φ m n (fun a b => f a b + g a b) := rfl
theorem subf_N : subf (N φ m n f) (N φ m n g) = N φ m n (fun a b => f a b - g a b) := rfl
theorem mulf_N : mulf (N φ m n f) (N φ m n g) = N φ m n (fun a b => f a b * g a b) := rfl
theorem divf_N : divf (N φ m n f) (N φ m n g) = N φ m n (fun a b => Ideal.div (f a b) (g a b)) := rfl
theorem exp_N : exp (N φ m n f) = N φ m n (fun a b => Ideal.exp (f a b)) := rfl
theorem rsqrt_N : rsqrt (N φ m n f) = N φ m n (fun a b => Ideal.rsqrt (f a b)) := rfl
theorem truncf_N (h : ψ.bits < φ.bits) : truncf ψ (N φ m n f) h = N ψ m n f := rfl
theorem splat_N (b : BitVec 32) : (broadcast (⟨2, ![m, n]⟩ : Shape) (Scalar.ofBits (F := Ideal) .f32 b)
    : FVec Ideal (⟨2, ![m, n]⟩ : Shape) .f32) = N .f32 m n (fun _ _ => Ideal.ofBits .f32 b) := rfl

theorem cast_N (h : (⟨2, ![m, n]⟩ : Shape).ShapeCasts ⟨2, ![m, n]⟩) : shapeCast _ (N φ m n f) h = N φ m n f :=
  shapeCast_self _ _

theorem slice_N (p q a b : ℕ) (h : (⟨2, ![m, n]⟩ : Shape).Slices ![a, b] ⟨2, ![p, q]⟩) :
    extractStridedSlice ⟨2, ![p, q]⟩ ![a, b] (N φ m n f) h = N φ p q (from_ a b f) := rfl

theorem row_N (h : (⟨2, ![1, n]⟩ : Shape).Broadcasts ⟨2, ![m, n]⟩) :
    broadcastTo ⟨2, ![m, n]⟩ (N φ 1 n f) h = N φ m n (fun _ b => f 0 b) := Hgrn.rows_any f h

theorem col_N (h : (⟨2, ![m, 1]⟩ : Shape).Broadcasts ⟨2, ![m, n]⟩) :
    broadcastTo ⟨2, ![m, n]⟩ (N φ m 1 f) h = N φ m n (fun a _ => f a 0) := Hgrn.cols_any f h

theorem mm_gates : matmul dot_S256x1024_S1024x2048_S256x2048_1_0_0_1_n_n none (N .bf16 256 1024 f) (N .bf16 1024 2048 g)
    (constant S256x2048 .f32 0x00000000#32) = N .f32 256 2048 (mul 1024 f g) := by
  funext i; idx_vars i
  pointwise [N]
  rfl

theorem mm_up_a : matmul dot_S256x512_S512x1024_S256x1024_1_0_0_1_n_n none (N .bf16 256 512 f) (N .bf16 512 1024 g)
    (constant S256x1024 .f32 0x00000000#32) = N .f32 256 1024 (mul 512 f g) := by
  funext i; idx_vars i
  pointwise [N]
  rfl

theorem mm_up_b : matmul dot_S256x1024_S1024x1024_S256x1024_1_0_0_1_n_n none (N .bf16 256 1024 f) (N .bf16 1024 1024 g)
    (constant S256x1024 .f32 0x00000000#32) = N .f32 256 1024 (mul 1024 f g) := by
  funext i; idx_vars i
  pointwise [N]
  rfl

theorem row_sum (h1 : FTy.f32 = FTy.f32 ∨ FTy.f32 = FTy.bf16) (h2 : (0#32 : BitVec 32) = 0#32) :
    shapeCast S256x1 (multiReduction .add [1] S256 (N .f32 256 1024 f) 0x00000000#32 reduces_S256x1024_S256 h1 h2)
      shapeCasts_S256_S256x1 = N .f32 256 1 (fun a _ => ∑ c : Fin 1024, f a c.val) := by
  funext i; idx_vars i
  pointwise [N]

theorem one_bits : Ideal.ofBits .f32 0x3F800000#32 = 1 := Ideal.ofBits_one_f32
theorem zero_bits : Ideal.ofBits .f32 0x00000000#32 = 0 := Ideal.ofBits_zero .f32

/-! ### The two halves of a block -/

variable {x w wg oa ob wa wb wo : ℕ → ℕ → EReal}

theorem norm_eq : k0_pay8 (F := Ideal) (N .f32 1 1024 w) (N .f32 256 1024 x) = N .f32 256 1024 (rms x w) := by
  unfold k0_pay8 k0_pay6 k0_pay3
  dsimp only
  simp only [cast_N, mulf_N]
  erw [row_sum]
  simp only [mulf_N, splat_N, divf_N, addf_N, rsqrt_N, col_N, row_N]
  rfl

theorem gates_eq : k0_pay7 (F := Ideal) (N .f32 1 1024 w) (N .f32 256 1024 x) (N .bf16 1024 2048 wg)
    = N .f32 256 2048 (mul 1024 (rms x w) wg) := by
  unfold k0_pay7 k0_pay5 k0_pay3
  dsimp only
  simp only [cast_N, mulf_N]
  erw [row_sum]
  simp only [mulf_N, splat_N, divf_N, addf_N, rsqrt_N, col_N, row_N, truncf_N, mm_gates]
  rfl

theorem top_eq : k0_pay15 (F := Ideal) (k0_pay5 (N .f32 256 1024 x)) (k0_pay11 (N .f32 256 1024 ob) (N .bf16 1024 1024 wb))
      (k0_pay13 (k0_pay7 (N .f32 1 1024 w) (N .f32 256 1024 x) (N .bf16 1024 2048 wg)) (N .f32 256 512 oa) (N .bf16 512 1024 wa))
      (k0_pay14 (k0_pay7 (N .f32 1 1024 w) (N .f32 256 1024 x) (N .bf16 1024 2048 wg))) (N .bf16 1024 1024 wo)
    = N .f32 256 1024 (rows x w wg oa ob wa wb wo) := by
  rw [gates_eq]
  unfold k0_pay15 k0_pay5 k0_pay11 k0_pay13 k0_pay14
  dsimp only
  simp only [cast_N, mulf_N, splat_N, divf_N, addf_N, subf_N, exp_N, truncf_N, mm_up_a, mm_up_b, slice_N,
    one_bits, zero_bits, zero_sub]
  simp only [from_, Nat.zero_add]
  rfl

theorem bottom_eq : k0_pay16 (F := Ideal) (k0_pay6 (N .f32 256 1024 x))
      (k0_pay9 (k0_pay8 (N .f32 1 1024 w) (N .f32 256 1024 x)) (N .bf16 1024 2048 wg))
      (k0_pay10 (N .f32 256 512 oa) (N .bf16 512 1024 wa)) (k0_pay12 (N .f32 256 1024 ob) (N .bf16 1024 1024 wb))
      (N .bf16 1024 1024 wo)
    = N .f32 256 1024 (rows x w wg oa ob wa wb wo) := by
  rw [norm_eq]
  unfold k0_pay16 k0_pay6 k0_pay9 k0_pay10 k0_pay12
  dsimp only
  simp only [cast_N, mulf_N, splat_N, divf_N, addf_N, subf_N, exp_N, truncf_N, mm_up_a, mm_up_b, mm_gates, slice_N,
    one_bits, zero_bits, zero_sub]
  simp only [from_, Nat.zero_add]
  rfl

end Merge
-- ==== Proof.MergeIdealRunA.lean ====
/- The body of the merge call of the idealized kernel at the first grid point: the pieces its stores leave, found by running it. -/
module

public import proofs.«01_k».proof.Proof.Gen.Kernel2Ideal.Frame
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points: the condition of the body's branch, the blocks' buffers and the scratch -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

abbrev VO0_12 : View sig .tc .vmem S512x1024 .f32 := (Memref.whole cc0_stg12_0 : Memref sig .tc .vmem S512x1024 .f32).view
abbrev VO0_13 : View sig .tc .vmem S4096x128 .f32 := (Memref.whole cc0_stg13_0 : Memref sig .tc .vmem S4096x128 .f32).view
abbrev VO0_14 : View sig .tc .vmem S512x128 .f32 := (Memref.whole cc0_stg14_0 : Memref sig .tc .vmem S512x128 .f32).view
abbrev VO0_15 : View sig .tc .vmem S1x8x512 .f32 := (Memref.whole cc0_stg15_0 : Memref sig .tc .vmem S1x8x512 .f32).view
abbrev VO0_16 : View sig .tc .vmem S1x128 .f32 := (Memref.whole cc0_stg16_0 : Memref sig .tc .vmem S1x128 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4096x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x8x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128 .f32 := win0_16.stage (cfg0.slots t 16)
abbrev hs0_16 (t : Fin cfg0.N) : (ms0_16 t).IsWhole := hstage0_16 ((cfg0.slots t 16).cast nbuf0_16)
abbrev scM0_0 : Memref sig .tc .vmem S1x128 .f32 := Memref.whole cc0_scratch0
abbrev VS0_0 : View sig .tc .vmem S1x128 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 2000000 in
/-- The pieces that the body's stores leave in each result's buffer and in the scratch, at the first point, with the proof
    that the body runs from the blocks of the arguments to those pieces. -/
noncomputable def bodyRun_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x512 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x1024 .f32) (harg13 : arg13.IsWhole) (arg14 : Memref sig .tc .vmem S4096x128 .f32) (harg14 : arg14.IsWhole) (arg15 : Memref sig .tc .vmem S512x128 .f32) (harg15 : arg15.IsWhole) (arg16 : Memref sig .tc .vmem S1x8x512 .f32) (harg16 : arg16.IsWhole) (arg17 : Memref sig .tc .vmem S1x128 .f32) (harg17 : arg17.IsWhole) (arg18 : Memref sig .tc .vmem S1x128 .f32) (harg18 : arg18.IsWhole) (hc0 : cond0_0 i)
    (x0 : Vec F S512x1024 .f32) (x1 : Vec F S1x1024 .f32) (x2 : Vec F S1024x2048 .bf16) (x3 : Vec F S512x512 .f32) (x4 : Vec F S512x1024 .f32) (x5 : Vec F S512x1024 .bf16) (x6 : Vec F S1024x1024 .bf16) (x7 : Vec F S1024x1024 .bf16) (x8 : Vec F S1x1024 .f32) (x9 : Vec F S1024x128 .bf16) (x10 : Vec F S1024x128 .bf16) (x11 : Vec F S1x128 .f32) :
    Σ' (L12 : List (View.Piece (Elt F) S512x1024 .f32)), Σ' (L13 : List (View.Piece (Elt F) S4096x128 .f32)), Σ' (L14 : List (View.Piece (Elt F) S512x128 .f32)), Σ' (L15 : List (View.Piece (Elt F) S1x8x512 .f32)), Σ' (L16 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0)) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_merge_eq_skeleton]; unfold cc0_merge_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.Kernel2Ideal.Body

end
-- ==== Proof.MergeIdealRunB.lean ====
/- The body of the merge call of the idealized kernel at a later grid point: the pieces its stores leave, found by running it. -/
module

public import proofs.«01_k».proof.Proof.MergeIdealRunA

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces that the body's stores leave in each result's buffer and in the scratch, at a later point, where the scratch starts at `xs0`, with the proof
    that the body runs from the blocks of the arguments to those pieces. -/
noncomputable def bodyRun_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x512 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x1024 .f32) (harg13 : arg13.IsWhole) (arg14 : Memref sig .tc .vmem S4096x128 .f32) (harg14 : arg14.IsWhole) (arg15 : Memref sig .tc .vmem S512x128 .f32) (harg15 : arg15.IsWhole) (arg16 : Memref sig .tc .vmem S1x8x512 .f32) (harg16 : arg16.IsWhole) (arg17 : Memref sig .tc .vmem S1x128 .f32) (harg17 : arg17.IsWhole) (arg18 : Memref sig .tc .vmem S1x128 .f32) (harg18 : arg18.IsWhole) (hc0 : ¬cond0_0 i)
    (x0 : Vec F S512x1024 .f32) (x1 : Vec F S1x1024 .f32) (x2 : Vec F S1024x2048 .bf16) (x3 : Vec F S512x512 .f32) (x4 : Vec F S512x1024 .f32) (x5 : Vec F S512x1024 .bf16) (x6 : Vec F S1024x1024 .bf16) (x7 : Vec F S1024x1024 .bf16) (x8 : Vec F S1x1024 .f32) (x9 : Vec F S1024x128 .bf16) (x10 : Vec F S1024x128 .bf16) (x11 : Vec F S1x128 .f32) (xs0 : Vec F S1x128 .f32) :
    Σ' (L12 : List (View.Piece (Elt F) S512x1024 .f32)), Σ' (L13 : List (View.Piece (Elt F) S4096x128 .f32)), Σ' (L14 : List (View.Piece (Elt F) S512x128 .f32)), Σ' (L15 : List (View.Piece (Elt F) S1x8x512 .f32)), Σ' (L16 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0)) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, ?_, fun E K => ?run⟩
  case run =>
    simp only [cc0_merge_eq_skeleton]; unfold cc0_merge_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg18.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact HS0

end Cert.Kernel2Ideal.Body

end
-- ==== Proof.MergeIdealFrame.lean ====
/- The run of the merge call of the idealized kernel: the body at every grid point, and the whole of it. -/
module

public import proofs.«01_k».proof.Proof.MergeIdealRunB
public import proofs.«01_k».proof.Proof.Striped
public import Idealize.ShloMosaic.Lib.Claim

@[expose] public section

set_option maxRecDepth 16384

noncomputable section

namespace Cert.Kernel2Ideal.Body

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's run, at the point's buffers and blocks. -/
def runA (c : Dev nD) (t : Fin cfg0.N) (h0 : t.val % 128 = 0) :=
  bodyRun_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- A later point's run, from the scratch at `xs`. -/
def runB (c : Dev nD) (t : Fin cfg0.N) (h0 : ¬t.val % 128 = 0) (xs : Vec F S1x128 .f32) :=
  bodyRun_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) xs

/-! ## The stores cover the buffers -/

theorem coverA_12 (c : Dev nD) (t : Fin cfg0.N) (h0 : t.val % 128 = 0) (y : S512x1024.Idx) :
    ∃ pc ∈ (runA m c t h0).1, y ∈ pc.1.set :=
  View.cover_of_tiledL (runA m c t h0).1 S256x1024.size (by sl_kernel_rfl) y

theorem coverA_13 (c : Dev nD) (t : Fin cfg0.N) (h0 : t.val % 128 = 0) (y : S4096x128.Idx) :
    ∃ pc ∈ (runA m c t h0).2.1, y ∈ pc.1.set :=
  Cert.Striped.striped_cover (runA m c t h0).2.1 (by sl_kernel_rfl) y

theorem coverA_14 (c : Dev nD) (t : Fin cfg0.N) (h0 : t.val % 128 = 0) (y : S512x128.Idx) :
    ∃ pc ∈ (runA m c t h0).2.2.1, y ∈ pc.1.set :=
  View.cover_of_tiledL (runA m c t h0).2.2.1 S256x128.size (by sl_kernel_rfl) y

theorem coverA_15 (c : Dev nD) (t : Fin cfg0.N) (h0 : t.val % 128 = 0) (y : S1x8x512.Idx) :
    ∃ pc ∈ (runA m c t h0).2.2.2.1, y ∈ pc.1.set :=
  View.cover_of_tiledL (runA m c t h0).2.2.2.1 S1x8x256.size (by sl_kernel_rfl) y

theorem coverA_16 (c : Dev nD) (t : Fin cfg0.N) (h0 : t.val % 128 = 0) (y : S1x128.Idx) :
    ∃ pc ∈ (runA m c t h0).2.2.2.2.1, y ∈ pc.1.set :=
  View.cover_of_tiledL (runA m c t h0).2.2.2.2.1 S1x128.size (by sl_kernel_rfl) y

theorem coverA_s (c : Dev nD) (t : Fin cfg0.N) (h0 : t.val % 128 = 0) (y : S1x128.Idx) :
    ∃ pc ∈ (runA m c t h0).2.2.2.2.2.1, y ∈ pc.1.set :=
  View.cover_of_tiledL (runA m c t h0).2.2.2.2.2.1 S1x128.size (by sl_kernel_rfl) y

/-- What the body leaves in the results' buffers and the scratch at the first point. -/
def leftA (c : Dev nD) (t : Fin cfg0.N) (h0 : t.val % 128 = 0) : Vec F S512x1024 .f32 × Vec F S4096x128 .f32 × Vec F S512x128 .f32 × Vec F S1x8x512 .f32 × Vec F S1x128 .f32 × Vec F S1x128 .f32 :=
  (VO0_12.read (Elt F) (VO0_12.writes (Elt F) VO0_12.junk (runA m c t h0).1),
   VO0_13.read (Elt F) (VO0_13.writes (Elt F) VO0_13.junk (runA m c t h0).2.1),
   VO0_14.read (Elt F) (VO0_14.writes (Elt F) VO0_14.junk (runA m c t h0).2.2.1),
   VO0_15.read (Elt F) (VO0_15.writes (Elt F) VO0_15.junk (runA m c t h0).2.2.2.1),
   VO0_16.read (Elt F) (VO0_16.writes (Elt F) VO0_16.junk (runA m c t h0).2.2.2.2.1),
   VS0_0.read (Elt F) (VS0_0.writes (Elt F) VS0_0.junk (runA m c t h0).2.2.2.2.2.1))

theorem coverB_12 (c : Dev nD) (t : Fin cfg0.N) (h0 : ¬t.val % 128 = 0) (xs : Vec F S1x128 .f32) (y : S512x1024.Idx) :
    ∃ pc ∈ (runB m c t h0 xs).1, y ∈ pc.1.set :=
  View.cover_of_tiledL (runB m c t h0 xs).1 S256x1024.size (by sl_kernel_rfl) y

theorem coverB_13 (c : Dev nD) (t : Fin cfg0.N) (h0 : ¬t.val % 128 = 0) (xs : Vec F S1x128 .f32) (y : S4096x128.Idx) :
    ∃ pc ∈ (runB m c t h0 xs).2.1, y ∈ pc.1.set :=
  Cert.Striped.striped_cover (runB m c t h0 xs).2.1 (by sl_kernel_rfl) y

theorem coverB_14 (c : Dev nD) (t : Fin cfg0.N) (h0 : ¬t.val % 128 = 0) (xs : Vec F S1x128 .f32) (y : S512x128.Idx) :
    ∃ pc ∈ (runB m c t h0 xs).2.2.1, y ∈ pc.1.set :=
  View.cover_of_tiledL (runB m c t h0 xs).2.2.1 S256x128.size (by sl_kernel_rfl) y

theorem coverB_15 (c : Dev nD) (t : Fin cfg0.N) (h0 : ¬t.val % 128 = 0) (xs : Vec F S1x128 .f32) (y : S1x8x512.Idx) :
    ∃ pc ∈ (runB m c t h0 xs).2.2.2.1, y ∈ pc.1.set :=
  View.cover_of_tiledL (runB m c t h0 xs).2.2.2.1 S1x8x256.size (by sl_kernel_rfl) y

theorem coverB_16 (c : Dev nD) (t : Fin cfg0.N) (h0 : ¬t.val % 128 = 0) (xs : Vec F S1x128 .f32) (y : S1x128.Idx) :
    ∃ pc ∈ (runB m c t h0 xs).2.2.2.2.1, y ∈ pc.1.set :=
  View.cover_of_tiledL (runB m c t h0 xs).2.2.2.2.1 S1x128.size (by sl_kernel_rfl) y

theorem coverB_s (c : Dev nD) (t : Fin cfg0.N) (h0 : ¬t.val % 128 = 0) (xs : Vec F S1x128 .f32) (y : S1x128.Idx) :
    ∃ pc ∈ (runB m c t h0 xs).2.2.2.2.2.1, y ∈ pc.1.set :=
  View.cover_of_tiledL (runB m c t h0 xs).2.2.2.2.2.1 S1x128.size (by sl_kernel_rfl) y

/-- What the body leaves in the results' buffers and the scratch at a later point. -/
def leftB (c : Dev nD) (t : Fin cfg0.N) (h0 : ¬t.val % 128 = 0) (xs : Vec F S1x128 .f32) : Vec F S512x1024 .f32 × Vec F S4096x128 .f32 × Vec F S512x128 .f32 × Vec F S1x8x512 .f32 × Vec F S1x128 .f32 × Vec F S1x128 .f32 :=
  (VO0_12.read (Elt F) (VO0_12.writes (Elt F) VO0_12.junk (runB m c t h0 xs).1),
   VO0_13.read (Elt F) (VO0_13.writes (Elt F) VO0_13.junk (runB m c t h0 xs).2.1),
   VO0_14.read (Elt F) (VO0_14.writes (Elt F) VO0_14.junk (runB m c t h0 xs).2.2.1),
   VO0_15.read (Elt F) (VO0_15.writes (Elt F) VO0_15.junk (runB m c t h0 xs).2.2.2.1),
   VO0_16.read (Elt F) (VO0_16.writes (Elt F) VO0_16.junk (runB m c t h0 xs).2.2.2.2.1),
   VS0_0.read (Elt F) (VS0_0.writes (Elt F) VS0_0.junk (runB m c t h0 xs).2.2.2.2.2.1))

/-! ## The points in turn -/

/-- What the buffers hold after the body at position `n`. -/
def outsAt0 (c : Dev nD) : (n : ℕ) → n < cfg0.N → Vec F S512x1024 .f32 × Vec F S4096x128 .f32 × Vec F S512x128 .f32 × Vec F S1x8x512 .f32 × Vec F S1x128 .f32 × Vec F S1x128 .f32
  | 0, hn => leftA m c ⟨0, hn⟩ (Nat.zero_mod _)
  | n + 1, hn =>
    if h0 : (n + 1) % 128 = 0 then leftA m c ⟨n + 1, hn⟩ h0
    else leftB m c ⟨n + 1, hn⟩ h0 (outsAt0 c n (Nat.lt_of_succ_lt hn)).2.2.2.2.2

theorem outsAt0_A (c : Dev nD) (t : Fin cfg0.N) (h0 : t.val % 128 = 0) :
    outsAt0 m c t.val t.isLt = leftA m c t h0 := by
  obtain ⟨n, hn⟩ := t
  cases n with
  | zero => exact rfl
  | succ n => exact (dif_pos h0).trans rfl

theorem outsAt0_B (c : Dev nD) (t : Fin cfg0.N) (h0 : ¬t.val % 128 = 0) :
    outsAt0 m c t.val t.isLt = leftB m c t h0 (outsAt0 m c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans rfl

/-! ## The proof data, the body's obligation and the run -/

/-- What the scratch holds before position `n`. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2)) ∗ (∃ r, prngReg c r)) := by
  cases n with
  | zero => exact absurd rfl hz
  | succ n => rfl

/-! ## The pipeline's proof data -/

/-- The contents of each buffer before and after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 12800000 in
/-- The body, at any point, runs from the arguments' blocks to the contents stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · by_cases hz : t.val = 0
    · rw [PhiS_castSucc m c t, PhiS_zero m c _ _ hz, PhiA0_eq]
      rw [outsAt0_A m c t h0]
      unfold leftA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runA m c t h0).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (coverA_s m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (coverA_12 m c t h0)
      isplitl [H13]
      · unfold owns; iexists _; isplitr
        swap; · iexact H13
        ipureintro; exact View.read_writes_of_cover _ _ _ _ _ (coverA_13 m c t h0)
      isplitl [H14]
      · unfold owns; iexists _; isplitr
        swap; · iexact H14
        ipureintro; exact View.read_writes_of_cover _ _ _ _ _ (coverA_14 m c t h0)
      isplitl [H15]
      · unfold owns; iexists _; isplitr
        swap; · iexact H15
        ipureintro; exact View.read_writes_of_cover _ _ _ _ _ (coverA_15 m c t h0)
      unfold owns; iexists _; isplitr
      swap; · iexact H16
      ipureintro; exact View.read_writes_of_cover _ _ _ _ _ (coverA_16 m c t h0)
    · exfalso; have hN : t.val < 128 := lt_of_lt_of_eq t.isLt (show cfg0.N = 128 from N_0); omega
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold leftB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runB m c t h0 _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [HS0]; · iexact HS0
      iintro ⟨H0, H1, H2, H3, H4, H5, H6, H7, H8, H9, H10, H11, ⟨%e12, H12⟩, ⟨%e13, H13⟩, ⟨%e14, H14⟩, ⟨%e15, H15⟩, ⟨%e16, H16⟩, ⟨%es0, HS0⟩⟩
      isplitl [HS0 Hg]
      · isplitl [HS0]
        · unfold owns; iexists _; isplitr
          swap; · iexact HS0
          ipureintro; exact View.read_writes_of_cover _ _ _ _ _ (coverB_s m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (coverB_12 m c t h0 _)
      isplitl [H13]
      · unfold owns; iexists _; isplitr
        swap; · iexact H13
        ipureintro; exact View.read_writes_of_cover _ _ _ _ _ (coverB_13 m c t h0 _)
      isplitl [H14]
      · unfold owns; iexists _; isplitr
        swap; · iexact H14
        ipureintro; exact View.read_writes_of_cover _ _ _ _ _ (coverB_14 m c t h0 _)
      isplitl [H15]
      · unfold owns; iexists _; isplitr
        swap; · iexact H15
        ipureintro; exact View.read_writes_of_cover _ _ _ _ _ (coverB_15 m c t h0 _)
      unfold owns; iexists _; isplitr
      swap; · iexact H16
      ipureintro; exact View.read_writes_of_cover _ _ _ _ _ (coverB_16 m c t h0 _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with each array at what the points wrote. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The run ends with the arguments and the semaphores as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel2Ideal.Body

end
-- ==== Proof.MergeLeft.lean ====
/- What one grid point of the merge leaves in the block of its result: 512 rows, as
   `Merge.rows` of the blocks of the arguments. The two cases of the body, the first point and the
   later ones, leave the same. -/
module

public import proofs.«01_k».proof.Proof.MergeBlock
public import proofs.«01_k».proof.Proof.MergeIdealFrame
public import Idealize.ShloMosaic.Lib.WholeRead
public import Idealize.ShloMosaic.Lib.Pipeline.ValueKit.Basic
public import Idealize.ShloMosaic.Lib.Pipeline.ValueKit.Tiles

@[expose] public section

set_option maxRecDepth 16384

open Idealize.ShloMosaic Idealize.ShloMosaic.TcCoe Idealize.SL Cert.Kernel2Ideal Cert.Kernel2Ideal.Gen

namespace Merge

/-- A load of a rectangle out of an array held as a whole. -/
theorem read_N {sig : RefSig} {κ : Kind} {sp : Space} {m n : ℕ} {f : ℕ → ℕ → EReal} (v : Memref sig κ sp ⟨2, ![m, n]⟩ .f32)
    (h : v.IsWhole) (p q a b : ℕ) (inb : ∀ i, ![a, b] i + (⟨2, ![p, q]⟩ : Shape).size i ≤ (⟨2, ![m, n]⟩ : Shape).size i)
    {u : Vec Ideal ⟨2, ![m, n]⟩ .f32} (e : u = N .f32 m n f) :
    View.readAt (Elt Ideal) v.view (Rect.unit (s := ⟨2, ![m, n]⟩) ![a, b] (⟨2, ![p, q]⟩ : Shape).size inb).toLoadRect (h.unread u)
      = N .f32 p q (from_ a b f) := by
  subst e
  funext j
  refine (h.readAt_unread _ _ _).trans ?_
  change f (a + 1 * (j 0).val) (b + 1 * (j 1).val) = f (a + (j 0).val) (b + (j 1).val)
  rw [one_mul, one_mul]

theorem read_N_bf16 {sig : RefSig} {κ : Kind} {sp : Space} {m n : ℕ} {f : ℕ → ℕ → EReal} (v : Memref sig κ sp ⟨2, ![m, n]⟩ .bf16)
    (h : v.IsWhole) (p q a b : ℕ) (inb : ∀ i, ![a, b] i + (⟨2, ![p, q]⟩ : Shape).size i ≤ (⟨2, ![m, n]⟩ : Shape).size i)
    {u : Vec Ideal ⟨2, ![m, n]⟩ .bf16} (e : u = N .bf16 m n f) :
    View.readAt (Elt Ideal) v.view (Rect.unit (s := ⟨2, ![m, n]⟩) ![a, b] (⟨2, ![p, q]⟩ : Shape).size inb).toLoadRect (h.unread u)
      = N .bf16 p q (from_ a b f) := by
  subst e
  funext j
  refine (h.readAt_unread _ _ _).trans ?_
  change f (a + 1 * (j 0).val) (b + 1 * (j 1).val) = f (a + (j 0).val) (b + (j 1).val)
  rw [one_mul, one_mul]

theorem from_zero (f : ℕ → ℕ → EReal) : from_ 0 0 f = f := by
  funext a b; simp only [from_, Nat.zero_add]

theorem read_all {sig : RefSig} {κ : Kind} {sp : Space} {m n : ℕ} {f : ℕ → ℕ → EReal} (v : Memref sig κ sp ⟨2, ![m, n]⟩ .f32)
    (h : v.IsWhole) (inb : ∀ i, ![0, 0] i + (⟨2, ![m, n]⟩ : Shape).size i ≤ (⟨2, ![m, n]⟩ : Shape).size i)
    {u : Vec Ideal ⟨2, ![m, n]⟩ .f32} (e : u = N .f32 m n f) :
    View.readAt (Elt Ideal) v.view (Rect.unit (s := ⟨2, ![m, n]⟩) ![0, 0] (⟨2, ![m, n]⟩ : Shape).size inb).toLoadRect (h.unread u)
      = N .f32 m n f := by
  rw [read_N v h m n 0 0 inb e, from_zero]

theorem read_all_bf16 {sig : RefSig} {κ : Kind} {sp : Space} {m n : ℕ} {f : ℕ → ℕ → EReal} (v : Memref sig κ sp ⟨2, ![m, n]⟩ .bf16)
    (h : v.IsWhole) (inb : ∀ i, ![0, 0] i + (⟨2, ![m, n]⟩ : Shape).size i ≤ (⟨2, ![m, n]⟩ : Shape).size i)
    {u : Vec Ideal ⟨2, ![m, n]⟩ .bf16} (e : u = N .bf16 m n f) :
    View.readAt (Elt Ideal) v.view (Rect.unit (s := ⟨2, ![m, n]⟩) ![0, 0] (⟨2, ![m, n]⟩ : Shape).size inb).toLoadRect (h.unread u)
      = N .bf16 m n f := by
  rw [read_N_bf16 v h m n 0 0 inb e, from_zero]

section
variable {x w wg oa ob wa wb wo : ℕ → ℕ → EReal}
  {X : Vec Ideal S256x1024 .f32} {W : Vec Ideal S1x1024 .f32} {Wg : Vec Ideal S1024x2048 .bf16} {Oa : Vec Ideal S256x512 .f32}
  {Ob : Vec Ideal S256x1024 .f32} {Wa : Vec Ideal S512x1024 .bf16} {Wb Wo : Vec Ideal S1024x1024 .bf16}

/-- The first 256 rows of a block. -/
theorem top_of (hX : X = N .f32 256 1024 (from_ 0 0 x)) (hW : W = N .f32 1 1024 w) (hWg : Wg = N .bf16 1024 2048 wg)
    (hOa : Oa = N .f32 256 512 (from_ 0 0 oa)) (hOb : Ob = N .f32 256 1024 (from_ 0 0 ob)) (hWa : Wa = N .bf16 512 1024 wa)
    (hWb : Wb = N .bf16 1024 1024 wb) (hWo : Wo = N .bf16 1024 1024 wo) :
    k0_pay15 (F := Ideal) (k0_pay5 X) (k0_pay11 Ob Wb) (k0_pay13 (k0_pay7 W X Wg) Oa Wa) (k0_pay14 (k0_pay7 W X Wg)) Wo
      = N .f32 256 1024 (from_ 0 0 (rows x w wg oa ob wa wb wo)) := by
  subst hX hW hWg hOa hOb hWa hWb hWo
  simp only [from_zero]
  exact top_eq

/-- The last 256 rows of a block. -/
theorem bottom_of (hX : X = N .f32 256 1024 (from_ 256 0 x)) (hW : W = N .f32 1 1024 w) (hWg : Wg = N .bf16 1024 2048 wg)
    (hOa : Oa = N .f32 256 512 (from_ 256 0 oa)) (hOb : Ob = N .f32 256 1024 (from_ 256 0 ob)) (hWa : Wa = N .bf16 512 1024 wa)
    (hWb : Wb = N .bf16 1024 1024 wb) (hWo : Wo = N .bf16 1024 1024 wo) :
    k0_pay16 (F := Ideal) (k0_pay6 X) (k0_pay9 (k0_pay8 W X) Wg) (k0_pay10 Oa Wa) (k0_pay12 Ob Wb) Wo
      = N .f32 256 1024 (from_ 256 0 (rows x w wg oa ob wa wb wo)) := by
  subst hX hW hWg hOa hOb hWa hWb hWo
  have e : ∀ f : ℕ → ℕ → EReal, from_ 256 0 f = fun a b => f (256 + a) b := by
    intro f; funext a b; simp only [from_, Nat.zero_add]
  simp only [e]
  rw [← rows_from]
  exact bottom_eq
end

/-- The elements of 256 rows stored from row `r` on. -/
theorem tile_N (r : ℕ) {H : ℕ → ℕ → EReal} (y : (⟨2, ![512, 1024]⟩ : Shape).Idx) {X : Vec Ideal ⟨2, ![256, 1024]⟩ .f32}
    (e : X = N .f32 256 1024 (from_ r 0 H)) :
    View.TileAt (Val := Elt Ideal) (e := .f32) y ![r, 0] ![256, 1024] X (N .f32 512 1024 H y) := by
  subst e
  intro z h
  change H (r + (z 0).val) (0 + (z 1).val) = H (y 0).val (y 1).val
  rw [show (y 0).val = r + (z 0).val from h 0, show (y 1).val = 0 + (z 1).val from h 1]

section
variable (m : (ℓ : Loc nD τ sig) → Buf (Elt Ideal) ℓ) (c : Dev nD) (t : Fin cfg0.N)
  {x w wg oa ob wa wb wo : ℕ → ℕ → EReal}

/-- The first point. -/
theorem leftA_eq (h0 : t.val % 128 = 0) (e0 : (iblk m c 0 t : Vec Ideal S512x1024 .f32) = N .f32 512 1024 x)
    (e1 : (iblk m c 1 t : Vec Ideal S1x1024 .f32) = N .f32 1 1024 w) (e2 : (iblk m c 2 t : Vec Ideal S1024x2048 .bf16) = N .bf16 1024 2048 wg)
    (e3 : (iblk m c 3 t : Vec Ideal S512x512 .f32) = N .f32 512 512 oa) (e4 : (iblk m c 4 t : Vec Ideal S512x1024 .f32) = N .f32 512 1024 ob)
    (e5 : (iblk m c 5 t : Vec Ideal S512x1024 .bf16) = N .bf16 512 1024 wa) (e6 : (iblk m c 6 t : Vec Ideal S1024x1024 .bf16) = N .bf16 1024 1024 wb)
    (e7 : (iblk m c 7 t : Vec Ideal S1024x1024 .bf16) = N .bf16 1024 1024 wo) :
    (Body.leftA (F := Ideal) m c t h0).1 = N .f32 512 1024 (rows x w wg oa ob wa wb wo) := by
  unfold Body.leftA
  dsimp only
  rw [View.read_writes_junk_eq_canon]
  funext y
  refine View.canon_eq_of_allAt _ _ _ (Body.coverA_12 m c t h0 y) ?_
  unfold Body.runA Body.bodyRun_A
  dsimp only
  simp only [Body.bodyRun_A.sl.r_11, Body.bodyRun_A.sl.r_12, Body.bodyRun_A.sl.r_1, Body.bodyRun_A.sl.r_2, Body.bodyRun_A.sl.r_3, Body.bodyRun_A.sl.r_4, Body.bodyRun_A.sl.r_5, Body.bodyRun_A.sl.r_6, Body.bodyRun_A.sl.r_7, Body.bodyRun_A.sl.r_8, Body.bodyRun_A.sl.r_9, Body.bodyRun_A.sl.r_10]
  refine View.allAt_cons_unit _ _ _ _ _ (by
    exact tile_N 256 y (bottom_of (read_N _ _ 256 1024 256 0 _ e0) (read_all _ _ _ e1) (read_all_bf16 _ _ _ e2) (read_N _ _ 256 512 256 0 _ e3)
      (read_N _ _ 256 1024 256 0 _ e4) (read_all_bf16 _ _ _ e5) (read_all_bf16 _ _ _ e6) (read_all_bf16 _ _ _ e7))) ?_
  refine View.allAt_cons_unit _ _ _ _ _ (by
    exact tile_N 0 y (top_of (read_N _ _ 256 1024 0 0 _ e0) (read_all _ _ _ e1) (read_all_bf16 _ _ _ e2) (read_N _ _ 256 512 0 0 _ e3)
      (read_N _ _ 256 1024 0 0 _ e4) (read_all_bf16 _ _ _ e5) (read_all_bf16 _ _ _ e6) (read_all_bf16 _ _ _ e7))) ?_
  exact View.allAt_nil _ _

/-- A later point. -/
theorem leftB_eq (h0 : ¬t.val % 128 = 0) (xs : Vec Ideal S1x128 .f32) (e0 : (iblk m c 0 t : Vec Ideal S512x1024 .f32) = N .f32 512 1024 x)
    (e1 : (iblk m c 1 t : Vec Ideal S1x1024 .f32) = N .f32 1 1024 w) (e2 : (iblk m c 2 t : Vec Ideal S1024x2048 .bf16) = N .bf16 1024 2048 wg)
    (e3 : (iblk m c 3 t : Vec Ideal S512x512 .f32) = N .f32 512 512 oa) (e4 : (iblk m c 4 t : Vec Ideal S512x1024 .f32) = N .f32 512 1024 ob)
    (e5 : (iblk m c 5 t : Vec Ideal S512x1024 .bf16) = N .bf16 512 1024 wa) (e6 : (iblk m c 6 t : Vec Ideal S1024x1024 .bf16) = N .bf16 1024 1024 wb)
    (e7 : (iblk m c 7 t : Vec Ideal S1024x1024 .bf16) = N .bf16 1024 1024 wo) :
    (Body.leftB (F := Ideal) m c t h0 xs).1 = N .f32 512 1024 (rows x w wg oa ob wa wb wo) := by
  unfold Body.leftB
  dsimp only
  rw [View.read_writes_junk_eq_canon]
  funext y
  refine View.canon_eq_of_allAt _ _ _ (Body.coverB_12 m c t h0 xs y) ?_
  unfold Body.runB Body.bodyRun_B
  dsimp only
  simp only [Body.bodyRun_B.sl.r_11, Body.bodyRun_B.sl.r_12, Body.bodyRun_B.sl.r_1, Body.bodyRun_B.sl.r_2, Body.bodyRun_B.sl.r_3, Body.bodyRun_B.sl.r_4, Body.bodyRun_B.sl.r_5, Body.bodyRun_B.sl.r_6, Body.bodyRun_B.sl.r_7, Body.bodyRun_B.sl.r_8, Body.bodyRun_B.sl.r_9, Body.bodyRun_B.sl.r_10]
  refine View.allAt_cons_unit _ _ _ _ _ (by
    exact tile_N 256 y (bottom_of (read_N _ _ 256 1024 256 0 _ e0) (read_all _ _ _ e1) (read_all_bf16 _ _ _ e2) (read_N _ _ 256 512 256 0 _ e3)
      (read_N _ _ 256 1024 256 0 _ e4) (read_all_bf16 _ _ _ e5) (read_all_bf16 _ _ _ e6) (read_all_bf16 _ _ _ e7))) ?_
  refine View.allAt_cons_unit _ _ _ _ _ (by
    exact tile_N 0 y (top_of (read_N _ _ 256 1024 0 0 _ e0) (read_all _ _ _ e1) (read_all_bf16 _ _ _ e2) (read_N _ _ 256 512 0 0 _ e3)
      (read_N _ _ 256 1024 0 0 _ e4) (read_all_bf16 _ _ _ e5) (read_all_bf16 _ _ _ e6) (read_all_bf16 _ _ _ e7))) ?_
  exact View.allAt_nil _ _

/-- Every point. -/
theorem outs_eq (e0 : (iblk m c 0 t : Vec Ideal S512x1024 .f32) = N .f32 512 1024 x)
    (e1 : (iblk m c 1 t : Vec Ideal S1x1024 .f32) = N .f32 1 1024 w) (e2 : (iblk m c 2 t : Vec Ideal S1024x2048 .bf16) = N .bf16 1024 2048 wg)
    (e3 : (iblk m c 3 t : Vec Ideal S512x512 .f32) = N .f32 512 512 oa) (e4 : (iblk m c 4 t : Vec Ideal S512x1024 .f32) = N .f32 512 1024 ob)
    (e5 : (iblk m c 5 t : Vec Ideal S512x1024 .bf16) = N .bf16 512 1024 wa) (e6 : (iblk m c 6 t : Vec Ideal S1024x1024 .bf16) = N .bf16 1024 1024 wb)
    (e7 : (iblk m c 7 t : Vec Ideal S1024x1024 .bf16) = N .bf16 1024 1024 wo) :
    (Body.outsAt0 (F := Ideal) m c t.val t.isLt).1 = N .f32 512 1024 (rows x w wg oa ob wa wb wo) := by
  by_cases h0 : t.val % 128 = 0
  · rw [Body.outsAt0_A m c t h0]
    exact leftA_eq m c t h0 e0 e1 e2 e3 e4 e5 e6 e7
  · rw [Body.outsAt0_B m c t h0]
    exact leftB_eq m c t h0 _ e0 e1 e2 e3 e4 e5 e6 e7
end

end Merge
-- ==== Proof.MergeNorm.lean ====
/- The second array that one grid point of the merge leaves: the 512 rows of its result, each divided by its root
   mean square and weighted, as eight rows of 128 each. The kernel stores them a column block at a time, in every
   eighth row. -/
module

public import proofs.«01_k».proof.Proof.MergeLeft

@[expose] public section

set_option maxRecDepth 16384

open Idealize.ShloMosaic Idealize.ShloMosaic.TcCoe Idealize.SL Cert.Kernel2Ideal Cert.Kernel2Ideal.Gen

namespace Merge

/-- Rows of 1024 as eight rows of 128 each. -/
def tiles (G : ℕ → ℕ → EReal) (a b : ℕ) : EReal := G (a / 8) (a % 8 * 128 + b)

/-- Each row of `rms` depends on its own row only. -/
theorem rms_from (r : ℕ) (H g : ℕ → ℕ → EReal) : rms (from_ r 0 H) g = from_ r 0 (rms H g) := by
  funext a b
  simp only [rms, from_, Nat.zero_add]

variable {H g G : ℕ → ℕ → EReal}

/-! ### The norm of the two halves -/

theorem top_norm {a8 a57 a71 a72 : FVec Ideal S256x1024 .f32} {wo : Vec Ideal S1024x1024 .bf16} {v : Vec Ideal S1x1024 .f32}
    (hv : v = N .f32 1 1024 g) (e : k0_pay15 (F := Ideal) a8 a57 a71 a72 wo = N .f32 256 1024 (from_ 0 0 H)) :
    k0_pay18 (F := Ideal) (k0_pay4 v) (k0_pay15 a8 a57 a71 a72 wo) (k0_pay17 a8 a57 a71 a72 wo)
      = N .f32 256 1024 (from_ 0 0 (rms H g)) := by
  subst hv
  unfold k0_pay18 k0_pay17 k0_pay4
  dsimp only
  rw [e, ← rms_from]
  simp only [cast_N, mulf_N]
  erw [row_sum]
  simp only [mulf_N, splat_N, divf_N, addf_N, rsqrt_N, col_N, row_N]
  rfl

theorem bottom_norm {k : FVec Ideal S256x1024 .f32} {v : Vec Ideal S1x1024 .f32} (hv : v = N .f32 1 1024 g)
    (e : k = N .f32 256 1024 (from_ 256 0 H)) :
    k0_pay19 (F := Ideal) (k0_pay4 v) k = N .f32 256 1024 (from_ 256 0 (rms H g)) := by
  subst hv e
  unfold k0_pay19 k0_pay4
  dsimp only
  rw [← rms_from]
  simp only [cast_N, mulf_N]
  erw [row_sum]
  simp only [mulf_N, splat_N, divf_N, addf_N, rsqrt_N, col_N, row_N]
  rfl

/-! ### The sixteen stores -/

/-- The store of column block `j` of half `p`. -/
theorem stripe (p j : ℕ) (hj : j < 8) {o : ℕ} (ho : o = p * 2048 + j) (y : S4096x128.Idx)
    (inb : ∀ a : Fin 2, S256x128.size a = 0 ∨ ![o, 0] a + ![8, 1] a * (S256x128.size a - 1) < S4096x128.size a)
    (pos : ∀ a : Fin 2, 0 < (![8, 1] : Fin 2 → ℕ) a) {u : Vec Ideal S256x128 .f32}
    (e : u = N .f32 256 128 (from_ 0 (j * 128) (from_ (p * 256) 0 G))) :
    View.RectAt (Val := Elt Ideal) (e := .f32) y ⟨(⟨![o, 0], S256x128.size, ![8, 1], inb⟩ : LoadRect S4096x128), pos⟩ u
      (N .f32 4096 128 (tiles G) y) := by
  subst e ho
  intro x hx
  subst hx
  have h0 : ((Rect.mk (⟨![p * 2048 + j, 0], S256x128.size, ![8, 1], inb⟩ : LoadRect S4096x128) pos).emb x 0).val
      = p * 2048 + j + 8 * (x 0).val := rfl
  have h1 : ((Rect.mk (⟨![p * 2048 + j, 0], S256x128.size, ![8, 1], inb⟩ : LoadRect S4096x128) pos).emb x 1).val
      = 0 + 1 * (x 1).val := rfl
  show from_ 0 (j * 128) (from_ (p * 256) 0 G) (x 0).val (x 1).val = tiles G _ _
  rw [h0, h1]
  unfold tiles from_
  refine congrArg₂ G ?_ ?_
  · omega
  · omega

/-- Together they leave the rows of `G`, for a first half `n` and a last half `n'` of the rows. -/
theorem stripes_eq {v : FVec Ideal S1x1024 .f32} {h n n' : FVec Ideal S256x1024 .f32} {s : FVec Ideal S256x1 .f32}
    {w : FVec Ideal S256x128 .f32} (top : k0_pay18 (F := Ideal) v h s = N .f32 256 1024 (from_ 0 0 G))
    (hn : n = k0_pay18 v h s) (hw : w = k0_pay26 v h s) (bottom : n' = N .f32 256 1024 (from_ 256 0 G)) (y : S4096x128.Idx) :
    View.AllAt (Val := Elt Ideal) (e := .f32) [
  ⟨⟨(⟨![2055, 0], S256x128.size, ![8, 1], inb_S4096x128_S256x128_2055_0_s_8_1⟩ : LoadRect S4096x128), spos_8_1⟩, k0_pay35 n'⟩,
  ⟨⟨(⟨![2054, 0], S256x128.size, ![8, 1], inb_S4096x128_S256x128_2054_0_s_8_1⟩ : LoadRect S4096x128), spos_8_1⟩, k0_pay34 n'⟩,
  ⟨⟨(⟨![2053, 0], S256x128.size, ![8, 1], inb_S4096x128_S256x128_2053_0_s_8_1⟩ : LoadRect S4096x128), spos_8_1⟩, k0_pay33 n'⟩,
  ⟨⟨(⟨![2052, 0], S256x128.size, ![8, 1], inb_S4096x128_S256x128_2052_0_s_8_1⟩ : LoadRect S4096x128), spos_8_1⟩, k0_pay32 n'⟩,
  ⟨⟨(⟨![2051, 0], S256x128.size, ![8, 1], inb_S4096x128_S256x128_2051_0_s_8_1⟩ : LoadRect S4096x128), spos_8_1⟩, k0_pay31 n'⟩,
  ⟨⟨(⟨![2050, 0], S256x128.size, ![8, 1], inb_S4096x128_S256x128_2050_0_s_8_1⟩ : LoadRect S4096x128), spos_8_1⟩, k0_pay30 n'⟩,
  ⟨⟨(⟨![2049, 0], S256x128.size, ![8, 1], inb_S4096x128_S256x128_2049_0_s_8_1⟩ : LoadRect S4096x128), spos_8_1⟩, k0_pay29 n'⟩,
  ⟨⟨(⟨![2048, 0], S256x128.size, ![8, 1], inb_S4096x128_S256x128_2048_0_s_8_1⟩ : LoadRect S4096x128), spos_8_1⟩, k0_pay28 n'⟩,
  ⟨⟨(⟨![7, 0], S256x128.size, ![8, 1], inb_S4096x128_S256x128_7_0_s_8_1⟩ : LoadRect S4096x128), spos_8_1⟩, k0_pay27 n⟩,
  ⟨⟨(⟨![6, 0], S256x128.size, ![8, 1], inb_S4096x128_S256x128_6_0_s_8_1⟩ : LoadRect S4096x128), spos_8_1⟩, w⟩,
  ⟨⟨(⟨![5, 0], S256x128.size, ![8, 1], inb_S4096x128_S256x128_5_0_s_8_1⟩ : LoadRect S4096x128), spos_8_1⟩, k0_pay25 v h s⟩,
  ⟨⟨(⟨![4, 0], S256x128.size, ![8, 1], inb_S4096x128_S256x128_4_0_s_8_1⟩ : LoadRect S4096x128), spos_8_1⟩, k0_pay24 v h s⟩,
  ⟨⟨(⟨![3, 0], S256x128.size, ![8, 1], inb_S4096x128_S256x128_3_0_s_8_1⟩ : LoadRect S4096x128), spos_8_1⟩, k0_pay23 v h s⟩,
  ⟨⟨(⟨![2, 0], S256x128.size, ![8, 1], inb_S4096x128_S256x128_2_0_s_8_1⟩ : LoadRect S4096x128), spos_8_1⟩, k0_pay22 v h s⟩,
  ⟨⟨(⟨![1, 0], S256x128.size, ![8, 1], inb_S4096x128_S256x128_1_0_s_8_1⟩ : LoadRect S4096x128), spos_8_1⟩, k0_pay21 v h s⟩,
  ⟨⟨(⟨![0, 0], S256x128.size, ![8, 1], inb_S4096x128_S256x128_0_0_s_8_1⟩ : LoadRect S4096x128), spos_8_1⟩, k0_pay20 v h s⟩] y (N .f32 4096 128 (tiles G) y) := by
  subst hn hw bottom
  refine View.allAt_cons _ _ _ (stripe 1 7 (by omega) (by omega) y _ _ (by unfold k0_pay35; rfl)) ?_
  refine View.allAt_cons _ _ _ (stripe 1 6 (by omega) (by omega) y _ _ (by unfold k0_pay34; rfl)) ?_
  refine View.allAt_cons _ _ _ (stripe 1 5 (by omega) (by omega) y _ _ (by unfold k0_pay33; rfl)) ?_
  refine View.allAt_cons _ _ _ (stripe 1 4 (by omega) (by omega) y _ _ (by unfold k0_pay32; rfl)) ?_
  refine View.allAt_cons _ _ _ (stripe 1 3 (by omega) (by omega) y _ _ (by unfold k0_pay31; rfl)) ?_
  refine View.allAt_cons _ _ _ (stripe 1 2 (by omega) (by omega) y _ _ (by unfold k0_pay30; rfl)) ?_
  refine View.allAt_cons _ _ _ (stripe 1 1 (by omega) (by omega) y _ _ (by unfold k0_pay29; rfl)) ?_
  refine View.allAt_cons _ _ _ (stripe 1 0 (by omega) (by omega) y _ _ (by unfold k0_pay28; rfl)) ?_
  refine View.allAt_cons _ _ _ (stripe 0 7 (by omega) (by omega) y _ _ (by unfold k0_pay27; rw [top]; rfl)) ?_
  refine View.allAt_cons _ _ _ (stripe 0 6 (by omega) (by omega) y _ _ (by unfold k0_pay26; rw [top]; rfl)) ?_
  refine View.allAt_cons _ _ _ (stripe 0 5 (by omega) (by omega) y _ _ (by unfold k0_pay25; rw [top]; rfl)) ?_
  refine View.allAt_cons _ _ _ (stripe 0 4 (by omega) (by omega) y _ _ (by unfold k0_pay24; rw [top]; rfl)) ?_
  refine View.allAt_cons _ _ _ (stripe 0 3 (by omega) (by omega) y _ _ (by unfold k0_pay23; rw [top]; rfl)) ?_
  refine View.allAt_cons _ _ _ (stripe 0 2 (by omega) (by omega) y _ _ (by unfold k0_pay22; rw [top]; rfl)) ?_
  refine View.allAt_cons _ _ _ (stripe 0 1 (by omega) (by omega) y _ _ (by unfold k0_pay21; rw [top]; rfl)) ?_
  refine View.allAt_cons _ _ _ (stripe 0 0 (by omega) (by omega) y _ _ (by unfold k0_pay20; rw [top]; rfl)) ?_
  exact View.allAt_nil _ _

section
variable (m : (ℓ : Loc nD τ sig) → Buf (Elt Ideal) ℓ) (c : Dev nD) (t : Fin cfg0.N)
  {x w wg oa ob wa wb wo : ℕ → ℕ → EReal}

/-- The first point. -/
theorem normA_eq (h0 : t.val % 128 = 0) (e0 : (iblk m c 0 t : Vec Ideal S512x1024 .f32) = N .f32 512 1024 x)
    (e1 : (iblk m c 1 t : Vec Ideal S1x1024 .f32) = N .f32 1 1024 w) (e2 : (iblk m c 2 t : Vec Ideal S1024x2048 .bf16) = N .bf16 1024 2048 wg)
    (e3 : (iblk m c 3 t : Vec Ideal S512x512 .f32) = N .f32 512 512 oa) (e4 : (iblk m c 4 t : Vec Ideal S512x1024 .f32) = N .f32 512 1024 ob)
    (e5 : (iblk m c 5 t : Vec Ideal S512x1024 .bf16) = N .bf16 512 1024 wa) (e6 : (iblk m c 6 t : Vec Ideal S1024x1024 .bf16) = N .bf16 1024 1024 wb)
    (e7 : (iblk m c 7 t : Vec Ideal S1024x1024 .bf16) = N .bf16 1024 1024 wo) (e8 : (iblk m c 8 t : Vec Ideal S1x1024 .f32) = N .f32 1 1024 g) :
    (Body.leftA (F := Ideal) m c t h0).2.1 = N .f32 4096 128 (tiles (rms (rows x w wg oa ob wa wb wo) g)) := by
  unfold Body.leftA
  dsimp only
  rw [View.read_writes_junk_eq_canon]
  funext y
  refine View.canon_eq_of_allAt _ _ _ (Body.coverA_13 m c t h0 y) ?_
  unfold Body.runA Body.bodyRun_A
  dsimp only
  refine stripes_eq ?_ rfl rfl ?_ y
  · simp only [Body.bodyRun_A.sl.r, Body.bodyRun_A.sl.r_13, Body.bodyRun_A.sl.r_11, Body.bodyRun_A.sl.r_1, Body.bodyRun_A.sl.r_2, Body.bodyRun_A.sl.r_3, Body.bodyRun_A.sl.r_4, Body.bodyRun_A.sl.r_5, Body.bodyRun_A.sl.r_6, Body.bodyRun_A.sl.r_7, Body.bodyRun_A.sl.r_8, Body.bodyRun_A.sl.r_9, Body.bodyRun_A.sl.r_10]
    exact top_norm (read_all _ _ _ e8) (top_of (read_N _ _ 256 1024 0 0 _ e0) (read_all _ _ _ e1) (read_all_bf16 _ _ _ e2) (read_N _ _ 256 512 0 0 _ e3)
        (read_N _ _ 256 1024 0 0 _ e4) (read_all_bf16 _ _ _ e5) (read_all_bf16 _ _ _ e6) (read_all_bf16 _ _ _ e7))
  · simp only [Body.bodyRun_A.sl.r_15, Body.bodyRun_A.sl.r, Body.bodyRun_A.sl.r_12, Body.bodyRun_A.sl.r_1, Body.bodyRun_A.sl.r_2, Body.bodyRun_A.sl.r_3, Body.bodyRun_A.sl.r_4, Body.bodyRun_A.sl.r_5, Body.bodyRun_A.sl.r_6, Body.bodyRun_A.sl.r_7, Body.bodyRun_A.sl.r_8, Body.bodyRun_A.sl.r_9, Body.bodyRun_A.sl.r_10]
    exact bottom_norm (read_all _ _ _ e8) (bottom_of (read_N _ _ 256 1024 256 0 _ e0) (read_all _ _ _ e1) (read_all_bf16 _ _ _ e2) (read_N _ _ 256 512 256 0 _ e3)
        (read_N _ _ 256 1024 256 0 _ e4) (read_all_bf16 _ _ _ e5) (read_all_bf16 _ _ _ e6) (read_all_bf16 _ _ _ e7))

/-- A later point. -/
theorem normB_eq (h0 : ¬t.val % 128 = 0) (xs : Vec Ideal S1x128 .f32) (e0 : (iblk m c 0 t : Vec Ideal S512x1024 .f32) = N .f32 512 1024 x)
    (e1 : (iblk m c 1 t : Vec Ideal S1x1024 .f32) = N .f32 1 1024 w) (e2 : (iblk m c 2 t : Vec Ideal S1024x2048 .bf16) = N .bf16 1024 2048 wg)
    (e3 : (iblk m c 3 t : Vec Ideal S512x512 .f32) = N .f32 512 512 oa) (e4 : (iblk m c 4 t : Vec Ideal S512x1024 .f32) = N .f32 512 1024 ob)
    (e5 : (iblk m c 5 t : Vec Ideal S512x1024 .bf16) = N .bf16 512 1024 wa) (e6 : (iblk m c 6 t : Vec Ideal S1024x1024 .bf16) = N .bf16 1024 1024 wb)
    (e7 : (iblk m c 7 t : Vec Ideal S1024x1024 .bf16) = N .bf16 1024 1024 wo) (e8 : (iblk m c 8 t : Vec Ideal S1x1024 .f32) = N .f32 1 1024 g) :
    (Body.leftB (F := Ideal) m c t h0 xs).2.1 = N .f32 4096 128 (tiles (rms (rows x w wg oa ob wa wb wo) g)) := by
  unfold Body.leftB
  dsimp only
  rw [View.read_writes_junk_eq_canon]
  funext y
  refine View.canon_eq_of_allAt _ _ _ (Body.coverB_13 m c t h0 xs y) ?_
  unfold Body.runB Body.bodyRun_B
  dsimp only
  refine stripes_eq ?_ rfl rfl ?_ y
  · simp only [Body.bodyRun_B.sl.r, Body.bodyRun_B.sl.r_13, Body.bodyRun_B.sl.r_11, Body.bodyRun_B.sl.r_1, Body.bodyRun_B.sl.r_2, Body.bodyRun_B.sl.r_3, Body.bodyRun_B.sl.r_4, Body.bodyRun_B.sl.r_5, Body.bodyRun_B.sl.r_6, Body.bodyRun_B.sl.r_7, Body.bodyRun_B.sl.r_8, Body.bodyRun_B.sl.r_9, Body.bodyRun_B.sl.r_10]
    exact top_norm (read_all _ _ _ e8) (top_of (read_N _ _ 256 1024 0 0 _ e0) (read_all _ _ _ e1) (read_all_bf16 _ _ _ e2) (read_N _ _ 256 512 0 0 _ e3)
        (read_N _ _ 256 1024 0 0 _ e4) (read_all_bf16 _ _ _ e5) (read_all_bf16 _ _ _ e6) (read_all_bf16 _ _ _ e7))
  · simp only [Body.bodyRun_B.sl.r_15, Body.bodyRun_B.sl.r, Body.bodyRun_B.sl.r_12, Body.bodyRun_B.sl.r_1, Body.bodyRun_B.sl.r_2, Body.bodyRun_B.sl.r_3, Body.bodyRun_B.sl.r_4, Body.bodyRun_B.sl.r_5, Body.bodyRun_B.sl.r_6, Body.bodyRun_B.sl.r_7, Body.bodyRun_B.sl.r_8, Body.bodyRun_B.sl.r_9, Body.bodyRun_B.sl.r_10]
    exact bottom_norm (read_all _ _ _ e8) (bottom_of (read_N _ _ 256 1024 256 0 _ e0) (read_all _ _ _ e1) (read_all_bf16 _ _ _ e2) (read_N _ _ 256 512 256 0 _ e3)
        (read_N _ _ 256 1024 256 0 _ e4) (read_all_bf16 _ _ _ e5) (read_all_bf16 _ _ _ e6) (read_all_bf16 _ _ _ e7))

/-- Every point. -/
theorem norm_outs_eq (e0 : (iblk m c 0 t : Vec Ideal S512x1024 .f32) = N .f32 512 1024 x)
    (e1 : (iblk m c 1 t : Vec Ideal S1x1024 .f32) = N .f32 1 1024 w) (e2 : (iblk m c 2 t : Vec Ideal S1024x2048 .bf16) = N .bf16 1024 2048 wg)
    (e3 : (iblk m c 3 t : Vec Ideal S512x512 .f32) = N .f32 512 512 oa) (e4 : (iblk m c 4 t : Vec Ideal S512x1024 .f32) = N .f32 512 1024 ob)
    (e5 : (iblk m c 5 t : Vec Ideal S512x1024 .bf16) = N .bf16 512 1024 wa) (e6 : (iblk m c 6 t : Vec Ideal S1024x1024 .bf16) = N .bf16 1024 1024 wb)
    (e7 : (iblk m c 7 t : Vec Ideal S1024x1024 .bf16) = N .bf16 1024 1024 wo) (e8 : (iblk m c 8 t : Vec Ideal S1x1024 .f32) = N .f32 1 1024 g) :
    (Body.outsAt0 (F := Ideal) m c t.val t.isLt).2.1 = N .f32 4096 128 (tiles (rms (rows x w wg oa ob wa wb wo) g)) := by
  by_cases h0 : t.val % 128 = 0
  · rw [Body.outsAt0_A m c t h0]
    exact normA_eq m c t h0 e0 e1 e2 e3 e4 e5 e6 e7 e8
  · rw [Body.outsAt0_B m c t h0]
    exact normB_eq m c t h0 _ e0 e1 e2 e3 e4 e5 e6 e7 e8
end

end Merge
-- ==== Proof.MergeHost.lean ====
/- What the merge's host code prepares for it: the tokens one after another, the columns of the
   input weights that make the gates, and the weights with their leading axis dropped. -/
module

public import proofs.«01_k».proof.Proof.MergeBlock
public import proofs.«01_k».proof.Proof.Gen.Kernel2Ideal.Frame
public import Idealize.ShloMosaic.Lib.Pipeline.ValueKit.Point

@[expose] public section

set_option maxRecDepth 8192

open Idealize.ShloMosaic Idealize.ShloMosaic.TcCoe Idealize.SL Cert.Kernel2Ideal Cert.Kernel2Ideal.Gen
open Idealize.ShloMosaic.StableHlo

namespace Merge

/-- The array with `f a b c` at index `(a, b, c)`. -/
noncomputable def N3 (φ : FTy) (l m n : ℕ) (f : ℕ → ℕ → ℕ → EReal) : FVec Ideal ⟨3, ![l, m, n]⟩ φ :=
  fun i => f (i 0).val (i 1).val (i 2).val

/-- The rows of `X`, the batch's one after another. -/
def flat (X : ℕ → ℕ → ℕ → EReal) : ℕ → ℕ → EReal := fun r j => X (r / 2048) (r % 2048) j

/-- A function on the indices of an array, on all natural numbers. -/
noncomputable def total {m n : ℕ} (f : Fin m → Fin n → EReal) : ℕ → ℕ → EReal := fun a b =>
  if h : a < m ∧ b < n then f ⟨a, h.1⟩ ⟨b, h.2⟩ else 0

theorem total_at {m n : ℕ} (f : Fin m → Fin n → EReal) (a : Fin m) (b : Fin n) : total f a b = f a b :=
  dif_pos ⟨a.isLt, b.isLt⟩

noncomputable def total3 {l m n : ℕ} (f : Fin l → Fin m → Fin n → EReal) : ℕ → ℕ → ℕ → EReal := fun a b c =>
  if h : a < l ∧ b < m ∧ c < n then f ⟨a, h.1⟩ ⟨b, h.2.1⟩ ⟨c, h.2.2⟩ else 0

theorem total3_at {l m n : ℕ} (f : Fin l → Fin m → Fin n → EReal) (a : Fin l) (b : Fin m) (c : Fin n) :
    total3 f a b c = f a b c :=
  dif_pos ⟨a.isLt, b.isLt, c.isLt⟩

/-- Every array is one of these. -/
theorem exists_N {m n : ℕ} (x : FVec Ideal ⟨2, ![m, n]⟩ .f32) : ∃ f, x = N .f32 m n f := by
  refine ⟨total fun a b => x (ix2 a b), ?_⟩
  funext i
  obtain ⟨i0, i1, rfl⟩ : ∃ a b, i = ix2 a b := ⟨_, _, eq_ix2 i⟩
  exact (total_at (fun a b => x (ix2 a b)) i0 i1).symm

theorem exists_N3 {l m n : ℕ} (x : FVec Ideal ⟨3, ![l, m, n]⟩ .f32) : ∃ f, x = N3 .f32 l m n f := by
  refine ⟨total3 fun a b c => x (ix3 a b c), ?_⟩
  funext i
  obtain ⟨i0, i1, i2, rfl⟩ : ∃ a b c, i = ix3 a b c := ⟨_, _, _, eq_ix3 i⟩
  exact (total3_at (fun a b c => x (ix3 a b c)) i0 i1 i2).symm

variable {m : (ℓ : Loc nD τ sig) → Buf (Elt Ideal) ℓ} {c : Dev nD}

theorem host_x {f : ℕ → ℕ → ℕ → EReal} (h : m ((c : Thread nD τ).loc main_arg0) = N3 .f32 32 2048 1024 f) :
    V m c main_v5 = N .f32 65536 1024 (flat f) := by
  unfold V
  simp only [hostOps0, hostOps0_1, hostOps0_2, hostOps0_3, hostOps0_4, List.flatten_cons, List.flatten_nil, List.append_nil,
    List.cons_append, List.nil_append]
  after_results_simp
  erw [h]
  funext i
  idx_vars i
  pointwise
  rfl

theorem host_g {f : ℕ → ℕ → EReal} (h : m ((c : Thread nD τ).loc main_arg1) = N .f32 1 1024 f) :
    V m c main_v1 = N .f32 1 1024 f := by
  unfold V
  simp only [hostOps0, hostOps0_1, hostOps0_2, hostOps0_3, hostOps0_4, List.flatten_cons, List.flatten_nil, List.append_nil,
    List.cons_append, List.nil_append]
  after_results_simp
  erw [h]
  funext i
  idx_vars i
  pointwise
  obtain rfl : i0 = 0 := Subsingleton.elim _ _
  rfl

theorem host_g2 {f : ℕ → ℕ → EReal} (h : m ((c : Thread nD τ).loc main_arg8) = N .f32 1 1024 f) :
    V m c main_v29 = N .f32 1 1024 f := by
  unfold V
  simp only [hostOps0, hostOps0_1, hostOps0_2, hostOps0_3, hostOps0_4, List.flatten_cons, List.flatten_nil, List.append_nil,
    List.cons_append, List.nil_append]
  after_results_simp
  erw [h]
  funext i
  idx_vars i
  pointwise
  obtain rfl : i0 = 0 := Subsingleton.elim _ _
  rfl

theorem host_wg {f : ℕ → ℕ → ℕ → EReal} (h : m ((c : Thread nD τ).loc main_arg2) = N3 .f32 1 1024 6144 f) :
    V m c main_v4 = N .bf16 1024 2048 (fun a b => f 0 a (4096 + b)) := by
  unfold V
  simp only [hostOps0, hostOps0_1, hostOps0_2, hostOps0_3, hostOps0_4, List.flatten_cons, List.flatten_nil, List.append_nil,
    List.cons_append, List.nil_append]
  after_results_simp
  erw [h]
  funext i
  idx_vars i
  pointwise
  rfl

theorem host_wa {f : ℕ → ℕ → ℕ → EReal} (h : m ((c : Thread nD τ).loc main_arg5) = N3 .f32 1 512 1024 f) :
    V m c main_v23 = N .bf16 512 1024 (f 0) := by
  unfold V
  simp only [hostOps0, hostOps0_1, hostOps0_2, hostOps0_3, hostOps0_4, List.flatten_cons, List.flatten_nil, List.append_nil,
    List.cons_append, List.nil_append]
  after_results_simp
  erw [h]
  funext i
  idx_vars i
  pointwise
  rfl

theorem host_wb {f : ℕ → ℕ → ℕ → EReal} (h : m ((c : Thread nD τ).loc main_arg6) = N3 .f32 1 1024 1024 f) :
    V m c main_v25 = N .bf16 1024 1024 (f 0) := by
  unfold V
  simp only [hostOps0, hostOps0_1, hostOps0_2, hostOps0_3, hostOps0_4, List.flatten_cons, List.flatten_nil, List.append_nil,
    List.cons_append, List.nil_append]
  after_results_simp
  erw [h]
  funext i
  idx_vars i
  pointwise
  rfl

theorem host_wo {f : ℕ → ℕ → ℕ → EReal} (h : m ((c : Thread nD τ).loc main_arg7) = N3 .f32 1 1024 1024 f) :
    V m c main_v27 = N .bf16 1024 1024 (f 0) := by
  unfold V
  simp only [hostOps0, hostOps0_1, hostOps0_2, hostOps0_3, hostOps0_4, List.flatten_cons, List.flatten_nil, List.append_nil,
    List.cons_append, List.nil_append]
  after_results_simp
  erw [h]
  funext i
  idx_vars i
  pointwise
  rfl

end Merge
-- ==== Proof.MergeValue.lean ====
/- The merge's result arrays: the blocks of 512 rows, one from each grid point, tile the first, and each row
   of it is `Merge.rows` of the arguments' rows. The second holds these rows normed, as eight rows of 128 each. -/
module

public import proofs.«01_k».proof.Proof.MergeNorm
public import proofs.«01_k».proof.Proof.MergeHost

@[expose] public section

set_option maxRecDepth 16384

open Idealize.ShloMosaic Idealize.ShloMosaic.TcCoe Idealize.SL Idealize.SL.Sem Cert.Kernel2Ideal Cert.Kernel2Ideal.Gen

namespace Merge

variable {m : (ℓ : Loc nD τ sig) → Buf (Elt Ideal) ℓ} {c : Dev nD}

/-! ### What a grid point reads -/

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = t.val ∧ win0_3.index t 1 = 0 := by decide +kernel
theorem at4 : ∀ t : Fin cfg0.N, win0_4.index t 0 = t.val ∧ win0_4.index t 1 = 0 := by decide +kernel
theorem at5 : ∀ t : Fin cfg0.N, win0_5.index t 0 = 0 ∧ win0_5.index t 1 = 0 := by decide +kernel
theorem at6 : ∀ t : Fin cfg0.N, win0_6.index t 0 = 0 ∧ win0_6.index t 1 = 0 := by decide +kernel
theorem at7 : ∀ t : Fin cfg0.N, win0_7.index t 0 = 0 ∧ win0_7.index t 1 = 0 := by decide +kernel
theorem at8 : ∀ t : Fin cfg0.N, win0_8.index t 0 = 0 ∧ win0_8.index t 1 = 0 := by decide +kernel
theorem at12 : ∀ t : Fin cfg0.N, win0_12.index t 0 = t.val ∧ win0_12.index t 1 = 0 := by decide +kernel
theorem at13 : ∀ t : Fin cfg0.N, win0_13.index t 0 = t.val ∧ win0_13.index t 1 = 0 := by decide +kernel

variable {x w wg oa ob wa wb wo g : ℕ → ℕ → EReal}

theorem iblk_x (h : V m c main_v5 = N .f32 65536 1024 x) (t : Fin cfg0.N) :
    iblk m c 0 t = N .f32 512 1024 (fun a b => x (512 * t.val + a) b) := by
  funext y
  blk_simp [iblk]
  rw [h]
  unfold N
  blk_simp [(at0 t).1, (at0 t).2]
  rw [Nat.mul_comm]

theorem iblk_oa (h : V m c main_arg3 = N .f32 65536 512 oa) (t : Fin cfg0.N) :
    iblk m c 3 t = N .f32 512 512 (fun a b => oa (512 * t.val + a) b) := by
  funext y
  blk_simp [iblk]
  rw [h]
  unfold N
  blk_simp [(at3 t).1, (at3 t).2]
  rw [Nat.mul_comm]

theorem iblk_ob (h : V m c main_arg4 = N .f32 65536 1024 ob) (t : Fin cfg0.N) :
    iblk m c 4 t = N .f32 512 1024 (fun a b => ob (512 * t.val + a) b) := by
  funext y
  blk_simp [iblk]
  rw [h]
  unfold N
  blk_simp [(at4 t).1, (at4 t).2]
  rw [Nat.mul_comm]

theorem iblk_g (h : V m c main_v1 = N .f32 1 1024 w) (t : Fin cfg0.N) : iblk m c 1 t = N .f32 1 1024 w := by
  rw [← h]; blk_ext! [iblk, (at1 t).1, (at1 t).2]

theorem iblk_wg (h : V m c main_v4 = N .bf16 1024 2048 wg) (t : Fin cfg0.N) : iblk m c 2 t = N .bf16 1024 2048 wg := by
  rw [← h]; blk_ext! [iblk, (at2 t).1, (at2 t).2]

theorem iblk_wa (h : V m c main_v23 = N .bf16 512 1024 wa) (t : Fin cfg0.N) : iblk m c 5 t = N .bf16 512 1024 wa := by
  rw [← h]; blk_ext! [iblk, (at5 t).1, (at5 t).2]

theorem iblk_wb (h : V m c main_v25 = N .bf16 1024 1024 wb) (t : Fin cfg0.N) : iblk m c 6 t = N .bf16 1024 1024 wb := by
  rw [← h]; blk_ext! [iblk, (at6 t).1, (at6 t).2]

theorem iblk_wo (h : V m c main_v27 = N .bf16 1024 1024 wo) (t : Fin cfg0.N) : iblk m c 7 t = N .bf16 1024 1024 wo := by
  rw [← h]; blk_ext! [iblk, (at7 t).1, (at7 t).2]

theorem iblk_g2 (h : V m c main_v29 = N .f32 1 1024 g) (t : Fin cfg0.N) : iblk m c 8 t = N .f32 1 1024 g := by
  rw [← h]; blk_ext! [iblk, (at8 t).1, (at8 t).2]

/-! ### The result array -/

/-- An index of the result is in the block of point `t` when each coordinate is in the block's range. -/
theorem mem_block (t : Fin cfg0.N) (i : S65536x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v30_0).slice (win0_12.rect t)).set ↔ _
  rw [View.set_slice_whole, Rect.mem_set_unit]
  exact Iff.rfl

theorem flush12 : ∀ t : Fin cfg0.N, (cfg0.win 12).flush t = true := (by decide +kernel : ∀ t : Fin grid0.N, win0_12.flush t = true)

/-- The array that holds, in each block of 512 rows, what its grid point leaves. -/
theorem array_eq {H : ℕ → ℕ → EReal}
    (h : ∀ t : Fin cfg0.N, (Body.outsAt0 (F := Ideal) m c t.val t.isLt).1 = N .f32 512 1024 (fun a b => H (512 * t.val + a) b)) :
    (Body.dats m 0 c).arrAt 12 cfg0.N = N .f32 65536 1024 H := by
  refine (Body.dats m 0 c).arrAt_eq_of_cover 12 _ (fun t _ => ?_) (fun i => ?_)
  · show (cfg0.win 12).cut (grid0.coords t) ((Body.dats m 0 c).after 12 t) = _
    rw [Body.after0_12, h t]
    funext y
    obtain ⟨e0, e1⟩ := at12 t
    have hb0 : (((cfg0.win 12).blk t).view.emb y 0).val = win0_12.index t (0 : Fin 2) * 512 + 1 * (y 0).val := rfl
    have hb1 : (((cfg0.win 12).blk t).view.emb y 1).val = win0_12.index t (1 : Fin 2) * 1024 + 1 * (y 1).val := rfl
    have hx0 : ((cfg0.win 12).xinj (grid0.coords t) y 0).val = (y 0).val := rfl
    have hx1 : ((cfg0.win 12).xinj (grid0.coords t) y 1).val = (y 1).val := rfl
    show N .f32 512 1024 (fun a b => H (512 * t.val + a) b) ((cfg0.win 12).xinj (grid0.coords t) y)
      = N .f32 65536 1024 H (((cfg0.win 12).blk t).view.emb y)
    refine congrArg₂ H ?_ ?_
    · rw [hx0, hb0, e0]; omega
    · rw [hx1, hb1, e1]; omega
  · have h0 : (i 0).val < 65536 := (i 0).isLt
    have h1 : (i 1).val < 1024 := (i 1).isLt
    have hN : cfg0.N = 128 := N_0
    refine ⟨⟨(i 0).val / 512, by omega⟩, flush12 _, ?_⟩
    rw [mem_block]
    obtain ⟨e0, e1⟩ := at12 ⟨(i 0).val / 512, by omega⟩
    intro a
    match a with
    | ⟨0, _⟩ => show win0_12.index _ (0 : Fin 2) * 512 ≤ (i 0).val ∧ (i 0).val < win0_12.index _ (0 : Fin 2) * 512 + 512; rw [e0]; dsimp only; omega
    | ⟨1, _⟩ => show win0_12.index _ (1 : Fin 2) * 1024 ≤ (i 1).val ∧ (i 1).val < win0_12.index _ (1 : Fin 2) * 1024 + 1024; rw [e1]; omega

/-- The result after the run. -/
theorem result_eq (hx : V m c main_v5 = N .f32 65536 1024 x) (hw : V m c main_v1 = N .f32 1 1024 w)
    (hwg : V m c main_v4 = N .bf16 1024 2048 wg) (hoa : V m c main_arg3 = N .f32 65536 512 oa)
    (hob : V m c main_arg4 = N .f32 65536 1024 ob) (hwa : V m c main_v23 = N .bf16 512 1024 wa)
    (hwb : V m c main_v25 = N .bf16 1024 1024 wb) (hwo : V m c main_v27 = N .bf16 1024 1024 wo) :
    (Body.dats m 0 c).arrAt 12 cfg0.N = N .f32 65536 1024 (rows x w wg oa ob wa wb wo) :=
  array_eq fun t => by
    rw [outs_eq m c t (iblk_x hx t) (iblk_g hw t) (iblk_wg hwg t) (iblk_oa hoa t) (iblk_ob hob t)
      (iblk_wa hwa t) (iblk_wb hwb t) (iblk_wo hwo t), rows_from]

/-- An index of the second result is in the block of point `t` when each coordinate is in the block's range. -/
theorem mem_block_norm (t : Fin cfg0.N) (i : S524288x128.Idx) :
    i ∈ ((cfg0.win 13).blk t).view.set ↔ ∀ a : Fin 2, win0_13.index t a * S4096x128.size a ≤ (i a).val
      ∧ (i a).val < win0_13.index t a * S4096x128.size a + S4096x128.size a := by
  show i ∈ ((View.whole main_v30_1).slice (win0_13.rect t)).set ↔ _
  rw [View.set_slice_whole, Rect.mem_set_unit]
  exact Iff.rfl

theorem flush13 : ∀ t : Fin cfg0.N, (cfg0.win 13).flush t = true := (by decide +kernel : ∀ t : Fin grid0.N, win0_13.flush t = true)

/-- The array that holds, in each block of 4096 rows, what its grid point leaves. -/
theorem array_eq_norm {H : ℕ → ℕ → EReal}
    (h : ∀ t : Fin cfg0.N, (Body.outsAt0 (F := Ideal) m c t.val t.isLt).2.1 = N .f32 4096 128 (fun a b => H (4096 * t.val + a) b)) :
    (Body.dats m 0 c).arrAt 13 cfg0.N = N .f32 524288 128 H := by
  refine (Body.dats m 0 c).arrAt_eq_of_cover 13 _ (fun t _ => ?_) (fun i => ?_)
  · show (cfg0.win 13).cut (grid0.coords t) ((Body.dats m 0 c).after 13 t) = _
    rw [Body.after0_13, h t]
    funext y
    obtain ⟨e0, e1⟩ := at13 t
    have hb0 : (((cfg0.win 13).blk t).view.emb y 0).val = win0_13.index t (0 : Fin 2) * 4096 + 1 * (y 0).val := rfl
    have hb1 : (((cfg0.win 13).blk t).view.emb y 1).val = win0_13.index t (1 : Fin 2) * 128 + 1 * (y 1).val := rfl
    have hx0 : ((cfg0.win 13).xinj (grid0.coords t) y 0).val = (y 0).val := rfl
    have hx1 : ((cfg0.win 13).xinj (grid0.coords t) y 1).val = (y 1).val := rfl
    show N .f32 4096 128 (fun a b => H (4096 * t.val + a) b) ((cfg0.win 13).xinj (grid0.coords t) y)
      = N .f32 524288 128 H (((cfg0.win 13).blk t).view.emb y)
    refine congrArg₂ H ?_ ?_
    · rw [hx0, hb0, e0]; omega
    · rw [hx1, hb1, e1]; omega
  · have h0 : (i 0).val < 524288 := (i 0).isLt
    have h1 : (i 1).val < 128 := (i 1).isLt
    have hN : cfg0.N = 128 := N_0
    refine ⟨⟨(i 0).val / 4096, by omega⟩, flush13 _, ?_⟩
    rw [mem_block_norm]
    obtain ⟨e0, e1⟩ := at13 ⟨(i 0).val / 4096, by omega⟩
    intro a
    match a with
    | ⟨0, _⟩ => show win0_13.index _ (0 : Fin 2) * 4096 ≤ (i 0).val ∧ (i 0).val < win0_13.index _ (0 : Fin 2) * 4096 + 4096; rw [e0]; dsimp only; omega
    | ⟨1, _⟩ => show win0_13.index _ (1 : Fin 2) * 128 ≤ (i 1).val ∧ (i 1).val < win0_13.index _ (1 : Fin 2) * 128 + 128; rw [e1]; omega

/-- Rows of the blocks of 512 and of the whole. -/
theorem tiles_from (r : ℕ) (G : ℕ → ℕ → EReal) :
    tiles (fun a b => G (512 * r + a) b) = fun a b => tiles G (4096 * r + a) b := by
  funext a b
  refine congrArg₂ G ?_ ?_ <;> omega

/-- The second result after the run. -/
theorem norm_result_eq (hx : V m c main_v5 = N .f32 65536 1024 x) (hw : V m c main_v1 = N .f32 1 1024 w)
    (hwg : V m c main_v4 = N .bf16 1024 2048 wg) (hoa : V m c main_arg3 = N .f32 65536 512 oa)
    (hob : V m c main_arg4 = N .f32 65536 1024 ob) (hwa : V m c main_v23 = N .bf16 512 1024 wa)
    (hwb : V m c main_v25 = N .bf16 1024 1024 wb) (hwo : V m c main_v27 = N .bf16 1024 1024 wo)
    (hg : V m c main_v29 = N .f32 1 1024 g) :
    (Body.dats m 0 c).arrAt 13 cfg0.N = N .f32 524288 128 (tiles (rms (rows x w wg oa ob wa wb wo) g)) :=
  array_eq_norm fun t => by
    rw [norm_outs_eq m c t (iblk_x hx t) (iblk_g hw t) (iblk_wg hwg t) (iblk_oa hoa t) (iblk_ob hob t)
      (iblk_wa hwa t) (iblk_wb hwb t) (iblk_wo hwo t) (iblk_g2 hg t), rows_from, ← tiles_from]
    rfl

/-- The run: the result arrays named, the arguments as they were. -/
theorem run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v30_0) = (Body.dats m 0 c).arrAt 12 cfg0.N
        ∧ r.2.mem ((c.tc : Thread nD τ).loc main_v30_1) = (Body.dats m 0 c).arrAt 13 cfg0.N)
      ∧ ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  θ_run_and ((θ_run defs _ _).mono (fun _ h c => ⟨(h c).1 12, (h c).1 13⟩) (Body.run_main m ρ)) (Body.unchanged m ρ)

end Merge
-- ==== Proof.MergeReference.lean ====
/- The reference's results for the merge: `Merge.rows` of the arguments, and these rows normed. -/
module

public import proofs.«01_k».proof.Proof.MergeHost
public import proofs.«01_k».proof.Proof.MergeNorm
public import proofs.«01_k».proof.Proof.Gen.Reference2Ideal.Run

@[expose] public section

set_option maxRecDepth 8192

open Idealize.ShloMosaic Idealize.ShloMosaic.TcCoe Idealize.SL Cert.Reference2Ideal Cert.Reference2Ideal.Gen
open Idealize.ShloMosaic.StableHlo

namespace Merge

/-! ### The reference's steps -/

/-- The tokens divided by their root mean squares, times the weights. -/
noncomputable def normArr (X : FVec Ideal S65536x1024 .f32) (g : FVec Ideal S1x1024 .f32) : FVec Ideal S65536x1024 .f32 :=
  mulf (mulf X (broadcastInDim S65536x1024 ![0, 1] bcast_S65536x1_S65536x1024_0_1 (Host.rsqrt (addf
     (Host.divf (broadcastInDim S65536x1 ![0] bcast_S65536_S65536x1_0 (Host.reduceAdd (mulf X X) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 (shapeCast _ g shapeCasts_S1x1024_S1024)))

/-- The logistic function. -/
noncomputable def sigArr (v : FVec Ideal S65536x1024 .f32) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf v)))

/-- The gates. -/
noncomputable def gatesArr (X : FVec Ideal S65536x1024 .f32) (g : FVec Ideal S1x1024 .f32) (wi : FVec Ideal S1x1024x6144 .f32) :
    FVec Ideal S65536x2048 .f32 :=
  Host.dotGeneral dot_S65536x1024_S1024x2048_S65536x2048_1_0_0_1_n_n none (normArr X g)
    (extractStridedSlice S1024x2048 ![0, 4096] (shapeCast _ wi shapeCasts_S1x1024x6144_S1024x6144) slices_S1024x6144_S1024x2048_0_4096)

/-- The result. -/
noncomputable def resultArr (x : FVec Ideal S32x2048x1024 .f32) (g : FVec Ideal S1x1024 .f32) (wi : FVec Ideal S1x1024x6144 .f32)
    (oa : FVec Ideal S65536x512 .f32) (ob : FVec Ideal S65536x1024 .f32) (wa : FVec Ideal S1x512x1024 .f32)
    (wb wo : FVec Ideal S1x1024x1024 .f32) : FVec Ideal S65536x1024 .f32 :=
  addf (shapeCast S65536x1024 x shapeCasts_S32x2048x1024_S65536x1024) (Host.dotGeneral dot_S65536x1024_S1024x1024_S65536x1024_1_0_0_1_n_n none (addf

      (mulf (sigArr (extractStridedSlice S65536x1024 ![0, 0] (gatesArr (shapeCast S65536x1024 x shapeCasts_S32x2048x1024_S65536x1024) g wi) slices_S65536x2048_S65536x1024_0_0)) (Host.dotGeneral dot_S65536x512_S512x1024_S65536x1024_1_0_0_1_n_n none oa (shapeCast _ wa shapeCasts_S1x512x1024_S512x1024)))
      (mulf (sigArr (extractStridedSlice S65536x1024 ![0, 1024] (gatesArr (shapeCast S65536x1024 x shapeCasts_S32x2048x1024_S65536x1024) g wi) slices_S65536x2048_S65536x1024_0_1024)) (Host.dotGeneral dot_S65536x1024_S1024x1024_S65536x1024_1_0_0_1_n_n none ob (shapeCast _ wb shapeCasts_S1x1024x1024_S1024x1024))))
    (shapeCast _ wo shapeCasts_S1x1024x1024_S1024x1024))

/-! ### The steps, element by element -/

variable {f g w oa ob : ℕ → ℕ → EReal} {x wi wa wb wo : ℕ → ℕ → ℕ → EReal}

theorem flat_eq : shapeCast S65536x1024 (N3 .f32 32 2048 1024 x) shapeCasts_S32x2048x1024_S65536x1024 = N .f32 65536 1024 (flat x) := by
  funext i; idx_vars i
  pointwise
  rfl

theorem norm_arr : normArr (N .f32 65536 1024 f) (N .f32 1 1024 w) = N .f32 65536 1024 (rms f w) := by
  unfold normArr
  funext i; idx_vars i
  pointwise
  rfl

theorem sig_arr : sigArr (N .f32 65536 1024 f) = N .f32 65536 1024 (fun a b => sg (f a b)) := by
  unfold sigArr
  funext i; idx_vars i
  pointwise
  rfl

theorem gates_arr : gatesArr (N .f32 65536 1024 f) (N .f32 1 1024 w) (N3 .f32 1 1024 6144 wi)
    = N .f32 65536 2048 (mul 1024 (rms f w) fun a b => wi 0 a (4096 + b)) := by
  unfold gatesArr
  rw [norm_arr]
  funext i; idx_vars i
  pointwise
  rfl

theorem left_arr : extractStridedSlice S65536x1024 ![0, 0] (N .f32 65536 2048 f) slices_S65536x2048_S65536x1024_0_0
    = N .f32 65536 1024 f := by
  funext i; idx_vars i
  pointwise
  rfl

theorem right_arr : extractStridedSlice S65536x1024 ![0, 1024] (N .f32 65536 2048 f) slices_S65536x2048_S65536x1024_0_1024
    = N .f32 65536 1024 (fun a b => f a (1024 + b)) := by
  funext i; idx_vars i
  pointwise
  rfl

theorem up_a_arr : Host.dotGeneral dot_S65536x512_S512x1024_S65536x1024_1_0_0_1_n_n none (N .f32 65536 512 f)
    (shapeCast _ (N3 .f32 1 512 1024 wa) shapeCasts_S1x512x1024_S512x1024) = N .f32 65536 1024 (mul 512 f (wa 0)) := by
  funext i; idx_vars i
  pointwise
  rfl

theorem up_b_arr : Host.dotGeneral dot_S65536x1024_S1024x1024_S65536x1024_1_0_0_1_n_n none (N .f32 65536 1024 f)
    (shapeCast _ (N3 .f32 1 1024 1024 wb) shapeCasts_S1x1024x1024_S1024x1024) = N .f32 65536 1024 (mul 1024 f (wb 0)) := by
  funext i; idx_vars i
  pointwise
  rfl

/-- The reference's result. -/
theorem reference_eq : resultArr (N3 .f32 32 2048 1024 x) (N .f32 1 1024 w) (N3 .f32 1 1024 6144 wi) (N .f32 65536 512 oa)
    (N .f32 65536 1024 ob) (N3 .f32 1 512 1024 wa) (N3 .f32 1 1024 1024 wb) (N3 .f32 1 1024 1024 wo)
      = N .f32 65536 1024 (rows (flat x) w (fun a b => wi 0 a (4096 + b)) oa ob (wa 0) (wb 0) (wo 0)) := by
  unfold resultArr
  simp only [flat_eq, gates_arr, left_arr, right_arr, sig_arr, up_a_arr, up_b_arr, mulf_N, addf_N]
  rfl

theorem tiles_arr : shapeCast S524288x128 (N .f32 65536 1024 f) shapeCasts_S65536x1024_S524288x128
    = N .f32 524288 128 (tiles f) := by
  funext i; idx_vars i
  pointwise
  rfl

/-- The reference's second result. -/
theorem norm_reference_eq : shapeCast S524288x128 (normArr (resultArr (N3 .f32 32 2048 1024 x) (N .f32 1 1024 w)
    (N3 .f32 1 1024 6144 wi) (N .f32 65536 512 oa) (N .f32 65536 1024 ob) (N3 .f32 1 512 1024 wa) (N3 .f32 1 1024 1024 wb)
    (N3 .f32 1 1024 1024 wo)) (N .f32 1 1024 g)) shapeCasts_S65536x1024_S524288x128
      = N .f32 524288 128 (tiles (rms (rows (flat x) w (fun a b => wi 0 a (4096 + b)) oa ob (wa 0) (wb 0) (wo 0)) g)) := by
  rw [reference_eq, norm_arr, tiles_arr]

end Merge
-- ==== Proof.BlockOps.lean ====
/- One block of 256 time steps of the gated linear recurrence, as the kernel computes it. -/
module

public import proofs.«01_k».proof.Proof.RealVec
public import proofs.«01_k».proof.Proof.Gen.KernelIdeal.Skeleton

@[expose] public section

set_option maxRecDepth 16384

open Idealize.ShloMosaic Cert.KernelIdeal Cert.KernelIdeal.Gen

namespace Hgrn

variable {f g : ℕ → ℕ → ℝ}

/-! ### The matrix products -/

theorem mm_proj : matmul dot_S256x1024_S1024x2048_S256x2048_1_0_0_1_n_n none (M .bf16 256 1024 f) (M .bf16 1024 2048 g)
    (constant S256x2048 .f32 0x00000000#32) = M .f32 256 2048 (fun a b => ∑ c ∈ Finset.range 1024, f a c * g c b) := by
  funext i; idx_vars i
  pointwise [M]
  rw [← sum_real]; push_cast; rfl

theorem mm_tri : matmul dot_S256x256_S256x512_S256x512_1_0_0_1_n_n none (M .bf16 256 256 f) (M .bf16 256 512 g)
    (constant S256x512 .f32 0x00000000#32) = M .f32 256 512 (fun a b => ∑ c ∈ Finset.range 256, f a c * g c b) := by
  funext i; idx_vars i
  pointwise [M]
  rw [← sum_real]; push_cast; rfl

theorem mm_scores : matmul dot_S64x512_S64x512_S64x64_1_1_0_0_n_n none (M .bf16 64 512 f) (M .bf16 64 512 g)
    (constant S64x64 .f32 0x00000000#32) = M .f32 64 64 (fun a b => ∑ c ∈ Finset.range 512, f a c * g b c) := by
  funext i; idx_vars i
  pointwise [M]
  rw [← sum_real]; push_cast; rfl

theorem mm_upd : matmul dot_S64x128_S64x128_S128x128_0_0_1_1_n_n none (M .bf16 64 128 f) (M .bf16 64 128 g)
    (constant S128x128 .f32 0x00000000#32) = M .f32 128 128 (fun a b => ∑ c ∈ Finset.range 64, f c a * g c b) := by
  funext i; idx_vars i
  pointwise [M]
  rw [← sum_real]; push_cast; rfl

theorem mm_pv : matmul dot_S64x64_S64x128_S64x128_1_0_0_1_n_n none (M .bf16 64 64 f) (M .bf16 64 128 g)
    (constant S64x128 .f32 0x00000000#32) = M .f32 64 128 (fun a b => ∑ c ∈ Finset.range 64, f a c * g c b) := by
  funext i; idx_vars i
  pointwise [M]
  rw [← sum_real]; push_cast; rfl

theorem mm_qs : matmul dot_S64x128_S128x128_S64x128_1_1_0_0_n_n none (M .bf16 64 128 f) (M .bf16 128 128 g)
    (constant S64x128 .f32 0x00000000#32) = M .f32 64 128 (fun a b => ∑ c ∈ Finset.range 128, f a c * g b c) := by
  funext i; idx_vars i
  pointwise [M]
  rw [← sum_real]; push_cast; rfl

/-! ### The row sums -/

theorem rowsum_x (h1 : FTy.f32 = FTy.f32 ∨ FTy.f32 = FTy.bf16) (h2 : (0#32 : BitVec 32) = 0#32) : shapeCast S256x1 (multiReduction .add [1] S256 (M .f32 256 1024 f) 0x00000000#32 reduces_S256x1024_S256 h1 h2)
    shapeCasts_S256_S256x1 = M .f32 256 1 (fun a _ => ∑ c ∈ Finset.range 1024, f a c) := by
  funext i; idx_vars i
  pointwise [M]
  rw [← sum_real]

theorem rowsum_o (h1 : FTy.f32 = FTy.f32 ∨ FTy.f32 = FTy.bf16) (h2 : (0#32 : BitVec 32) = 0#32) : shapeCast S64x1 (multiReduction .add [1] S64 (M .f32 64 128 f) 0x00000000#32 reduces_S64x128_S64 h1 h2)
    shapeCasts_S64_S64x1 = M .f32 64 1 (fun a _ => ∑ c ∈ Finset.range 128, f a c) := by
  funext i; idx_vars i
  pointwise [M]
  rw [← sum_real]

/-! ### Concatenations -/

variable {u0 u1 u2 u3 u4 u5 u6 u7 u8 u9 u10 u11 u12 u13 u14 u15 : ℕ → ℝ} {f0 f1 f2 f3 : ℕ → ℕ → ℝ}

theorem dite_to {p : Prop} [Decidable p] {x y z : EReal} (h1 : p → x = z) (h2 : ¬p → y = z) :
    (if _ : p then x else y) = z := by
  by_cases h : p
  · rw [dif_pos h]; exact h1 h
  · rw [dif_neg h]; exact h2 h

theorem band {n j w : ℕ} {l : List (ℕ → ℝ)} {u v : ℕ → ℝ} {b : ℕ} (h : n / w = j) (e : l.getD j u = v) :
    ((v b : ℝ) : EReal) = ((l.getD (n / w) u b : ℝ) : EReal) := by
  rw [h, e]

/-- Sixteen bands of sixteen equal rows. -/
theorem cat_sixteen : concatenate S256x512 0 [⟨S16x512, M .f32 16 512 (fun _ b => u0 b)⟩, ⟨S16x512, M .f32 16 512 (fun _ b => u1 b)⟩, ⟨S16x512, M .f32 16 512 (fun _ b => u2 b)⟩, ⟨S16x512, M .f32 16 512 (fun _ b => u3 b)⟩, ⟨S16x512, M .f32 16 512 (fun _ b => u4 b)⟩, ⟨S16x512, M .f32 16 512 (fun _ b => u5 b)⟩, ⟨S16x512, M .f32 16 512 (fun _ b => u6 b)⟩, ⟨S16x512, M .f32 16 512 (fun _ b => u7 b)⟩, ⟨S16x512, M .f32 16 512 (fun _ b => u8 b)⟩, ⟨S16x512, M .f32 16 512 (fun _ b => u9 b)⟩, ⟨S16x512, M .f32 16 512 (fun _ b => u10 b)⟩, ⟨S16x512, M .f32 16 512 (fun _ b => u11 b)⟩, ⟨S16x512, M .f32 16 512 (fun _ b => u12 b)⟩, ⟨S16x512, M .f32 16 512 (fun _ b => u13 b)⟩, ⟨S16x512, M .f32 16 512 (fun _ b => u14 b)⟩, ⟨S16x512, M .f32 16 512 (fun _ b => u15 b)⟩]
    concatenates_S16x512_S16x512_S16x512_S16x512_S16x512_S16x512_S16x512_S16x512_S16x512_S16x512_S16x512_S16x512_S16x512_S16x512_S16x512_S16x512_S256x512_d0
    = M .f32 256 512 (fun a b => [u0, u1, u2, u3, u4, u5, u6, u7, u8, u9, u10, u11, u12, u13, u14, u15].getD (a / 16) u0 b) := by
  funext i; idx_vars i
  pointwise [M]
  have h0 := i0.isLt
  refine dite_to (fun _ => band (j := 0) (by omega) rfl) (fun _ => ?_)
  refine dite_to (fun _ => band (j := 1) (by omega) rfl) (fun _ => ?_)
  refine dite_to (fun _ => band (j := 2) (by omega) rfl) (fun _ => ?_)
  refine dite_to (fun _ => band (j := 3) (by omega) rfl) (fun _ => ?_)
  refine dite_to (fun _ => band (j := 4) (by omega) rfl) (fun _ => ?_)
  refine dite_to (fun _ => band (j := 5) (by omega) rfl) (fun _ => ?_)
  refine dite_to (fun _ => band (j := 6) (by omega) rfl) (fun _ => ?_)
  refine dite_to (fun _ => band (j := 7) (by omega) rfl) (fun _ => ?_)
  refine dite_to (fun _ => band (j := 8) (by omega) rfl) (fun _ => ?_)
  refine dite_to (fun _ => band (j := 9) (by omega) rfl) (fun _ => ?_)
  refine dite_to (fun _ => band (j := 10) (by omega) rfl) (fun _ => ?_)
  refine dite_to (fun _ => band (j := 11) (by omega) rfl) (fun _ => ?_)
  refine dite_to (fun _ => band (j := 12) (by omega) rfl) (fun _ => ?_)
  refine dite_to (fun _ => band (j := 13) (by omega) rfl) (fun _ => ?_)
  refine dite_to (fun _ => band (j := 14) (by omega) rfl) (fun _ => ?_)
  exact band (j := 15) (by omega) rfl

/-- Four bands of sixty-four equal rows. -/
theorem cat_four_rows : concatenate S256x512 0 [⟨S64x512, M .f32 64 512 (fun _ b => u0 b)⟩, ⟨S64x512, M .f32 64 512 (fun _ b => u1 b)⟩, ⟨S64x512, M .f32 64 512 (fun _ b => u2 b)⟩, ⟨S64x512, M .f32 64 512 (fun _ b => u3 b)⟩]
    concatenates_S64x512_S64x512_S64x512_S64x512_S256x512_d0
    = M .f32 256 512 (fun a b => [u0, u1, u2, u3].getD (a / 64) u0 b) := by
  funext i; idx_vars i
  pointwise [M]
  have h0 := i0.isLt
  refine dite_to (fun _ => band (j := 0) (by omega) rfl) (fun _ => ?_)
  refine dite_to (fun _ => band (j := 1) (by omega) rfl) (fun _ => ?_)
  refine dite_to (fun _ => band (j := 2) (by omega) rfl) (fun _ => ?_)
  exact band (j := 3) (by omega) rfl

/-- Four blocks of columns side by side. -/
theorem cat_four_cols : concatenate S64x512 1 [⟨S64x128, M .bf16 64 128 f0⟩, ⟨S64x128, M .bf16 64 128 f1⟩, ⟨S64x128, M .bf16 64 128 f2⟩, ⟨S64x128, M .bf16 64 128 f3⟩]
    concatenates_S64x128_S64x128_S64x128_S64x128_S64x512_d1
    = M .bf16 64 512 (fun a b => if b < 128 then f0 a b else if b - 128 < 128 then f1 a (b - 128)
        else if b - 128 - 128 < 128 then f2 a (b - 128 - 128) else f3 a (b - 128 - 128 - 128)) := by
  funext i; idx_vars i
  pointwise [M]
  rw [apply_ite Real.toEReal, apply_ite Real.toEReal, apply_ite Real.toEReal]
  rfl

/-! ### The masks -/

theorem in_chunk_eq (a : Fin 256) (b : Fin 1) : k0_pay37 (ix2 a b) = BitVec.ofNat 32 (a.val % 64) := by
  pointwise [k0_pay37]
  revert a; decide +kernel

theorem blk_mask (k : Fin 4) : cmpi .eq (k0_pay40 k0_pay37 16#32 k0_pay38 k0_pay39 0#32) (broadcast S256x1 (BitVec.ofNat 32 k.val))
    = B 256 1 (fun a _ => a % 64 / 16 = k.val) := by
  funext i; idx_vars i
  revert i0 i1 k
  decide +kernel

theorem lt_mask (k : Fin 4) : cmpi .slt k0_pay37 (broadcast S256x1 (BitVec.ofNat 32 (16 * (k.val + 1))))
    = B 256 1 (fun a _ => a % 64 < 16 * (k.val + 1)) := by
  funext i; idx_vars i
  revert i0 i1 k
  decide +kernel

theorem causal_mask : k0_pay57 = B 64 64 (fun a b => b ≤ a) := by
  funext i; idx_vars i
  revert i0 i1
  decide +kernel

/-- The number of the chunk of the column, as the kernel computes it. -/
def colChunk (v55 : IVec S256x256 32) : IVec S256x256 32 :=
  select (andi (cmpi .ne (subi (extui 32 (cmpi .sgt v55 (broadcast S256x256 0#32)) natLt_1_32)
      (extui 32 (cmpi .slt v55 (broadcast S256x256 0#32)) natLt_1_32))
      (broadcast S256x256 (Scalar.subi (Scalar.extui (Scalar.cmpi .sgt 64#32 0#32)) (Scalar.extui (Scalar.cmpi .slt 64#32 0#32)))))
      (cmpi .ne (remsi v55 (broadcast S256x256 64#32)) (broadcast S256x256 0#32)))
    (subi (divsi v55 (broadcast S256x256 64#32)) (broadcast S256x256 1#32)) (divsi v55 (broadcast S256x256 64#32))

theorem row_chunk (a b : Fin 256) : select k0_pay20 (subi k0_pay19 k0_pay21) k0_pay19 (ix2 a b)
    = BitVec.ofNat 32 (a.val / 64) := by
  pointwise [k0_pay20, k0_pay19, k0_pay21]
  clear b; revert a; decide +kernel

theorem col_chunk (a b : Fin 256) : colChunk (iota .tc S256x256 32 [1] iota_S256x256_d1_w32) (ix2 a b)
    = BitVec.ofNat 32 (b.val / 64) := by
  pointwise [colChunk]
  clear a; revert b; decide +kernel

theorem le_mask (a b : Fin 256) : k0_pay18 (ix2 a b) = BitVec.ofBool (decide (b.val ≤ a.val)) := by
  pointwise [k0_pay18]
  have ha := a.isLt
  have hb := b.isLt
  have t : ∀ n < 256, (BitVec.ofNat 32 n).toInt = n := by
    intro n hn
    rw [BitVec.toInt_eq_toNat_of_lt] <;> simp only [BitVec.toNat_ofNat] <;> omega
  change BitVec.ofBool (BitVec.sle _ _) = _
  rw [BitVec.sle_eq_decide, t _ ha, t _ hb]
  congr 2
  exact propext Int.ofNat_le

/-- Row `a` adds the columns of its own chunk up to column `a`. -/
theorem tri_mask : andi k0_pay18 (cmpi .eq (select k0_pay20 (subi k0_pay19 k0_pay21) k0_pay19)
      (colChunk (iota .tc S256x256 32 [1] iota_S256x256_d1_w32)))
    = B 256 256 (fun a b => b ≤ a ∧ a / 64 = b / 64) := by
  funext i; idx_vars i
  change k0_pay18 (ix2 i0 i1) &&& Scalar.cmpi .eq (select k0_pay20 (subi k0_pay19 k0_pay21) k0_pay19 (ix2 i0 i1))
    (colChunk (iota .tc S256x256 32 [1] iota_S256x256_d1_w32) (ix2 i0 i1)) = _
  rw [row_chunk, col_chunk, le_mask]
  have ha := i0.isLt
  have hb := i1.isLt
  have e : (BitVec.ofNat 32 (i0.val / 64) = BitVec.ofNat 32 (i1.val / 64)) ↔ i0.val / 64 = i1.val / 64 := by
    rw [← BitVec.toNat_inj]; simp; omega
  change BitVec.ofBool _ &&& BitVec.ofBool _ = BitVec.ofBool _
  rw [show (BitVec.ofNat 32 (i0.val / 64) == BitVec.ofNat 32 (i1.val / 64)) = decide (i0.val / 64 = i1.val / 64) from
    (beq_eq_decide _ _).trans (decide_eq_decide.2 e)]
  by_cases h1 : i1.val ≤ i0.val <;> by_cases h2 : i0.val / 64 = i1.val / 64 <;> simp [h1, h2]

end Hgrn
-- ==== Proof.Finite.lean ====
/- The precondition: arrays that hold no infinity are arrays of real numbers. -/
module

public import proofs.«01_k».proof.Proof.BlockOps
public import proofs.«01_k».proof.Proof.Gen.Pre_finite
public import Idealize.ShloMosaic.Lib.ReduceAll
public import Idealize.ShloMosaic.Lib.KernelVsHost

@[expose] public section

set_option maxRecDepth 8192

open Idealize.ShloMosaic

namespace Hgrn

/-- A value of finite magnitude is a real number. -/
theorem real_of_lt {x : Ideal .f32}
    (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hx : (x : EReal) = ⊤ ∨ (x : EReal) = ⊥
  · have hn : ¬ (max (x : EReal) (-(x : EReal)) < ⊤) := by
      rcases hx with hx | hx <;> rw [hx] <;> simp
    simp [hn] at h
  · rw [not_or] at hx
    exact ⟨EReal.toReal x, (EReal.coe_toReal hx.1 hx.2).symm⟩

/-- A function on the indices of an array, on all natural numbers. -/
noncomputable def ext2 {m n : ℕ} (f : Fin m → Fin n → ℝ) : ℕ → ℕ → ℝ := fun a b =>
  if h : a < m ∧ b < n then f ⟨a, h.1⟩ ⟨b, h.2⟩ else 0

theorem ext2_at {m n : ℕ} (f : Fin m → Fin n → ℝ) (a : Fin m) (b : Fin n) : ext2 f a b = f a b :=
  dif_pos ⟨a.isLt, b.isLt⟩

/-- A function on the indices of a three-axis array, on all natural numbers. -/
noncomputable def ext3 {l m n : ℕ} (f : Fin l → Fin m → Fin n → ℝ) : ℕ → ℕ → ℕ → ℝ := fun a b c =>
  if h : a < l ∧ b < m ∧ c < n then f ⟨a, h.1⟩ ⟨b, h.2.1⟩ ⟨c, h.2.2⟩ else 0

theorem ext3_at {l m n : ℕ} (f : Fin l → Fin m → Fin n → ℝ) (a : Fin l) (b : Fin m) (c : Fin n) :
    ext3 f a b c = f a b c :=
  dif_pos ⟨a.isLt, b.isLt, c.isLt⟩

/-- A two-axis array of real numbers. -/
theorem exists_M {m n : ℕ} {x : FVec Ideal ⟨2, ![m, n]⟩ .f32} (h : ∀ i, ∃ r : ℝ, (x i : EReal) = r) :
    ∃ f, x = M .f32 m n f := by
  choose f hf using h
  refine ⟨ext2 fun a b => f (ix2 a b), ?_⟩
  funext i
  obtain ⟨i0, i1, rfl⟩ : ∃ a b, i = ix2 a b := ⟨_, _, eq_ix2 i⟩
  exact (hf _).trans (congrArg _ (ext2_at (fun a b => f (ix2 a b)) i0 i1).symm)

/-- A three-axis array of real numbers. -/
theorem exists_M3 {l m n : ℕ} {x : FVec Ideal ⟨3, ![l, m, n]⟩ .f32} (h : ∀ i, ∃ r : ℝ, (x i : EReal) = r) :
    ∃ f, x = M3 .f32 l m n f := by
  choose f hf using h
  refine ⟨ext3 fun a b c => f (ix3 a b c), ?_⟩
  funext i
  obtain ⟨i0, i1, i2, rfl⟩ : ∃ a b c, i = ix3 a b c := ⟨_, _, _, eq_ix3 i⟩
  exact (hf _).trans (congrArg _ (ext3_at (fun a b c => f (ix3 a b c)) i0 i1 i2).symm)

/-- A conjunction of bits that is 1. -/
theorem and_one {s : Shape} {p q : IVec s 1} {i : s.Idx} (h : andi p q i = 1#1) : p i = 1#1 ∧ q i = 1#1 := by
  have k : ∀ a b : BitVec 1, a &&& b = 1#1 → a = 1#1 ∧ b = 1#1 := by decide
  exact k _ _ h

/-- The arrays the precondition names are arrays of real numbers. -/
theorem reals_of_finite {x0 x1 x2 x3 x4 x5 x6 x7 x8 x9 x10 x11 x12 x13 x14}
    (h : Cert.Pre_finite.fn (F := Ideal) x0 x1 x2 x3 x4 x5 x6 x7 x8 x9 x10 x11 x12 x13 x14 = fun _ => 1#1) :
    (∃ f, x0 = M3 .f32 32 2048 1024 f) ∧ (∃ f, x1 = M .f32 1 1024 f) ∧ (∃ f, x2 = M3 .f32 1 1024 6144 f)
      ∧ (∃ f, x3 = M .f32 2 512 f) ∧ (∃ f, x4 = M .f32 1 512 f) ∧ ∃ f, x12 = M3 .f32 4 128 128 f := by
  have e := congrFun h (fun a => a.elim0)
  unfold Cert.Pre_finite.fn Cert.Pre_finite.fn_part1 at e
  obtain ⟨e, e12⟩ := and_one e
  obtain ⟨e, e4⟩ := and_one e
  obtain ⟨e, e3⟩ := and_one e
  obtain ⟨e, e2⟩ := and_one e
  obtain ⟨e0, e1⟩ := and_one e
  exact ⟨exists_M3 fun i => real_of_lt (Host.reduce_andi_all _ _ _ _ _ e0 i),
    exists_M fun i => real_of_lt (Host.reduce_andi_all _ _ _ _ _ e1 i),
    exists_M3 fun i => real_of_lt (Host.reduce_andi_all _ _ _ _ _ e2 i),
    exists_M fun i => real_of_lt (Host.reduce_andi_all _ _ _ _ _ e3 i),
    exists_M fun i => real_of_lt (Host.reduce_andi_all _ _ _ _ _ e4 i),
    exists_M3 fun i => real_of_lt (Host.reduce_andi_all _ _ _ _ _ e12 i)⟩

end Hgrn
-- ==== Proof.Bounds.lean ====
/- The lower bounds of the forget gates: the first row of a softmax over two rows, read as the first
   partial sum of its rows. -/
module

public import proofs.«01_k».proof.Proof.RealVec
public import Idealize.ShloMosaic.Lib.Pipeline.ValueKit.Point

@[expose] public section

open Idealize.ShloMosaic

namespace Hgrn

/-- The softmax of two rows, at the first. -/
noncomputable def lbR (a : ℕ → ℕ → ℝ) : ℕ → ℕ → ℝ := fun _ c =>
  Real.exp (a 0 c - max (a 0 c) (a 1 c))
    / (Real.exp (a 0 c - max (a 0 c) (a 1 c)) + Real.exp (a 1 c - max (a 0 c) (a 1 c)))

theorem lbR_pos (a : ℕ → ℕ → ℝ) (c : ℕ) : 0 < lbR a 0 c ∧ lbR a 0 c < 1 := by
  unfold lbR
  have h0 := Real.exp_pos (a 0 c - max (a 0 c) (a 1 c))
  have h1 := Real.exp_pos (a 1 c - max (a 0 c) (a 1 c))
  exact ⟨div_pos h0 (add_pos h0 h1), (div_lt_one (add_pos h0 h1)).2 (lt_add_of_pos_right _ h1)⟩

abbrev T2 : Shape := ⟨2, ![2, 512]⟩
abbrev T1 : Shape := ⟨2, ![1, 512]⟩
abbrev T : Shape := ⟨1, ![512]⟩
abbrev T0 : Shape := ⟨0, ![]⟩

/-- The first partial sum is the first row. -/
theorem window_first (P : FVec Ideal T2 .f32) (h : T2.ReduceWindows ![2, 1] ![1, 1] ![1, 0] ![0, 0] T2) (hu : 0 < T0.numel)
    (j : Fin 512) : Host.reduceWindowAdd ![2, 1] ![1, 1] ![1, 0] ![0, 0] P (constant T0 .f32 0x00000000#32) h hu (ix2 (0 : Fin 2) j)
      = P (ix2 (0 : Fin 2) j) := by
  show Host.reduceWindow (· + ·) ![2, 1] ![1, 1] ![1, 0] ![0, 0] P _ h _ (ix2 (0 : Fin 2) j) = _
  unfold Host.reduceWindow
  have hn : List.finRange (⟨2, ![2, 1]⟩ : Shape).numel = [⟨0, by decide⟩, ⟨1, by decide⟩] := by decide
  have z0 : ∀ a, ((⟨2, ![2, 1]⟩ : Shape).rowMajor.symm ⟨0, by decide⟩ a).val = 0 := by decide
  have z1 : ((⟨2, ![2, 1]⟩ : Shape).rowMajor.symm ⟨1, by decide⟩ 0).val = 1 := by decide
  have z2 : ((⟨2, ![2, 1]⟩ : Shape).rowMajor.symm ⟨1, by decide⟩ 1).val = 0 := by decide
  dsimp only
  erw [hn]
  simp only [List.foldl_cons, List.foldl_nil]
  refine (congrArg₂ (· + ·) (congrArg₂ (· + ·) rfl (dif_neg ?_)) (dif_pos ?_)).trans ?_
  · intro h
    have h : 1 ≤ 0 * 1 + ((⟨2, ![2, 1]⟩ : Shape).rowMajor.symm ⟨0, by decide⟩ 0).val := (h 0).1
    rw [z0] at h
    omega
  · intro a
    match a with
    | ⟨0, _⟩ =>
      show 1 ≤ 0 * 1 + ((⟨2, ![2, 1]⟩ : Shape).rowMajor.symm ⟨1, by decide⟩ 0).val
        ∧ 0 * 1 + ((⟨2, ![2, 1]⟩ : Shape).rowMajor.symm ⟨1, by decide⟩ 0).val - 1 < 2
      rw [z1]; omega
    | ⟨1, _⟩ =>
      have := j.isLt
      show 0 ≤ j.val * 1 + ((⟨2, ![2, 1]⟩ : Shape).rowMajor.symm ⟨1, by decide⟩ 1).val
        ∧ j.val * 1 + ((⟨2, ![2, 1]⟩ : Shape).rowMajor.symm ⟨1, by decide⟩ 1).val - 0 < 512
      rw [z2]; omega
  · have hz : (constant T0 .f32 0x00000000#32 : FVec Ideal T0 .f32) (Shape.Idx.first hu) = (0 : EReal) := by
      simp [constant, Ideal.ofBits, Ideal.ieee]
    have e : ∀ (x y : EReal), x = 0 → (x + x) + y = y := fun x y h => by rw [h, zero_add, zero_add]
    refine (e _ _ hz).trans (congrArg P ?_)
    funext a
    apply Fin.ext
    match a with
    | ⟨0, _⟩ =>
      show 0 * 1 + ((⟨2, ![2, 1]⟩ : Shape).rowMajor.symm ⟨1, by decide⟩ 0).val - 1 = 0
      rw [z1]
    | ⟨1, _⟩ =>
      show j.val * 1 + ((⟨2, ![2, 1]⟩ : Shape).rowMajor.symm ⟨1, by decide⟩ 1).val - 0 = j.val
      rw [z2]; omega

theorem max_first (a : ℕ → ℕ → ℝ) (h1 : T2.ReducesTo [0] T) (h2) (h3 : 0 < T0.numel) (i : Fin 512) :
    maximumf (broadcastInDim T ![] h2 (constant T0 .f32 4286578688#32))
      (Host.reduce FloatOps.maximumf (M .f32 2 512 a) (constant T0 .f32 4286578688#32) h1 h3) (ix1 i)
      = ((max (a 0 i) (a 1 i) : ℝ) : EReal) := by
  pointwise
  have hb : Ideal.ofBits .f32 4286578688#32 = (⊥ : EReal) := by simp [Ideal.ofBits, Ideal.ieee]
  rw [hb, show (Finset.univ : Finset (Fin 2)) = {0, 1} from rfl, Finset.fold_insert (by decide), Finset.fold_singleton]
  rw [max_bot_left, max_bot_right]
  exact (EReal.coe_strictMono.monotone.map_max).symm

/-- The exponentials of the softmax. -/
theorem exps_first (a : ℕ → ℕ → ℝ) (h1 : T2.ReducesTo [0] T) (h2) (h3 : 0 < T0.numel) (h4) (h5) :
    (Host.exp (subf (M .f32 2 512 a) (broadcastInDim T2 ![0, 1] h4 (broadcastInDim T1 ![1] h5
      (maximumf (broadcastInDim T ![] h2 (constant T0 .f32 4286578688#32))
        (Host.reduce FloatOps.maximumf (M .f32 2 512 a) (constant T0 .f32 4286578688#32) h1 h3))))) : FVec Ideal T2 .f32)
      = M .f32 2 512 fun r c => Real.exp (a r c - max (a 0 c) (a 1 c)) := by
  funext i
  idx_vars i
  have e := max_first a h1 h2 h3 i1
  generalize (maximumf (broadcastInDim T ![] h2 (constant T0 .f32 4286578688#32))
    (Host.reduce FloatOps.maximumf (M .f32 2 512 a) (constant T0 .f32 4286578688#32) h1 h3)) = Y at e ⊢
  pointwise
  rw [e]
  simp only [M, ← EReal.coe_sub]
  rfl

/-- The lower bounds. -/
theorem bounds_eq (a : ℕ → ℕ → ℝ) (h1 : T2.ReducesTo [0] T) (h3 : 0 < T0.numel) (h4) (h5)
    (h6 : T2.ReduceWindows ![2, 1] ![1, 1] ![1, 0] ![0, 0] T2) (h7 : T2.Slices ![0, 0] T1) (h8 : T1.ShapeCasts T) {E : FVec Ideal T2 .f32}
    (hE : E = M .f32 2 512 fun r c => Real.exp (a r c - max (a 0 c) (a 1 c))) :
    shapeCast T (extractStridedSlice T1 ![0, 0] (Host.reduceWindowAdd ![2, 1] ![1, 1] ![1, 0] ![0, 0]
      (Host.divf E (broadcastInDim T2 ![0, 1] h4 (broadcastInDim T1 ![1] h5
        (Host.reduceAdd E (constant T0 .f32 0x00000000#32) h1 h3)))) (constant T0 .f32 0x00000000#32) h6 h3) h7) h8
      = fun i => ((lbR a 0 (i 0).val : ℝ) : EReal) := by
  funext i
  idx_vars i
  have e : ∀ c : Fin 512, Host.divf E (broadcastInDim T2 ![0, 1] h4 (broadcastInDim T1 ![1] h5
      (Host.reduceAdd E (constant T0 .f32 0x00000000#32) h1 h3))) (ix2 (0 : Fin 2) c) = ((lbR a 0 c : ℝ) : EReal) := by
    intro c
    subst hE
    pointwise
    rw [Fin.sum_univ_two]
    show Ideal.div ((Real.exp (a 0 c - max (a 0 c) (a 1 c)) : ℝ) : EReal)
      (((Real.exp (a 0 c - max (a 0 c) (a 1 c)) : ℝ) : EReal) + ((Real.exp (a 1 c - max (a 0 c) (a 1 c)) : ℝ) : EReal)) = _
    rw [← EReal.coe_add, div_real _ _ (by positivity)]
    rfl
  generalize Host.divf E (broadcastInDim T2 ![0, 1] h4 (broadcastInDim T1 ![1] h5
      (Host.reduceAdd E (constant T0 .f32 0x00000000#32) h1 h3))) = Y at e ⊢
  have e' : ∀ c : Fin 512, Host.reduceWindowAdd ![2, 1] ![1, 1] ![1, 0] ![0, 0] Y (constant T0 .f32 0x00000000#32) h6 h3
    (ix2 (0 : Fin 2) c) = ((lbR a 0 c : ℝ) : EReal) := fun c => (window_first Y h6 h3 c).trans (e c)
  generalize Host.reduceWindowAdd ![2, 1] ![1, 1] ![1, 0] ![0, 0] Y (constant T0 .f32 0x00000000#32) h6 h3 = Z at e' ⊢
  pointwise
  exact e' i0

end Hgrn
-- ==== Proof.BlockModel.lean ====
/- One block of 256 time steps of the gated linear recurrence, in real numbers.

   The block's queries, gates and so on are functions of the row (the time step in the block) and of
   the column (the channel; head `h` has the columns `128 h` to `128 h + 127`). Each step of the
   kernel's body, applied to arrays of real numbers, is the array of the function defined here. -/
module

public import proofs.«01_k».proof.Proof.BlockOps

@[expose] public section

set_option maxRecDepth 16384

open Idealize.ShloMosaic Cert.KernelIdeal Cert.KernelIdeal.Gen

namespace Hgrn

/-! ### The functions -/

/-- The rows of `x`, divided by their root mean square and scaled by `g`. -/
noncomputable def xnR (x g : ℕ → ℕ → ℝ) : ℕ → ℕ → ℝ := fun r j =>
  x r j * (Real.sqrt ((∑ c ∈ Finset.range 1024, x r c * x r c) / 1024 + eps))⁻¹ * g 0 j

/-- Their projection by `w`. -/
noncomputable def projR (x g w : ℕ → ℕ → ℝ) : ℕ → ℕ → ℝ := fun r c =>
  ∑ j ∈ Finset.range 1024, xnR x g r j * w j c

/-- The logistic function. -/
noncomputable def sgR (y : ℝ) : ℝ := 1 / (1 + Real.exp (0 - y))

/-- The logarithm of the forget gate. -/
noncomputable def logfR (lb y : ℕ → ℕ → ℝ) : ℕ → ℕ → ℝ := fun r c =>
  Real.log (lb 0 c + (1 - lb 0 c) * sgR (y r c))

/-- The input gate. -/
noncomputable def keyR (lb y : ℕ → ℕ → ℝ) : ℕ → ℕ → ℝ := fun r c => (1 - lb 0 c) * (1 - sgR (y r c))

/-- The sum of `L` over the rows of the chunk of 64 up to and including row `r`. -/
noncomputable def cumR (L : ℕ → ℕ → ℝ) : ℕ → ℕ → ℝ := fun r c =>
  ∑ s ∈ Finset.range 256, (if s ≤ r ∧ r / 64 = s / 64 then 1 else 0) * L s c

/-- The value of `G` just before the band of sixteen rows of row `r`, within its chunk. -/
noncomputable def baseR (G : ℕ → ℕ → ℝ) : ℕ → ℕ → ℝ := fun r c =>
  if r / 16 % 4 = 0 then 0 else G (16 * (r / 16) - 1) c

/-- The queries of band `i`, scaled by the decay since the band's start. -/
noncomputable def qtR (i : ℕ) (q G : ℕ → ℕ → ℝ) : ℕ → ℕ → ℝ := fun r c =>
  if r % 64 / 16 = i then q r c * Real.exp (G r c - baseR G r c) else 0

/-- The keys before the end of band `i`, scaled by the decay up to the band's start. -/
noncomputable def ktR (i : ℕ) (k G : ℕ → ℕ → ℝ) : ℕ → ℕ → ℝ := fun r c =>
  if r % 64 < 16 * (i + 1) then
    k r c * Real.exp ((if i = 0 then 0 else G (64 * (r / 64) + 16 * i - 1) c) - G r c) else 0

/-- The value of `G` at the end of the chunk of row `r`. -/
noncomputable def gendR (G : ℕ → ℕ → ℝ) : ℕ → ℕ → ℝ := fun r c => G (64 * (r / 64) + 63) c

/-- The part of an array from row `r` and column `c` on. -/
def sh (r c : ℕ) (f : ℕ → ℕ → ℝ) : ℕ → ℕ → ℝ := fun a b => f (r + a) (c + b)

/-- The causal scores of the chunk at row `r`, for the head at column `c`. -/
noncomputable def probsR (r c : ℕ) (q k G : ℕ → ℕ → ℝ) : ℕ → ℕ → ℝ := fun a b =>
  if b ≤ a then ∑ d ∈ Finset.range 128,
    q (r + a) (c + d) * (k (r + b) (c + d) * Real.exp (G (r + a) (c + d) - G (r + b) (c + d))) else 0

/-- What the chunk at row `r` adds to the state of the head at column `c`. -/
noncomputable def updR (r c : ℕ) (v k G : ℕ → ℕ → ℝ) : ℕ → ℕ → ℝ := fun a b =>
  ∑ s ∈ Finset.range 64, v (r + s) (c + a) *
    (k (r + s) (c + b) * Real.exp (G (r + 63) (c + b) - G (r + s) (c + b)))

/-- The state of the head at column `c` before the block's chunk `n`. -/
noncomputable def stateR (c : ℕ) (S v k G : ℕ → ℕ → ℝ) : ℕ → ℕ → ℕ → ℝ
  | 0 => S
  | n + 1 => fun a b => stateR c S v k G n a b * Real.exp (sh (64 * n + 63) c G 0 b) + updR (64 * n) c v k G a b

/-- A head's output before its normalisation, from the scores `p`, the values `v`, the decayed
    queries `qe` and the state `st`. -/
noncomputable def oR (p v qe st : ℕ → ℕ → ℝ) : ℕ → ℕ → ℝ := fun t d =>
  (∑ s ∈ Finset.range 64, p t s * v s d) + ∑ e ∈ Finset.range 128, qe t e * st d e

/-- That output normalised, scaled by `ng` and gated by `z`. -/
noncomputable def outR (p v qe st z ng : ℕ → ℕ → ℝ) : ℕ → ℕ → ℝ := fun t d =>
  oR p v qe st t d * (Real.sqrt ((∑ e ∈ Finset.range 128, oR p v qe st t e * oR p v qe st t e) / 128 + eps))⁻¹
    * ng 0 d * sgR (z t d)

variable {x g w lb y q k v L G S z ng : ℕ → ℕ → ℝ}

/-! ### The steps before the scores -/

theorem ms_pos (u : ℕ → ℝ) (n : ℕ) {d : ℝ} (hd : 0 < d) : 0 < (∑ c ∈ Finset.range n, u c * u c) / d + eps :=
  add_pos_of_nonneg_of_pos (div_nonneg (Finset.sum_nonneg fun _ _ => mul_self_nonneg _) hd.le) eps_pos

section ops

variable {φ : FTy} {m n : ℕ} {f u : ℕ → ℕ → ℝ}

theorem slice_sh (p q a b : ℕ) (h : (⟨2, ![m, n]⟩ : Shape).Slices ![a, b] ⟨2, ![p, q]⟩) :
    extractStridedSlice ⟨2, ![p, q]⟩ ![a, b] (M φ m n f) h = M φ p q (sh a b f) := slice_M p q a b h

theorem cast_B (p : ℕ → ℕ → Prop) [∀ a b, Decidable (p a b)] (h : (⟨2, ![m, n]⟩ : Shape).ShapeCasts ⟨2, ![m, n]⟩) :
    shapeCast ⟨2, ![m, n]⟩ (B m n p) h = B m n p := by
  funext i
  rw [shapeCast_self]

theorem divf_1024 : divf (M φ m n f) (M φ m n fun _ _ => 1024) = M φ m n (fun a b => f a b / 1024) :=
  divf_M (by intros; norm_num)

theorem divf_128 : divf (M φ m n f) (M φ m n fun _ _ => 128) = M φ m n (fun a b => f a b / 128) :=
  divf_M (by intros; norm_num)

theorem divf_sg : divf (M φ m n fun _ _ => 1) (M φ m n fun a b => 1 + Real.exp (0 - f a b))
    = M φ m n (fun a b => sgR (f a b)) :=
  divf_M (fun _ _ _ _ => by positivity)

theorem rsqrt_ms_1024 : rsqrt (M φ m n fun a _ => (∑ c ∈ Finset.range 1024, f a c * f a c) / 1024 + eps)
    = M φ m n (fun a _ => (Real.sqrt ((∑ c ∈ Finset.range 1024, f a c * f a c) / 1024 + eps))⁻¹) :=
  rsqrt_M (fun a _ _ _ => ms_pos (f a) 1024 (by norm_num))

theorem rsqrt_ms_128 : rsqrt (M φ m n fun a _ => (∑ c ∈ Finset.range 128, f a c * f a c) / 128 + eps)
    = M φ m n (fun a _ => (Real.sqrt ((∑ c ∈ Finset.range 128, f a c * f a c) / 128 + eps))⁻¹) :=
  rsqrt_M (fun a _ _ _ => ms_pos (f a) 128 (by norm_num))

theorem sg_pos (y : ℝ) : 0 < sgR y := by unfold sgR; positivity

theorem gate_pos {l : ℝ} (h : 0 < l) (h1 : l < 1) (y : ℝ) : 0 < l + (1 - l) * sgR y :=
  add_pos h (mul_pos (by linarith) (sg_pos y))

/-- One head's square out of the array of the states, and back. -/
theorem cast_M3 {f : ℕ → ℕ → ℕ → ℝ} : shapeCast S128x128 (M3 φ 1 128 128 f) shapeCasts_S1x128x128_S128x128
    = M φ 128 128 (f 0) := by
  funext i; idx_vars i
  pointwise [M, M3]

theorem cast_to_M3 : shapeCast S1x128x128 (M φ 128 128 f) shapeCasts_S128x128_S1x128x128 = M3 φ 1 128 128 (fun _ => f) := by
  funext i; idx_vars i
  pointwise [M, M3]

end ops

theorem pay9_M : k0_pay9 (F := Ideal) (M .f32 256 1024 x) (M .f32 1 1024 g) = M .bf16 256 1024 (xnR x g) := by
  unfold k0_pay9
  simp only [cast_M, mulf_M]
  erw [rowsum_x]
  simp only [splat_1024, splat_eps, mulf_M, divf_1024, addf_M, rsqrt_ms_1024, cols_M, rows_M, truncf_M]
  rfl

theorem pay10_M : k0_pay10 (F := Ideal) (M .f32 1 512 lb) = M .f32 1 512 lb := by
  unfold k0_pay10; simp only [cast_M]

theorem pay11_M : k0_pay11 (F := Ideal) (M .f32 1 512 lb) = M .f32 1 512 lb := by
  unfold k0_pay11; simp only [cast_M]

theorem pay12_M : k0_pay12 (F := Ideal) (M .f32 256 1024 x) (M .f32 1 1024 g) (M .bf16 1024 2048 w)
    = M .f32 256 2048 (projR x g w) := by
  unfold k0_pay12
  simp only [pay9_M, cast_M, mm_proj]
  rfl

theorem pay14_M : k0_pay14 (F := Ideal) (M .f32 256 512 y) k0_pay13 = M .f32 256 512 (fun a b => sgR (y a b)) := by
  unfold k0_pay14 k0_pay13
  simp only [splat_zero, splat_one, subf_M, exp_M, addf_M, divf_sg]

theorem pay15_M (h : ∀ b < 512, 0 < lb 0 b ∧ lb 0 b < 1) :
    k0_pay15 (F := Ideal) (M .f32 1 512 lb) (M .f32 256 512 y) k0_pay13 = M .f32 256 512 (logfR lb y) := by
  unfold k0_pay15
  simp only [pay14_M, splat_one, subf_M, rows_M, mulf_M, addf_M]
  rw [log_M (fun a _ b hb => gate_pos (h b hb).1 (h b hb).2 _)]
  rfl

theorem pay16_M : k0_pay16 (F := Ideal) (M .f32 1 512 lb) (M .f32 256 512 y) k0_pay13 = M .f32 256 512 (keyR lb y) := by
  unfold k0_pay16
  simp only [pay14_M, splat_one, subf_M, rows_M, mulf_M]
  rfl

theorem pay17_M : k0_pay17 (F := Ideal) (M .f32 256 512 v) = M .bf16 256 512 v := rfl

theorem pay22_M : k0_pay22 (F := Ideal) (M .f32 256 512 L) (iota .tc S256x256 32 [1] iota_S256x256_d1_w32)
    k0_pay18 k0_pay19 k0_pay20 k0_pay21 = M .f32 256 512 (cumR L) := by
  unfold k0_pay22
  have e := tri_mask
  unfold colChunk at e
  simp only [e, splat_one, splat_zero, select_M, truncf_M, extf_M, subf_M, mm_tri, addf_M]
  refine M_congr (fun a _ b _ => ?_)
  simp only [sub_self, mul_zero, Finset.sum_const_zero, add_zero, cumR]

theorem pay23_M : k0_pay23 (F := Ideal) (M .f32 256 512 L) = M .f32 256 512 L := by
  unfold k0_pay23; simp only [cast_M]

/-- The bands of sixteen rows, each holding the row before the band. -/
theorem cat_base : concatenate S256x512 0 [⟨S16x512, k0_pay24⟩, ⟨S16x512, M .f32 16 512 (fun _ b => sh 15 0 G 0 b)⟩, ⟨S16x512, M .f32 16 512 (fun _ b => sh 31 0 G 0 b)⟩, ⟨S16x512, M .f32 16 512 (fun _ b => sh 47 0 G 0 b)⟩, ⟨S16x512, k0_pay24⟩, ⟨S16x512, M .f32 16 512 (fun _ b => sh 79 0 G 0 b)⟩, ⟨S16x512, M .f32 16 512 (fun _ b => sh 95 0 G 0 b)⟩, ⟨S16x512, M .f32 16 512 (fun _ b => sh 111 0 G 0 b)⟩, ⟨S16x512, k0_pay24⟩, ⟨S16x512, M .f32 16 512 (fun _ b => sh 143 0 G 0 b)⟩, ⟨S16x512, M .f32 16 512 (fun _ b => sh 159 0 G 0 b)⟩, ⟨S16x512, M .f32 16 512 (fun _ b => sh 175 0 G 0 b)⟩, ⟨S16x512, k0_pay24⟩, ⟨S16x512, M .f32 16 512 (fun _ b => sh 207 0 G 0 b)⟩, ⟨S16x512, M .f32 16 512 (fun _ b => sh 223 0 G 0 b)⟩, ⟨S16x512, M .f32 16 512 (fun _ b => sh 239 0 G 0 b)⟩]
    concatenates_S16x512_S16x512_S16x512_S16x512_S16x512_S16x512_S16x512_S16x512_S16x512_S16x512_S16x512_S16x512_S16x512_S16x512_S16x512_S16x512_S256x512_d0
    = M .f32 256 512 (baseR G) := by
  have e : (k0_pay24 : FVec Ideal S16x512 .f32) = M .f32 16 512 (fun _ b => (fun _ => (0 : ℝ)) b) := splat_zero
  rw [e]
  refine cat_sixteen.trans (M_congr (fun a ha b hb => ?_))
  have hq : a / 16 < 16 := by omega
  unfold baseR
  generalize a / 16 = q at *
  interval_cases q <;> simp [sh]

/-- The chunks of sixty-four rows, each holding one row of the chunk. -/
theorem cat_rows (r : ℕ) : concatenate S256x512 0 [⟨S64x512, M .f32 64 512 (fun _ b => sh r 0 G 0 b)⟩, ⟨S64x512, M .f32 64 512 (fun _ b => sh (64 + r) 0 G 0 b)⟩, ⟨S64x512, M .f32 64 512 (fun _ b => sh (128 + r) 0 G 0 b)⟩, ⟨S64x512, M .f32 64 512 (fun _ b => sh (192 + r) 0 G 0 b)⟩]
    concatenates_S64x512_S64x512_S64x512_S64x512_S256x512_d0 = M .f32 256 512 (fun a b => G (64 * (a / 64) + r) b) := by
  refine cat_four_rows.trans (M_congr (fun a ha b hb => ?_))
  have hq : a / 64 < 4 := by omega
  generalize a / 64 = q at *
  interval_cases q <;> simp [sh]

theorem cat_gend : concatenate S256x512 0 [⟨S64x512, M .f32 64 512 (fun _ b => sh 63 0 G 0 b)⟩, ⟨S64x512, M .f32 64 512 (fun _ b => sh 127 0 G 0 b)⟩, ⟨S64x512, M .f32 64 512 (fun _ b => sh 191 0 G 0 b)⟩, ⟨S64x512, M .f32 64 512 (fun _ b => sh 255 0 G 0 b)⟩]
    concatenates_S64x512_S64x512_S64x512_S64x512_S256x512_d0 = M .f32 256 512 (gendR G) := cat_rows 63

theorem cat_15 : concatenate S256x512 0 [⟨S64x512, M .f32 64 512 (fun _ b => sh 15 0 G 0 b)⟩, ⟨S64x512, M .f32 64 512 (fun _ b => sh 79 0 G 0 b)⟩, ⟨S64x512, M .f32 64 512 (fun _ b => sh 143 0 G 0 b)⟩, ⟨S64x512, M .f32 64 512 (fun _ b => sh 207 0 G 0 b)⟩]
    concatenates_S64x512_S64x512_S64x512_S64x512_S256x512_d0 = M .f32 256 512 (fun a b => G (64 * (a / 64) + 15) b) := cat_rows 15

theorem cat_31 : concatenate S256x512 0 [⟨S64x512, M .f32 64 512 (fun _ b => sh 31 0 G 0 b)⟩, ⟨S64x512, M .f32 64 512 (fun _ b => sh 95 0 G 0 b)⟩, ⟨S64x512, M .f32 64 512 (fun _ b => sh 159 0 G 0 b)⟩, ⟨S64x512, M .f32 64 512 (fun _ b => sh 223 0 G 0 b)⟩]
    concatenates_S64x512_S64x512_S64x512_S64x512_S256x512_d0 = M .f32 256 512 (fun a b => G (64 * (a / 64) + 31) b) := cat_rows 31

theorem cat_47 : concatenate S256x512 0 [⟨S64x512, M .f32 64 512 (fun _ b => sh 47 0 G 0 b)⟩, ⟨S64x512, M .f32 64 512 (fun _ b => sh 111 0 G 0 b)⟩, ⟨S64x512, M .f32 64 512 (fun _ b => sh 175 0 G 0 b)⟩, ⟨S64x512, M .f32 64 512 (fun _ b => sh 239 0 G 0 b)⟩]
    concatenates_S64x512_S64x512_S64x512_S64x512_S256x512_d0 = M .f32 256 512 (fun a b => G (64 * (a / 64) + 47) b) := cat_rows 47

theorem row_64 (a : ℕ) : broadcastTo S64x512 (shapeCast S1x512 (M .f32 1 512 (sh a 0 G)) shapeCasts_S1x512_S1x512) broadcasts_S1x512_S64x512
    = M .f32 64 512 (fun _ b => sh a 0 G 0 b) := by
  rw [cast_M, rows_M]

theorem row_16 (a : ℕ) : broadcastTo S16x512 (shapeCast S1x512 (M .f32 1 512 (sh a 0 G)) shapeCasts_S1x512_S1x512) broadcasts_S1x512_S16x512
    = M .f32 16 512 (fun _ b => sh a 0 G 0 b) := by
  rw [cast_M, rows_M]

/-- The same square of four arrays side by side. -/
theorem cat_slices {f0 f1 f2 f3 : ℕ → ℕ → ℝ} (r c : ℕ) (h : S256x512.Slices ![r, c] S64x128) :
    concatenate S64x512 1 [⟨S64x128, extractStridedSlice S64x128 ![r, c] (M .bf16 256 512 f0) h⟩, ⟨S64x128, extractStridedSlice S64x128 ![r, c] (M .bf16 256 512 f1) h⟩, ⟨S64x128, extractStridedSlice S64x128 ![r, c] (M .bf16 256 512 f2) h⟩, ⟨S64x128, extractStridedSlice S64x128 ![r, c] (M .bf16 256 512 f3) h⟩]
      concatenates_S64x128_S64x128_S64x128_S64x128_S64x512_d1
    = M .bf16 64 512 (fun a b => if b < 128 then sh r c f0 a b else if b - 128 < 128 then sh r c f1 a (b - 128)
        else if b - 128 - 128 < 128 then sh r c f2 a (b - 128 - 128) else sh r c f3 a (b - 128 - 128 - 128)) := by
  rw [slice_sh, slice_sh, slice_sh, slice_sh]
  exact cat_four_cols

theorem pay41_M : k0_pay41 (F := Ideal) (M .f32 256 512 q) (M .f32 256 512 G) (M .f32 256 512 (baseR G))
    = M .f32 256 512 (fun r c => q r c * Real.exp (G r c - baseR G r c)) := by
  unfold k0_pay41
  simp only [subf_M, exp_M, mulf_M]

theorem pay42_M : k0_pay42 (F := Ideal) (M .f32 256 512 q) (M .f32 256 512 G) (M .f32 256 512 (baseR G)) k0_pay37 16#32 k0_pay38 k0_pay39 0#32
    = M .bf16 256 512 (qtR 0 q G) := by
  unfold k0_pay42
  have e : cmpi .eq (k0_pay40 k0_pay37 16#32 k0_pay38 k0_pay39 0#32) (broadcast S256x1 0#32) = B 256 1 (fun a _ => a % 64 / 16 = 0) := blk_mask 0
  simp only [pay41_M, e, cast_B, cols_B, splat_zero, select_M, truncf_M]
  rfl

theorem pay43_M : k0_pay43 (F := Ideal) (M .f32 256 512 q) (M .f32 256 512 G) (M .f32 256 512 (baseR G)) k0_pay37 16#32 k0_pay38 k0_pay39 0#32
    = M .bf16 256 512 (qtR 1 q G) := by
  unfold k0_pay43
  have e : cmpi .eq (k0_pay40 k0_pay37 16#32 k0_pay38 k0_pay39 0#32) (broadcast S256x1 1#32) = B 256 1 (fun a _ => a % 64 / 16 = 1) := blk_mask 1
  simp only [pay41_M, e, cast_B, cols_B, splat_zero, select_M, truncf_M]
  rfl

theorem pay44_M : k0_pay44 (F := Ideal) (M .f32 256 512 q) (M .f32 256 512 G) (M .f32 256 512 (baseR G)) k0_pay37 16#32 k0_pay38 k0_pay39 0#32
    = M .bf16 256 512 (qtR 2 q G) := by
  unfold k0_pay44
  have e : cmpi .eq (k0_pay40 k0_pay37 16#32 k0_pay38 k0_pay39 0#32) (broadcast S256x1 2#32) = B 256 1 (fun a _ => a % 64 / 16 = 2) := blk_mask 2
  simp only [pay41_M, e, cast_B, cols_B, splat_zero, select_M, truncf_M]
  rfl

theorem pay45_M : k0_pay45 k0_pay37 16#32 k0_pay38 k0_pay39 0#32 = B 256 512 (fun a _ => a % 64 / 16 = 3) := by
  unfold k0_pay45
  have e : cmpi .eq (k0_pay40 k0_pay37 16#32 k0_pay38 k0_pay39 0#32) (broadcast S256x1 3#32) = B 256 1 (fun a _ => a % 64 / 16 = 3) := blk_mask 3
  simp only [e, cast_B, cols_B]

theorem pay47_M : k0_pay47 (F := Ideal) (M .f32 256 512 (fun r c => q r c * Real.exp (G r c - baseR G r c)))
    (B 256 512 (fun a _ => a % 64 / 16 = 3)) k0_pay46 = M .bf16 256 512 (qtR 3 q G) := by
  unfold k0_pay47 k0_pay46
  simp only [splat_zero, select_M, truncf_M]
  rfl

theorem pay48_M : k0_pay48 (F := Ideal) (M .f32 256 512 k) (M .f32 256 512 G) k0_pay37 = M .bf16 256 512 (ktR 0 k G) := by
  unfold k0_pay48
  have e : cmpi .slt k0_pay37 (broadcast S256x1 16#32) = B 256 1 (fun a _ => a % 64 < 16 * (0 + 1)) := lt_mask 0
  simp only [e, cast_B, cols_B, splat_zero, select_M, truncf_M, subf_M, exp_M, mulf_M]
  rfl

theorem pay49_M : k0_pay49 (F := Ideal) (M .f32 256 512 k) (M .f32 256 512 G) k0_pay37 (M .f32 1 512 (sh 15 0 G)) (M .f32 1 512 (sh 79 0 G)) (M .f32 1 512 (sh 143 0 G)) (M .f32 1 512 (sh 207 0 G))
    = M .bf16 256 512 (ktR 1 k G) := by
  unfold k0_pay49
  have e : cmpi .slt k0_pay37 (broadcast S256x1 32#32) = B 256 1 (fun a _ => a % 64 < 16 * (1 + 1)) := lt_mask 1
  dsimp only
  rw [row_64 15, row_64 79, row_64 143, row_64 207, cat_15]
  simp only [e, cast_B, cols_B, splat_zero, select_M, truncf_M, subf_M, exp_M, mulf_M]
  rfl

theorem pay52_M : k0_pay52 (F := Ideal) (M .f32 256 512 k) (M .f32 256 512 G) k0_pay37 (M .f32 64 512 (fun _ b => sh 31 0 G 0 b)) (M .f32 64 512 (fun _ b => sh 95 0 G 0 b)) (M .f32 1 512 (sh 159 0 G)) (M .f32 1 512 (sh 223 0 G))
    = M .bf16 256 512 (ktR 2 k G) := by
  unfold k0_pay52
  have e : cmpi .slt k0_pay37 (broadcast S256x1 48#32) = B 256 1 (fun a _ => a % 64 < 16 * (2 + 1)) := lt_mask 2
  dsimp only
  rw [row_64 159, row_64 223, cat_31]
  simp only [e, cast_B, cols_B, splat_zero, select_M, truncf_M, subf_M, exp_M, mulf_M]
  rfl

theorem pay53_M : k0_pay53 (F := Ideal) (M .f32 256 512 k) (M .f32 256 512 G) k0_pay37 (M .f32 1 512 (sh 47 0 G)) (M .f32 1 512 (sh 111 0 G)) (M .f32 1 512 (sh 175 0 G)) (M .f32 1 512 (sh 239 0 G))
    = M .bf16 256 512 (ktR 3 k G) := by
  unfold k0_pay53
  have e : cmpi .slt k0_pay37 (broadcast S256x1 64#32) = B 256 1 (fun a _ => a % 64 < 16 * (3 + 1)) := lt_mask 3
  dsimp only
  rw [row_64 47, row_64 111, row_64 175, row_64 239, cat_47]
  simp only [e, cast_B, cols_B, splat_zero, select_M, truncf_M, subf_M, exp_M, mulf_M]
  rfl

theorem pay54_M : k0_pay54 (F := Ideal) (M .f32 256 512 q) (M .f32 256 512 G)
    = M .bf16 256 512 (fun a b => q a b * Real.exp (G a b)) := by
  unfold k0_pay54
  simp only [exp_M, mulf_M, truncf_M]

theorem pay55_M : k0_pay55 (F := Ideal) (M .f32 256 512 G) (M .f32 256 512 (gendR G))
    = M .f32 256 512 (fun a b => Real.exp (gendR G a b - G a b)) := by
  unfold k0_pay55
  simp only [subf_M, exp_M]

theorem pay56_M : k0_pay56 (F := Ideal) (M .f32 256 512 k) (M .f32 256 512 (fun a b => Real.exp (gendR G a b - G a b)))
    = M .bf16 256 512 (fun a b => k a b * Real.exp (gendR G a b - G a b)) := by
  unfold k0_pay56
  simp only [mulf_M, truncf_M]

/-- Only the band of row `t` contributes to the scores of row `t`. -/
theorem scores_M (r c : ℕ) (hr : r % 64 = 0) : M .bf16 64 64 (fun a b => if b ≤ a then ∑ e ∈ Finset.range 512,
      (if e < 128 then sh r c (qtR 0 q G) a e else if e - 128 < 128 then sh r c (qtR 1 q G) a (e - 128)
        else if e - 128 - 128 < 128 then sh r c (qtR 2 q G) a (e - 128 - 128) else sh r c (qtR 3 q G) a (e - 128 - 128 - 128))
      * (if e < 128 then sh r c (ktR 0 k G) b e else if e - 128 < 128 then sh r c (ktR 1 k G) b (e - 128)
        else if e - 128 - 128 < 128 then sh r c (ktR 2 k G) b (e - 128 - 128) else sh r c (ktR 3 k G) b (e - 128 - 128 - 128))
      else 0) = M .bf16 64 64 (probsR r c q k G) := by
  refine M_congr (fun a ha b hb => ?_)
  unfold probsR
  by_cases h : b ≤ a
  swap
  · rw [if_neg h, if_neg h]
  rw [if_pos h, if_pos h]
  have e3 : (512 : ℕ) = 128 + 128 + 128 + 128 := rfl
  rw [e3, Finset.sum_range_add, Finset.sum_range_add, Finset.sum_range_add, ← Finset.sum_add_distrib,
    ← Finset.sum_add_distrib, ← Finset.sum_add_distrib]
  refine Finset.sum_congr rfl (fun d hd => ?_)
  have hd := Finset.mem_range.1 hd
  have t1 : ¬ (128 + d < 128) := by omega
  have t2 : ¬ (128 + 128 + d < 128) := by omega
  have t3 : ¬ (128 + 128 + 128 + d < 128) := by omega
  have s1 : 128 + d - 128 = d := by omega
  have s2 : 128 + 128 + d - 128 = 128 + d := by omega
  have s3 : 128 + 128 + 128 + d - 128 = 128 + 128 + d := by omega
  simp only [if_pos hd, if_neg t1, if_neg t2, if_neg t3, s1, s2, s3]
  have hq : a / 16 < 4 := by omega
  have ra : (r + a) % 64 / 16 = a / 16 := by omega
  have rb : (r + b) % 64 = b := by omega
  have db : 64 * ((r + b) / 64) = r := by omega
  have ma : (r + a) / 16 % 4 = a / 16 := by omega
  have da : 16 * ((r + a) / 16) = r + 16 * (a / 16) := by omega
  have hb16 : b < 16 * (a / 16 + 1) := by omega
  simp only [sh, qtR, ktR, ra, rb, db, baseR, ma, da]
  generalize a / 16 = j at *
  interval_cases j
  · simp [show b < 16 by omega, mul_assoc, mul_left_comm, ← Real.exp_add, sub_eq_add_neg]
  · simp [show b < 32 by omega, mul_assoc, mul_left_comm, ← Real.exp_add, sub_eq_add_neg]
  · simp [show b < 48 by omega, mul_assoc, mul_left_comm, ← Real.exp_add, sub_eq_add_neg]
  · simp [show b < 64 by omega, mul_assoc, mul_left_comm, ← Real.exp_add, sub_eq_add_neg]

/-- The increment of the state of one head over one chunk. -/
theorem upd_M (r c : ℕ) (hr : r % 64 = 0) : M .f32 128 128 (fun a b => ∑ s ∈ Finset.range 64, sh r c v s a
      * sh r c (fun a b => k a b * Real.exp (gendR G a b - G a b)) s b) = M .f32 128 128 (updR r c v k G) := by
  refine M_congr (fun a ha b hb => Finset.sum_congr rfl (fun s hs => ?_))
  have hs := Finset.mem_range.1 hs
  simp only [sh, gendR, show 64 * ((r + s) / 64) = r by omega]

/-! ### The scores and the increments of the states -/

theorem pay58_M : k0_pay58 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G))
    = M .bf16 64 64 (probsR 0 0 q k G) := by
  unfold k0_pay58
  simp only [cat_slices, mm_scores, causal_mask, splat_zero, select_M, truncf_M]
  exact scores_M 0 0 (by norm_num)

theorem pay60_M : k0_pay60 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G))
    = M .bf16 64 64 (probsR 0 128 q k G) := by
  unfold k0_pay60
  simp only [cat_slices, mm_scores, causal_mask, splat_zero, select_M, truncf_M]
  exact scores_M 0 128 (by norm_num)

theorem pay62_M : k0_pay62 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G))
    = M .f32 64 64 (probsR 0 256 q k G) := by
  unfold k0_pay62
  simp only [cat_slices, mm_scores, causal_mask, splat_zero, select_M, truncf_M]
  exact scores_M 0 256 (by norm_num)

theorem pay65_M : k0_pay65 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 0 384 q k G) := by
  unfold k0_pay65
  simp only [cat_slices, mm_scores, causal_mask, splat_zero, select_M, truncf_M]
  exact scores_M 0 384 (by norm_num)

theorem pay67_M : k0_pay67 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 64 0 q k G) := by
  unfold k0_pay67
  simp only [cat_slices, mm_scores, causal_mask, splat_zero, select_M, truncf_M]
  exact scores_M 64 0 (by norm_num)

theorem pay69_M : k0_pay69 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .f32 64 64 (probsR 64 128 q k G) := by
  unfold k0_pay69
  simp only [cat_slices, mm_scores, causal_mask, splat_zero, select_M, truncf_M]
  exact scores_M 64 128 (by norm_num)

theorem pay72_M : k0_pay72 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 64 256 q k G) := by
  unfold k0_pay72
  simp only [cat_slices, mm_scores, causal_mask, splat_zero, select_M, truncf_M]
  exact scores_M 64 256 (by norm_num)

theorem pay74_M : k0_pay74 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 64 384 q k G) := by
  unfold k0_pay74
  simp only [cat_slices, mm_scores, causal_mask, splat_zero, select_M, truncf_M]
  exact scores_M 64 384 (by norm_num)

theorem pay76_M : k0_pay76 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .f32 64 64 (probsR 128 0 q k G) := by
  unfold k0_pay76
  simp only [cat_slices, mm_scores, causal_mask, splat_zero, select_M, truncf_M]
  exact scores_M 128 0 (by norm_num)

theorem pay79_M : k0_pay79 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 128 128 q k G) := by
  unfold k0_pay79
  simp only [cat_slices, mm_scores, causal_mask, splat_zero, select_M, truncf_M]
  exact scores_M 128 128 (by norm_num)

theorem pay81_M : k0_pay81 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 128 256 q k G) := by
  unfold k0_pay81
  simp only [cat_slices, mm_scores, causal_mask, splat_zero, select_M, truncf_M]
  exact scores_M 128 256 (by norm_num)

theorem pay83_M : k0_pay83 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .f32 64 64 (probsR 128 384 q k G) := by
  unfold k0_pay83
  simp only [cat_slices, mm_scores, causal_mask, splat_zero, select_M, truncf_M]
  exact scores_M 128 384 (by norm_num)

theorem pay86_M : k0_pay86 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 192 0 q k G) := by
  unfold k0_pay86
  simp only [cat_slices, mm_scores, causal_mask, splat_zero, select_M, truncf_M]
  exact scores_M 192 0 (by norm_num)

theorem pay88_M : k0_pay88 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 192 128 q k G) := by
  unfold k0_pay88
  simp only [cat_slices, mm_scores, causal_mask, splat_zero, select_M, truncf_M]
  exact scores_M 192 128 (by norm_num)

theorem pay90_M : k0_pay90 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .f32 64 64 (probsR 192 256 q k G) := by
  unfold k0_pay90
  simp only [cat_slices, mm_scores, causal_mask, splat_zero, select_M, truncf_M]
  exact scores_M 192 256 (by norm_num)

theorem pay93_M : k0_pay93 (F := Ideal) (M .bf16 256 512 (qtR 0 q G)) (M .bf16 256 512 (qtR 1 q G)) (M .bf16 256 512 (qtR 2 q G)) (M .bf16 256 512 (qtR 3 q G))
    (M .bf16 256 512 (ktR 0 k G)) (M .bf16 256 512 (ktR 1 k G)) (M .bf16 256 512 (ktR 2 k G)) (M .bf16 256 512 (ktR 3 k G)) k0_pay57
    = M .bf16 64 64 (probsR 192 384 q k G) := by
  unfold k0_pay93
  simp only [cat_slices, mm_scores, causal_mask, splat_zero, select_M, truncf_M]
  exact scores_M 192 384 (by norm_num)

theorem pay59_M : k0_pay59 (F := Ideal) (M .f32 256 512 k) (M .bf16 256 512 v) (M .f32 256 512 (fun a b => Real.exp (gendR G a b - G a b))) = M .f32 128 128 (updR 0 0 v k G) := by
  unfold k0_pay59
  simp only [pay56_M, slice_sh, mm_upd]
  exact upd_M 0 0 (by norm_num)

theorem pay61_M : k0_pay61 (F := Ideal) (M .f32 256 512 k) (M .bf16 256 512 v) (M .f32 256 512 (fun a b => Real.exp (gendR G a b - G a b))) = M .f32 128 128 (updR 0 128 v k G) := by
  unfold k0_pay61
  simp only [pay56_M, slice_sh, mm_upd]
  exact upd_M 0 128 (by norm_num)

theorem pay64_M : k0_pay64 (F := Ideal) (M .bf16 256 512 v) (M .bf16 256 512 (fun a b => k a b * Real.exp (gendR G a b - G a b))) = M .f32 128 128 (updR 0 256 v k G) := by
  unfold k0_pay64
  simp only [slice_sh, mm_upd]
  exact upd_M 0 256 (by norm_num)

theorem pay66_M : k0_pay66 (F := Ideal) (M .bf16 256 512 v) (M .bf16 256 512 (fun a b => k a b * Real.exp (gendR G a b - G a b))) = M .f32 128 128 (updR 0 384 v k G) := by
  unfold k0_pay66
  simp only [slice_sh, mm_upd]
  exact upd_M 0 384 (by norm_num)

theorem pay68_M : k0_pay68 (F := Ideal) (M .bf16 256 512 v) (M .bf16 256 512 (fun a b => k a b * Real.exp (gendR G a b - G a b))) = M .f32 128 128 (updR 64 0 v k G) := by
  unfold k0_pay68
  simp only [slice_sh, mm_upd]
  exact upd_M 64 0 (by norm_num)

theorem pay71_M : k0_pay71 (F := Ideal) (M .bf16 256 512 v) (M .bf16 256 512 (fun a b => k a b * Real.exp (gendR G a b - G a b))) = M .f32 128 128 (updR 64 128 v k G) := by
  unfold k0_pay71
  simp only [slice_sh, mm_upd]
  exact upd_M 64 128 (by norm_num)

theorem pay73_M : k0_pay73 (F := Ideal) (M .bf16 256 512 v) (M .bf16 256 512 (fun a b => k a b * Real.exp (gendR G a b - G a b))) = M .f32 128 128 (updR 64 256 v k G) := by
  unfold k0_pay73
  simp only [slice_sh, mm_upd]
  exact upd_M 64 256 (by norm_num)

theorem pay75_M : k0_pay75 (F := Ideal) (M .bf16 256 512 v) (M .bf16 256 512 (fun a b => k a b * Real.exp (gendR G a b - G a b))) = M .f32 128 128 (updR 64 384 v k G) := by
  unfold k0_pay75
  simp only [slice_sh, mm_upd]
  exact upd_M 64 384 (by norm_num)

theorem pay78_M : k0_pay78 (F := Ideal) (M .bf16 256 512 v) (M .bf16 256 512 (fun a b => k a b * Real.exp (gendR G a b - G a b))) = M .f32 128 128 (updR 128 0 v k G) := by
  unfold k0_pay78
  simp only [slice_sh, mm_upd]
  exact upd_M 128 0 (by norm_num)

theorem pay80_M : k0_pay80 (F := Ideal) (M .bf16 256 512 v) (M .bf16 256 512 (fun a b => k a b * Real.exp (gendR G a b - G a b))) = M .f32 128 128 (updR 128 128 v k G) := by
  unfold k0_pay80
  simp only [slice_sh, mm_upd]
  exact upd_M 128 128 (by norm_num)

theorem pay82_M : k0_pay82 (F := Ideal) (M .bf16 256 512 v) (M .bf16 256 512 (fun a b => k a b * Real.exp (gendR G a b - G a b))) = M .f32 128 128 (updR 128 256 v k G) := by
  unfold k0_pay82
  simp only [slice_sh, mm_upd]
  exact upd_M 128 256 (by norm_num)

theorem pay85_M : k0_pay85 (F := Ideal) (M .bf16 256 512 v) (M .bf16 256 512 (fun a b => k a b * Real.exp (gendR G a b - G a b))) = M .f32 128 128 (updR 128 384 v k G) := by
  unfold k0_pay85
  simp only [slice_sh, mm_upd]
  exact upd_M 128 384 (by norm_num)

theorem pay87_M : k0_pay87 (F := Ideal) (M .bf16 256 512 v) (M .bf16 256 512 (fun a b => k a b * Real.exp (gendR G a b - G a b))) = M .f32 128 128 (updR 192 0 v k G) := by
  unfold k0_pay87
  simp only [slice_sh, mm_upd]
  exact upd_M 192 0 (by norm_num)

theorem pay89_M : k0_pay89 (F := Ideal) (M .bf16 256 512 v) (M .bf16 256 512 (fun a b => k a b * Real.exp (gendR G a b - G a b))) = M .f32 128 128 (updR 192 128 v k G) := by
  unfold k0_pay89
  simp only [slice_sh, mm_upd]
  exact upd_M 192 128 (by norm_num)

theorem pay92_M : k0_pay92 (F := Ideal) (M .bf16 256 512 v) (M .bf16 256 512 (fun a b => k a b * Real.exp (gendR G a b - G a b))) = M .f32 128 128 (updR 192 256 v k G) := by
  unfold k0_pay92
  simp only [slice_sh, mm_upd]
  exact upd_M 192 256 (by norm_num)

theorem pay94_M : k0_pay94 (F := Ideal) (M .bf16 256 512 v) (M .bf16 256 512 (fun a b => k a b * Real.exp (gendR G a b - G a b))) = M .f32 128 128 (updR 192 384 v k G) := by
  unfold k0_pay94
  simp only [slice_sh, mm_upd]
  exact upd_M 192 384 (by norm_num)

end Hgrn
-- ==== Proof.Loads.lean ====
/- Loads of rectangles out of arrays of real numbers: the loaded array is the part of the array
   from the rectangle's first row and column on. -/
module

public import proofs.«01_k».proof.Proof.BlockModel
public import Idealize.ShloMosaic.Lib.WholeRead
public import Idealize.ShloMosaic.Lib.Pipeline.ValueKit.Basic
public import Idealize.ShloMosaic.Lib.Pipeline.ValueKit.Tiles

@[expose] public section

set_option maxRecDepth 16384

open Idealize.ShloMosaic Idealize.SL

namespace Hgrn

variable {sig : RefSig} {κ : Kind} {sp : Space} {φ : FTy} {l m n : ℕ} {f : ℕ → ℕ → ℝ} {g : ℕ → ℕ → ℕ → ℝ}

theorem sh_zero : sh 0 0 f = f := by
  funext a b; simp [sh]

/-- The elements of an array at the positions of a rectangle. -/
theorem M_rect (p q a b : ℕ) (inb : ∀ i, ![a, b] i + (⟨2, ![p, q]⟩ : Shape).size i ≤ (⟨2, ![m, n]⟩ : Shape).size i) :
    (fun j => M φ m n f ((Rect.unit (s := ⟨2, ![m, n]⟩) ![a, b] (⟨2, ![p, q]⟩ : Shape).size inb).toLoadRect.idx j))
      = M φ p q (sh a b f) := by
  funext j
  change ((f (a + 1 * (j 0).val) (b + 1 * (j 1).val) : ℝ) : EReal) = ((f (a + (j 0).val) (b + (j 1).val) : ℝ) : EReal)
  rw [one_mul, one_mul]

theorem M3_rect (p q r a b c : ℕ) (inb : ∀ i, ![a, b, c] i + (⟨3, ![p, q, r]⟩ : Shape).size i ≤ (⟨3, ![l, m, n]⟩ : Shape).size i) :
    (fun j => M3 φ l m n g ((Rect.unit (s := ⟨3, ![l, m, n]⟩) ![a, b, c] (⟨3, ![p, q, r]⟩ : Shape).size inb).toLoadRect.idx j))
      = M3 φ p q r (fun x y z => g (a + x) (b + y) (c + z)) := by
  funext j
  change ((g (a + 1 * (j 0).val) (b + 1 * (j 1).val) (c + 1 * (j 2).val) : ℝ) : EReal) = ((g (a + (j 0).val) (b + (j 1).val) (c + (j 2).val) : ℝ) : EReal)
  rw [one_mul, one_mul, one_mul]

/-- A load out of an array stored as a whole. -/
theorem readCov_M (v : View sig κ sp ⟨2, ![m, n]⟩ .f32) (p q a b : ℕ)
    (inb : ∀ i, ![a, b] i + (⟨2, ![p, q]⟩ : Shape).size i ≤ (⟨2, ![m, n]⟩ : Shape).size i)
    (inb' : ∀ i, ![0, 0] i + (⟨2, ![m, n]⟩ : Shape).size i ≤ (⟨2, ![m, n]⟩ : Shape).size i) :
    v.readCov (Val := Elt Ideal) [⟨Rect.unit ![0, 0] (⟨2, ![m, n]⟩ : Shape).size inb', M .f32 m n f⟩]
      (Rect.unit (s := ⟨2, ![m, n]⟩) ![a, b] (⟨2, ![p, q]⟩ : Shape).size inb).toLoadRect = M .f32 p q (sh a b f) := by
  rw [View.readCov_eq_canon', View.canon_cons_unit_lit]
  · exact M_rect p q a b inb
  · intro i; fin_cases i <;> rfl

theorem readCov_M3 (v : View sig κ sp ⟨3, ![l, m, n]⟩ .f32) (p q r a b c : ℕ)
    (inb : ∀ i, ![a, b, c] i + (⟨3, ![p, q, r]⟩ : Shape).size i ≤ (⟨3, ![l, m, n]⟩ : Shape).size i)
    (inb' : ∀ i, ![0, 0, 0] i + (⟨3, ![l, m, n]⟩ : Shape).size i ≤ (⟨3, ![l, m, n]⟩ : Shape).size i) :
    v.readCov (Val := Elt Ideal) [⟨Rect.unit ![0, 0, 0] (⟨3, ![l, m, n]⟩ : Shape).size inb', M3 .f32 l m n g⟩]
      (Rect.unit (s := ⟨3, ![l, m, n]⟩) ![a, b, c] (⟨3, ![p, q, r]⟩ : Shape).size inb).toLoadRect
      = M3 .f32 p q r (fun x y z => g (a + x) (b + y) (c + z)) := by
  rw [View.readCov_eq_canon', View.canon_cons_unit_lit]
  · exact M3_rect p q r a b c inb
  · intro i; fin_cases i <;> rfl

/-- A load out of an array held as a whole. -/
theorem readAt_M (v : Memref sig κ sp ⟨2, ![m, n]⟩ .f32) (h : v.IsWhole) (p q a b : ℕ)
    (inb : ∀ i, ![a, b] i + (⟨2, ![p, q]⟩ : Shape).size i ≤ (⟨2, ![m, n]⟩ : Shape).size i) :
    View.readAt (Elt Ideal) v.view (Rect.unit (s := ⟨2, ![m, n]⟩) ![a, b] (⟨2, ![p, q]⟩ : Shape).size inb).toLoadRect
      (h.unread (M .f32 m n f)) = M .f32 p q (sh a b f) := by
  rw [← M_rect p q a b inb]
  funext j
  exact h.readAt_unread _ _ _

theorem readAt_M_bf16 (v : Memref sig κ sp ⟨2, ![m, n]⟩ .bf16) (h : v.IsWhole) (p q a b : ℕ)
    (inb : ∀ i, ![a, b] i + (⟨2, ![p, q]⟩ : Shape).size i ≤ (⟨2, ![m, n]⟩ : Shape).size i) :
    View.readAt (Elt Ideal) v.view (Rect.unit (s := ⟨2, ![m, n]⟩) ![a, b] (⟨2, ![p, q]⟩ : Shape).size inb).toLoadRect
      (h.unread (M .bf16 m n f)) = M .bf16 p q (sh a b f) := by
  rw [← M_rect p q a b inb]
  funext j
  exact h.readAt_unread _ _ _

theorem readAt_M3 (v : Memref sig κ sp ⟨3, ![l, m, n]⟩ .f32) (h : v.IsWhole) (p q r a b c : ℕ)
    (inb : ∀ i, ![a, b, c] i + (⟨3, ![p, q, r]⟩ : Shape).size i ≤ (⟨3, ![l, m, n]⟩ : Shape).size i) :
    View.readAt (Elt Ideal) v.view (Rect.unit (s := ⟨3, ![l, m, n]⟩) ![a, b, c] (⟨3, ![p, q, r]⟩ : Shape).size inb).toLoadRect
      (h.unread (M3 .f32 l m n g)) = M3 .f32 p q r (fun x y z => g (a + x) (b + y) (c + z)) := by
  rw [← M3_rect p q r a b c inb]
  funext j
  exact h.readAt_unread _ _ _

/-- Loads of one matrix of a three-dimensional array skip the stores of the other matrices. -/
theorem readCov_skip (v : View sig κ sp ⟨3, ![l, m, n]⟩ .f32) (p q a b : ℕ) (hab : a ≠ b)
    (inb : ∀ i, ![a, 0, 0] i + (⟨3, ![1, p, q]⟩ : Shape).size i ≤ (⟨3, ![l, m, n]⟩ : Shape).size i)
    (inb' : ∀ i, ![b, 0, 0] i + (⟨3, ![1, p, q]⟩ : Shape).size i ≤ (⟨3, ![l, m, n]⟩ : Shape).size i)
    (w : (⟨3, ![1, p, q]⟩ : Shape).Idx → Elt Ideal .f32) (L : List (View.Piece (Elt Ideal) ⟨3, ![l, m, n]⟩ .f32)) :
    v.readCov (Val := Elt Ideal) (⟨Rect.unit (s := ⟨3, ![l, m, n]⟩) ![b, 0, 0] (⟨3, ![1, p, q]⟩ : Shape).size inb', w⟩ :: L)
      (Rect.unit (s := ⟨3, ![l, m, n]⟩) ![a, 0, 0] (⟨3, ![1, p, q]⟩ : Shape).size inb).toLoadRect
      = v.readCov (Val := Elt Ideal) L (Rect.unit (s := ⟨3, ![l, m, n]⟩) ![a, 0, 0] (⟨3, ![1, p, q]⟩ : Shape).size inb).toLoadRect := by
  refine View.readCov_cons_of_disjoint _ _ _ _ (Rect.unit_disjoint (inb := inb') (inb' := inb) (0 : Fin 3) ?_)
  change b + 1 ≤ a ∨ a + 1 ≤ b
  omega

/-! ### Loads of a whole array, and of one matrix of several -/

theorem readAt_whole (v : Memref sig κ sp ⟨2, ![m, n]⟩ .f32) (h : v.IsWhole)
    (inb : ∀ i, ![0, 0] i + (⟨2, ![m, n]⟩ : Shape).size i ≤ (⟨2, ![m, n]⟩ : Shape).size i) :
    View.readAt (Elt Ideal) v.view (Rect.unit (s := ⟨2, ![m, n]⟩) ![0, 0] (⟨2, ![m, n]⟩ : Shape).size inb).toLoadRect
      (h.unread (M .f32 m n f)) = M .f32 m n f := by
  rw [readAt_M, sh_zero]

theorem readAt_whole_bf16 (v : Memref sig κ sp ⟨2, ![m, n]⟩ .bf16) (h : v.IsWhole)
    (inb : ∀ i, ![0, 0] i + (⟨2, ![m, n]⟩ : Shape).size i ≤ (⟨2, ![m, n]⟩ : Shape).size i) :
    View.readAt (Elt Ideal) v.view (Rect.unit (s := ⟨2, ![m, n]⟩) ![0, 0] (⟨2, ![m, n]⟩ : Shape).size inb).toLoadRect
      (h.unread (M .bf16 m n f)) = M .bf16 m n f := by
  rw [readAt_M_bf16, sh_zero]

theorem readCov_whole (v : View sig κ sp ⟨2, ![m, n]⟩ .f32)
    (inb : ∀ i, ![0, 0] i + (⟨2, ![m, n]⟩ : Shape).size i ≤ (⟨2, ![m, n]⟩ : Shape).size i)
    (inb' : ∀ i, ![0, 0] i + (⟨2, ![m, n]⟩ : Shape).size i ≤ (⟨2, ![m, n]⟩ : Shape).size i) :
    v.readCov (Val := Elt Ideal) [⟨Rect.unit ![0, 0] (⟨2, ![m, n]⟩ : Shape).size inb', M .f32 m n f⟩]
      (Rect.unit (s := ⟨2, ![m, n]⟩) ![0, 0] (⟨2, ![m, n]⟩ : Shape).size inb).toLoadRect = M .f32 m n f := by
  rw [readCov_M, sh_zero]

theorem readAt_whole3 (v : Memref sig κ sp ⟨3, ![l, m, n]⟩ .f32) (h : v.IsWhole)
    (inb : ∀ i, ![0, 0, 0] i + (⟨3, ![l, m, n]⟩ : Shape).size i ≤ (⟨3, ![l, m, n]⟩ : Shape).size i) :
    View.readAt (Elt Ideal) v.view (Rect.unit (s := ⟨3, ![l, m, n]⟩) ![0, 0, 0] (⟨3, ![l, m, n]⟩ : Shape).size inb).toLoadRect
      (h.unread (M3 .f32 l m n g)) = M3 .f32 l m n g := by
  rw [readAt_M3]; simp only [Nat.zero_add]

theorem M3_head (a : ℕ) : M3 .f32 1 m n (fun x y z => g (a + x) (0 + y) (0 + z)) = M3 .f32 1 m n (fun _ => g a) := by
  funext i
  have h : (i 0).val = 0 := by have := (i 0).isLt; change _ < 1 at this; omega
  change ((g (a + (i 0).val) (0 + (i 1).val) (0 + (i 2).val) : ℝ) : EReal) = ((g a (i 1).val (i 2).val : ℝ) : EReal)
  rw [h, Nat.add_zero, Nat.zero_add, Nat.zero_add]

theorem readCov_head (v : View sig κ sp ⟨3, ![l, m, n]⟩ .f32) (a : ℕ)
    (inb : ∀ i, ![a, 0, 0] i + (⟨3, ![1, m, n]⟩ : Shape).size i ≤ (⟨3, ![l, m, n]⟩ : Shape).size i)
    (inb' : ∀ i, ![0, 0, 0] i + (⟨3, ![l, m, n]⟩ : Shape).size i ≤ (⟨3, ![l, m, n]⟩ : Shape).size i) :
    v.readCov (Val := Elt Ideal) [⟨Rect.unit ![0, 0, 0] (⟨3, ![l, m, n]⟩ : Shape).size inb', M3 .f32 l m n g⟩]
      (Rect.unit (s := ⟨3, ![l, m, n]⟩) ![a, 0, 0] (⟨3, ![1, m, n]⟩ : Shape).size inb).toLoadRect
      = M3 .f32 1 m n (fun _ => g a) := by
  rw [readCov_M3, M3_head]

theorem readAt_head (v : Memref sig κ sp ⟨3, ![l, m, n]⟩ .f32) (h : v.IsWhole) (a : ℕ)
    (inb : ∀ i, ![a, 0, 0] i + (⟨3, ![1, m, n]⟩ : Shape).size i ≤ (⟨3, ![l, m, n]⟩ : Shape).size i) :
    View.readAt (Elt Ideal) v.view (Rect.unit (s := ⟨3, ![l, m, n]⟩) ![a, 0, 0] (⟨3, ![1, m, n]⟩ : Shape).size inb).toLoadRect
      (h.unread (M3 .f32 l m n g)) = M3 .f32 1 m n (fun _ => g a) := by
  rw [readAt_M3, M3_head]

/-! ### What a block computes -/

variable (x w lb ng : ℕ → ℕ → ℝ) (gm : ℕ → ℕ → ℝ) (S : ℕ → ℕ → ℕ → ℝ)

/-- The queries, the values, the keys and the running logarithms of the decays of a block. -/
noncomputable def hq : ℕ → ℕ → ℝ := sh 0 0 (projR x gm w)
noncomputable def hy : ℕ → ℕ → ℝ := sh 0 512 (projR x gm w)
noncomputable def hv : ℕ → ℕ → ℝ := sh 0 1024 (projR x gm w)
noncomputable def hk : ℕ → ℕ → ℝ := keyR lb (hy x w gm)
noncomputable def hG : ℕ → ℕ → ℝ := cumR (logfR lb (hy x w gm))
noncomputable def hqe : ℕ → ℕ → ℝ := fun a b => hq x w gm a b * Real.exp (hG x w lb gm a b)

/-- The state of head `h`, whose columns begin at `c`, before chunk `n`. -/
noncomputable def hst (c h n : ℕ) : ℕ → ℕ → ℝ := stateR c (S h) (hv x w gm) (hk x w lb gm) (hG x w lb gm) n

/-- The outputs of the chunk whose rows begin at `r`, in the head whose columns begin at `c`. -/
noncomputable def hout (r c : ℕ) : ℕ → ℕ → ℝ :=
  outR (probsR r c (hq x w gm) (hk x w lb gm) (hG x w lb gm)) (sh r c (hv x w gm)) (sh r c (hqe x w lb gm))
    (hst x w lb gm S c (c / 128) (r / 64)) (sh r (1536 + c) (projR x gm w)) (sh 0 c ng)

/-- The outputs of a block. -/
noncomputable def blockR : ℕ → ℕ → ℝ := fun r c => hout x w lb ng gm S (64 * (r / 64)) (128 * (c / 128)) (r % 64) (c % 128)

/-- The state after a block. -/
noncomputable def blockS : ℕ → ℕ → ℕ → ℝ := fun h => hst x w lb gm S (128 * h) h 4

theorem tile_M (i j : ℕ) {H : ℕ → ℕ → ℕ → ℕ → ℝ} (y : (⟨2, ![256, 512]⟩ : Shape).Idx) :
    View.TileAt (Val := Elt Ideal) (e := .f32) y ![64 * i, 128 * j] ![64, 128] (M .f32 64 128 (H (64 * i) (128 * j)))
      (M .f32 256 512 (fun r c => H (64 * (r / 64)) (128 * (c / 128)) (r % 64) (c % 128)) y) := by
  intro z hz
  have h0 : (y 0).val = 64 * i + (z 0).val := hz 0
  have h1 : (y 1).val = 128 * j + (z 1).val := hz 1
  have l0 : (z 0).val < 64 := (z 0).isLt
  have l1 : (z 1).val < 128 := (z 1).isLt
  change ((H (64 * i) (128 * j) (z 0).val (z 1).val : ℝ) : EReal)
    = ((H (64 * ((y 0).val / 64)) (128 * ((y 1).val / 128)) ((y 0).val % 64) ((y 1).val % 128) : ℝ) : EReal)
  rw [h0, h1, show (64 * i + (z 0).val) / 64 = i by omega, show (128 * j + (z 1).val) / 128 = j by omega,
    show (64 * i + (z 0).val) % 64 = (z 0).val by omega, show (128 * j + (z 1).val) % 128 = (z 1).val by omega]

theorem tile_M3 (h : ℕ) {H : ℕ → ℕ → ℕ → ℝ} (y : (⟨3, ![4, 128, 128]⟩ : Shape).Idx) :
    View.TileAt (Val := Elt Ideal) (e := .f32) y ![h, 0, 0] ![1, 128, 128] (M3 .f32 1 128 128 (fun _ => H h))
      (M3 .f32 4 128 128 H y) := by
  intro z hz
  have h0 : (y 0).val = h + (z 0).val := hz 0
  have h1 : (y 1).val = 0 + (z 1).val := hz 1
  have h2 : (y 2).val = 0 + (z 2).val := hz 2
  have l0 : (z 0).val < 1 := (z 0).isLt
  change ((H h (z 1).val (z 2).val : ℝ) : EReal) = ((H (y 0).val (y 1).val (y 2).val : ℝ) : EReal)
  rw [h0, h1, h2, Nat.zero_add, Nat.zero_add, show h + (z 0).val = h by omega]

/-- An element of a stack of stores is the last store's where that store reaches, and the earlier stores' elsewhere. -/
theorem canon_step {s : Shape} {e : EltTy} (r : Rect s) (w : r.shape.Idx → Elt Ideal e) (L : List (View.Piece (Elt Ideal) s e)) {y : s.Idx} {t : Elt Ideal e}
    (h1 : ∀ x, r.emb x = y → w x = t) (h2 : y ∉ r.set → View.canon L y = t) : View.canon (⟨r, w⟩ :: L) y = t := by
  by_cases hm : y ∈ r.set
  · obtain ⟨x, rfl⟩ := LoadRect.exists_idx_of_mem _ hm
    exact (View.canon_cons_emb r w L x).trans (h1 x rfl)
  · exact (View.canon_cons_of_not_mem ⟨r, w⟩ L hm).trans (h2 hm)

/-- Four stores of one matrix each hold an array of four matrices, whatever was stored before. -/
theorem canon_heads {H : ℕ → ℕ → ℕ → ℝ} (L : List (View.Piece (Elt Ideal) ⟨3, ![4, 128, 128]⟩ .f32)) (i0 i1 i2 i3) :
    View.canon (Val := Elt Ideal) (⟨Rect.unit (s := ⟨3, ![4, 128, 128]⟩) ![3, 0, 0] (⟨3, ![1, 128, 128]⟩ : Shape).size i3, M3 .f32 1 128 128 (fun _ => H 3)⟩
      :: ⟨Rect.unit (s := ⟨3, ![4, 128, 128]⟩) ![2, 0, 0] (⟨3, ![1, 128, 128]⟩ : Shape).size i2, M3 .f32 1 128 128 (fun _ => H 2)⟩
      :: ⟨Rect.unit (s := ⟨3, ![4, 128, 128]⟩) ![1, 0, 0] (⟨3, ![1, 128, 128]⟩ : Shape).size i1, M3 .f32 1 128 128 (fun _ => H 1)⟩
      :: ⟨Rect.unit (s := ⟨3, ![4, 128, 128]⟩) ![0, 0, 0] (⟨3, ![1, 128, 128]⟩ : Shape).size i0, M3 .f32 1 128 128 (fun _ => H 0)⟩ :: L)
      = M3 .f32 4 128 128 H := by
  funext y
  have key : ∀ (h : ℕ) (inb) (L : List (View.Piece (Elt Ideal) ⟨3, ![4, 128, 128]⟩ .f32)), ((y 0).val ≠ h → View.canon L y = M3 .f32 4 128 128 H y) →
      View.canon (Val := Elt Ideal) (⟨Rect.unit (s := ⟨3, ![4, 128, 128]⟩) ![h, 0, 0] (⟨3, ![1, 128, 128]⟩ : Shape).size inb, M3 .f32 1 128 128 (fun _ => H h)⟩ :: L) y
        = M3 .f32 4 128 128 H y := by
    intro h inb L hL
    refine canon_step _ _ L (fun x hx => tile_M3 h y x fun a => ?_) fun hm => hL fun he => hm (Rect.mem_set_unit.2 ?_)
    · rw [← hx, Rect.emb_apply]
      exact congrArg (_ + ·) (Nat.one_mul _)
    · have l1 : (y 1).val < 128 := (y 1).isLt
      have l2 : (y 2).val < 128 := (y 2).isLt
      intro a
      match a with
      | ⟨0, _⟩ => exact ⟨he.ge, he.le.trans_lt (Nat.lt_succ_self h)⟩
      | ⟨1, _⟩ => exact ⟨Nat.zero_le _, l1.trans_eq (Nat.zero_add _).symm⟩
      | ⟨2, _⟩ => exact ⟨Nat.zero_le _, l2.trans_eq (Nat.zero_add _).symm⟩
  refine key 3 _ _ fun h3 => key 2 _ _ fun h2 => key 1 _ _ fun h1 => key 0 _ _ fun h0 => ?_
  have : (y 0).val < 4 := (y 0).isLt
  omega

end Hgrn
-- ==== Proof.Recurrence.lean ====
/- The gated recurrence one step at a time, and that the blocked form of it (chunks of 64 rows in
    blocks of 256) computes the same states and outputs. -/
module

public import proofs.«01_k».proof.Proof.Loads

@[expose] public section

namespace Hgrn

open Finset

/-- The state after `t` steps from row `r`: each step decays it by `exp L` and adds a value times
    a key. -/
noncomputable def seqR (r c : ℕ) (S L k v : ℕ → ℕ → ℝ) : ℕ → ℕ → ℕ → ℝ
  | 0 => S
  | t + 1 => fun a b =>
    seqR r c S L k v t a b * Real.exp (L (r + t) (c + b)) + v (r + t) (c + a) * k (r + t) (c + b)

variable {x g w lb ng S L k v q : ℕ → ℕ → ℝ}

/-- Stepping `u + t` times is stepping `u` times and then `t` times from there. -/
theorem seqR_add (r c u t : ℕ) :
    seqR r c S L k v (u + t) = seqR (r + u) c (seqR r c S L k v u) L k v t := by
  induction t with
  | zero => rfl
  | succ t ih =>
    funext a b
    show seqR r c S L k v (u + t) a b * _ + _ = seqR (r + u) c _ L k v t a b * _ + _
    rw [ih, Nat.add_assoc]
    rfl

/-- The recurrence depends on its rows only. -/
theorem seqR_shift (r c : ℕ) {L' k' v' : ℕ → ℕ → ℝ} (hL : ∀ a b, L' a b = L (r + a) b)
    (hk : ∀ a b, k' a b = k (r + a) b) (hv : ∀ a b, v' a b = v (r + a) b) (u t : ℕ) :
    seqR u c S L' k' v' t = seqR (r + u) c S L k v t := by
  induction t with
  | zero => rfl
  | succ t ih =>
    funext a b
    show seqR u c S L' k' v' t a b * _ + _ = seqR (r + u) c S L k v t a b * _ + _
    rw [ih, hL, hk, hv, Nat.add_assoc]

/-- The running sum of a chunk is the sum over its first rows. -/
theorem cumR_chunk (n s c : ℕ) (hn : n < 4) (hs : s < 64) :
    cumR L (64 * n + s) c = ∑ j ∈ range (s + 1), L (64 * n + j) c := by
  unfold cumR
  have h : ∀ j, (if j ≤ 64 * n + s ∧ (64 * n + s) / 64 = j / 64 then (1 : ℝ) else 0) * L j c
      = if j ∈ Ico (64 * n) (64 * n + (s + 1)) then L j c else 0 := by
    intro j
    by_cases hj : j ∈ Ico (64 * n) (64 * n + (s + 1))
    · rw [if_pos hj, if_pos, one_mul]
      rw [mem_Ico] at hj; omega
    · rw [if_neg hj, if_neg, zero_mul]
      rw [mem_Ico] at hj; omega
  rw [sum_congr rfl fun j _ => h j, sum_ite_mem, inter_eq_right.mpr, sum_Ico_eq_sum_range]
  · congr 2; omega
  · intro j hj
    rw [mem_Ico] at hj; rw [mem_range]; omega

/-- The state after `t` steps, unrolled. -/
theorem seqR_unroll (r c t a b : ℕ) :
    seqR r c S L k v t a b = S a b * Real.exp (∑ j ∈ range t, L (r + j) (c + b))
      + ∑ s ∈ range t, v (r + s) (c + a) * (k (r + s) (c + b)
        * Real.exp ((∑ j ∈ range t, L (r + j) (c + b)) - ∑ j ∈ range (s + 1), L (r + j) (c + b))) := by
  induction t with
  | zero => simp [seqR]
  | succ t ih =>
    show seqR r c S L k v t a b * _ + _ = _
    rw [ih, sum_range_succ (n := t) (f := fun s => v (r + s) (c + a) * _), sub_self, Real.exp_zero, mul_one,
      add_mul, sum_mul, add_assoc]
    congr 1
    · rw [sum_range_succ (fun j => L (r + j) (c + b)), Real.exp_add, mul_assoc]
    congr 1
    · refine sum_congr rfl fun s _ => ?_
      rw [sum_range_succ (fun j => L (r + j) (c + b)) t, add_sub_right_comm, Real.exp_add]
      ring

/-- The state before a chunk is that after the rows before it. -/
theorem stateR_eq (c n : ℕ) (hn : n ≤ 4) :
    stateR c S v k (cumR L) n = seqR 0 c S L k v (64 * n) := by
  induction n with
  | zero => rfl
  | succ n ih =>
    funext a b
    rw [Nat.mul_succ, seqR_add, seqR_unroll, Nat.zero_add, ← ih (by omega)]
    show stateR c S v k (cumR L) n a b * Real.exp (cumR L (64 * n + 63 + 0) (c + b)) + updR _ _ _ _ _ a b = _
    rw [Nat.add_zero, cumR_chunk n 63 _ (by omega) (by omega)]
    congr 1
    refine sum_congr rfl fun s hs => ?_
    rw [mem_range] at hs
    rw [cumR_chunk n 63 _ (by omega) (by omega), cumR_chunk n s _ (by omega) hs]

/-- A head's output is its query against the state after its row. -/
theorem oR_eq (c n t d : ℕ) (hn : n < 4) (ht : t < 64) :
    oR (probsR (64 * n) c q k (cumR L)) (sh (64 * n) c v)
      (sh (64 * n) c fun a b => q a b * Real.exp (cumR L a b)) (stateR c S v k (cumR L) n) t d
      = ∑ e ∈ range 128, q (64 * n + t) (c + e) * seqR 0 c S L k v (64 * n + t + 1) d e := by
  rw [stateR_eq c n (by omega)]
  unfold oR
  have h1 : ∑ s ∈ range 64, probsR (64 * n) c q k (cumR L) t s * sh (64 * n) c v s d
      = ∑ e ∈ range 128, ∑ s ∈ range (t + 1), q (64 * n + t) (c + e) * (v (64 * n + s) (c + d)
        * (k (64 * n + s) (c + e) * Real.exp (cumR L (64 * n + t) (c + e) - cumR L (64 * n + s) (c + e)))) := by
    rw [sum_comm, ← sum_subset (range_subset_range.mpr (show t + 1 ≤ 64 by omega))]
    · refine sum_congr rfl fun s hs => ?_
      rw [mem_range] at hs
      simp only [probsR, sh]
      rw [if_pos (by omega), sum_mul]
      exact sum_congr rfl fun e _ => by ring
    · intro s _ hs
      rw [mem_range] at hs
      simp only [probsR]
      rw [if_neg (by omega), zero_mul]
  rw [h1, ← sum_add_distrib]
  refine sum_congr rfl fun e _ => ?_
  rw [Nat.add_assoc (64 * n), seqR_add, seqR_unroll (0 + 64 * n), Nat.zero_add,
    ← cumR_chunk n t _ hn ht, mul_add, add_comm, ← mul_sum]
  congr 1
  · simp only [sh]; ring
  · congr 1
    refine sum_congr rfl fun s hs => ?_
    rw [mem_range] at hs
    rw [cumR_chunk n s _ hn (by omega)]

/-- The state of a head after a block. -/
theorem blockS_eq (S : ℕ → ℕ → ℕ → ℝ) (h : ℕ) :
    blockS x w lb g S h
      = seqR 0 (128 * h) (S h) (logfR lb (hy x w g)) (hk x w lb g) (hv x w g) 256 :=
  stateR_eq _ 4 le_rfl

/-- A block's outputs, by the recurrence. -/
theorem blockR_eq (S : ℕ → ℕ → ℕ → ℝ) (r c : ℕ) (hr : r < 256) (o : ℕ → ℝ)
    (ho : ∀ d, o d = ∑ e ∈ range 128, hq x w g r (128 * (c / 128) + e)
      * seqR 0 (128 * (c / 128)) (S (c / 128)) (logfR lb (hy x w g)) (hk x w lb g) (hv x w g) (r + 1) d e) :
    blockR x w lb ng g S r c
      = o (c % 128) * (Real.sqrt ((∑ e ∈ range 128, o e * o e) / 128 + eps))⁻¹ * ng 0 c
        * sgR (projR x g w r (1536 + c)) := by
  have h0 : 64 * (r / 64) + r % 64 = r := by omega
  have h1 : 64 * (r / 64) / 64 = r / 64 := by omega
  have h2 : 128 * (c / 128) / 128 = c / 128 := by omega
  have h3 : 128 * (c / 128) + c % 128 = c := by omega
  have key : ∀ d, oR (probsR (64 * (r / 64)) (128 * (c / 128)) (hq x w g) (hk x w lb g) (hG x w lb g))
      (sh (64 * (r / 64)) (128 * (c / 128)) (hv x w g)) (sh (64 * (r / 64)) (128 * (c / 128)) (hqe x w lb g))
      (stateR (128 * (c / 128)) (S (c / 128)) (hv x w g) (hk x w lb g) (hG x w lb g) (r / 64)) (r % 64) d = o d := by
    intro d
    rw [ho]
    have := oR_eq (S := S (c / 128)) (L := logfR lb (hy x w g)) (k := hk x w lb g) (v := hv x w g)
      (q := hq x w g) (128 * (c / 128)) (r / 64) (r % 64) d (by omega) (by omega)
    rw [h0] at this
    exact this
  unfold blockR hout outR
  rw [h1, h2]
  unfold hst
  simp only [key]
  simp only [sh]
  rw [h0, Nat.zero_add, h3, Nat.add_assoc, h3]

end Hgrn
-- ==== Proof.Reference.lean ====
/- One step of the reference's loop on arrays of real numbers. -/
module

public import proofs.«01_k».proof.Proof.Recurrence
public import proofs.«01_k».proof.Proof.Gen.ReferenceIdeal.Run
public import Idealize.ShloMosaic.Lib.DynamicIndex
public import Idealize.ShloMosaic.Lib.WordCmp
public import Idealize.ShloMosaic.Lib.Pipeline.ValueKit.Point

@[expose] public section

set_option maxRecDepth 8192

open Idealize.ShloMosaic Idealize.ShloMosaic.TcCoe Idealize.SL Cert.ReferenceIdeal Cert.ReferenceIdeal.Gen Cert.ReferenceIdeal.Value
open Idealize.ShloMosaic.StableHlo

namespace Hgrn

/-- The array of the reals `f`, on four axes. -/
noncomputable def M4 (φ : FTy) (l m n p : ℕ) (f : ℕ → ℕ → ℕ → ℕ → ℝ) : FVec Ideal ⟨4, ![l, m, n, p]⟩ φ :=
  fun i => ((f (i 0).val (i 1).val (i 2).val (i 3).val : ℝ) : EReal)

/-- The logistic function at a real. -/
theorem logistic_real (y : ℝ) : Ideal.div 1 (1 + Ideal.exp (-(y : EReal))) = ((sgR y : ℝ) : EReal) := by
  have h : Ideal.exp (-(y : EReal)) = ((Real.exp (0 - y) : ℝ) : EReal) := by
    rw [zero_sub, ← EReal.coe_neg]; rfl
  rw [h, ← EReal.coe_one, ← EReal.coe_add, div_real _ _ (by positivity)]
  rfl

theorem slices_at {t : ℕ} (ht : t < 2048) : S2048x32x4x128.Slices ![t, 0, 0, 0] S1x32x4x128 := by
  refine ⟨rfl, fun a => ?_⟩
  match a with
  | ⟨0, _⟩ => show t + 1 ≤ 2048; omega
  | ⟨1, _⟩ => exact Nat.le_refl 32
  | ⟨2, _⟩ => exact Nat.le_refl 4
  | ⟨3, _⟩ => exact Nat.le_refl 128

/-- The slice at `t`. -/
theorem slice_at {f : ℕ → ℕ → ℕ → ℕ → ℝ} {t : ℕ} (ht : t < 2048) {V : FVec Ideal S2048x32x4x128 .f32}
    (hV : V = M4 .f32 2048 32 4 128 f) {C : IVec S_ 32} (hC : C = fun _ => BitVec.ofNat 32 t) :
    shapeCast S32x4x128 (Host.dynamicSlice S1x32x4x128 V (fun k => (((![C, constantI S_ 32 0#32, constantI S_ 32 0#32,
      constantI S_ 32 0#32] : Fin 4 → (⟨S_, .i32⟩ : BufTy).Contents (Elt Ideal))) k (Shape.Idx.first h_S_)).toInt)
      sliceFits_S2048x32x4x128_S1x32x4x128) shapeCasts_S1x32x4x128_S32x4x128 = M3 .f32 32 4 128 (f t) := by
  subst hC hV
  rw [Host.dynamicSlice_eq_extractStridedSlice S1x32x4x128 _ _ ![t, 0, 0, 0] _ (slices_at ht) fun a => ?_]
  · funext i
    idx_vars i
    pointwise
    simp [M4, M3]
  · match a with
    | ⟨0, _⟩ => exact toInt_ofNat_of_lt (by omega)
    | ⟨1, _⟩ => rfl
    | ⟨2, _⟩ => rfl
    | ⟨3, _⟩ => rfl

/-- An array with the slice at `t` replaced. -/
theorem update_at {o : ℕ → ℕ → ℕ → ℕ → ℝ} {u w : ℕ → ℕ → ℕ → ℝ} {t : ℕ} (ht : t < 2048) :
    Host.dynamicUpdateSlice (M4 .f32 2048 32 4 128 o) (broadcastInDim S1x32x4x128 ![1, 2, 3]
      bcast_S32x4x128_S1x32x4x128_1_2_3 (mulf (M3 .f32 32 4 128 u) (M3 .f32 32 4 128 w)))
      (fun k => (((![fun _ => BitVec.ofNat 32 t, constantI S_ 32 0#32, constantI S_ 32 0#32,
      constantI S_ 32 0#32] : Fin 4 → (⟨S_, .i32⟩ : BufTy).Contents (Elt Ideal))) k (Shape.Idx.first h_S_)).toInt)
      updateFits_S2048x32x4x128_S1x32x4x128
      = M4 .f32 2048 32 4 128 fun t' b h d => if t' = t then u b h d * w b h d else o t' b h d := by
  rw [Host.dynamicUpdateSlice_eq_updateSlice _ _ _ _ ![t, 0, 0, 0] (fun a => ?_) (slices_at ht)]
  · funext i
    have h0 : (i 0).val < 2048 := (i 0).isLt
    have h1 : (i 1).val < 32 := (i 1).isLt
    have h2 : (i 2).val < 4 := (i 2).isLt
    have h3 : (i 3).val < 128 := (i 3).isLt
    by_cases hi : (i 0).val = t
    · refine (dif_pos (fun a => ?_)).trans ?_
      · match a with
        | ⟨0, _⟩ => exact ⟨hi.ge, show (i 0).val < t + 1 by omega⟩
        | ⟨1, _⟩ => exact ⟨Nat.zero_le _, show (i 1).val < 0 + 32 by omega⟩
        | ⟨2, _⟩ => exact ⟨Nat.zero_le _, show (i 2).val < 0 + 4 by omega⟩
        | ⟨3, _⟩ => exact ⟨Nat.zero_le _, show (i 3).val < 0 + 128 by omega⟩
      · pointwise
        simp [M3, M4, hi]
    · refine (dif_neg (fun h => ?_)).trans ?_
      · have h := h 0
        have h' : t ≤ (i 0).val ∧ (i 0).val < t + 1 := h
        omega
      · simp [M4, hi]
  · match a with
    | ⟨0, _⟩ =>
      show (min (max (BitVec.ofNat 32 t).toInt 0) _).toNat = t
      rw [toInt_ofNat_of_lt (by omega)]
      show (min (max (t : ℤ) 0) ((2048 - 1 : ℕ) : ℤ)).toNat = t
      omega
    | ⟨1, _⟩ => rfl
    | ⟨2, _⟩ => rfl
    | ⟨3, _⟩ => rfl

variable {V0 : Valuation τ sig (Elt Ideal)} {q k v f z : ℕ → ℕ → ℕ → ℕ → ℝ} {ng : ℕ → ℕ → ℝ} {s o : ℕ → ℕ → ℕ → ℕ → ℝ} {t : ℕ}

/-- The state after a step. -/
theorem state_step (ht : t < 2048) (hk : V0 (Proc.devRef .tc main_v74_1) = M4 .f32 2048 32 4 128 k)
    (hv : V0 (Proc.devRef .tc main_v74_2) = M4 .f32 2048 32 4 128 v)
    (hf : V0 (Proc.devRef .tc main_v74_3) = M4 .f32 2048 32 4 128 f)
    (hC : V0 (Proc.devRef .tc main_v74_6) = fun _ => BitVec.ofNat 32 t)
    (hs : V0 (Proc.devRef .tc main_v74_7) = M4 .f32 32 4 128 128 s) :
    res_main_while0b_v91 V0 = M4 .f32 32 4 128 128 fun b h e d => f t b h e * s b h e d + k t b h e * v t b h d := by
  unfold res_main_while0b_v91
  erw [slice_at ht hf hC, slice_at ht hk hC, slice_at ht hv hC, hs]
  funext i
  idx_vars i
  pointwise
  simp [M3, M4]

theorem dot_step (ht : t < 2048) (hq : V0 (Proc.devRef .tc main_v74_0) = M4 .f32 2048 32 4 128 q)
    (hC : V0 (Proc.devRef .tc main_v74_6) = fun _ => BitVec.ofNat 32 t)
    (hs : res_main_while0b_v91 V0 = M4 .f32 32 4 128 128 s) :
    res_main_while0b_v92 V0 = M3 .f32 32 4 128 fun b h d => ∑ e ∈ Finset.range 128, q t b h e * s b h e d := by
  unfold res_main_while0b_v92
  erw [slice_at ht hq hC]
  rw [hs]
  funext i
  idx_vars i
  pointwise
  simp only [M3, M4, ← EReal.coe_mul]
  exact sum_real 128 fun x => q t i0 i1 x * s i0 i1 x i2

/-- The constants' places. -/
theorem out_step (ht : t < 2048) (hz : V0 (Proc.devRef .tc main_v74_4) = M4 .f32 2048 32 4 128 z)
    (hn : V0 (Proc.devRef .tc main_v74_5) = M .f32 1 512 ng)
    (hC : V0 (Proc.devRef .tc main_v74_6) = fun _ => BitVec.ofNat 32 t)
    (ho : V0 (Proc.devRef .tc main_v74_8) = M4 .f32 2048 32 4 128 o) {u : ℕ → ℕ → ℕ → ℝ}
    (hu : res_main_while0b_v92 V0 = M3 .f32 32 4 128 u) :
    step_main_v74_8 V0 = M4 .f32 2048 32 4 128 fun t' b h d => if t' = t then
      u b h d * (Real.sqrt ((∑ e ∈ Finset.range 128, u b h e * u b h e) / 128 + eps))⁻¹ * ng 0 (128 * h + d)
        * sgR (z t b h d) else o t' b h d := by
  unfold step_main_v74_8
  erw [slice_at ht hz hC]
  rw [hn, ho, hu, hC]
  have hg : (mulf (mulf (M3 .f32 32 4 128 u) (broadcastInDim S32x4x128 ![0, 1, 2] bcast_S32x4x1_S32x4x128_0_1_2 (Host.rsqrt (addf (Host.divf (broadcastInDim S32x4x1 ![0, 1] bcast_S32x4_S32x4x1_0_1 (Host.reduceAdd (mulf (M3 .f32 32 4 128 u) (M3 .f32 32 4 128 u)) (constant S_ .f32 0x00000000#32) reducesTo_S32x4x128_S32x4_d2 h_S_)) (broadcastInDim S32x4x1 ![] bcast_S_S32x4x1 (constant S_ .f32 0x43000000#32))) (broadcastInDim S32x4x1 ![] bcast_S_S32x4x1 (constant S_ .f32 0x358637BD#32)))))) (broadcastInDim S32x4x128 ![0, 1, 2] bcast_S1x4x128_S32x4x128_0_1_2 (broadcastInDim S1x4x128 ![1, 2] bcast_S4x128_S1x4x128_1_2 (shapeCast S4x128 (shapeCast S512 (M .f32 1 512 ng) shapeCasts_S1x512_S512) shapeCasts_S512_S4x128))) : FVec Ideal S32x4x128 .f32) = M3 .f32 32 4 128 fun b h d =>
      u b h d * (Real.sqrt ((∑ e ∈ Finset.range 128, u b h e * u b h e) / 128 + eps))⁻¹ * ng 0 (128 * h + d) := by
    funext i
    idx_vars i
    pointwise
    show ((u i0 i1 i2 : ℝ) : EReal) * Ideal.rsqrt (Ideal.div
      (∑ x : Fin 128, ((u i0 i1 x : ℝ) : EReal) * ((u i0 i1 x : ℝ) : EReal)) _ + _) * ((ng 0 (i1 * 128 + i2) : ℝ) : EReal) = _
    simp only [← EReal.coe_mul]
    have hpos : 0 < (∑ e ∈ Finset.range 128, u i0 i1 e * u i0 i1 e) / 128 + eps :=
      add_pos_of_nonneg_of_pos (div_nonneg (Finset.sum_nonneg fun _ _ => mul_self_nonneg _) (by norm_num)) eps_pos
    rw [sum_real 128 fun x => u i0 i1 x * u i0 i1 x, ofBits_128, ofBits_eps, div_real _ _ (by norm_num), ← EReal.coe_add,
      rsqrt_real _ hpos, ← EReal.coe_mul, ← EReal.coe_mul, Nat.mul_comm i1.val 128]
    rfl
  have hs : (Host.divf (broadcastInDim S32x4x128 ![] bcast_S_S32x4x128 (constant S_ .f32 0x3F800000#32)) (addf (broadcastInDim S32x4x128 ![] bcast_S_S32x4x128 (constant S_ .f32 0x3F800000#32)) (Host.exp (Host.negf (M3 .f32 32 4 128 (z t))))) : FVec Ideal S32x4x128 .f32)
      = M3 .f32 32 4 128 fun b h d => sgR (z t b h d) := by
    funext i
    idx_vars i
    pointwise
    exact logistic_real _
  erw [hg, hs]
  exact (update_at ht).trans rfl

/-- The states of the loop. -/
noncomputable def loopS (k v f : ℕ → ℕ → ℕ → ℕ → ℝ) (s : ℕ → ℕ → ℕ → ℕ → ℝ) : ℕ → ℕ → ℕ → ℕ → ℕ → ℝ
  | 0 => s
  | t + 1 => fun b h e d => f t b h e * loopS k v f s t b h e d + k t b h e * v t b h d

/-- The queries against the state after their step. -/
noncomputable def loopQ (q k v f : ℕ → ℕ → ℕ → ℕ → ℝ) (s : ℕ → ℕ → ℕ → ℕ → ℝ) (t b h d : ℕ) : ℝ :=
  ∑ e ∈ Finset.range 128, q t b h e * loopS k v f s (t + 1) b h e d

/-- The loop's outputs. -/
noncomputable def loopO (q k v f z : ℕ → ℕ → ℕ → ℕ → ℝ) (ng : ℕ → ℕ → ℝ) (s : ℕ → ℕ → ℕ → ℕ → ℝ) (t b h d : ℕ) : ℝ :=
  loopQ q k v f s t b h d * (Real.sqrt ((∑ e ∈ Finset.range 128, loopQ q k v f s t b h e * loopQ q k v f s t b h e) / 128
    + eps))⁻¹ * ng 0 (128 * h + d) * sgR (z t b h d)

/-- The carried arrays after `t` steps. -/
theorem loop_eq (hq : V0 (Proc.devRef .tc main_v74_0) = M4 .f32 2048 32 4 128 q)
    (hk : V0 (Proc.devRef .tc main_v74_1) = M4 .f32 2048 32 4 128 k)
    (hv : V0 (Proc.devRef .tc main_v74_2) = M4 .f32 2048 32 4 128 v)
    (hf : V0 (Proc.devRef .tc main_v74_3) = M4 .f32 2048 32 4 128 f)
    (hz : V0 (Proc.devRef .tc main_v74_4) = M4 .f32 2048 32 4 128 z)
    (hn : V0 (Proc.devRef .tc main_v74_5) = M .f32 1 512 ng)
    (hC : V0 (Proc.devRef .tc main_v74_6) = fun _ => BitVec.ofNat 32 0)
    (hs : V0 (Proc.devRef .tc main_v74_7) = M4 .f32 32 4 128 128 s)
    (ho : V0 (Proc.devRef .tc main_v74_8) = M4 .f32 2048 32 4 128 o) (t : ℕ) (ht : t ≤ 2048) :
    (STEP^[t] V0) (Proc.devRef .tc main_v74_0) = M4 .f32 2048 32 4 128 q
    ∧ (STEP^[t] V0) (Proc.devRef .tc main_v74_1) = M4 .f32 2048 32 4 128 k
    ∧ (STEP^[t] V0) (Proc.devRef .tc main_v74_2) = M4 .f32 2048 32 4 128 v
    ∧ (STEP^[t] V0) (Proc.devRef .tc main_v74_3) = M4 .f32 2048 32 4 128 f
    ∧ (STEP^[t] V0) (Proc.devRef .tc main_v74_4) = M4 .f32 2048 32 4 128 z
    ∧ (STEP^[t] V0) (Proc.devRef .tc main_v74_5) = M .f32 1 512 ng
    ∧ ((STEP^[t] V0) (Proc.devRef .tc main_v74_6) = fun _ => BitVec.ofNat 32 t)
    ∧ (STEP^[t] V0) (Proc.devRef .tc main_v74_7) = M4 .f32 32 4 128 128 (loopS k v f s t)
    ∧ (STEP^[t] V0) (Proc.devRef .tc main_v74_8) = M4 .f32 2048 32 4 128 fun t' b h d =>
        if t' < t then loopO q k v f z ng s t' b h d else o t' b h d := by
  induction t with
  | zero => exact ⟨hq, hk, hv, hf, hz, hn, hC, hs, ho⟩
  | succ t ih =>
    obtain ⟨hq, hk, hv, hf, hz, hn, hC, hs, ho⟩ := ih (by omega)
    rw [Function.iterate_succ_apply', STEP_main_v74_0, STEP_main_v74_1, STEP_main_v74_2, STEP_main_v74_3, STEP_main_v74_4,
      STEP_main_v74_5, STEP_main_v74_6, STEP_main_v74_7, STEP_main_v74_8]
    have ht' : t < 2048 := by omega
    have hS := state_step ht' hk hv hf hC hs
    refine ⟨hq, hk, hv, hf, hz, hn, ?_, hS, ?_⟩
    · unfold step_main_v74_6
      rw [hC]
      funext i
      exact (BitVec.ofNat_add t 1).symm
    · rw [out_step ht' hz hn hC ho (dot_step ht' hq hC hS)]
      congr 1
      funext t' b h d
      by_cases h1 : t' = t
      · subst h1
        rw [if_pos rfl, if_pos (by omega)]
        rfl
      · by_cases h2 : t' < t
        · rw [if_neg h1, if_pos h2, if_pos (by omega)]
        · rw [if_neg h1, if_neg h2, if_neg (by omega)]

end Hgrn
-- ==== Proof.Entry.lean ====
/- What the reference has computed when its loop starts, on arrays of real numbers. -/
module

public import proofs.«01_k».proof.Proof.Bounds
public import proofs.«01_k».proof.Proof.Reference

@[expose] public section

set_option maxRecDepth 8192

open Idealize.ShloMosaic Idealize.ShloMosaic.TcCoe Idealize.SL Cert.ReferenceIdeal Cert.ReferenceIdeal.Gen Cert.ReferenceIdeal.Value
open Idealize.ShloMosaic.StableHlo

namespace Hgrn

variable {V : Valuation τ sig (Elt Ideal)}

theorem entry_lb {a : ℕ → ℕ → ℝ} (h : V (Proc.devRef .tc main_arg3) = M .f32 2 512 a) :
    shapeCast S512 (extractStridedSlice S1x512 ![0, 0] (after hostOps0_1 (after hostOps0 V) (Proc.devRef .tc main_v11))
      slices_S2x512_S1x512_0_0) shapeCasts_S1x512_S512 = fun i => ((lbR a 0 (i 0).val : ℝ) : EReal) := by
  after_results_simp
  simp -implicitDefEqProofs only [StableHlo.TRef.toBuf, StableHlo.TRef.ofBuf, cast_cast, cast_eq]
  erw [h]
  erw [exps_first a]
  exact bounds_eq a reducesTo_S2x512_S512_d0 h_S_
    bcast_S1x512_S2x512_0_1 bcast_S512_S1x512_1 reduceWindows_S2x512_S2x512_w2s1p1_0_w1s1p0_0 slices_S2x512_S1x512_0_0
    shapeCasts_S1x512_S512 rfl

/-- The combined projection. -/
noncomputable def projArr (x : FVec Ideal S32x2048x1024 .f32) (g : FVec Ideal S1x1024 .f32) (w : FVec Ideal S1x1024x6144 .f32) :
    FVec Ideal S32x2048x2048 .f32 :=
  Host.dotGeneral dot_S32x2048x1024_S1024x2048_S32x2048x2048_2_0_01_1_n_n none
                            (mulf
                              (mulf x
                                (broadcastInDim S32x2048x1024 ![0, 1, 2] bcast_S32x2048x1_S32x2048x1024_0_1_2
                                  (Host.rsqrt
                                    (addf
                                      (Host.divf
                                        (broadcastInDim S32x2048x1 ![0, 1] bcast_S32x2048_S32x2048x1_0_1
                                          (Host.reduceAdd
                                            (mulf x x)
                                            (constant S_ FTy.f32 0#32) reducesTo_S32x2048x1024_S32x2048_d2 h_S_))
                                        (broadcastInDim S32x2048x1 ![] bcast_S_S32x2048x1
                                          (constant S_ FTy.f32 1149239296#32)))
                                      (broadcastInDim S32x2048x1 ![] bcast_S_S32x2048x1
                                        (constant S_ FTy.f32 897988541#32))))))
                              (broadcastInDim S32x2048x1024 ![0, 1, 2] bcast_S1x1x1024_S32x2048x1024_0_1_2
                                (broadcastInDim S1x1x1024 ![2] bcast_S1024_S1x1x1024_2
                                  (shapeCast S1024 g shapeCasts_S1x1024_S1024))))
                            (extractStridedSlice S1024x2048 ![0, 0]
                              (shapeCast S1024x6144 w shapeCasts_S1x1024x6144_S1024x6144)
                              slices_S1024x6144_S1024x2048_0_0)

theorem projArr_eq {X : ℕ → ℕ → ℕ → ℝ} {g : ℕ → ℕ → ℝ} {w : ℕ → ℕ → ℕ → ℝ} :
    projArr (M3 .f32 32 2048 1024 X) (M .f32 1 1024 g) (M3 .f32 1 1024 6144 w)
      = M3 .f32 32 2048 2048 fun b t c => projR (X b) g (w 0) t c := by
  unfold projArr
  funext i
  idx_vars i
  pointwise
  show ∑ x : Fin 1024, ((X i0 i1 x : ℝ) : EReal) * Ideal.rsqrt (Ideal.div (∑ x : Fin 1024,
    ((X i0 i1 x : ℝ) : EReal) * ((X i0 i1 x : ℝ) : EReal)) _ + _) * ((g 0 x : ℝ) : EReal) * ((w 0 x i2 : ℝ) : EReal) = _
  have hpos : 0 < (∑ j ∈ Finset.range 1024, X i0 i1 j * X i0 i1 j) / 1024 + eps :=
    add_pos_of_nonneg_of_pos (div_nonneg (Finset.sum_nonneg fun _ _ => mul_self_nonneg _) (by norm_num)) eps_pos
  simp only [← EReal.coe_mul]
  rw [sum_real 1024 fun j => X i0 i1 j * X i0 i1 j, ofBits_1024, ofBits_eps, div_real _ _ (by norm_num), ← EReal.coe_add,
    rsqrt_real _ hpos]
  simp only [← EReal.coe_mul]
  exact sum_real 1024 fun x => X i0 i1 x * (Real.sqrt ((∑ j ∈ Finset.range 1024, X i0 i1 j * X i0 i1 j) / 1024 + eps))⁻¹
    * g 0 x * w 0 x i2

variable {X : ℕ → ℕ → ℕ → ℝ} {g : ℕ → ℕ → ℝ} {w : ℕ → ℕ → ℕ → ℝ}

/-- The queries. -/
theorem entry_q (hx : V (Proc.devRef .tc main_arg0) = M3 .f32 32 2048 1024 X)
    (hg : V (Proc.devRef .tc main_arg1) = M .f32 1 1024 g) (hw : V (Proc.devRef .tc main_arg2) = M3 .f32 1 1024 6144 w) :
    after hostOps0_2 V (Proc.devRef .tc main_v74_0)
      = M4 .f32 2048 32 4 128 fun t b h d => projR (X b) g (w 0) t (128 * h + d) := by
  have e : after hostOps0_2 V (Proc.devRef .tc main_v74_0) = transpose S2048x32x4x128 [1, 0, 2, 3]
      (shapeCast S32x2048x4x128 (extractStridedSlice S32x2048x512 ![0, 0, 0]
        (projArr (V (Proc.devRef .tc main_arg0)) (V (Proc.devRef .tc main_arg1)) (V (Proc.devRef .tc main_arg2)))
        slices_S32x2048x2048_S32x2048x512_0_0_0) shapeCasts_S32x2048x512_S32x2048x4x128)
      transposes_S32x2048x4x128_S2048x32x4x128_1_0_2_3 := by
    after_results_simp
    rfl
  rw [e, hx, hg, hw, projArr_eq]
  funext i
  idx_vars i
  pointwise
  show ((projR (X i1) g (w 0) i0 (i2 * 128 + i3) : ℝ) : EReal) = _
  rw [Nat.mul_comm]
  rfl

/-- The values. -/
theorem entry_v (hx : V (Proc.devRef .tc main_arg0) = M3 .f32 32 2048 1024 X)
    (hg : V (Proc.devRef .tc main_arg1) = M .f32 1 1024 g) (hw : V (Proc.devRef .tc main_arg2) = M3 .f32 1 1024 6144 w) :
    after hostOps0_2 V (Proc.devRef .tc main_v74_2)
      = M4 .f32 2048 32 4 128 fun t b h d => projR (X b) g (w 0) t (1024 + (128 * h + d)) := by
  have e : after hostOps0_2 V (Proc.devRef .tc main_v74_2) = transpose S2048x32x4x128 [1, 0, 2, 3]
      (shapeCast S32x2048x4x128 (extractStridedSlice S32x2048x512 ![0, 0, 1024]
        (projArr (V (Proc.devRef .tc main_arg0)) (V (Proc.devRef .tc main_arg1)) (V (Proc.devRef .tc main_arg2)))
        slices_S32x2048x2048_S32x2048x512_0_0_1024) shapeCasts_S32x2048x512_S32x2048x4x128)
      transposes_S32x2048x4x128_S2048x32x4x128_1_0_2_3 := by
    after_results_simp
    rfl
  rw [e, hx, hg, hw, projArr_eq]
  funext i
  idx_vars i
  pointwise
  show ((projR (X i1) g (w 0) i0 (1024 + (i2 * 128 + i3)) : ℝ) : EReal) = _
  rw [Nat.mul_comm]
  rfl

/-- The output gates. -/
theorem entry_z (hx : V (Proc.devRef .tc main_arg0) = M3 .f32 32 2048 1024 X)
    (hg : V (Proc.devRef .tc main_arg1) = M .f32 1 1024 g) (hw : V (Proc.devRef .tc main_arg2) = M3 .f32 1 1024 6144 w) :
    after hostOps0_2 V (Proc.devRef .tc main_v74_4)
      = M4 .f32 2048 32 4 128 fun t b h d => projR (X b) g (w 0) t (1536 + (128 * h + d)) := by
  have e : after hostOps0_2 V (Proc.devRef .tc main_v74_4) = transpose S2048x32x4x128 [1, 0, 2, 3]
      (shapeCast S32x2048x4x128 (extractStridedSlice S32x2048x512 ![0, 0, 1536]
        (projArr (V (Proc.devRef .tc main_arg0)) (V (Proc.devRef .tc main_arg1)) (V (Proc.devRef .tc main_arg2)))
        slices_S32x2048x2048_S32x2048x512_0_0_1536) shapeCasts_S32x2048x512_S32x2048x4x128)
      transposes_S32x2048x4x128_S2048x32x4x128_1_0_2_3 := by
    after_results_simp
    rfl
  rw [e, hx, hg, hw, projArr_eq]
  funext i
  idx_vars i
  pointwise
  show ((projR (X i1) g (w 0) i0 (1536 + (i2 * 128 + i3)) : ℝ) : EReal) = _
  rw [Nat.mul_comm]
  rfl

/-- The initial state. -/
theorem entry_s {S : ℕ → ℕ → ℕ → ℝ} (hs : V (Proc.devRef .tc main_arg12) = M3 .f32 4 128 128 S) :
    after hostOps0_2 V (Proc.devRef .tc main_v74_7) = M4 .f32 32 4 128 128 fun _ h e d => S h d e := by
  have e : after hostOps0_2 V (Proc.devRef .tc main_v74_7) = broadcastInDim S32x4x128x128 ![1, 2, 3]
      bcast_S4x128x128_S32x4x128x128_1_2_3 (transpose S4x128x128 [0, 2, 1] (V (Proc.devRef .tc main_arg12))
        transposes_S4x128x128_S4x128x128_0_2_1) := by
    after_results_simp
    rfl
  rw [e, hs]
  funext i
  idx_vars i
  pointwise
  rfl

/-- The outputs before the loop. -/
theorem entry_o : after hostOps0_2 V (Proc.devRef .tc main_v74_8) = M4 .f32 2048 32 4 128 fun _ _ _ _ => 0 := by
  have e : after hostOps0_2 V (Proc.devRef .tc main_v74_8)
      = (broadcastInDim S2048x32x4x128 ![] bcast_S_S2048x32x4x128 (constant S_ .f32 0x00000000#32) :
        FVec Ideal S2048x32x4x128 .f32) := by
    after_results_simp
    rfl
  rw [e]
  funext i
  idx_vars i
  pointwise
  simp [M4]

/-- The norm's weight. -/
theorem entry_n : after hostOps0_2 V (Proc.devRef .tc main_v74_5) = V (Proc.devRef .tc main_arg4) := by
  after_results_simp
  rfl

/-- The counter. -/
theorem entry_c : after hostOps0_2 V (Proc.devRef .tc main_v74_6) = fun _ => BitVec.ofNat 32 0 := by
  after_results_simp
  rfl

/-- The decays: `lb + (1 - lb) σ(y)`. -/
noncomputable def decayArr (l : FVec Ideal S512 .f32) (y : FVec Ideal S32x2048x512 .f32) : FVec Ideal S32x2048x512 .f32 :=
  addf (broadcastInDim S32x2048x512 ![0, 1, 2] bcast_S1x1x512_S32x2048x512_0_1_2
      (broadcastInDim S1x1x512 ![2] bcast_S512_S1x1x512_2 l))
    (mulf (broadcastInDim S32x2048x512 ![0, 1, 2] bcast_S1x1x512_S32x2048x512_0_1_2
        (broadcastInDim S1x1x512 ![2] bcast_S512_S1x1x512_2
          (subf (broadcastInDim S512 ![] bcast_S_S512 (constant S_ .f32 1065353216#32)) l)))
      (Host.divf (broadcastInDim S32x2048x512 ![] bcast_S_S32x2048x512 (constant S_ .f32 1065353216#32))
        (addf (broadcastInDim S32x2048x512 ![] bcast_S_S32x2048x512 (constant S_ .f32 1065353216#32))
          (Host.exp (Host.negf y)))))

/-- The keys: `(1 - lb) σ(-y)`. -/
noncomputable def keyArr (l : FVec Ideal S512 .f32) (y : FVec Ideal S32x2048x512 .f32) : FVec Ideal S32x2048x512 .f32 :=
  mulf (broadcastInDim S32x2048x512 ![0, 1, 2] bcast_S1x1x512_S32x2048x512_0_1_2
      (broadcastInDim S1x1x512 ![2] bcast_S512_S1x1x512_2
        (subf (broadcastInDim S512 ![] bcast_S_S512 (constant S_ .f32 1065353216#32)) l)))
    (Host.divf (broadcastInDim S32x2048x512 ![] bcast_S_S32x2048x512 (constant S_ .f32 1065353216#32))
      (addf (broadcastInDim S32x2048x512 ![] bcast_S_S32x2048x512 (constant S_ .f32 1065353216#32))
        (Host.exp (Host.negf (Host.negf y)))))

variable {lb : ℕ → ℕ → ℝ} {y : ℕ → ℕ → ℕ → ℝ}

theorem decayArr_eq : decayArr (fun i => ((lb 0 (i 0).val : ℝ) : EReal)) (M3 .f32 32 2048 512 y)
    = M3 .f32 32 2048 512 fun b t c => lb 0 c + (1 - lb 0 c) * sgR (y b t c) := by
  funext i
  idx_vars i
  unfold decayArr
  pointwise
  show ((lb 0 i2 : ℝ) : EReal) + (1 - ((lb 0 i2 : ℝ) : EReal)) * Ideal.div 1 (1 + Ideal.exp (-((y i0 i1 i2 : ℝ) : EReal))) = _
  rw [logistic_real, ← EReal.coe_one, ← EReal.coe_sub, ← EReal.coe_mul, ← EReal.coe_add]
  rfl

theorem keyArr_eq : keyArr (fun i => ((lb 0 (i 0).val : ℝ) : EReal)) (M3 .f32 32 2048 512 y)
    = M3 .f32 32 2048 512 fun b t c => (1 - lb 0 c) * sgR (-y b t c) := by
  funext i
  idx_vars i
  unfold keyArr
  pointwise
  show (1 - ((lb 0 i2 : ℝ) : EReal)) * Ideal.div 1 (1 + Ideal.exp (-(-((y i0 i1 i2 : ℝ) : EReal)))) = _
  rw [← EReal.coe_neg, logistic_real, ← EReal.coe_one, ← EReal.coe_sub, ← EReal.coe_mul]
  rfl

theorem gate_slice : extractStridedSlice S32x2048x512 ![0, 0, 512]
    (M3 .f32 32 2048 2048 fun b t c => projR (X b) g (w 0) t c) slices_S32x2048x2048_S32x2048x512_0_0_512
      = M3 .f32 32 2048 512 fun b t c => projR (X b) g (w 0) t (512 + c) := by
  funext i
  idx_vars i
  pointwise
  rfl

theorem heads {f : ℕ → ℕ → ℕ → ℝ} : transpose S2048x32x4x128 [1, 0, 2, 3]
      (shapeCast S32x2048x4x128 (M3 .f32 32 2048 512 f) shapeCasts_S32x2048x512_S32x2048x4x128)
      transposes_S32x2048x4x128_S2048x32x4x128_1_0_2_3 = M4 .f32 2048 32 4 128 fun t b h d => f b t (128 * h + d) := by
  funext i
  idx_vars i
  pointwise
  show ((f i1 i0 (i2 * 128 + i3) : ℝ) : EReal) = _
  rw [Nat.mul_comm]
  rfl

theorem entry_f (hx : V (Proc.devRef .tc main_arg0) = M3 .f32 32 2048 1024 X)
    (hg : V (Proc.devRef .tc main_arg1) = M .f32 1 1024 g) (hw : V (Proc.devRef .tc main_arg2) = M3 .f32 1 1024 6144 w)
    (hl : shapeCast S512 (extractStridedSlice S1x512 ![0, 0] (V (Proc.devRef .tc main_v11)) slices_S2x512_S1x512_0_0)
      shapeCasts_S1x512_S512 = fun i => ((lb 0 (i 0).val : ℝ) : EReal)) :
    after hostOps0_2 V (Proc.devRef .tc main_v74_3) = M4 .f32 2048 32 4 128 fun t b h d =>
      lb 0 (128 * h + d) + (1 - lb 0 (128 * h + d)) * sgR (projR (X b) g (w 0) t (512 + (128 * h + d))) := by
  have e : after hostOps0_2 V (Proc.devRef .tc main_v74_3) = transpose S2048x32x4x128 [1, 0, 2, 3]
      (shapeCast S32x2048x4x128 (decayArr
        (shapeCast S512 (extractStridedSlice S1x512 ![0, 0] (V (Proc.devRef .tc main_v11)) slices_S2x512_S1x512_0_0)
          shapeCasts_S1x512_S512)
        (extractStridedSlice S32x2048x512 ![0, 0, 512]
        (projArr (V (Proc.devRef .tc main_arg0)) (V (Proc.devRef .tc main_arg1)) (V (Proc.devRef .tc main_arg2)))
        slices_S32x2048x2048_S32x2048x512_0_0_512)) shapeCasts_S32x2048x512_S32x2048x4x128)
      transposes_S32x2048x4x128_S2048x32x4x128_1_0_2_3 := by
    after_results_simp
    rfl
  rw [e, hx, hg, hw, projArr_eq, hl, gate_slice, decayArr_eq, heads]

theorem entry_k (hx : V (Proc.devRef .tc main_arg0) = M3 .f32 32 2048 1024 X)
    (hg : V (Proc.devRef .tc main_arg1) = M .f32 1 1024 g) (hw : V (Proc.devRef .tc main_arg2) = M3 .f32 1 1024 6144 w)
    (hl : shapeCast S512 (extractStridedSlice S1x512 ![0, 0] (V (Proc.devRef .tc main_v11)) slices_S2x512_S1x512_0_0)
      shapeCasts_S1x512_S512 = fun i => ((lb 0 (i 0).val : ℝ) : EReal)) :
    after hostOps0_2 V (Proc.devRef .tc main_v74_1) = M4 .f32 2048 32 4 128 fun t b h d =>
      (1 - lb 0 (128 * h + d)) * sgR (-projR (X b) g (w 0) t (512 + (128 * h + d))) := by
  have e : after hostOps0_2 V (Proc.devRef .tc main_v74_1) = transpose S2048x32x4x128 [1, 0, 2, 3]
      (shapeCast S32x2048x4x128 (keyArr
        (shapeCast S512 (extractStridedSlice S1x512 ![0, 0] (V (Proc.devRef .tc main_v11)) slices_S2x512_S1x512_0_0)
          shapeCasts_S1x512_S512)
        (extractStridedSlice S32x2048x512 ![0, 0, 512]
        (projArr (V (Proc.devRef .tc main_arg0)) (V (Proc.devRef .tc main_arg1)) (V (Proc.devRef .tc main_arg2)))
        slices_S32x2048x2048_S32x2048x512_0_0_512)) shapeCasts_S32x2048x512_S32x2048x4x128)
      transposes_S32x2048x4x128_S2048x32x4x128_1_0_2_3 := by
    after_results_simp
    rfl
  rw [e, hx, hg, hw, projArr_eq, hl, gate_slice, keyArr_eq, heads]

end Hgrn
-- ==== Proof.BlockOut.lean ====
/- The state and the outputs of one block, head by head and chunk by chunk.

   The scores, the decayed queries and the increments of the state are those of `BlockModel`. -/
module

public import proofs.«01_k».proof.Proof.BlockModel

@[expose] public section

set_option maxRecDepth 16384

open Idealize.ShloMosaic Cert.KernelIdeal Cert.KernelIdeal.Gen

namespace Hgrn

variable {q k v G p st z ng qe : ℕ → ℕ → ℝ} {f : ℕ → ℕ → ℕ → ℝ}

/-! ### The state -/

theorem pay6_M {g : ℕ → ℕ → ℕ → ℝ} : k0_pay6 (F := Ideal) (M3 .f32 4 128 128 g) = M3 .f32 4 128 128 g := by
  simp only [k0_pay6, shapeCast_self]

theorem pay96_M : k0_pay96 (F := Ideal) (M3 .f32 1 128 128 f) = M .bf16 128 128 (stateR 0 (f 0) v k G 0) := by
  simp only [k0_pay96, k0_pay95, cast_M3, exp_M, rows_M, mulf_M, addf_M, truncf_M, cast_to_M3]
  try rfl

theorem pay106_M : k0_pay106 (F := Ideal) (M3 .f32 1 128 128 f) = M .bf16 128 128 (stateR 128 (f 0) v k G 0) := by
  simp only [k0_pay106, k0_pay105, cast_M3, exp_M, rows_M, mulf_M, addf_M, truncf_M, cast_to_M3]
  try rfl

theorem pay115_M : k0_pay115 (F := Ideal) (M3 .f32 1 128 128 f) = M .bf16 128 128 (stateR 256 (f 0) v k G 0) := by
  simp only [k0_pay115, k0_pay114, cast_M3, exp_M, rows_M, mulf_M, addf_M, truncf_M, cast_to_M3]
  try rfl

theorem pay124_M : k0_pay124 (F := Ideal) (M3 .f32 1 128 128 f) = M .bf16 128 128 (stateR 384 (f 0) v k G 0) := by
  simp only [k0_pay124, k0_pay123, cast_M3, exp_M, rows_M, mulf_M, addf_M, truncf_M, cast_to_M3]
  try rfl

theorem pay114_M : k0_pay114 (F := Ideal) (M3 .f32 1 128 128 f) = M .f32 128 128 (stateR 256 (f 0) v k G 0) := by
  simp only [k0_pay114, cast_M3, exp_M, rows_M, mulf_M, addf_M, truncf_M, cast_to_M3]
  try rfl

theorem pay98_M : k0_pay98 (F := Ideal) (M .f32 128 128 (updR 0 0 v k G)) (M3 .f32 1 128 128 f) (M .f32 1 128 (sh 63 0 G)) = M .bf16 128 128 (stateR 0 (f 0) v k G 1) := by
  simp only [k0_pay98, k0_pay97, k0_pay95, cast_M3, exp_M, rows_M, mulf_M, addf_M, truncf_M, cast_to_M3]
  try rfl

theorem pay100_M : k0_pay100 (F := Ideal) (M .f32 128 128 (updR 0 0 v k G)) (M .f32 128 128 (updR 64 0 v k G)) (M3 .f32 1 128 128 f) (M .f32 1 128 (sh 63 0 G)) (M .f32 1 128 (sh 127 0 G)) = M .bf16 128 128 (stateR 0 (f 0) v k G 2) := by
  simp only [k0_pay100, k0_pay99, k0_pay97, k0_pay95, cast_M3, exp_M, rows_M, mulf_M, addf_M, truncf_M, cast_to_M3]
  try rfl

theorem pay101_M : k0_pay101 (F := Ideal) (M .f32 128 128 (updR 0 0 v k G)) (M .f32 128 128 (updR 64 0 v k G)) (M .f32 128 128 (updR 128 0 v k G)) (M3 .f32 1 128 128 f) (M .f32 1 128 (sh 63 0 G)) (M .f32 1 128 (sh 127 0 G)) (M .f32 1 128 (sh 191 0 G)) = M .f32 128 128 (stateR 0 (f 0) v k G 3) := by
  simp only [k0_pay101, k0_pay99, k0_pay97, k0_pay95, cast_M3, exp_M, rows_M, mulf_M, addf_M, truncf_M, cast_to_M3]
  try rfl

theorem pay102_M : k0_pay102 (F := Ideal) (M .f32 128 128 (updR 0 0 v k G)) (M .f32 128 128 (updR 64 0 v k G)) (M .f32 128 128 (updR 128 0 v k G)) (M3 .f32 1 128 128 f) (M .f32 1 128 (sh 63 0 G)) (M .f32 1 128 (sh 127 0 G)) (M .f32 1 128 (sh 191 0 G)) = M .bf16 128 128 (stateR 0 (f 0) v k G 3) := by
  simp only [k0_pay102, k0_pay101, k0_pay99, k0_pay97, k0_pay95, cast_M3, exp_M, rows_M, mulf_M, addf_M, truncf_M, cast_to_M3]
  try rfl

theorem pay103_M : k0_pay103 (F := Ideal) (M .f32 1 128 (sh 255 0 G)) = M .f32 128 128 (fun _ b => Real.exp (sh 255 0 G 0 b)) := by
  simp only [k0_pay103, cast_M3, exp_M, rows_M, mulf_M, addf_M, truncf_M, cast_to_M3]
  try rfl

theorem pay104_M : k0_pay104 (F := Ideal) (M .f32 128 128 (updR 192 0 v k G)) (M .f32 128 128 (stateR 0 (f 0) v k G 3)) (M .f32 128 128 (fun _ b => Real.exp (sh 255 0 G 0 b))) = M3 .f32 1 128 128 (fun _ => (stateR 0 (f 0) v k G 4)) := by
  simp only [k0_pay104, cast_M3, exp_M, rows_M, mulf_M, addf_M, truncf_M, cast_to_M3]
  try rfl

theorem pay108_M : k0_pay108 (F := Ideal) (M .f32 128 128 (updR 0 128 v k G)) (M3 .f32 1 128 128 f) (M .f32 1 128 (sh 63 128 G)) = M .bf16 128 128 (stateR 128 (f 0) v k G 1) := by
  simp only [k0_pay108, k0_pay107, k0_pay105, cast_M3, exp_M, rows_M, mulf_M, addf_M, truncf_M, cast_to_M3]
  try rfl

theorem pay110_M : k0_pay110 (F := Ideal) (M .f32 128 128 (updR 0 128 v k G)) (M .f32 128 128 (updR 64 128 v k G)) (M3 .f32 1 128 128 f) (M .f32 1 128 (sh 63 128 G)) (M .f32 1 128 (sh 127 128 G)) = M .bf16 128 128 (stateR 128 (f 0) v k G 2) := by
  simp only [k0_pay110, k0_pay109, k0_pay107, k0_pay105, cast_M3, exp_M, rows_M, mulf_M, addf_M, truncf_M, cast_to_M3]
  try rfl

theorem pay112_M : k0_pay112 (F := Ideal) (M .f32 128 128 (updR 0 128 v k G)) (M .f32 128 128 (updR 64 128 v k G)) (M .f32 128 128 (updR 128 128 v k G)) (M3 .f32 1 128 128 f) (M .f32 1 128 (sh 63 128 G)) (M .f32 1 128 (sh 127 128 G)) (M .f32 1 128 (sh 191 128 G)) = M .bf16 128 128 (stateR 128 (f 0) v k G 3) := by
  simp only [k0_pay112, k0_pay111, k0_pay109, k0_pay107, k0_pay105, cast_M3, exp_M, rows_M, mulf_M, addf_M, truncf_M, cast_to_M3]
  try rfl

theorem pay113_M : k0_pay113 (F := Ideal) (M .f32 128 128 (updR 0 128 v k G)) (M .f32 128 128 (updR 64 128 v k G)) (M .f32 128 128 (updR 128 128 v k G)) (M .f32 128 128 (updR 192 128 v k G)) (M3 .f32 1 128 128 f) (M .f32 1 128 (sh 63 128 G)) (M .f32 1 128 (sh 127 128 G)) (M .f32 1 128 (sh 191 128 G)) (M .f32 1 128 (sh 255 128 G)) = M3 .f32 1 128 128 (fun _ => (stateR 128 (f 0) v k G 4)) := by
  simp only [k0_pay113, k0_pay111, k0_pay109, k0_pay107, k0_pay105, cast_M3, exp_M, rows_M, mulf_M, addf_M, truncf_M, cast_to_M3]
  try rfl

theorem pay117_M : k0_pay117 (F := Ideal) (M .f32 128 128 (updR 0 256 v k G)) (M .f32 128 128 (stateR 256 (f 0) v k G 0)) (M .f32 1 128 (sh 63 256 G)) = M .bf16 128 128 (stateR 256 (f 0) v k G 1) := by
  simp only [k0_pay117, k0_pay116, cast_M3, exp_M, rows_M, mulf_M, addf_M, truncf_M, cast_to_M3]
  try rfl

theorem pay119_M : k0_pay119 (F := Ideal) (M .f32 128 128 (updR 0 256 v k G)) (M .f32 128 128 (updR 64 256 v k G)) (M .f32 128 128 (stateR 256 (f 0) v k G 0)) (M .f32 1 128 (sh 63 256 G)) (M .f32 1 128 (sh 127 256 G)) = M .bf16 128 128 (stateR 256 (f 0) v k G 2) := by
  simp only [k0_pay119, k0_pay118, k0_pay116, cast_M3, exp_M, rows_M, mulf_M, addf_M, truncf_M, cast_to_M3]
  try rfl

theorem pay121_M : k0_pay121 (F := Ideal) (M .f32 128 128 (updR 0 256 v k G)) (M .f32 128 128 (updR 64 256 v k G)) (M .f32 128 128 (updR 128 256 v k G)) (M .f32 128 128 (stateR 256 (f 0) v k G 0)) (M .f32 1 128 (sh 63 256 G)) (M .f32 1 128 (sh 127 256 G)) (M .f32 1 128 (sh 191 256 G)) = M .bf16 128 128 (stateR 256 (f 0) v k G 3) := by
  simp only [k0_pay121, k0_pay120, k0_pay118, k0_pay116, cast_M3, exp_M, rows_M, mulf_M, addf_M, truncf_M, cast_to_M3]
  try rfl

theorem pay122_M : k0_pay122 (F := Ideal) (M .f32 128 128 (updR 0 256 v k G)) (M .f32 128 128 (updR 64 256 v k G)) (M .f32 128 128 (updR 128 256 v k G)) (M .f32 128 128 (updR 192 256 v k G)) (M .f32 128 128 (stateR 256 (f 0) v k G 0)) (M .f32 1 128 (sh 63 256 G)) (M .f32 1 128 (sh 127 256 G)) (M .f32 1 128 (sh 191 256 G)) (M .f32 1 128 (sh 255 256 G)) = M3 .f32 1 128 128 (fun _ => (stateR 256 (f 0) v k G 4)) := by
  simp only [k0_pay122, k0_pay120, k0_pay118, k0_pay116, cast_M3, exp_M, rows_M, mulf_M, addf_M, truncf_M, cast_to_M3]
  try rfl

theorem pay126_M : k0_pay126 (F := Ideal) (M .f32 128 128 (updR 0 384 v k G)) (M3 .f32 1 128 128 f) (M .f32 1 128 (sh 63 384 G)) = M .bf16 128 128 (stateR 384 (f 0) v k G 1) := by
  simp only [k0_pay126, k0_pay125, k0_pay123, cast_M3, exp_M, rows_M, mulf_M, addf_M, truncf_M, cast_to_M3]
  try rfl

theorem pay127_M : k0_pay127 (F := Ideal) (M .f32 128 128 (updR 0 384 v k G)) (M .f32 128 128 (updR 64 384 v k G)) (M3 .f32 1 128 128 f) (M .f32 1 128 (sh 63 384 G)) (M .f32 1 128 (sh 127 384 G)) = M .f32 128 128 (stateR 384 (f 0) v k G 2) := by
  simp only [k0_pay127, k0_pay125, k0_pay123, cast_M3, exp_M, rows_M, mulf_M, addf_M, truncf_M, cast_to_M3]
  try rfl

theorem pay128_M : k0_pay128 (F := Ideal) (M .f32 128 128 (updR 0 384 v k G)) (M .f32 128 128 (updR 64 384 v k G)) (M3 .f32 1 128 128 f) (M .f32 1 128 (sh 63 384 G)) (M .f32 1 128 (sh 127 384 G)) = M .bf16 128 128 (stateR 384 (f 0) v k G 2) := by
  simp only [k0_pay128, k0_pay127, k0_pay125, k0_pay123, cast_M3, exp_M, rows_M, mulf_M, addf_M, truncf_M, cast_to_M3]
  try rfl

theorem pay130_M : k0_pay130 (F := Ideal) (M .f32 128 128 (updR 128 384 v k G)) (M .f32 128 128 (stateR 384 (f 0) v k G 2)) (M .f32 1 128 (sh 191 384 G)) = M .bf16 128 128 (stateR 384 (f 0) v k G 3) := by
  simp only [k0_pay130, k0_pay129, cast_M3, exp_M, rows_M, mulf_M, addf_M, truncf_M, cast_to_M3]
  try rfl

theorem pay131_M : k0_pay131 (F := Ideal) (M .f32 128 128 (updR 128 384 v k G)) (M .f32 128 128 (updR 192 384 v k G)) (M .f32 128 128 (stateR 384 (f 0) v k G 2)) (M .f32 1 128 (sh 191 384 G)) (M .f32 1 128 (sh 255 384 G)) = M3 .f32 1 128 128 (fun _ => (stateR 384 (f 0) v k G 4)) := by
  simp only [k0_pay131, k0_pay129, cast_M3, exp_M, rows_M, mulf_M, addf_M, truncf_M, cast_to_M3]
  try rfl

/-! ### The outputs -/

theorem out_0_0 : k0_pay132 (F := Ideal) (M .f32 1 512 ng) (M .bf16 256 512 v) (M .bf16 256 512 qe) (M .bf16 64 64 p) (M .bf16 128 128 st) (M .f32 64 128 z)
    = M .f32 64 128 (outR p (sh 0 0 v) (sh 0 0 qe) st z (sh 0 0 ng)) := by
  simp only [k0_pay132, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_0_128 : k0_pay133 (F := Ideal) (M .f32 1 512 ng) (M .bf16 256 512 v) (M .bf16 256 512 qe) (M .bf16 64 64 p) (M .bf16 128 128 st) (M .f32 64 128 z)
    = M .f32 64 128 (outR p (sh 0 128 v) (sh 0 128 qe) st z (sh 0 128 ng)) := by
  simp only [k0_pay133, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_0_256 : k0_pay136 (F := Ideal) (M .f32 1 512 ng) (k0_pay134 (M .bf16 256 512 v) (M .bf16 256 512 qe) (M .bf16 64 64 p) (M .bf16 128 128 st)) (k0_pay135 (M .bf16 256 512 v) (M .bf16 256 512 qe) (M .bf16 64 64 p) (M .bf16 128 128 st)) (M .f32 64 128 z)
    = M .f32 64 128 (outR p (sh 0 256 v) (sh 0 256 qe) st z (sh 0 256 ng)) := by
  simp only [k0_pay136, k0_pay135, k0_pay134, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_0_384 : k0_pay139 (F := Ideal) (k0_pay137 (M .f32 1 512 ng) (M .bf16 256 512 v) (M .bf16 256 512 qe) (M .bf16 64 64 p) (M .bf16 128 128 st)) (k0_pay138 (M .f32 64 128 z))
    = M .f32 64 128 (outR p (sh 0 384 v) (sh 0 384 qe) st z (sh 0 384 ng)) := by
  simp only [k0_pay139, k0_pay138, k0_pay137, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_64_0 : k0_pay140 (F := Ideal) (M .f32 1 512 ng) (M .bf16 256 512 v) (M .bf16 256 512 qe) (M .bf16 64 64 p) (M .bf16 128 128 st) (M .f32 64 128 z)
    = M .f32 64 128 (outR p (sh 64 0 v) (sh 64 0 qe) st z (sh 0 0 ng)) := by
  simp only [k0_pay140, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_64_128 : k0_pay143 (F := Ideal) (M .f32 1 512 ng) (k0_pay141 (M .bf16 256 512 v) (M .bf16 256 512 qe) (M .bf16 64 64 p) (M .bf16 128 128 st)) (k0_pay142 (M .bf16 256 512 v) (M .bf16 256 512 qe) (M .bf16 64 64 p) (M .bf16 128 128 st)) (M .f32 64 128 z)
    = M .f32 64 128 (outR p (sh 64 128 v) (sh 64 128 qe) st z (sh 0 128 ng)) := by
  simp only [k0_pay143, k0_pay142, k0_pay141, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_64_256 : k0_pay146 (F := Ideal) (k0_pay144 (M .f32 1 512 ng) (M .bf16 256 512 v) (M .bf16 256 512 qe) (M .bf16 64 64 p) (M .bf16 128 128 st)) (k0_pay145 (M .f32 64 128 z))
    = M .f32 64 128 (outR p (sh 64 256 v) (sh 64 256 qe) st z (sh 0 256 ng)) := by
  simp only [k0_pay146, k0_pay145, k0_pay144, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_64_384 : k0_pay147 (F := Ideal) (M .f32 1 512 ng) (M .bf16 256 512 v) (M .bf16 256 512 qe) (M .bf16 64 64 p) (M .bf16 128 128 st) (M .f32 64 128 z)
    = M .f32 64 128 (outR p (sh 64 384 v) (sh 64 384 qe) st z (sh 0 384 ng)) := by
  simp only [k0_pay147, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_128_0 : k0_pay150 (F := Ideal) (M .f32 1 512 ng) (k0_pay148 (M .bf16 256 512 v) (M .bf16 256 512 qe) (M .bf16 64 64 p) (M .bf16 128 128 st)) (k0_pay149 (M .bf16 256 512 v) (M .bf16 256 512 qe) (M .bf16 64 64 p) (M .bf16 128 128 st)) (M .f32 64 128 z)
    = M .f32 64 128 (outR p (sh 128 0 v) (sh 128 0 qe) st z (sh 0 0 ng)) := by
  simp only [k0_pay150, k0_pay149, k0_pay148, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_128_128 : k0_pay153 (F := Ideal) (k0_pay151 (M .f32 1 512 ng) (M .bf16 256 512 v) (M .bf16 256 512 qe) (M .bf16 64 64 p) (M .bf16 128 128 st)) (k0_pay152 (M .f32 64 128 z))
    = M .f32 64 128 (outR p (sh 128 128 v) (sh 128 128 qe) st z (sh 0 128 ng)) := by
  simp only [k0_pay153, k0_pay152, k0_pay151, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_128_256 : k0_pay154 (F := Ideal) (M .f32 1 512 ng) (M .bf16 256 512 v) (M .bf16 256 512 qe) (M .bf16 64 64 p) (M .bf16 128 128 st) (M .f32 64 128 z)
    = M .f32 64 128 (outR p (sh 128 256 v) (sh 128 256 qe) st z (sh 0 256 ng)) := by
  simp only [k0_pay154, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_128_384 : k0_pay157 (F := Ideal) (M .f32 1 512 ng) (k0_pay155 (M .bf16 256 512 v) (M .bf16 256 512 qe) (M .bf16 64 64 p) (M .bf16 128 128 st)) (k0_pay156 (M .bf16 256 512 v) (M .bf16 256 512 qe) (M .bf16 64 64 p) (M .bf16 128 128 st)) (M .f32 64 128 z)
    = M .f32 64 128 (outR p (sh 128 384 v) (sh 128 384 qe) st z (sh 0 384 ng)) := by
  simp only [k0_pay157, k0_pay156, k0_pay155, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_192_0 : k0_pay159 (F := Ideal) (M .f32 64 128 z) (k0_pay158 (M .f32 1 512 ng) (M .bf16 256 512 v) (M .bf16 256 512 qe) (M .bf16 64 64 p) (M .bf16 128 128 st)) (FloatOps.ofBits .f32 0#32)
    = M .f32 64 128 (outR p (sh 192 0 v) (sh 192 0 qe) st z (sh 0 0 ng)) := by
  simp only [k0_pay159, k0_pay158, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_192_128 : k0_pay160 (F := Ideal) (M .f32 1 512 ng) (M .bf16 256 512 v) (M .bf16 256 512 qe) (M .bf16 64 64 p) (M .bf16 128 128 st) (M .f32 64 128 z)
    = M .f32 64 128 (outR p (sh 192 128 v) (sh 192 128 qe) st z (sh 0 128 ng)) := by
  simp only [k0_pay160, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_192_256 : k0_pay163 (F := Ideal) (M .f32 1 512 ng) (M .bf16 128 128 st) (k0_pay161 (M .bf16 256 512 v) (M .bf16 64 64 p)) (k0_pay162 (M .bf16 256 512 qe)) (constant S64x128 .f32 0#32) (M .f32 64 128 z)
    = M .f32 64 128 (outR p (sh 192 256 v) (sh 192 256 qe) st z (sh 0 256 ng)) := by
  simp only [k0_pay163, k0_pay162, k0_pay161, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

theorem out_192_384 : k0_pay166 (F := Ideal) (k0_pay164 (M .bf16 256 512 v) (M .bf16 256 512 qe) (M .bf16 64 64 p) (M .bf16 128 128 st)) (M .f32 64 128 z) (k0_pay165 (M .f32 1 512 ng))
    = M .f32 64 128 (outR p (sh 192 384 v) (sh 192 384 qe) st z (sh 0 384 ng)) := by
  simp only [k0_pay166, k0_pay165, k0_pay164, slice_sh, mm_pv, mm_qs, addf_M, mulf_M]
  erw [rowsum_o]
  simp only [splat_128, splat_eps, splat_zero, splat_one, divf_128, addf_M, rsqrt_ms_128, cols_M, rows_M, mulf_M, subf_M, exp_M, divf_sg]
  rfl

end Hgrn
-- ==== Proof.CaseA.lean ====
/- The first block of a row, word by word: what each value the block computes is on real numbers. -/
module

public import proofs.«01_k».proof.Proof.Loads
public import proofs.«01_k».proof.Proof.BlockOut
public import proofs.«01_k».proof.Proof.Gen.KernelIdeal.Frame

@[expose] public section

set_option maxRecDepth 16384

open Idealize.ShloMosaic Idealize.SL Cert.KernelIdeal Cert.KernelIdeal.Gen

namespace Hgrn.CaseA

variable {c : Dev nD} {i : grid0.Coords} {arg2 : Memref sig .tc .vmem S256x1024 .f32} {harg2 : arg2.IsWhole} {arg3 : Memref sig .tc .vmem S1x1024 .f32} {harg3 : arg3.IsWhole} {arg4 : Memref sig .tc .vmem S1024x2048 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x128 .f32} {harg7 : arg7.IsWhole} {arg8 : Memref sig .tc .vmem S8x1024x256 .bf16} {harg8 : arg8.IsWhole} {arg9 : Memref sig .tc .vmem S4x1024 .f32} {harg9 : arg9.IsWhole} {arg10 : Memref sig .tc .vmem S1x1024 .f32} {harg10 : arg10.IsWhole} {arg11 : Memref sig .tc .vmem S8x128x256 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S1x1024 .f32} {harg14 : arg14.IsWhole} {arg15 : Memref sig .tc .vmem S1x1024 .f32} {harg15 : arg15.IsWhole} {arg16 : Memref sig .tc .vmem S8x1024 .f32} {harg16 : arg16.IsWhole} {arg17 : Memref sig .tc .vmem S256x512 .f32} {harg17 : arg17.IsWhole} {arg18 : Memref sig .tc .vmem S256x1024 .f32} {harg18 : arg18.IsWhole} {arg19 : Memref sig .tc .vmem S1x4x128x128 .f32} {harg19 : arg19.IsWhole} {arg20 : Memref sig .tc .vmem S1x1x1024 .f32} {harg20 : arg20.IsWhole} {arg21 : Memref sig .tc .vmem S1x8x1024 .f32} {harg21 : arg21.IsWhole} {arg22 : Memref sig .tc .vmem S4x128x128 .f32} {harg22 : arg22.IsWhole} {arg23 : Memref sig .tc .vmem S256x512 .f32} {harg23 : arg23.IsWhole} {arg24 : Memref sig .tc .vmem S256x2048 .f32} {harg24 : arg24.IsWhole} {arg25 : Memref sig .tc .vmem S8x1024 .f32} {harg25 : arg25.IsWhole} {arg26 : Memref sig .tc .vmem S1x1024 .f32} {harg26 : arg26.IsWhole} {arg27 : Memref sig .tc .vmem S8x256x128 .f32} {harg27 : arg27.IsWhole} {hc0 : cond0_0 i} {hc1 : ¬cond0_1 i}
  {x g w lb ng : ℕ → ℕ → ℝ} {S : ℕ → ℕ → ℕ → ℝ}
  {x6 : Vec Ideal S8x1024x256 .bf16} {x7 : Vec Ideal S4x1024 .f32} {x8 : Vec Ideal S1x1024 .f32} {x9 : Vec Ideal S8x128x256 .bf16} {x10 : Vec Ideal S1x1024 .f32} {x11 : Vec Ideal S1x1024 .f32} {x12 : Vec Ideal S1x1024 .f32} {x13 : Vec Ideal S1x1024 .f32} {x14 : Vec Ideal S8x1024 .f32}

theorem HS2_1 :
    kernelRun0_A.sl.HS2_1 (F := Ideal) c arg2 harg2 arg3 harg3 arg4 harg4 (M .f32 256 1024 x) (M .f32 1 1024 g) (M .bf16 1024 2048 w)
      = [⟨Rect.unit ![0, 0] S256x2048.size inb_S256x2048_S256x2048_0_0, M .f32 256 2048 (projR x g w)⟩] := by
  unfold kernelRun0_A.sl.HS2_1
  rw [readAt_whole, readAt_whole, readAt_whole_bf16, pay12_M]

theorem v52 :
    kernelRun0_A.sl.v52 (F := Ideal) c arg2 harg2 arg3 harg3 arg4 harg4 arg24 (M .f32 256 1024 x) (M .f32 1 1024 g) (M .bf16 1024 2048 w)
      = M .f32 256 512 (hv x w g) := by
  unfold kernelRun0_A.sl.v52
  rw [HS2_1]
  exact readCov_M _ _ _ _ _ _ _

theorem r_5 :
    kernelRun0_A.sl.r_5 (F := Ideal) c arg2 harg2 arg3 harg3 arg4 harg4 arg24 (M .f32 256 1024 x) (M .f32 1 1024 g) (M .bf16 1024 2048 w)
      = M .bf16 256 512 (hv x w g) := by
  unfold kernelRun0_A.sl.r_5
  rw [v52]
  exact pay17_M

theorem v30 :
    kernelRun0_A.sl.v30 (F := Ideal) c arg2 harg2 arg3 harg3 arg4 harg4 arg24 (M .f32 256 1024 x) (M .f32 1 1024 g) (M .bf16 1024 2048 w)
      = M .f32 256 512 (hq x w g) := by
  unfold kernelRun0_A.sl.v30
  rw [HS2_1]
  exact readCov_M _ _ _ _ _ _ _

theorem r_1 :
    kernelRun0_A.sl.r_1 (F := Ideal) c arg5 harg5 (M .f32 1 512 lb)
      = M .f32 1 512 lb := by
  unfold kernelRun0_A.sl.r_1
  rw [readAt_whole, pay10_M]

theorem v31 :
    kernelRun0_A.sl.v31 (F := Ideal) c arg2 harg2 arg3 harg3 arg4 harg4 arg24 (M .f32 256 1024 x) (M .f32 1 1024 g) (M .bf16 1024 2048 w)
      = M .f32 256 512 (hy x w g) := by
  unfold kernelRun0_A.sl.v31
  rw [HS2_1]
  exact readCov_M _ _ _ _ _ _ _

theorem r_3 (h : ∀ b < 512, 0 < lb 0 b ∧ lb 0 b < 1) :
    kernelRun0_A.sl.r_3 (F := Ideal) c arg2 harg2 arg3 harg3 arg4 harg4 arg5 harg5 arg24 (M .f32 256 1024 x) (M .f32 1 1024 g) (M .bf16 1024 2048 w) (M .f32 1 512 lb)
      = M .f32 256 512 (logfR lb (hy x w g)) := by
  unfold kernelRun0_A.sl.r_3
  rw [r_1, v31]
  exact pay15_M h

theorem r_6 (h : ∀ b < 512, 0 < lb 0 b ∧ lb 0 b < 1) :
    kernelRun0_A.sl.r_6 (F := Ideal) c arg2 harg2 arg3 harg3 arg4 harg4 arg5 harg5 arg24 (M .f32 256 1024 x) (M .f32 1 1024 g) (M .bf16 1024 2048 w) (M .f32 1 512 lb)
      = M .f32 256 512 (hG x w lb g) := by
  unfold kernelRun0_A.sl.r_6 kernelRun0_A.sl.v55
  rw [r_3 h]
  exact pay22_M

theorem HS1_1 (h : ∀ b < 512, 0 < lb 0 b ∧ lb 0 b < 1) :
    kernelRun0_A.sl.HS1_1 (F := Ideal) c arg2 harg2 arg3 harg3 arg4 harg4 arg5 harg5 arg24 (M .f32 256 1024 x) (M .f32 1 1024 g) (M .bf16 1024 2048 w) (M .f32 1 512 lb)
      = [⟨Rect.unit ![0, 0] S256x512.size inb_S256x512_S256x512_0_0, M .f32 256 512 (hG x w lb g)⟩] := by
  unfold kernelRun0_A.sl.HS1_1
  rw [r_6 h]
  rw [pay23_M]

theorem v126 (h : ∀ b < 512, 0 < lb 0 b ∧ lb 0 b < 1) :
    kernelRun0_A.sl.v126 (F := Ideal) c arg2 harg2 arg3 harg3 arg4 harg4 arg5 harg5 arg23 arg24 (M .f32 256 1024 x) (M .f32 1 1024 g) (M .bf16 1024 2048 w) (M .f32 1 512 lb)
      = M .f32 256 512 (hG x w lb g) := by
  unfold kernelRun0_A.sl.v126
  rw [HS1_1 h]
  exact readCov_whole _ _ _

theorem r_29 (h : ∀ b < 512, 0 < lb 0 b ∧ lb 0 b < 1) :
    kernelRun0_A.sl.r_29 (F := Ideal) c arg2 harg2 arg3 harg3 arg4 harg4 arg5 harg5 arg23 arg24 (M .f32 256 1024 x) (M .f32 1 1024 g) (M .bf16 1024 2048 w) (M .f32 1 512 lb)
      = M .bf16 256 512 (hqe x w lb g) := by
  unfold kernelRun0_A.sl.r_29
  rw [v30, v126 h]
  exact pay54_M

theorem v128 (h : ∀ b < 512, 0 < lb 0 b ∧ lb 0 b < 1) :
    kernelRun0_A.sl.v128 (F := Ideal) c arg2 harg2 arg3 harg3 arg4 harg4 arg5 harg5 arg23 arg24 (M .f32 256 1024 x) (M .f32 1 1024 g) (M .bf16 1024 2048 w) (M .f32 1 512 lb)
      = M .f32 1 512 (sh 15 0 (hG x w lb g)) := by
  unfold kernelRun0_A.sl.v128
  rw [HS1_1 h]
  exact readCov_M _ _ _ _ _ _ _

theorem r_7 (h : ∀ b < 512, 0 < lb 0 b ∧ lb 0 b < 1) :
    kernelRun0_A.sl.r_7 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 15 0 (hG x w lb g) 0 b) := by
  unfold kernelRun0_A.sl.r_7 k0_pay25
  rw [v128 h]
  exact row_16 _

theorem v131 (h : ∀ b < 512, 0 < lb 0 b ∧ lb 0 b < 1) :
    kernelRun0_A.sl.v131 (F := Ideal) c arg2 harg2 arg3 harg3 arg4 harg4 arg5 harg5 arg23 arg24 (M .f32 256 1024 x) (M .f32 1 1024 g) (M .bf16 1024 2048 w) (M .f32 1 512 lb)
      = M .f32 1 512 (sh 31 0 (hG x w lb g)) := by
  unfold kernelRun0_A.sl.v131
  rw [HS1_1 h]
  exact readCov_M _ _ _ _ _ _ _

theorem r_8 (h : ∀ b < 512, 0 < lb 0 b ∧ lb 0 b < 1) :
    kernelRun0_A.sl.r_8 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 31 0 (hG x w lb g) 0 b) := by
  unfold kernelRun0_A.sl.r_8 k0_pay26
  rw [v131 h]
  exact row_16 _

theorem v134 (h : ∀ b < 512, 0 < lb 0 b ∧ lb 0 b < 1) :
    kernelRun0_A.sl.v134 (F := Ideal) c arg2 harg2 arg3 harg3 arg4 harg4 arg5 harg5 arg23 arg24 (M .f32 256 1024 x) (M .f32 1 1024 g) (M .bf16 1024 2048 w) (M .f32 1 512 lb)
      = M .f32 1 512 (sh 47 0 (hG x w lb g)) := by
  unfold kernelRun0_A.sl.v134
  rw [HS1_1 h]
  exact readCov_M _ _ _ _ _ _ _

theorem r_9 (h : ∀ b < 512, 0 < lb 0 b ∧ lb 0 b < 1) :
    kernelRun0_A.sl.r_9 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 47 0 (hG x w lb g) 0 b) := by
  unfold kernelRun0_A.sl.r_9 k0_pay27
  rw [v134 h]
  exact row_16 _

theorem v137 (h : ∀ b < 512, 0 < lb 0 b ∧ lb 0 b < 1) :
    kernelRun0_A.sl.v137 (F := Ideal) c arg2 harg2 arg3 harg3 arg4 harg4 arg5 harg5 arg23 arg24 (M .f32 256 1024 x) (M .f32 1 1024 g) (M .bf16 1024 2048 w) (M .f32 1 512 lb)
      = M .f32 1 512 (sh 79 0 (hG x w lb g)) := by
  unfold kernelRun0_A.sl.v137
  rw [HS1_1 h]
  exact readCov_M _ _ _ _ _ _ _

theorem r_10 (h : ∀ b < 512, 0 < lb 0 b ∧ lb 0 b < 1) :
    kernelRun0_A.sl.r_10 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 79 0 (hG x w lb g) 0 b) := by
  unfold kernelRun0_A.sl.r_10 k0_pay28
  rw [v137 h]
  exact row_16 _

theorem v140 (h : ∀ b < 512, 0 < lb 0 b ∧ lb 0 b < 1) :
    kernelRun0_A.sl.v140 (F := Ideal) c arg2 harg2 arg3 harg3 arg4 harg4 arg5 harg5 arg23 arg24 (M .f32 256 1024 x) (M .f32 1 1024 g) (M .bf16 1024 2048 w) (M .f32 1 512 lb)
      = M .f32 1 512 (sh 95 0 (hG x w lb g)) := by
  unfold kernelRun0_A.sl.v140
  rw [HS1_1 h]
  exact readCov_M _ _ _ _ _ _ _

theorem r_11 (h : ∀ b < 512, 0 < lb 0 b ∧ lb 0 b < 1) :
    kernelRun0_A.sl.r_11 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 95 0 (hG x w lb g) 0 b) := by
  unfold kernelRun0_A.sl.r_11 k0_pay29
  rw [v140 h]
  exact row_16 _

theorem v143 (h : ∀ b < 512, 0 < lb 0 b ∧ lb 0 b < 1) :
    kernelRun0_A.sl.v143 (F := Ideal) c arg2 harg2 arg3 harg3 arg4 harg4 arg5 harg5 arg23 arg24 (M .f32 256 1024 x) (M .f32 1 1024 g) (M .bf16 1024 2048 w) (M .f32 1 512 lb)
      = M .f32 1 512 (sh 111 0 (hG x w lb g)) := by
  unfold kernelRun0_A.sl.v143
  rw [HS1_1 h]
  exact readCov_M _ _ _ _ _ _ _

theorem r_12 (h : ∀ b < 512, 0 < lb 0 b ∧ lb 0 b < 1) :
    kernelRun0_A.sl.r_12 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 111 0 (hG x w lb g) 0 b) := by
  unfold kernelRun0_A.sl.r_12 k0_pay30
  rw [v143 h]
  exact row_16 _

theorem v146 (h : ∀ b < 512, 0 < lb 0 b ∧ lb 0 b < 1) :
    kernelRun0_A.sl.v146 (F := Ideal) c arg2 harg2 arg3 harg3 arg4 harg4 arg5 harg5 arg23 arg24 (M .f32 256 1024 x) (M .f32 1 1024 g) (M .bf16 1024 2048 w) (M .f32 1 512 lb)
      = M .f32 1 512 (sh 143 0 (hG x w lb g)) := by
  unfold kernelRun0_A.sl.v146
  rw [HS1_1 h]
  exact readCov_M _ _ _ _ _ _ _

theorem r_13 (h : ∀ b < 512, 0 < lb 0 b ∧ lb 0 b < 1) :
    kernelRun0_A.sl.r_13 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 143 0 (hG x w lb g) 0 b) := by
  unfold kernelRun0_A.sl.r_13 k0_pay31
  rw [v146 h]
  exact row_16 _

theorem v149 (h : ∀ b < 512, 0 < lb 0 b ∧ lb 0 b < 1) :
    kernelRun0_A.sl.v149 (F := Ideal) c arg2 harg2 arg3 harg3 arg4 harg4 arg5 harg5 arg23 arg24 (M .f32 256 1024 x) (M .f32 1 1024 g) (M .bf16 1024 2048 w) (M .f32 1 512 lb)
      = M .f32 1 512 (sh 159 0 (hG x w lb g)) := by
  unfold kernelRun0_A.sl.v149
  rw [HS1_1 h]
  exact readCov_M _ _ _ _ _ _ _

theorem r_14 (h : ∀ b < 512, 0 < lb 0 b ∧ lb 0 b < 1) :
    kernelRun0_A.sl.r_14 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 159 0 (hG x w lb g) 0 b) := by
  unfold kernelRun0_A.sl.r_14 k0_pay32
  rw [v149 h]
  exact row_16 _

theorem v152 (h : ∀ b < 512, 0 < lb 0 b ∧ lb 0 b < 1) :
    kernelRun0_A.sl.v152 (F := Ideal) c arg2 harg2 arg3 harg3 arg4 harg4 arg5 harg5 arg23 arg24 (M .f32 256 1024 x) (M .f32 1 1024 g) (M .bf16 1024 2048 w) (M .f32 1 512 lb)
      = M .f32 1 512 (sh 175 0 (hG x w lb g)) := by
  unfold kernelRun0_A.sl.v152
  rw [HS1_1 h]
  exact readCov_M _ _ _ _ _ _ _

theorem r_15 (h : ∀ b < 512, 0 < lb 0 b ∧ lb 0 b < 1) :
    kernelRun0_A.sl.r_15 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 175 0 (hG x w lb g) 0 b) := by
  unfold kernelRun0_A.sl.r_15 k0_pay33
  rw [v152 h]
  exact row_16 _

theorem v155 (h : ∀ b < 512, 0 < lb 0 b ∧ lb 0 b < 1) :
    kernelRun0_A.sl.v155 (F := Ideal) c arg2 harg2 arg3 harg3 arg4 harg4 arg5 harg5 arg23 arg24 (M .f32 256 1024 x) (M .f32 1 1024 g) (M .bf16 1024 2048 w) (M .f32 1 512 lb)
      = M .f32 1 512 (sh 207 0 (hG x w lb g)) := by
  unfold kernelRun0_A.sl.v155
  rw [HS1_1 h]
  exact readCov_M _ _ _ _ _ _ _

theorem r_16 (h : ∀ b < 512, 0 < lb 0 b ∧ lb 0 b < 1) :
    kernelRun0_A.sl.r_16 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 207 0 (hG x w lb g) 0 b) := by
  unfold kernelRun0_A.sl.r_16 k0_pay34
  rw [v155 h]
  exact row_16 _

theorem v158 (h : ∀ b < 512, 0 < lb 0 b ∧ lb 0 b < 1) :
    kernelRun0_A.sl.v158 (F := Ideal) c arg2 harg2 arg3 harg3 arg4 harg4 arg5 harg5 arg23 arg24 (M .f32 256 1024 x) (M .f32 1 1024 g) (M .bf16 1024 2048 w) (M .f32 1 512 lb)
      = M .f32 1 512 (sh 223 0 (hG x w lb g)) := by
  unfold kernelRun0_A.sl.v158
  rw [HS1_1 h]
  exact readCov_M _ _ _ _ _ _ _

theorem v160 (h : ∀ b < 512, 0 < lb 0 b ∧ lb 0 b < 1) :
    kernelRun0_A.sl.v160 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 223 0 (hG x w lb g) 0 b) := by
  unfold kernelRun0_A.sl.v160 kernelRun0_A.sl.v159
  rw [v158 h]
  exact row_16 _

theorem v161 (h : ∀ b < 512, 0 < lb 0 b ∧ lb 0 b < 1) :
    kernelRun0_A.sl.v161 (F := Ideal) c arg2 harg2 arg3 harg3 arg4 harg4 arg5 harg5 arg23 arg24 (M .f32 256 1024 x) (M .f32 1 1024 g) (M .bf16 1024 2048 w) (M .f32 1 512 lb)
      = M .f32 1 512 (sh 239 0 (hG x w lb g)) := by
  unfold kernelRun0_A.sl.v161
  rw [HS1_1 h]
  exact readCov_M _ _ _ _ _ _ _

theorem v163 (h : ∀ b < 512, 0 < lb 0 b ∧ lb 0 b < 1) :
    kernelRun0_A.sl.v163 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 239 0 (hG x w lb g) 0 b) := by
  unfold kernelRun0_A.sl.v163 kernelRun0_A.sl.v162
  rw [v161 h]
  exact row_16 _

theorem v164 (h : ∀ b < 512, 0 < lb 0 b ∧ lb 0 b < 1) :
    kernelRun0_A.sl.v164 (F := Ideal) c arg2 harg2 arg3 harg3 arg4 harg4 arg5 harg5 arg23 arg24 (M .f32 256 1024 x) (M .f32 1 1024 g) (M .bf16 1024 2048 w) (M .f32 1 512 lb)
      = M .f32 256 512 (baseR (hG x w lb g)) := by
  unfold kernelRun0_A.sl.v164
  rw [r_7 h, r_8 h, r_9 h, r_10 h, r_11 h, r_12 h, r_13 h, r_14 h, r_15 h, r_16 h, v160 h, v163 h]
  exact cat_base

theorem r_18 (h : ∀ b < 512, 0 < lb 0 b ∧ lb 0 b < 1) :
    kernelRun0_A.sl.r_18 (F := Ideal) c arg2 harg2 arg3 harg3 arg4 harg4 arg5 harg5 arg23 arg24 (M .f32 256 1024 x) (M .f32 1 1024 g) (M .bf16 1024 2048 w) (M .f32 1 512 lb)
      = M .bf16 256 512 (qtR 0 (hq x w g) (hG x w lb g)) := by
  unfold kernelRun0_A.sl.r_18
  rw [v30, v126 h, v164 h]
  exact pay42_M

theorem r_19 (h : ∀ b < 512, 0 < lb 0 b ∧ lb 0 b < 1) :
    kernelRun0_A.sl.r_19 (F := Ideal) c arg2 harg2 arg3 harg3 arg4 harg4 arg5 harg5 arg23 arg24 (M .f32 256 1024 x) (M .f32 1 1024 g) (M .bf16 1024 2048 w) (M .f32 1 512 lb)
      = M .bf16 256 512 (qtR 1 (hq x w g) (hG x w lb g)) := by
  unfold kernelRun0_A.sl.r_19
  rw [v30, v126 h, v164 h]
  exact pay43_M

theorem r_20 (h : ∀ b < 512, 0 < lb 0 b ∧ lb 0 b < 1) :
    kernelRun0_A.sl.r_20 (F := Ideal) c arg2 harg2 arg3 harg3 arg4 harg4 arg5 harg5 arg23 arg24 (M .f32 256 1024 x) (M .f32 1 1024 g) (M .bf16 1024 2048 w) (M .f32 1 512 lb)
      = M .bf16 256 512 (qtR 2 (hq x w g) (hG x w lb g)) := by
  unfold kernelRun0_A.sl.r_20
  rw [v30, v126 h, v164 h]
  exact pay44_M

theorem r_17 (h : ∀ b < 512, 0 < lb 0 b ∧ lb 0 b < 1) :
    kernelRun0_A.sl.r_17 (F := Ideal) c arg2 harg2 arg3 harg3 arg4 harg4 arg5 harg5 arg23 arg24 (M .f32 256 1024 x) (M .f32 1 1024 g) (M .bf16 1024 2048 w) (M .f32 1 512 lb)
      = M .f32 256 512 (fun r c => (hq x w g) r c * Real.exp ((hG x w lb g) r c - baseR (hG x w lb g) r c)) := by
  unfold kernelRun0_A.sl.r_17
  rw [v30, v126 h, v164 h]
  exact pay41_M

theorem r_21 :
    kernelRun0_A.sl.r_21
      = B 256 512 (fun a _ => a % 64 / 16 = 3) := by
  unfold kernelRun0_A.sl.r_21
  exact pay45_M

theorem r_22 (h : ∀ b < 512, 0 < lb 0 b ∧ lb 0 b < 1) :
    kernelRun0_A.sl.r_22 (F := Ideal) c arg2 harg2 arg3 harg3 arg4 harg4 arg5 harg5 arg23 arg24 (M .f32 256 1024 x) (M .f32 1 1024 g) (M .bf16 1024 2048 w) (M .f32 1 512 lb)
      = M .bf16 256 512 (qtR 3 (hq x w g) (hG x w lb g)) := by
  unfold kernelRun0_A.sl.r_22
  rw [r_17 h, r_21]
  exact pay47_M

theorem r_4 :
    kernelRun0_A.sl.r_4 (F := Ideal) c arg2 harg2 arg3 harg3 arg4 harg4 arg5 harg5 arg24 (M .f32 256 1024 x) (M .f32 1 1024 g) (M .bf16 1024 2048 w) (M .f32 1 512 lb)
      = M .f32 256 512 (hk x w lb g) := by
  unfold kernelRun0_A.sl.r_4
  rw [r_1, v31]
  exact pay16_M

theorem r_23 (h : ∀ b < 512, 0 < lb 0 b ∧ lb 0 b < 1) :
    kernelRun0_A.sl.r_23 (F := Ideal) c arg2 harg2 arg3 harg3 arg4 harg4 arg5 harg5 arg23 arg24 (M .f32 256 1024 x) (M .f32 1 1024 g) (M .bf16 1024 2048 w) (M .f32 1 512 lb)
      = M .bf16 256 512 (ktR 0 (hk x w lb g) (hG x w lb g)) := by
  unfold kernelRun0_A.sl.r_23
  rw [r_4, v126 h]
  exact pay48_M

theorem r_24 (h : ∀ b < 512, 0 < lb 0 b ∧ lb 0 b < 1) :
    kernelRun0_A.sl.r_24 (F := Ideal) c arg2 harg2 arg3 harg3 arg4 harg4 arg5 harg5 arg23 arg24 (M .f32 256 1024 x) (M .f32 1 1024 g) (M .bf16 1024 2048 w) (M .f32 1 512 lb)
      = M .bf16 256 512 (ktR 1 (hk x w lb g) (hG x w lb g)) := by
  unfold kernelRun0_A.sl.r_24
  rw [r_4, v126 h, v128 h, v137 h, v146 h, v155 h]
  exact pay49_M

theorem r_25 (h : ∀ b < 512, 0 < lb 0 b ∧ lb 0 b < 1) :
    kernelRun0_A.sl.r_25 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 31 0 (hG x w lb g) 0 b) := by
  unfold kernelRun0_A.sl.r_25 k0_pay50
  rw [v131 h]
  exact row_64 _

theorem r_26 (h : ∀ b < 512, 0 < lb 0 b ∧ lb 0 b < 1) :
    kernelRun0_A.sl.r_26 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 95 0 (hG x w lb g) 0 b) := by
  unfold kernelRun0_A.sl.r_26 k0_pay51
  rw [v140 h]
  exact row_64 _

theorem r_27 (h : ∀ b < 512, 0 < lb 0 b ∧ lb 0 b < 1) :
    kernelRun0_A.sl.r_27 (F := Ideal) c arg2 harg2 arg3 harg3 arg4 harg4 arg5 harg5 arg23 arg24 (M .f32 256 1024 x) (M .f32 1 1024 g) (M .bf16 1024 2048 w) (M .f32 1 512 lb)
      = M .bf16 256 512 (ktR 2 (hk x w lb g) (hG x w lb g)) := by
  unfold kernelRun0_A.sl.r_27
  rw [r_4, v126 h, r_25 h, r_26 h, v149 h, v158 h]
  exact pay52_M

theorem v316 (h : ∀ b < 512, 0 < lb 0 b ∧ lb 0 b < 1) :
    kernelRun0_A.sl.v316 (F := Ideal) c arg2 harg2 arg3 harg3 arg4 harg4 arg5 harg5 arg23 arg24 (M .f32 256 1024 x) (M .f32 1 1024 g) (M .bf16 1024 2048 w) (M .f32 1 512 lb)
      = M .f32 1 512 (sh 239 0 (hG x w lb g)) := by
  unfold kernelRun0_A.sl.v316
  rw [HS1_1 h]
  exact readCov_M _ _ _ _ _ _ _

theorem r_28 (h : ∀ b < 512, 0 < lb 0 b ∧ lb 0 b < 1) :
    kernelRun0_A.sl.r_28 (F := Ideal) c arg2 harg2 arg3 harg3 arg4 harg4 arg5 harg5 arg23 arg24 (M .f32 256 1024 x) (M .f32 1 1024 g) (M .bf16 1024 2048 w) (M .f32 1 512 lb)
      = M .bf16 256 512 (ktR 3 (hk x w lb g) (hG x w lb g)) := by
  unfold kernelRun0_A.sl.r_28
  rw [r_4, v126 h, v134 h, v143 h, v152 h, v316 h]
  exact pay53_M

theorem r_67 (h : ∀ b < 512, 0 < lb 0 b ∧ lb 0 b < 1) :
    kernelRun0_A.sl.r_67 (F := Ideal) c arg2 harg2 arg3 harg3 arg4 harg4 arg5 harg5 arg23 arg24 (M .f32 256 1024 x) (M .f32 1 1024 g) (M .bf16 1024 2048 w) (M .f32 1 512 lb)
      = M .bf16 64 64 (probsR 192 384 (hq x w g) (hk x w lb g) (hG x w lb g)) := by
  unfold kernelRun0_A.sl.r_67
  rw [r_18 h, r_19 h, r_20 h, r_22 h, r_23 h, r_24 h, r_27 h, r_28 h]
  exact pay93_M

theorem v165 (h : ∀ b < 512, 0 < lb 0 b ∧ lb 0 b < 1) :
    kernelRun0_A.sl.v165 (F := Ideal) c arg2 harg2 arg3 harg3 arg4 harg4 arg5 harg5 arg23 arg24 (M .f32 256 1024 x) (M .f32 1 1024 g) (M .bf16 1024 2048 w) (M .f32 1 512 lb)
      = M .f32 1 512 (sh 63 0 (hG x w lb g)) := by
  unfold kernelRun0_A.sl.v165
  rw [HS1_1 h]
  exact readCov_M _ _ _ _ _ _ _

theorem v167 (h : ∀ b < 512, 0 < lb 0 b ∧ lb 0 b < 1) :
    kernelRun0_A.sl.v167 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 63 0 (hG x w lb g) 0 b) := by
  unfold kernelRun0_A.sl.v167 kernelRun0_A.sl.v166
  rw [v165 h]
  exact row_64 _

theorem v168 (h : ∀ b < 512, 0 < lb 0 b ∧ lb 0 b < 1) :
    kernelRun0_A.sl.v168 (F := Ideal) c arg2 harg2 arg3 harg3 arg4 harg4 arg5 harg5 arg23 arg24 (M .f32 256 1024 x) (M .f32 1 1024 g) (M .bf16 1024 2048 w) (M .f32 1 512 lb)
      = M .f32 1 512 (sh 127 0 (hG x w lb g)) := by
  unfold kernelRun0_A.sl.v168
  rw [HS1_1 h]
  exact readCov_M _ _ _ _ _ _ _

theorem v170 (h : ∀ b < 512, 0 < lb 0 b ∧ lb 0 b < 1) :
    kernelRun0_A.sl.v170 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 127 0 (hG x w lb g) 0 b) := by
  unfold kernelRun0_A.sl.v170 kernelRun0_A.sl.v169
  rw [v168 h]
  exact row_64 _

theorem v171 (h : ∀ b < 512, 0 < lb 0 b ∧ lb 0 b < 1) :
    kernelRun0_A.sl.v171 (F := Ideal) c arg2 harg2 arg3 harg3 arg4 harg4 arg5 harg5 arg23 arg24 (M .f32 256 1024 x) (M .f32 1 1024 g) (M .bf16 1024 2048 w) (M .f32 1 512 lb)
      = M .f32 1 512 (sh 191 0 (hG x w lb g)) := by
  unfold kernelRun0_A.sl.v171
  rw [HS1_1 h]
  exact readCov_M _ _ _ _ _ _ _

theorem v173 (h : ∀ b < 512, 0 < lb 0 b ∧ lb 0 b < 1) :
    kernelRun0_A.sl.v173 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 191 0 (hG x w lb g) 0 b) := by
  unfold kernelRun0_A.sl.v173 kernelRun0_A.sl.v172
  rw [v171 h]
  exact row_64 _

theorem v174 (h : ∀ b < 512, 0 < lb 0 b ∧ lb 0 b < 1) :
    kernelRun0_A.sl.v174 (F := Ideal) c arg2 harg2 arg3 harg3 arg4 harg4 arg5 harg5 arg23 arg24 (M .f32 256 1024 x) (M .f32 1 1024 g) (M .bf16 1024 2048 w) (M .f32 1 512 lb)
      = M .f32 1 512 (sh 255 0 (hG x w lb g)) := by
  unfold kernelRun0_A.sl.v174
  rw [HS1_1 h]
  exact readCov_M _ _ _ _ _ _ _

theorem v176 (h : ∀ b < 512, 0 < lb 0 b ∧ lb 0 b < 1) :
    kernelRun0_A.sl.v176 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 255 0 (hG x w lb g) 0 b) := by
  unfold kernelRun0_A.sl.v176 kernelRun0_A.sl.v175
  rw [v174 h]
  exact row_64 _

theorem v177 (h : ∀ b < 512, 0 < lb 0 b ∧ lb 0 b < 1) :
    kernelRun0_A.sl.v177 (F := Ideal) c arg2 harg2 arg3 harg3 arg4 harg4 arg5 harg5 arg23 arg24 (M .f32 256 1024 x) (M .f32 1 1024 g) (M .bf16 1024 2048 w) (M .f32 1 512 lb)
      = M .f32 256 512 (gendR (hG x w lb g)) := by
  unfold kernelRun0_A.sl.v177
  rw [v167 h, v170 h, v173 h, v176 h]
  exact cat_gend

theorem r_30 (h : ∀ b < 512, 0 < lb 0 b ∧ lb 0 b < 1) :
    kernelRun0_A.sl.r_30 (F := Ideal) c arg2 harg2 arg3 harg3 arg4 harg4 arg5 harg5 arg23 arg24 (M .f32 256 1024 x) (M .f32 1 1024 g) (M .bf16 1024 2048 w) (M .f32 1 512 lb)
      = M .f32 256 512 (fun a b => Real.exp (gendR (hG x w lb g) a b - (hG x w lb g) a b)) := by
  unfold kernelRun0_A.sl.r_30
  rw [v126 h, v177 h]
  exact pay55_M

theorem r_31 (h : ∀ b < 512, 0 < lb 0 b ∧ lb 0 b < 1) :
    kernelRun0_A.sl.r_31 (F := Ideal) c arg2 harg2 arg3 harg3 arg4 harg4 arg5 harg5 arg23 arg24 (M .f32 256 1024 x) (M .f32 1 1024 g) (M .bf16 1024 2048 w) (M .f32 1 512 lb)
      = M .bf16 256 512 (fun a b => (hk x w lb g) a b * Real.exp (gendR (hG x w lb g) a b - (hG x w lb g) a b)) := by
  unfold kernelRun0_A.sl.r_31
  rw [r_4, r_30 h]
  exact pay56_M

theorem r_59 (h : ∀ b < 512, 0 < lb 0 b ∧ lb 0 b < 1) :
    kernelRun0_A.sl.r_59 (F := Ideal) c arg2 harg2 arg3 harg3 arg4 harg4 arg5 harg5 arg23 arg24 (M .f32 256 1024 x) (M .f32 1 1024 g) (M .bf16 1024 2048 w) (M .f32 1 512 lb)
      = M .f32 128 128 (updR 128 384 (hv x w g) (hk x w lb g) (hG x w lb g)) := by
  unfold kernelRun0_A.sl.r_59
  rw [r_5, r_31 h]
  exact pay85_M

theorem r_40 (h : ∀ b < 512, 0 < lb 0 b ∧ lb 0 b < 1) :
    kernelRun0_A.sl.r_40 (F := Ideal) c arg2 harg2 arg3 harg3 arg4 harg4 arg5 harg5 arg23 arg24 (M .f32 256 1024 x) (M .f32 1 1024 g) (M .bf16 1024 2048 w) (M .f32 1 512 lb)
      = M .f32 128 128 (updR 0 384 (hv x w g) (hk x w lb g) (hG x w lb g)) := by
  unfold kernelRun0_A.sl.r_40
  rw [r_5, r_31 h]
  exact pay66_M

theorem r_49 (h : ∀ b < 512, 0 < lb 0 b ∧ lb 0 b < 1) :
    kernelRun0_A.sl.r_49 (F := Ideal) c arg2 harg2 arg3 harg3 arg4 harg4 arg5 harg5 arg23 arg24 (M .f32 256 1024 x) (M .f32 1 1024 g) (M .bf16 1024 2048 w) (M .f32 1 512 lb)
      = M .f32 128 128 (updR 64 384 (hv x w g) (hk x w lb g) (hG x w lb g)) := by
  unfold kernelRun0_A.sl.r_49
  rw [r_5, r_31 h]
  exact pay75_M

theorem r_38 (h : ∀ b < 512, 0 < lb 0 b ∧ lb 0 b < 1) :
    kernelRun0_A.sl.r_38 (F := Ideal) c arg2 harg2 arg3 harg3 arg4 harg4 arg5 harg5 arg23 arg24 (M .f32 256 1024 x) (M .f32 1 1024 g) (M .bf16 1024 2048 w) (M .f32 1 512 lb)
      = M .f32 128 128 (updR 0 256 (hv x w g) (hk x w lb g) (hG x w lb g)) := by
  unfold kernelRun0_A.sl.r_38
  rw [r_5, r_31 h]
  exact pay64_M

theorem r_47 (h : ∀ b < 512, 0 < lb 0 b ∧ lb 0 b < 1) :
    kernelRun0_A.sl.r_47 (F := Ideal) c arg2 harg2 arg3 harg3 arg4 harg4 arg5 harg5 arg23 arg24 (M .f32 256 1024 x) (M .f32 1 1024 g) (M .bf16 1024 2048 w) (M .f32 1 512 lb)
      = M .f32 128 128 (updR 64 256 (hv x w g) (hk x w lb g) (hG x w lb g)) := by
  unfold kernelRun0_A.sl.r_47
  rw [r_5, r_31 h]
  exact pay73_M

theorem r_56 (h : ∀ b < 512, 0 < lb 0 b ∧ lb 0 b < 1) :
    kernelRun0_A.sl.r_56 (F := Ideal) c arg2 harg2 arg3 harg3 arg4 harg4 arg5 harg5 arg23 arg24 (M .f32 256 1024 x) (M .f32 1 1024 g) (M .bf16 1024 2048 w) (M .f32 1 512 lb)
      = M .f32 128 128 (updR 128 256 (hv x w g) (hk x w lb g) (hG x w lb g)) := by
  unfold kernelRun0_A.sl.r_56
  rw [r_5, r_31 h]
  exact pay82_M

theorem r_66 (h : ∀ b < 512, 0 < lb 0 b ∧ lb 0 b < 1) :
    kernelRun0_A.sl.r_66 (F := Ideal) c arg2 harg2 arg3 harg3 arg4 harg4 arg5 harg5 arg23 arg24 (M .f32 256 1024 x) (M .f32 1 1024 g) (M .bf16 1024 2048 w) (M .f32 1 512 lb)
      = M .f32 128 128 (updR 192 256 (hv x w g) (hk x w lb g) (hG x w lb g)) := by
  unfold kernelRun0_A.sl.r_66
  rw [r_5, r_31 h]
  exact pay92_M

theorem r_35 (h : ∀ b < 512, 0 < lb 0 b ∧ lb 0 b < 1) :
    kernelRun0_A.sl.r_35 (F := Ideal) c arg2 harg2 arg3 harg3 arg4 harg4 arg5 harg5 arg23 arg24 (M .f32 256 1024 x) (M .f32 1 1024 g) (M .bf16 1024 2048 w) (M .f32 1 512 lb)
      = M .f32 128 128 (updR 0 128 (hv x w g) (hk x w lb g) (hG x w lb g)) := by
  unfold kernelRun0_A.sl.r_35
  rw [r_4, r_5, r_30 h]
  exact pay61_M

theorem r_45 (h : ∀ b < 512, 0 < lb 0 b ∧ lb 0 b < 1) :
    kernelRun0_A.sl.r_45 (F := Ideal) c arg2 harg2 arg3 harg3 arg4 harg4 arg5 harg5 arg23 arg24 (M .f32 256 1024 x) (M .f32 1 1024 g) (M .bf16 1024 2048 w) (M .f32 1 512 lb)
      = M .f32 128 128 (updR 64 128 (hv x w g) (hk x w lb g) (hG x w lb g)) := by
  unfold kernelRun0_A.sl.r_45
  rw [r_5, r_31 h]
  exact pay71_M

theorem r_54 (h : ∀ b < 512, 0 < lb 0 b ∧ lb 0 b < 1) :
    kernelRun0_A.sl.r_54 (F := Ideal) c arg2 harg2 arg3 harg3 arg4 harg4 arg5 harg5 arg23 arg24 (M .f32 256 1024 x) (M .f32 1 1024 g) (M .bf16 1024 2048 w) (M .f32 1 512 lb)
      = M .f32 128 128 (updR 128 128 (hv x w g) (hk x w lb g) (hG x w lb g)) := by
  unfold kernelRun0_A.sl.r_54
  rw [r_5, r_31 h]
  exact pay80_M

theorem r_63 (h : ∀ b < 512, 0 < lb 0 b ∧ lb 0 b < 1) :
    kernelRun0_A.sl.r_63 (F := Ideal) c arg2 harg2 arg3 harg3 arg4 harg4 arg5 harg5 arg23 arg24 (M .f32 256 1024 x) (M .f32 1 1024 g) (M .bf16 1024 2048 w) (M .f32 1 512 lb)
      = M .f32 128 128 (updR 192 128 (hv x w g) (hk x w lb g) (hG x w lb g)) := by
  unfold kernelRun0_A.sl.r_63
  rw [r_5, r_31 h]
  exact pay89_M

theorem r_61 (h : ∀ b < 512, 0 < lb 0 b ∧ lb 0 b < 1) :
    kernelRun0_A.sl.r_61 (F := Ideal) c arg2 harg2 arg3 harg3 arg4 harg4 arg5 harg5 arg23 arg24 (M .f32 256 1024 x) (M .f32 1 1024 g) (M .bf16 1024 2048 w) (M .f32 1 512 lb)
      = M .f32 128 128 (updR 192 0 (hv x w g) (hk x w lb g) (hG x w lb g)) := by
  unfold kernelRun0_A.sl.r_61
  rw [r_5, r_31 h]
  exact pay87_M

theorem r_33 (h : ∀ b < 512, 0 < lb 0 b ∧ lb 0 b < 1) :
    kernelRun0_A.sl.r_33 (F := Ideal) c arg2 harg2 arg3 harg3 arg4 harg4 arg5 harg5 arg23 arg24 (M .f32 256 1024 x) (M .f32 1 1024 g) (M .bf16 1024 2048 w) (M .f32 1 512 lb)
      = M .f32 128 128 (updR 0 0 (hv x w g) (hk x w lb g) (hG x w lb g)) := by
  unfold kernelRun0_A.sl.r_33
  rw [r_4, r_5, r_30 h]
  exact pay59_M

theorem r_42 (h : ∀ b < 512, 0 < lb 0 b ∧ lb 0 b < 1) :
    kernelRun0_A.sl.r_42 (F := Ideal) c arg2 harg2 arg3 harg3 arg4 harg4 arg5 harg5 arg23 arg24 (M .f32 256 1024 x) (M .f32 1 1024 g) (M .bf16 1024 2048 w) (M .f32 1 512 lb)
      = M .f32 128 128 (updR 64 0 (hv x w g) (hk x w lb g) (hG x w lb g)) := by
  unfold kernelRun0_A.sl.r_42
  rw [r_5, r_31 h]
  exact pay68_M

theorem r_52 (h : ∀ b < 512, 0 < lb 0 b ∧ lb 0 b < 1) :
    kernelRun0_A.sl.r_52 (F := Ideal) c arg2 harg2 arg3 harg3 arg4 harg4 arg5 harg5 arg23 arg24 (M .f32 256 1024 x) (M .f32 1 1024 g) (M .bf16 1024 2048 w) (M .f32 1 512 lb)
      = M .f32 128 128 (updR 128 0 (hv x w g) (hk x w lb g) (hG x w lb g)) := by
  unfold kernelRun0_A.sl.r_52
  rw [r_5, r_31 h]
  exact pay78_M

theorem HS0_1 :
    kernelRun0_A.sl.HS0_1 (F := Ideal) c arg7 harg7 (M3 .f32 4 128 128 S)
      = [⟨Rect.unit ![0, 0, 0] S4x128x128.size inb_S4x128x128_S4x128x128_0_0_0, M3 .f32 4 128 128 S⟩] := by
  unfold kernelRun0_A.sl.HS0_1
  rw [readAt_whole3, pay6_M]

theorem v612 :
    kernelRun0_A.sl.v612 (F := Ideal) c arg7 harg7 arg22 (M3 .f32 4 128 128 S)
      = M3 .f32 1 128 128 (fun _ => S 0) := by
  unfold kernelRun0_A.sl.v612
  rw [HS0_1]
  exact readCov_head _ _ _ _

theorem v615 (h : ∀ b < 512, 0 < lb 0 b ∧ lb 0 b < 1) :
    kernelRun0_A.sl.v615 (F := Ideal) c arg2 harg2 arg3 harg3 arg4 harg4 arg5 harg5 arg23 arg24 (M .f32 256 1024 x) (M .f32 1 1024 g) (M .bf16 1024 2048 w) (M .f32 1 512 lb)
      = M .f32 1 128 (sh 63 0 (hG x w lb g)) := by
  unfold kernelRun0_A.sl.v615
  rw [HS1_1 h]
  exact readCov_M _ _ _ _ _ _ _

theorem v621 (h : ∀ b < 512, 0 < lb 0 b ∧ lb 0 b < 1) :
    kernelRun0_A.sl.v621 (F := Ideal) c arg2 harg2 arg3 harg3 arg4 harg4 arg5 harg5 arg23 arg24 (M .f32 256 1024 x) (M .f32 1 1024 g) (M .bf16 1024 2048 w) (M .f32 1 512 lb)
      = M .f32 1 128 (sh 127 0 (hG x w lb g)) := by
  unfold kernelRun0_A.sl.v621
  rw [HS1_1 h]
  exact readCov_M _ _ _ _ _ _ _

theorem v627 (h : ∀ b < 512, 0 < lb 0 b ∧ lb 0 b < 1) :
    kernelRun0_A.sl.v627 (F := Ideal) c arg2 harg2 arg3 harg3 arg4 harg4 arg5 harg5 arg23 arg24 (M .f32 256 1024 x) (M .f32 1 1024 g) (M .bf16 1024 2048 w) (M .f32 1 512 lb)
      = M .f32 1 128 (sh 191 0 (hG x w lb g)) := by
  unfold kernelRun0_A.sl.v627
  rw [HS1_1 h]
  exact readCov_M _ _ _ _ _ _ _

theorem r_72 (h : ∀ b < 512, 0 < lb 0 b ∧ lb 0 b < 1) :
    kernelRun0_A.sl.r_72 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .f32 128 128 (hst x w lb g S 0 0 3) := by
  unfold kernelRun0_A.sl.r_72
  rw [r_33 h, r_42 h, r_52 h, v612, v615 h, v621 h, v627 h]
  exact pay101_M (f := fun _ => S 0)

theorem v633 (h : ∀ b < 512, 0 < lb 0 b ∧ lb 0 b < 1) :
    kernelRun0_A.sl.v633 (F := Ideal) c arg2 harg2 arg3 harg3 arg4 harg4 arg5 harg5 arg23 arg24 (M .f32 256 1024 x) (M .f32 1 1024 g) (M .bf16 1024 2048 w) (M .f32 1 512 lb)
      = M .f32 1 128 (sh 255 0 (hG x w lb g)) := by
  unfold kernelRun0_A.sl.v633
  rw [HS1_1 h]
  exact readCov_M _ _ _ _ _ _ _

theorem r_74 (h : ∀ b < 512, 0 < lb 0 b ∧ lb 0 b < 1) :
    kernelRun0_A.sl.r_74 (F := Ideal) c arg2 harg2 arg3 harg3 arg4 harg4 arg5 harg5 arg23 arg24 (M .f32 256 1024 x) (M .f32 1 1024 g) (M .bf16 1024 2048 w) (M .f32 1 512 lb)
      = M .f32 128 128 (fun _ b => Real.exp (sh 255 0 (hG x w lb g) 0 b)) := by
  unfold kernelRun0_A.sl.r_74
  rw [v633 h]
  exact pay103_M

theorem head_0 (h : ∀ b < 512, 0 < lb 0 b ∧ lb 0 b < 1) :
    k0_pay104 (kernelRun0_A.sl.r_61 c arg2 harg2 arg3 harg3 arg4 harg4 arg5 harg5 arg23 arg24 (M .f32 256 1024 x) (M .f32 1 1024 g) (M .bf16 1024 2048 w) (M .f32 1 512 lb)) (kernelRun0_A.sl.r_72 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.r_74 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 0 0 4) := by
  rw [r_61 h, r_72 h, r_74 h]
  exact pay104_M (f := fun _ => S 0)

theorem HS0_2 (h : ∀ b < 512, 0 < lb 0 b ∧ lb 0 b < 1) :
    kernelRun0_A.sl.HS0_2 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = ⟨Rect.unit ![0, 0, 0] S1x128x128.size inb_S4x128x128_S1x128x128_0_0_0, M3 .f32 1 128 128 (fun _ => hst x w lb g S 0 0 4)⟩ :: [⟨Rect.unit ![0, 0, 0] S4x128x128.size inb_S4x128x128_S4x128x128_0_0_0, M3 .f32 4 128 128 S⟩] := by
  unfold kernelRun0_A.sl.HS0_2
  rw [head_0 h, HS0_1]

theorem v641 (h : ∀ b < 512, 0 < lb 0 b ∧ lb 0 b < 1) :
    kernelRun0_A.sl.v641 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M3 .f32 1 128 128 (fun _ => S 1) := by
  unfold kernelRun0_A.sl.v641
  rw [HS0_2 h]
  refine (readCov_skip _ _ _ 1 0 (by decide) _ _ _ _).trans ?_
  exact readCov_head _ _ _ _

theorem v644 (h : ∀ b < 512, 0 < lb 0 b ∧ lb 0 b < 1) :
    kernelRun0_A.sl.v644 (F := Ideal) c arg2 harg2 arg3 harg3 arg4 harg4 arg5 harg5 arg23 arg24 (M .f32 256 1024 x) (M .f32 1 1024 g) (M .bf16 1024 2048 w) (M .f32 1 512 lb)
      = M .f32 1 128 (sh 63 128 (hG x w lb g)) := by
  unfold kernelRun0_A.sl.v644
  rw [HS1_1 h]
  exact readCov_M _ _ _ _ _ _ _

theorem v650 (h : ∀ b < 512, 0 < lb 0 b ∧ lb 0 b < 1) :
    kernelRun0_A.sl.v650 (F := Ideal) c arg2 harg2 arg3 harg3 arg4 harg4 arg5 harg5 arg23 arg24 (M .f32 256 1024 x) (M .f32 1 1024 g) (M .bf16 1024 2048 w) (M .f32 1 512 lb)
      = M .f32 1 128 (sh 127 128 (hG x w lb g)) := by
  unfold kernelRun0_A.sl.v650
  rw [HS1_1 h]
  exact readCov_M _ _ _ _ _ _ _

theorem v656 (h : ∀ b < 512, 0 < lb 0 b ∧ lb 0 b < 1) :
    kernelRun0_A.sl.v656 (F := Ideal) c arg2 harg2 arg3 harg3 arg4 harg4 arg5 harg5 arg23 arg24 (M .f32 256 1024 x) (M .f32 1 1024 g) (M .bf16 1024 2048 w) (M .f32 1 512 lb)
      = M .f32 1 128 (sh 191 128 (hG x w lb g)) := by
  unfold kernelRun0_A.sl.v656
  rw [HS1_1 h]
  exact readCov_M _ _ _ _ _ _ _

theorem v662 (h : ∀ b < 512, 0 < lb 0 b ∧ lb 0 b < 1) :
    kernelRun0_A.sl.v662 (F := Ideal) c arg2 harg2 arg3 harg3 arg4 harg4 arg5 harg5 arg23 arg24 (M .f32 256 1024 x) (M .f32 1 1024 g) (M .bf16 1024 2048 w) (M .f32 1 512 lb)
      = M .f32 1 128 (sh 255 128 (hG x w lb g)) := by
  unfold kernelRun0_A.sl.v662
  rw [HS1_1 h]
  exact readCov_M _ _ _ _ _ _ _

theorem head_1 (h : ∀ b < 512, 0 < lb 0 b ∧ lb 0 b < 1) :
    k0_pay113 (kernelRun0_A.sl.r_35 c arg2 harg2 arg3 harg3 arg4 harg4 arg5 harg5 arg23 arg24 (M .f32 256 1024 x) (M .f32 1 1024 g) (M .bf16 1024 2048 w) (M .f32 1 512 lb)) (kernelRun0_A.sl.r_45 c arg2 harg2 arg3 harg3 arg4 harg4 arg5 harg5 arg23 arg24 (M .f32 256 1024 x) (M .f32 1 1024 g) (M .bf16 1024 2048 w) (M .f32 1 512 lb)) (kernelRun0_A.sl.r_54 c arg2 harg2 arg3 harg3 arg4 harg4 arg5 harg5 arg23 arg24 (M .f32 256 1024 x) (M .f32 1 1024 g) (M .bf16 1024 2048 w) (M .f32 1 512 lb)) (kernelRun0_A.sl.r_63 c arg2 harg2 arg3 harg3 arg4 harg4 arg5 harg5 arg23 arg24 (M .f32 256 1024 x) (M .f32 1 1024 g) (M .bf16 1024 2048 w) (M .f32 1 512 lb)) (kernelRun0_A.sl.v641 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v644 c arg2 harg2 arg3 harg3 arg4 harg4 arg5 harg5 arg23 arg24 (M .f32 256 1024 x) (M .f32 1 1024 g) (M .bf16 1024 2048 w) (M .f32 1 512 lb)) (kernelRun0_A.sl.v650 c arg2 harg2 arg3 harg3 arg4 harg4 arg5 harg5 arg23 arg24 (M .f32 256 1024 x) (M .f32 1 1024 g) (M .bf16 1024 2048 w) (M .f32 1 512 lb)) (kernelRun0_A.sl.v656 c arg2 harg2 arg3 harg3 arg4 harg4 arg5 harg5 arg23 arg24 (M .f32 256 1024 x) (M .f32 1 1024 g) (M .bf16 1024 2048 w) (M .f32 1 512 lb)) (kernelRun0_A.sl.v662 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 128 1 4) := by
  rw [r_35 h, r_45 h, r_54 h, r_63 h, v641 h, v644 h, v650 h, v656 h, v662 h]
  exact pay113_M (f := fun _ => S 1)

theorem HS0_3 (h : ∀ b < 512, 0 < lb 0 b ∧ lb 0 b < 1) :
    kernelRun0_A.sl.HS0_3 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = ⟨Rect.unit ![1, 0, 0] S1x128x128.size inb_S4x128x128_S1x128x128_1_0_0, M3 .f32 1 128 128 (fun _ => hst x w lb g S 128 1 4)⟩ :: ⟨Rect.unit ![0, 0, 0] S1x128x128.size inb_S4x128x128_S1x128x128_0_0_0, M3 .f32 1 128 128 (fun _ => hst x w lb g S 0 0 4)⟩ :: [⟨Rect.unit ![0, 0, 0] S4x128x128.size inb_S4x128x128_S4x128x128_0_0_0, M3 .f32 4 128 128 S⟩] := by
  unfold kernelRun0_A.sl.HS0_3
  rw [head_1 h, HS0_2 h]

theorem v670 (h : ∀ b < 512, 0 < lb 0 b ∧ lb 0 b < 1) :
    kernelRun0_A.sl.v670 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M3 .f32 1 128 128 (fun _ => S 2) := by
  unfold kernelRun0_A.sl.v670
  rw [HS0_3 h]
  refine (readCov_skip _ _ _ 2 1 (by decide) _ _ _ _).trans ?_
  refine (readCov_skip _ _ _ 2 0 (by decide) _ _ _ _).trans ?_
  exact readCov_head _ _ _ _

theorem r_79 (h : ∀ b < 512, 0 < lb 0 b ∧ lb 0 b < 1) :
    kernelRun0_A.sl.r_79 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .f32 128 128 (hst x w lb g S 256 2 0) := by
  unfold kernelRun0_A.sl.r_79
  rw [v670 h]
  exact pay114_M (f := fun _ => S 2)

theorem v673 (h : ∀ b < 512, 0 < lb 0 b ∧ lb 0 b < 1) :
    kernelRun0_A.sl.v673 (F := Ideal) c arg2 harg2 arg3 harg3 arg4 harg4 arg5 harg5 arg23 arg24 (M .f32 256 1024 x) (M .f32 1 1024 g) (M .bf16 1024 2048 w) (M .f32 1 512 lb)
      = M .f32 1 128 (sh 63 256 (hG x w lb g)) := by
  unfold kernelRun0_A.sl.v673
  rw [HS1_1 h]
  exact readCov_M _ _ _ _ _ _ _

theorem v679 (h : ∀ b < 512, 0 < lb 0 b ∧ lb 0 b < 1) :
    kernelRun0_A.sl.v679 (F := Ideal) c arg2 harg2 arg3 harg3 arg4 harg4 arg5 harg5 arg23 arg24 (M .f32 256 1024 x) (M .f32 1 1024 g) (M .bf16 1024 2048 w) (M .f32 1 512 lb)
      = M .f32 1 128 (sh 127 256 (hG x w lb g)) := by
  unfold kernelRun0_A.sl.v679
  rw [HS1_1 h]
  exact readCov_M _ _ _ _ _ _ _

theorem v685 (h : ∀ b < 512, 0 < lb 0 b ∧ lb 0 b < 1) :
    kernelRun0_A.sl.v685 (F := Ideal) c arg2 harg2 arg3 harg3 arg4 harg4 arg5 harg5 arg23 arg24 (M .f32 256 1024 x) (M .f32 1 1024 g) (M .bf16 1024 2048 w) (M .f32 1 512 lb)
      = M .f32 1 128 (sh 191 256 (hG x w lb g)) := by
  unfold kernelRun0_A.sl.v685
  rw [HS1_1 h]
  exact readCov_M _ _ _ _ _ _ _

theorem v691 (h : ∀ b < 512, 0 < lb 0 b ∧ lb 0 b < 1) :
    kernelRun0_A.sl.v691 (F := Ideal) c arg2 harg2 arg3 harg3 arg4 harg4 arg5 harg5 arg23 arg24 (M .f32 256 1024 x) (M .f32 1 1024 g) (M .bf16 1024 2048 w) (M .f32 1 512 lb)
      = M .f32 1 128 (sh 255 256 (hG x w lb g)) := by
  unfold kernelRun0_A.sl.v691
  rw [HS1_1 h]
  exact readCov_M _ _ _ _ _ _ _

theorem head_2 (h : ∀ b < 512, 0 < lb 0 b ∧ lb 0 b < 1) :
    k0_pay122 (kernelRun0_A.sl.r_38 c arg2 harg2 arg3 harg3 arg4 harg4 arg5 harg5 arg23 arg24 (M .f32 256 1024 x) (M .f32 1 1024 g) (M .bf16 1024 2048 w) (M .f32 1 512 lb)) (kernelRun0_A.sl.r_47 c arg2 harg2 arg3 harg3 arg4 harg4 arg5 harg5 arg23 arg24 (M .f32 256 1024 x) (M .f32 1 1024 g) (M .bf16 1024 2048 w) (M .f32 1 512 lb)) (kernelRun0_A.sl.r_56 c arg2 harg2 arg3 harg3 arg4 harg4 arg5 harg5 arg23 arg24 (M .f32 256 1024 x) (M .f32 1 1024 g) (M .bf16 1024 2048 w) (M .f32 1 512 lb)) (kernelRun0_A.sl.r_66 c arg2 harg2 arg3 harg3 arg4 harg4 arg5 harg5 arg23 arg24 (M .f32 256 1024 x) (M .f32 1 1024 g) (M .bf16 1024 2048 w) (M .f32 1 512 lb)) (kernelRun0_A.sl.r_79 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v673 c arg2 harg2 arg3 harg3 arg4 harg4 arg5 harg5 arg23 arg24 (M .f32 256 1024 x) (M .f32 1 1024 g) (M .bf16 1024 2048 w) (M .f32 1 512 lb)) (kernelRun0_A.sl.v679 c arg2 harg2 arg3 harg3 arg4 harg4 arg5 harg5 arg23 arg24 (M .f32 256 1024 x) (M .f32 1 1024 g) (M .bf16 1024 2048 w) (M .f32 1 512 lb)) (kernelRun0_A.sl.v685 c arg2 harg2 arg3 harg3 arg4 harg4 arg5 harg5 arg23 arg24 (M .f32 256 1024 x) (M .f32 1 1024 g) (M .bf16 1024 2048 w) (M .f32 1 512 lb)) (kernelRun0_A.sl.v691 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 256 2 4) := by
  rw [r_38 h, r_47 h, r_56 h, r_66 h, r_79 h, v673 h, v679 h, v685 h, v691 h]
  exact pay122_M (f := fun _ => S 2)

theorem HS0_4 (h : ∀ b < 512, 0 < lb 0 b ∧ lb 0 b < 1) :
    kernelRun0_A.sl.HS0_4 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = ⟨Rect.unit ![2, 0, 0] S1x128x128.size inb_S4x128x128_S1x128x128_2_0_0, M3 .f32 1 128 128 (fun _ => hst x w lb g S 256 2 4)⟩ :: ⟨Rect.unit ![1, 0, 0] S1x128x128.size inb_S4x128x128_S1x128x128_1_0_0, M3 .f32 1 128 128 (fun _ => hst x w lb g S 128 1 4)⟩ :: ⟨Rect.unit ![0, 0, 0] S1x128x128.size inb_S4x128x128_S1x128x128_0_0_0, M3 .f32 1 128 128 (fun _ => hst x w lb g S 0 0 4)⟩ :: [⟨Rect.unit ![0, 0, 0] S4x128x128.size inb_S4x128x128_S4x128x128_0_0_0, M3 .f32 4 128 128 S⟩] := by
  unfold kernelRun0_A.sl.HS0_4
  rw [head_2 h, HS0_3 h]

theorem v699 (h : ∀ b < 512, 0 < lb 0 b ∧ lb 0 b < 1) :
    kernelRun0_A.sl.v699 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M3 .f32 1 128 128 (fun _ => S 3) := by
  unfold kernelRun0_A.sl.v699
  rw [HS0_4 h]
  refine (readCov_skip _ _ _ 3 2 (by decide) _ _ _ _).trans ?_
  refine (readCov_skip _ _ _ 3 1 (by decide) _ _ _ _).trans ?_
  refine (readCov_skip _ _ _ 3 0 (by decide) _ _ _ _).trans ?_
  exact readCov_head _ _ _ _

theorem v702 (h : ∀ b < 512, 0 < lb 0 b ∧ lb 0 b < 1) :
    kernelRun0_A.sl.v702 (F := Ideal) c arg2 harg2 arg3 harg3 arg4 harg4 arg5 harg5 arg23 arg24 (M .f32 256 1024 x) (M .f32 1 1024 g) (M .bf16 1024 2048 w) (M .f32 1 512 lb)
      = M .f32 1 128 (sh 63 384 (hG x w lb g)) := by
  unfold kernelRun0_A.sl.v702
  rw [HS1_1 h]
  exact readCov_M _ _ _ _ _ _ _

theorem v708 (h : ∀ b < 512, 0 < lb 0 b ∧ lb 0 b < 1) :
    kernelRun0_A.sl.v708 (F := Ideal) c arg2 harg2 arg3 harg3 arg4 harg4 arg5 harg5 arg23 arg24 (M .f32 256 1024 x) (M .f32 1 1024 g) (M .bf16 1024 2048 w) (M .f32 1 512 lb)
      = M .f32 1 128 (sh 127 384 (hG x w lb g)) := by
  unfold kernelRun0_A.sl.v708
  rw [HS1_1 h]
  exact readCov_M _ _ _ _ _ _ _

theorem r_86 (h : ∀ b < 512, 0 < lb 0 b ∧ lb 0 b < 1) :
    kernelRun0_A.sl.r_86 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .f32 128 128 (hst x w lb g S 384 3 2) := by
  unfold kernelRun0_A.sl.r_86
  rw [r_40 h, r_49 h, v699 h, v702 h, v708 h]
  exact pay127_M (f := fun _ => S 3)

theorem v714 (h : ∀ b < 512, 0 < lb 0 b ∧ lb 0 b < 1) :
    kernelRun0_A.sl.v714 (F := Ideal) c arg2 harg2 arg3 harg3 arg4 harg4 arg5 harg5 arg23 arg24 (M .f32 256 1024 x) (M .f32 1 1024 g) (M .bf16 1024 2048 w) (M .f32 1 512 lb)
      = M .f32 1 128 (sh 191 384 (hG x w lb g)) := by
  unfold kernelRun0_A.sl.v714
  rw [HS1_1 h]
  exact readCov_M _ _ _ _ _ _ _

theorem r_88 (h : ∀ b < 512, 0 < lb 0 b ∧ lb 0 b < 1) :
    kernelRun0_A.sl.r_88 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 384 3 3) := by
  unfold kernelRun0_A.sl.r_88
  rw [r_59 h, r_86 h, v714 h]
  exact pay130_M (f := fun _ => S 3)

theorem v1163 :
    kernelRun0_A.sl.v1163 (F := Ideal) c arg2 harg2 arg3 harg3 arg4 harg4 arg24 (M .f32 256 1024 x) (M .f32 1 1024 g) (M .bf16 1024 2048 w)
      = M .f32 64 128 (sh 192 1920 (projR x g w)) := by
  unfold kernelRun0_A.sl.v1163
  rw [HS2_1]
  exact readCov_M _ _ _ _ _ _ _

theorem r_2 :
    kernelRun0_A.sl.r_2 (F := Ideal) c arg6 harg6 (M .f32 1 512 ng)
      = M .f32 1 512 ng := by
  unfold kernelRun0_A.sl.r_2
  rw [readAt_whole, pay11_M]

theorem r_83 (h : ∀ b < 512, 0 < lb 0 b ∧ lb 0 b < 1) :
    kernelRun0_A.sl.r_83 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 256 2 3) := by
  unfold kernelRun0_A.sl.r_83
  rw [r_38 h, r_47 h, r_56 h, r_79 h, v673 h, v679 h, v685 h]
  exact pay121_M (f := fun _ => S 2)

theorem r_64 (h : ∀ b < 512, 0 < lb 0 b ∧ lb 0 b < 1) :
    kernelRun0_A.sl.r_64 (F := Ideal) c arg2 harg2 arg3 harg3 arg4 harg4 arg5 harg5 arg23 arg24 (M .f32 256 1024 x) (M .f32 1 1024 g) (M .bf16 1024 2048 w) (M .f32 1 512 lb)
      = M .f32 64 64 (probsR 192 256 (hq x w g) (hk x w lb g) (hG x w lb g)) := by
  unfold kernelRun0_A.sl.r_64
  rw [r_18 h, r_19 h, r_20 h, r_22 h, r_23 h, r_24 h, r_27 h, r_28 h]
  exact pay90_M

theorem r_65 (h : ∀ b < 512, 0 < lb 0 b ∧ lb 0 b < 1) :
    kernelRun0_A.sl.r_65 (F := Ideal) c arg2 harg2 arg3 harg3 arg4 harg4 arg5 harg5 arg23 arg24 (M .f32 256 1024 x) (M .f32 1 1024 g) (M .bf16 1024 2048 w) (M .f32 1 512 lb)
      = M .bf16 64 64 (probsR 192 256 (hq x w g) (hk x w lb g) (hG x w lb g)) := by
  unfold kernelRun0_A.sl.r_65
  rw [r_64 h]
  rfl

theorem v1135 :
    kernelRun0_A.sl.v1135 (F := Ideal) c arg2 harg2 arg3 harg3 arg4 harg4 arg24 (M .f32 256 1024 x) (M .f32 1 1024 g) (M .bf16 1024 2048 w)
      = M .f32 64 128 (sh 192 1792 (projR x g w)) := by
  unfold kernelRun0_A.sl.v1135
  rw [HS2_1]
  exact readCov_M _ _ _ _ _ _ _

theorem r_62 (h : ∀ b < 512, 0 < lb 0 b ∧ lb 0 b < 1) :
    kernelRun0_A.sl.r_62 (F := Ideal) c arg2 harg2 arg3 harg3 arg4 harg4 arg5 harg5 arg23 arg24 (M .f32 256 1024 x) (M .f32 1 1024 g) (M .bf16 1024 2048 w) (M .f32 1 512 lb)
      = M .bf16 64 64 (probsR 192 128 (hq x w g) (hk x w lb g) (hG x w lb g)) := by
  unfold kernelRun0_A.sl.r_62
  rw [r_18 h, r_19 h, r_20 h, r_22 h, r_23 h, r_24 h, r_27 h, r_28 h]
  exact pay88_M

theorem r_78 (h : ∀ b < 512, 0 < lb 0 b ∧ lb 0 b < 1) :
    kernelRun0_A.sl.r_78 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 128 1 3) := by
  unfold kernelRun0_A.sl.r_78
  rw [r_35 h, r_45 h, r_54 h, v641 h, v644 h, v650 h, v656 h]
  exact pay112_M (f := fun _ => S 1)

theorem v1107 :
    kernelRun0_A.sl.v1107 (F := Ideal) c arg2 harg2 arg3 harg3 arg4 harg4 arg24 (M .f32 256 1024 x) (M .f32 1 1024 g) (M .bf16 1024 2048 w)
      = M .f32 64 128 (sh 192 1664 (projR x g w)) := by
  unfold kernelRun0_A.sl.v1107
  rw [HS2_1]
  exact readCov_M _ _ _ _ _ _ _

theorem v1079 :
    kernelRun0_A.sl.v1079 (F := Ideal) c arg2 harg2 arg3 harg3 arg4 harg4 arg24 (M .f32 256 1024 x) (M .f32 1 1024 g) (M .bf16 1024 2048 w)
      = M .f32 64 128 (sh 192 1536 (projR x g w)) := by
  unfold kernelRun0_A.sl.v1079
  rw [HS2_1]
  exact readCov_M _ _ _ _ _ _ _

theorem r_60 (h : ∀ b < 512, 0 < lb 0 b ∧ lb 0 b < 1) :
    kernelRun0_A.sl.r_60 (F := Ideal) c arg2 harg2 arg3 harg3 arg4 harg4 arg5 harg5 arg23 arg24 (M .f32 256 1024 x) (M .f32 1 1024 g) (M .bf16 1024 2048 w) (M .f32 1 512 lb)
      = M .bf16 64 64 (probsR 192 0 (hq x w g) (hk x w lb g) (hG x w lb g)) := by
  unfold kernelRun0_A.sl.r_60
  rw [r_18 h, r_19 h, r_20 h, r_22 h, r_23 h, r_24 h, r_27 h, r_28 h]
  exact pay86_M

theorem r_73 (h : ∀ b < 512, 0 < lb 0 b ∧ lb 0 b < 1) :
    kernelRun0_A.sl.r_73 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 0 0 3) := by
  unfold kernelRun0_A.sl.r_73
  rw [r_33 h, r_42 h, r_52 h, v612, v615 h, v621 h, v627 h]
  exact pay102_M (f := fun _ => S 0)

theorem r_57 (h : ∀ b < 512, 0 < lb 0 b ∧ lb 0 b < 1) :
    kernelRun0_A.sl.r_57 (F := Ideal) c arg2 harg2 arg3 harg3 arg4 harg4 arg5 harg5 arg23 arg24 (M .f32 256 1024 x) (M .f32 1 1024 g) (M .bf16 1024 2048 w) (M .f32 1 512 lb)
      = M .f32 64 64 (probsR 128 384 (hq x w g) (hk x w lb g) (hG x w lb g)) := by
  unfold kernelRun0_A.sl.r_57
  rw [r_18 h, r_19 h, r_20 h, r_22 h, r_23 h, r_24 h, r_27 h, r_28 h]
  exact pay83_M

theorem r_58 (h : ∀ b < 512, 0 < lb 0 b ∧ lb 0 b < 1) :
    kernelRun0_A.sl.r_58 (F := Ideal) c arg2 harg2 arg3 harg3 arg4 harg4 arg5 harg5 arg23 arg24 (M .f32 256 1024 x) (M .f32 1 1024 g) (M .bf16 1024 2048 w) (M .f32 1 512 lb)
      = M .bf16 64 64 (probsR 128 384 (hq x w g) (hk x w lb g) (hG x w lb g)) := by
  unfold kernelRun0_A.sl.r_58
  rw [r_57 h]
  rfl

theorem r_87 (h : ∀ b < 512, 0 < lb 0 b ∧ lb 0 b < 1) :
    kernelRun0_A.sl.r_87 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 384 3 2) := by
  unfold kernelRun0_A.sl.r_87
  rw [r_40 h, r_49 h, v699 h, v702 h, v708 h]
  exact pay128_M (f := fun _ => S 3)

theorem v1051 :
    kernelRun0_A.sl.v1051 (F := Ideal) c arg2 harg2 arg3 harg3 arg4 harg4 arg24 (M .f32 256 1024 x) (M .f32 1 1024 g) (M .bf16 1024 2048 w)
      = M .f32 64 128 (sh 128 1920 (projR x g w)) := by
  unfold kernelRun0_A.sl.v1051
  rw [HS2_1]
  exact readCov_M _ _ _ _ _ _ _

theorem r_55 (h : ∀ b < 512, 0 < lb 0 b ∧ lb 0 b < 1) :
    kernelRun0_A.sl.r_55 (F := Ideal) c arg2 harg2 arg3 harg3 arg4 harg4 arg5 harg5 arg23 arg24 (M .f32 256 1024 x) (M .f32 1 1024 g) (M .bf16 1024 2048 w) (M .f32 1 512 lb)
      = M .bf16 64 64 (probsR 128 256 (hq x w g) (hk x w lb g) (hG x w lb g)) := by
  unfold kernelRun0_A.sl.r_55
  rw [r_18 h, r_19 h, r_20 h, r_22 h, r_23 h, r_24 h, r_27 h, r_28 h]
  exact pay81_M

theorem r_82 (h : ∀ b < 512, 0 < lb 0 b ∧ lb 0 b < 1) :
    kernelRun0_A.sl.r_82 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 256 2 2) := by
  unfold kernelRun0_A.sl.r_82
  rw [r_38 h, r_47 h, r_79 h, v673 h, v679 h]
  exact pay119_M (f := fun _ => S 2)

theorem v1023 :
    kernelRun0_A.sl.v1023 (F := Ideal) c arg2 harg2 arg3 harg3 arg4 harg4 arg24 (M .f32 256 1024 x) (M .f32 1 1024 g) (M .bf16 1024 2048 w)
      = M .f32 64 128 (sh 128 1792 (projR x g w)) := by
  unfold kernelRun0_A.sl.v1023
  rw [HS2_1]
  exact readCov_M _ _ _ _ _ _ _

theorem r_53 (h : ∀ b < 512, 0 < lb 0 b ∧ lb 0 b < 1) :
    kernelRun0_A.sl.r_53 (F := Ideal) c arg2 harg2 arg3 harg3 arg4 harg4 arg5 harg5 arg23 arg24 (M .f32 256 1024 x) (M .f32 1 1024 g) (M .bf16 1024 2048 w) (M .f32 1 512 lb)
      = M .bf16 64 64 (probsR 128 128 (hq x w g) (hk x w lb g) (hG x w lb g)) := by
  unfold kernelRun0_A.sl.r_53
  rw [r_18 h, r_19 h, r_20 h, r_22 h, r_23 h, r_24 h, r_27 h, r_28 h]
  exact pay79_M

theorem r_77 (h : ∀ b < 512, 0 < lb 0 b ∧ lb 0 b < 1) :
    kernelRun0_A.sl.r_77 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 128 1 2) := by
  unfold kernelRun0_A.sl.r_77
  rw [r_35 h, r_45 h, v641 h, v644 h, v650 h]
  exact pay110_M (f := fun _ => S 1)

theorem v995 :
    kernelRun0_A.sl.v995 (F := Ideal) c arg2 harg2 arg3 harg3 arg4 harg4 arg24 (M .f32 256 1024 x) (M .f32 1 1024 g) (M .bf16 1024 2048 w)
      = M .f32 64 128 (sh 128 1664 (projR x g w)) := by
  unfold kernelRun0_A.sl.v995
  rw [HS2_1]
  exact readCov_M _ _ _ _ _ _ _

theorem r_50 (h : ∀ b < 512, 0 < lb 0 b ∧ lb 0 b < 1) :
    kernelRun0_A.sl.r_50 (F := Ideal) c arg2 harg2 arg3 harg3 arg4 harg4 arg5 harg5 arg23 arg24 (M .f32 256 1024 x) (M .f32 1 1024 g) (M .bf16 1024 2048 w) (M .f32 1 512 lb)
      = M .f32 64 64 (probsR 128 0 (hq x w g) (hk x w lb g) (hG x w lb g)) := by
  unfold kernelRun0_A.sl.r_50
  rw [r_18 h, r_19 h, r_20 h, r_22 h, r_23 h, r_24 h, r_27 h, r_28 h]
  exact pay76_M

theorem r_51 (h : ∀ b < 512, 0 < lb 0 b ∧ lb 0 b < 1) :
    kernelRun0_A.sl.r_51 (F := Ideal) c arg2 harg2 arg3 harg3 arg4 harg4 arg5 harg5 arg23 arg24 (M .f32 256 1024 x) (M .f32 1 1024 g) (M .bf16 1024 2048 w) (M .f32 1 512 lb)
      = M .bf16 64 64 (probsR 128 0 (hq x w g) (hk x w lb g) (hG x w lb g)) := by
  unfold kernelRun0_A.sl.r_51
  rw [r_50 h]
  rfl

theorem r_71 (h : ∀ b < 512, 0 < lb 0 b ∧ lb 0 b < 1) :
    kernelRun0_A.sl.r_71 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 0 0 2) := by
  unfold kernelRun0_A.sl.r_71
  rw [r_33 h, r_42 h, v612, v615 h, v621 h]
  exact pay100_M (f := fun _ => S 0)

theorem v967 :
    kernelRun0_A.sl.v967 (F := Ideal) c arg2 harg2 arg3 harg3 arg4 harg4 arg24 (M .f32 256 1024 x) (M .f32 1 1024 g) (M .bf16 1024 2048 w)
      = M .f32 64 128 (sh 128 1536 (projR x g w)) := by
  unfold kernelRun0_A.sl.v967
  rw [HS2_1]
  exact readCov_M _ _ _ _ _ _ _

theorem r_48 (h : ∀ b < 512, 0 < lb 0 b ∧ lb 0 b < 1) :
    kernelRun0_A.sl.r_48 (F := Ideal) c arg2 harg2 arg3 harg3 arg4 harg4 arg5 harg5 arg23 arg24 (M .f32 256 1024 x) (M .f32 1 1024 g) (M .bf16 1024 2048 w) (M .f32 1 512 lb)
      = M .bf16 64 64 (probsR 64 384 (hq x w g) (hk x w lb g) (hG x w lb g)) := by
  unfold kernelRun0_A.sl.r_48
  rw [r_18 h, r_19 h, r_20 h, r_22 h, r_23 h, r_24 h, r_27 h, r_28 h]
  exact pay74_M

theorem r_85 (h : ∀ b < 512, 0 < lb 0 b ∧ lb 0 b < 1) :
    kernelRun0_A.sl.r_85 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 384 3 1) := by
  unfold kernelRun0_A.sl.r_85
  rw [r_40 h, v699 h, v702 h]
  exact pay126_M (f := fun _ => S 3)

theorem v939 :
    kernelRun0_A.sl.v939 (F := Ideal) c arg2 harg2 arg3 harg3 arg4 harg4 arg24 (M .f32 256 1024 x) (M .f32 1 1024 g) (M .bf16 1024 2048 w)
      = M .f32 64 128 (sh 64 1920 (projR x g w)) := by
  unfold kernelRun0_A.sl.v939
  rw [HS2_1]
  exact readCov_M _ _ _ _ _ _ _

theorem r_46 (h : ∀ b < 512, 0 < lb 0 b ∧ lb 0 b < 1) :
    kernelRun0_A.sl.r_46 (F := Ideal) c arg2 harg2 arg3 harg3 arg4 harg4 arg5 harg5 arg23 arg24 (M .f32 256 1024 x) (M .f32 1 1024 g) (M .bf16 1024 2048 w) (M .f32 1 512 lb)
      = M .bf16 64 64 (probsR 64 256 (hq x w g) (hk x w lb g) (hG x w lb g)) := by
  unfold kernelRun0_A.sl.r_46
  rw [r_18 h, r_19 h, r_20 h, r_22 h, r_23 h, r_24 h, r_27 h, r_28 h]
  exact pay72_M

theorem r_81 (h : ∀ b < 512, 0 < lb 0 b ∧ lb 0 b < 1) :
    kernelRun0_A.sl.r_81 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 256 2 1) := by
  unfold kernelRun0_A.sl.r_81
  rw [r_38 h, r_79 h, v673 h]
  exact pay117_M (f := fun _ => S 2)

theorem v911 :
    kernelRun0_A.sl.v911 (F := Ideal) c arg2 harg2 arg3 harg3 arg4 harg4 arg24 (M .f32 256 1024 x) (M .f32 1 1024 g) (M .bf16 1024 2048 w)
      = M .f32 64 128 (sh 64 1792 (projR x g w)) := by
  unfold kernelRun0_A.sl.v911
  rw [HS2_1]
  exact readCov_M _ _ _ _ _ _ _

theorem r_43 (h : ∀ b < 512, 0 < lb 0 b ∧ lb 0 b < 1) :
    kernelRun0_A.sl.r_43 (F := Ideal) c arg2 harg2 arg3 harg3 arg4 harg4 arg5 harg5 arg23 arg24 (M .f32 256 1024 x) (M .f32 1 1024 g) (M .bf16 1024 2048 w) (M .f32 1 512 lb)
      = M .f32 64 64 (probsR 64 128 (hq x w g) (hk x w lb g) (hG x w lb g)) := by
  unfold kernelRun0_A.sl.r_43
  rw [r_18 h, r_19 h, r_20 h, r_22 h, r_23 h, r_24 h, r_27 h, r_28 h]
  exact pay69_M

theorem r_44 (h : ∀ b < 512, 0 < lb 0 b ∧ lb 0 b < 1) :
    kernelRun0_A.sl.r_44 (F := Ideal) c arg2 harg2 arg3 harg3 arg4 harg4 arg5 harg5 arg23 arg24 (M .f32 256 1024 x) (M .f32 1 1024 g) (M .bf16 1024 2048 w) (M .f32 1 512 lb)
      = M .bf16 64 64 (probsR 64 128 (hq x w g) (hk x w lb g) (hG x w lb g)) := by
  unfold kernelRun0_A.sl.r_44
  rw [r_43 h]
  rfl

theorem r_76 (h : ∀ b < 512, 0 < lb 0 b ∧ lb 0 b < 1) :
    kernelRun0_A.sl.r_76 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 128 1 1) := by
  unfold kernelRun0_A.sl.r_76
  rw [r_35 h, v641 h, v644 h]
  exact pay108_M (f := fun _ => S 1)

theorem v883 :
    kernelRun0_A.sl.v883 (F := Ideal) c arg2 harg2 arg3 harg3 arg4 harg4 arg24 (M .f32 256 1024 x) (M .f32 1 1024 g) (M .bf16 1024 2048 w)
      = M .f32 64 128 (sh 64 1664 (projR x g w)) := by
  unfold kernelRun0_A.sl.v883
  rw [HS2_1]
  exact readCov_M _ _ _ _ _ _ _

theorem r_41 (h : ∀ b < 512, 0 < lb 0 b ∧ lb 0 b < 1) :
    kernelRun0_A.sl.r_41 (F := Ideal) c arg2 harg2 arg3 harg3 arg4 harg4 arg5 harg5 arg23 arg24 (M .f32 256 1024 x) (M .f32 1 1024 g) (M .bf16 1024 2048 w) (M .f32 1 512 lb)
      = M .bf16 64 64 (probsR 64 0 (hq x w g) (hk x w lb g) (hG x w lb g)) := by
  unfold kernelRun0_A.sl.r_41
  rw [r_18 h, r_19 h, r_20 h, r_22 h, r_23 h, r_24 h, r_27 h, r_28 h]
  exact pay67_M

theorem r_70 (h : ∀ b < 512, 0 < lb 0 b ∧ lb 0 b < 1) :
    kernelRun0_A.sl.r_70 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 0 0 1) := by
  unfold kernelRun0_A.sl.r_70
  rw [r_33 h, v612, v615 h]
  exact pay98_M (f := fun _ => S 0)

theorem v855 :
    kernelRun0_A.sl.v855 (F := Ideal) c arg2 harg2 arg3 harg3 arg4 harg4 arg24 (M .f32 256 1024 x) (M .f32 1 1024 g) (M .bf16 1024 2048 w)
      = M .f32 64 128 (sh 64 1536 (projR x g w)) := by
  unfold kernelRun0_A.sl.v855
  rw [HS2_1]
  exact readCov_M _ _ _ _ _ _ _

theorem r_39 (h : ∀ b < 512, 0 < lb 0 b ∧ lb 0 b < 1) :
    kernelRun0_A.sl.r_39 (F := Ideal) c arg2 harg2 arg3 harg3 arg4 harg4 arg5 harg5 arg23 arg24 (M .f32 256 1024 x) (M .f32 1 1024 g) (M .bf16 1024 2048 w) (M .f32 1 512 lb)
      = M .bf16 64 64 (probsR 0 384 (hq x w g) (hk x w lb g) (hG x w lb g)) := by
  unfold kernelRun0_A.sl.r_39
  rw [r_18 h, r_19 h, r_20 h, r_22 h, r_23 h, r_24 h, r_27 h, r_28 h]
  exact pay65_M

theorem r_84 (h : ∀ b < 512, 0 < lb 0 b ∧ lb 0 b < 1) :
    kernelRun0_A.sl.r_84 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 384 3 0) := by
  unfold kernelRun0_A.sl.r_84
  rw [v699 h]
  exact pay124_M (f := fun _ => S 3)

theorem v827 :
    kernelRun0_A.sl.v827 (F := Ideal) c arg2 harg2 arg3 harg3 arg4 harg4 arg24 (M .f32 256 1024 x) (M .f32 1 1024 g) (M .bf16 1024 2048 w)
      = M .f32 64 128 (sh 0 1920 (projR x g w)) := by
  unfold kernelRun0_A.sl.v827
  rw [HS2_1]
  exact readCov_M _ _ _ _ _ _ _

theorem r_36 (h : ∀ b < 512, 0 < lb 0 b ∧ lb 0 b < 1) :
    kernelRun0_A.sl.r_36 (F := Ideal) c arg2 harg2 arg3 harg3 arg4 harg4 arg5 harg5 arg23 arg24 (M .f32 256 1024 x) (M .f32 1 1024 g) (M .bf16 1024 2048 w) (M .f32 1 512 lb)
      = M .f32 64 64 (probsR 0 256 (hq x w g) (hk x w lb g) (hG x w lb g)) := by
  unfold kernelRun0_A.sl.r_36
  rw [r_18 h, r_19 h, r_20 h, r_22 h, r_23 h, r_24 h, r_27 h, r_28 h]
  exact pay62_M

theorem r_37 (h : ∀ b < 512, 0 < lb 0 b ∧ lb 0 b < 1) :
    kernelRun0_A.sl.r_37 (F := Ideal) c arg2 harg2 arg3 harg3 arg4 harg4 arg5 harg5 arg23 arg24 (M .f32 256 1024 x) (M .f32 1 1024 g) (M .bf16 1024 2048 w) (M .f32 1 512 lb)
      = M .bf16 64 64 (probsR 0 256 (hq x w g) (hk x w lb g) (hG x w lb g)) := by
  unfold kernelRun0_A.sl.r_37
  rw [r_36 h]
  rfl

theorem r_80 (h : ∀ b < 512, 0 < lb 0 b ∧ lb 0 b < 1) :
    kernelRun0_A.sl.r_80 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 256 2 0) := by
  unfold kernelRun0_A.sl.r_80
  rw [v670 h]
  exact pay115_M (f := fun _ => S 2)

theorem v799 :
    kernelRun0_A.sl.v799 (F := Ideal) c arg2 harg2 arg3 harg3 arg4 harg4 arg24 (M .f32 256 1024 x) (M .f32 1 1024 g) (M .bf16 1024 2048 w)
      = M .f32 64 128 (sh 0 1792 (projR x g w)) := by
  unfold kernelRun0_A.sl.v799
  rw [HS2_1]
  exact readCov_M _ _ _ _ _ _ _

theorem r_34 (h : ∀ b < 512, 0 < lb 0 b ∧ lb 0 b < 1) :
    kernelRun0_A.sl.r_34 (F := Ideal) c arg2 harg2 arg3 harg3 arg4 harg4 arg5 harg5 arg23 arg24 (M .f32 256 1024 x) (M .f32 1 1024 g) (M .bf16 1024 2048 w) (M .f32 1 512 lb)
      = M .bf16 64 64 (probsR 0 128 (hq x w g) (hk x w lb g) (hG x w lb g)) := by
  unfold kernelRun0_A.sl.r_34
  rw [r_18 h, r_19 h, r_20 h, r_22 h, r_23 h, r_24 h, r_27 h, r_28 h]
  exact pay60_M

theorem r_75 (h : ∀ b < 512, 0 < lb 0 b ∧ lb 0 b < 1) :
    kernelRun0_A.sl.r_75 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S)
      = M .bf16 128 128 (hst x w lb g S 128 1 0) := by
  unfold kernelRun0_A.sl.r_75
  rw [v641 h]
  exact pay106_M (f := fun _ => S 1)

theorem v771 :
    kernelRun0_A.sl.v771 (F := Ideal) c arg2 harg2 arg3 harg3 arg4 harg4 arg24 (M .f32 256 1024 x) (M .f32 1 1024 g) (M .bf16 1024 2048 w)
      = M .f32 64 128 (sh 0 1664 (projR x g w)) := by
  unfold kernelRun0_A.sl.v771
  rw [HS2_1]
  exact readCov_M _ _ _ _ _ _ _

theorem r_32 (h : ∀ b < 512, 0 < lb 0 b ∧ lb 0 b < 1) :
    kernelRun0_A.sl.r_32 (F := Ideal) c arg2 harg2 arg3 harg3 arg4 harg4 arg5 harg5 arg23 arg24 (M .f32 256 1024 x) (M .f32 1 1024 g) (M .bf16 1024 2048 w) (M .f32 1 512 lb)
      = M .bf16 64 64 (probsR 0 0 (hq x w g) (hk x w lb g) (hG x w lb g)) := by
  unfold kernelRun0_A.sl.r_32
  rw [r_18 h, r_19 h, r_20 h, r_22 h, r_23 h, r_24 h, r_27 h, r_28 h]
  exact pay58_M

theorem r_69 :
    kernelRun0_A.sl.r_69 (F := Ideal) c arg7 harg7 arg22 (M3 .f32 4 128 128 S)
      = M .bf16 128 128 (hst x w lb g S 0 0 0) := by
  unfold kernelRun0_A.sl.r_69
  rw [v612]
  exact pay96_M (f := fun _ => S 0)

theorem v743 :
    kernelRun0_A.sl.v743 (F := Ideal) c arg2 harg2 arg3 harg3 arg4 harg4 arg24 (M .f32 256 1024 x) (M .f32 1 1024 g) (M .bf16 1024 2048 w)
      = M .f32 64 128 (sh 0 1536 (projR x g w)) := by
  unfold kernelRun0_A.sl.v743
  rw [HS2_1]
  exact readCov_M _ _ _ _ _ _ _

theorem r_68 (h : ∀ b < 512, 0 < lb 0 b ∧ lb 0 b < 1) :
    kernelRun0_A.sl.r_68 (F := Ideal) c arg2 harg2 arg3 harg3 arg4 harg4 arg5 harg5 arg23 arg24 (M .f32 256 1024 x) (M .f32 1 1024 g) (M .bf16 1024 2048 w) (M .f32 1 512 lb)
      = M .f32 128 128 (updR 192 384 (hv x w g) (hk x w lb g) (hG x w lb g)) := by
  unfold kernelRun0_A.sl.r_68
  rw [r_5, r_31 h]
  exact pay94_M

theorem v720 (h : ∀ b < 512, 0 < lb 0 b ∧ lb 0 b < 1) :
    kernelRun0_A.sl.v720 (F := Ideal) c arg2 harg2 arg3 harg3 arg4 harg4 arg5 harg5 arg23 arg24 (M .f32 256 1024 x) (M .f32 1 1024 g) (M .bf16 1024 2048 w) (M .f32 1 512 lb)
      = M .f32 1 128 (sh 255 384 (hG x w lb g)) := by
  unfold kernelRun0_A.sl.v720
  rw [HS1_1 h]
  exact readCov_M _ _ _ _ _ _ _

theorem head_3 (h : ∀ b < 512, 0 < lb 0 b ∧ lb 0 b < 1) :
    k0_pay131 (kernelRun0_A.sl.r_59 c arg2 harg2 arg3 harg3 arg4 harg4 arg5 harg5 arg23 arg24 (M .f32 256 1024 x) (M .f32 1 1024 g) (M .bf16 1024 2048 w) (M .f32 1 512 lb)) (kernelRun0_A.sl.r_68 c arg2 harg2 arg3 harg3 arg4 harg4 arg5 harg5 arg23 arg24 (M .f32 256 1024 x) (M .f32 1 1024 g) (M .bf16 1024 2048 w) (M .f32 1 512 lb)) (kernelRun0_A.sl.r_86 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v714 c arg2 harg2 arg3 harg3 arg4 harg4 arg5 harg5 arg23 arg24 (M .f32 256 1024 x) (M .f32 1 1024 g) (M .bf16 1024 2048 w) (M .f32 1 512 lb)) (kernelRun0_A.sl.v720 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 384 3 4) := by
  rw [r_59 h, r_68 h, r_86 h, v714 h, v720 h]
  exact pay131_M (f := fun _ => S 3)

theorem tile_192_384 (h : ∀ b < 512, 0 < lb 0 b ∧ lb 0 b < 1) :
    k0_pay166 (kernelRun0_A.sl.r_107 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v1163 c arg2 harg2 arg3 harg3 arg4 harg4 arg24 (M .f32 256 1024 x) (M .f32 1 1024 g) (M .bf16 1024 2048 w)) (kernelRun0_A.sl.r_108 c arg6 harg6 (M .f32 1 512 ng))
      = M .f32 64 128 (hout x w lb ng g S 192 384) := by
  unfold kernelRun0_A.sl.r_107 kernelRun0_A.sl.r_108
  rw [r_5, r_29 h, r_67 h, r_88 h, v1163, r_2]
  exact out_192_384

theorem tile_192_256 (h : ∀ b < 512, 0 < lb 0 b ∧ lb 0 b < 1) :
    k0_pay163 (kernelRun0_A.sl.r_2 c arg6 harg6 (M .f32 1 512 ng)) (kernelRun0_A.sl.r_83 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.r_105 c arg2 harg2 arg3 harg3 arg4 harg4 arg5 harg5 arg23 arg24 (M .f32 256 1024 x) (M .f32 1 1024 g) (M .bf16 1024 2048 w) (M .f32 1 512 lb)) (kernelRun0_A.sl.r_106 c arg2 harg2 arg3 harg3 arg4 harg4 arg5 harg5 arg23 arg24 (M .f32 256 1024 x) (M .f32 1 1024 g) (M .bf16 1024 2048 w) (M .f32 1 512 lb)) kernelRun0_A.sl.cst_373 (kernelRun0_A.sl.v1135 c arg2 harg2 arg3 harg3 arg4 harg4 arg24 (M .f32 256 1024 x) (M .f32 1 1024 g) (M .bf16 1024 2048 w))
      = M .f32 64 128 (hout x w lb ng g S 192 256) := by
  unfold kernelRun0_A.sl.r_105 kernelRun0_A.sl.r_106 kernelRun0_A.sl.cst_373
  rw [r_2, r_83 h, r_5, r_65 h, r_29 h, v1135]
  exact out_192_256

theorem tile_192_128 (h : ∀ b < 512, 0 < lb 0 b ∧ lb 0 b < 1) :
    k0_pay160 (kernelRun0_A.sl.r_2 c arg6 harg6 (M .f32 1 512 ng)) (kernelRun0_A.sl.r_5 c arg2 harg2 arg3 harg3 arg4 harg4 arg24 (M .f32 256 1024 x) (M .f32 1 1024 g) (M .bf16 1024 2048 w)) (kernelRun0_A.sl.r_29 c arg2 harg2 arg3 harg3 arg4 harg4 arg5 harg5 arg23 arg24 (M .f32 256 1024 x) (M .f32 1 1024 g) (M .bf16 1024 2048 w) (M .f32 1 512 lb)) (kernelRun0_A.sl.r_62 c arg2 harg2 arg3 harg3 arg4 harg4 arg5 harg5 arg23 arg24 (M .f32 256 1024 x) (M .f32 1 1024 g) (M .bf16 1024 2048 w) (M .f32 1 512 lb)) (kernelRun0_A.sl.r_78 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v1107 c arg2 harg2 arg3 harg3 arg4 harg4 arg24 (M .f32 256 1024 x) (M .f32 1 1024 g) (M .bf16 1024 2048 w))
      = M .f32 64 128 (hout x w lb ng g S 192 128) := by
  rw [r_2, r_5, r_29 h, r_62 h, r_78 h, v1107]
  exact out_192_128

theorem tile_192_0 (h : ∀ b < 512, 0 < lb 0 b ∧ lb 0 b < 1) :
    k0_pay159 (kernelRun0_A.sl.v1079 c arg2 harg2 arg3 harg3 arg4 harg4 arg24 (M .f32 256 1024 x) (M .f32 1 1024 g) (M .bf16 1024 2048 w)) (kernelRun0_A.sl.r_104 c arg2 harg2 arg3 harg3 arg4 harg4 arg5 harg5 arg6 harg6 arg7 harg7 arg22 arg23 arg24 (M .f32 256 1024 x) (M .f32 1 1024 g) (M .bf16 1024 2048 w) (M .f32 1 512 lb) (M .f32 1 512 ng) (M3 .f32 4 128 128 S)) kernelRun0_A.sl.cst_355
      = M .f32 64 128 (hout x w lb ng g S 192 0) := by
  unfold kernelRun0_A.sl.r_104 kernelRun0_A.sl.cst_355
  rw [v1079, r_2, r_5, r_29 h, r_60 h, r_73 h]
  exact out_192_0

theorem tile_128_384 (h : ∀ b < 512, 0 < lb 0 b ∧ lb 0 b < 1) :
    k0_pay157 (kernelRun0_A.sl.r_2 c arg6 harg6 (M .f32 1 512 ng)) (kernelRun0_A.sl.r_102 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.r_103 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v1051 c arg2 harg2 arg3 harg3 arg4 harg4 arg24 (M .f32 256 1024 x) (M .f32 1 1024 g) (M .bf16 1024 2048 w))
      = M .f32 64 128 (hout x w lb ng g S 128 384) := by
  unfold kernelRun0_A.sl.r_102 kernelRun0_A.sl.r_103
  rw [r_2, r_5, r_29 h, r_58 h, r_87 h, v1051]
  exact out_128_384

theorem tile_128_256 (h : ∀ b < 512, 0 < lb 0 b ∧ lb 0 b < 1) :
    k0_pay154 (kernelRun0_A.sl.r_2 c arg6 harg6 (M .f32 1 512 ng)) (kernelRun0_A.sl.r_5 c arg2 harg2 arg3 harg3 arg4 harg4 arg24 (M .f32 256 1024 x) (M .f32 1 1024 g) (M .bf16 1024 2048 w)) (kernelRun0_A.sl.r_29 c arg2 harg2 arg3 harg3 arg4 harg4 arg5 harg5 arg23 arg24 (M .f32 256 1024 x) (M .f32 1 1024 g) (M .bf16 1024 2048 w) (M .f32 1 512 lb)) (kernelRun0_A.sl.r_55 c arg2 harg2 arg3 harg3 arg4 harg4 arg5 harg5 arg23 arg24 (M .f32 256 1024 x) (M .f32 1 1024 g) (M .bf16 1024 2048 w) (M .f32 1 512 lb)) (kernelRun0_A.sl.r_82 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v1023 c arg2 harg2 arg3 harg3 arg4 harg4 arg24 (M .f32 256 1024 x) (M .f32 1 1024 g) (M .bf16 1024 2048 w))
      = M .f32 64 128 (hout x w lb ng g S 128 256) := by
  rw [r_2, r_5, r_29 h, r_55 h, r_82 h, v1023]
  exact out_128_256

theorem tile_128_128 (h : ∀ b < 512, 0 < lb 0 b ∧ lb 0 b < 1) :
    k0_pay153 (kernelRun0_A.sl.r_100 c arg2 harg2 arg3 harg3 arg4 harg4 arg5 harg5 arg6 harg6 arg7 harg7 arg22 arg23 arg24 (M .f32 256 1024 x) (M .f32 1 1024 g) (M .bf16 1024 2048 w) (M .f32 1 512 lb) (M .f32 1 512 ng) (M3 .f32 4 128 128 S)) (kernelRun0_A.sl.r_101 c arg2 harg2 arg3 harg3 arg4 harg4 arg24 (M .f32 256 1024 x) (M .f32 1 1024 g) (M .bf16 1024 2048 w))
      = M .f32 64 128 (hout x w lb ng g S 128 128) := by
  unfold kernelRun0_A.sl.r_100 kernelRun0_A.sl.r_101
  rw [r_2, r_5, r_29 h, r_53 h, r_77 h, v995]
  exact out_128_128

theorem tile_128_0 (h : ∀ b < 512, 0 < lb 0 b ∧ lb 0 b < 1) :
    k0_pay150 (kernelRun0_A.sl.r_2 c arg6 harg6 (M .f32 1 512 ng)) (kernelRun0_A.sl.r_98 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.r_99 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v967 c arg2 harg2 arg3 harg3 arg4 harg4 arg24 (M .f32 256 1024 x) (M .f32 1 1024 g) (M .bf16 1024 2048 w))
      = M .f32 64 128 (hout x w lb ng g S 128 0) := by
  unfold kernelRun0_A.sl.r_98 kernelRun0_A.sl.r_99
  rw [r_2, r_5, r_29 h, r_51 h, r_71 h, v967]
  exact out_128_0

theorem tile_64_384 (h : ∀ b < 512, 0 < lb 0 b ∧ lb 0 b < 1) :
    k0_pay147 (kernelRun0_A.sl.r_2 c arg6 harg6 (M .f32 1 512 ng)) (kernelRun0_A.sl.r_5 c arg2 harg2 arg3 harg3 arg4 harg4 arg24 (M .f32 256 1024 x) (M .f32 1 1024 g) (M .bf16 1024 2048 w)) (kernelRun0_A.sl.r_29 c arg2 harg2 arg3 harg3 arg4 harg4 arg5 harg5 arg23 arg24 (M .f32 256 1024 x) (M .f32 1 1024 g) (M .bf16 1024 2048 w) (M .f32 1 512 lb)) (kernelRun0_A.sl.r_48 c arg2 harg2 arg3 harg3 arg4 harg4 arg5 harg5 arg23 arg24 (M .f32 256 1024 x) (M .f32 1 1024 g) (M .bf16 1024 2048 w) (M .f32 1 512 lb)) (kernelRun0_A.sl.r_85 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v939 c arg2 harg2 arg3 harg3 arg4 harg4 arg24 (M .f32 256 1024 x) (M .f32 1 1024 g) (M .bf16 1024 2048 w))
      = M .f32 64 128 (hout x w lb ng g S 64 384) := by
  rw [r_2, r_5, r_29 h, r_48 h, r_85 h, v939]
  exact out_64_384

theorem tile_64_256 (h : ∀ b < 512, 0 < lb 0 b ∧ lb 0 b < 1) :
    k0_pay146 (kernelRun0_A.sl.r_96 c arg2 harg2 arg3 harg3 arg4 harg4 arg5 harg5 arg6 harg6 arg7 harg7 arg22 arg23 arg24 (M .f32 256 1024 x) (M .f32 1 1024 g) (M .bf16 1024 2048 w) (M .f32 1 512 lb) (M .f32 1 512 ng) (M3 .f32 4 128 128 S)) (kernelRun0_A.sl.r_97 c arg2 harg2 arg3 harg3 arg4 harg4 arg24 (M .f32 256 1024 x) (M .f32 1 1024 g) (M .bf16 1024 2048 w))
      = M .f32 64 128 (hout x w lb ng g S 64 256) := by
  unfold kernelRun0_A.sl.r_96 kernelRun0_A.sl.r_97
  rw [r_2, r_5, r_29 h, r_46 h, r_81 h, v911]
  exact out_64_256

theorem tile_64_128 (h : ∀ b < 512, 0 < lb 0 b ∧ lb 0 b < 1) :
    k0_pay143 (kernelRun0_A.sl.r_2 c arg6 harg6 (M .f32 1 512 ng)) (kernelRun0_A.sl.r_94 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.r_95 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v883 c arg2 harg2 arg3 harg3 arg4 harg4 arg24 (M .f32 256 1024 x) (M .f32 1 1024 g) (M .bf16 1024 2048 w))
      = M .f32 64 128 (hout x w lb ng g S 64 128) := by
  unfold kernelRun0_A.sl.r_94 kernelRun0_A.sl.r_95
  rw [r_2, r_5, r_29 h, r_44 h, r_76 h, v883]
  exact out_64_128

theorem tile_64_0 (h : ∀ b < 512, 0 < lb 0 b ∧ lb 0 b < 1) :
    k0_pay140 (kernelRun0_A.sl.r_2 c arg6 harg6 (M .f32 1 512 ng)) (kernelRun0_A.sl.r_5 c arg2 harg2 arg3 harg3 arg4 harg4 arg24 (M .f32 256 1024 x) (M .f32 1 1024 g) (M .bf16 1024 2048 w)) (kernelRun0_A.sl.r_29 c arg2 harg2 arg3 harg3 arg4 harg4 arg5 harg5 arg23 arg24 (M .f32 256 1024 x) (M .f32 1 1024 g) (M .bf16 1024 2048 w) (M .f32 1 512 lb)) (kernelRun0_A.sl.r_41 c arg2 harg2 arg3 harg3 arg4 harg4 arg5 harg5 arg23 arg24 (M .f32 256 1024 x) (M .f32 1 1024 g) (M .bf16 1024 2048 w) (M .f32 1 512 lb)) (kernelRun0_A.sl.r_70 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v855 c arg2 harg2 arg3 harg3 arg4 harg4 arg24 (M .f32 256 1024 x) (M .f32 1 1024 g) (M .bf16 1024 2048 w))
      = M .f32 64 128 (hout x w lb ng g S 64 0) := by
  rw [r_2, r_5, r_29 h, r_41 h, r_70 h, v855]
  exact out_64_0

theorem tile_0_384 (h : ∀ b < 512, 0 < lb 0 b ∧ lb 0 b < 1) :
    k0_pay139 (kernelRun0_A.sl.r_92 c arg2 harg2 arg3 harg3 arg4 harg4 arg5 harg5 arg6 harg6 arg7 harg7 arg22 arg23 arg24 (M .f32 256 1024 x) (M .f32 1 1024 g) (M .bf16 1024 2048 w) (M .f32 1 512 lb) (M .f32 1 512 ng) (M3 .f32 4 128 128 S)) (kernelRun0_A.sl.r_93 c arg2 harg2 arg3 harg3 arg4 harg4 arg24 (M .f32 256 1024 x) (M .f32 1 1024 g) (M .bf16 1024 2048 w))
      = M .f32 64 128 (hout x w lb ng g S 0 384) := by
  unfold kernelRun0_A.sl.r_92 kernelRun0_A.sl.r_93
  rw [r_2, r_5, r_29 h, r_39 h, r_84 h, v827]
  exact out_0_384

theorem tile_0_256 (h : ∀ b < 512, 0 < lb 0 b ∧ lb 0 b < 1) :
    k0_pay136 (kernelRun0_A.sl.r_2 c arg6 harg6 (M .f32 1 512 ng)) (kernelRun0_A.sl.r_90 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.r_91 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v799 c arg2 harg2 arg3 harg3 arg4 harg4 arg24 (M .f32 256 1024 x) (M .f32 1 1024 g) (M .bf16 1024 2048 w))
      = M .f32 64 128 (hout x w lb ng g S 0 256) := by
  unfold kernelRun0_A.sl.r_90 kernelRun0_A.sl.r_91
  rw [r_2, r_5, r_29 h, r_37 h, r_80 h, v799]
  exact out_0_256

theorem tile_0_128 (h : ∀ b < 512, 0 < lb 0 b ∧ lb 0 b < 1) :
    k0_pay133 (kernelRun0_A.sl.r_2 c arg6 harg6 (M .f32 1 512 ng)) (kernelRun0_A.sl.r_5 c arg2 harg2 arg3 harg3 arg4 harg4 arg24 (M .f32 256 1024 x) (M .f32 1 1024 g) (M .bf16 1024 2048 w)) (kernelRun0_A.sl.r_29 c arg2 harg2 arg3 harg3 arg4 harg4 arg5 harg5 arg23 arg24 (M .f32 256 1024 x) (M .f32 1 1024 g) (M .bf16 1024 2048 w) (M .f32 1 512 lb)) (kernelRun0_A.sl.r_34 c arg2 harg2 arg3 harg3 arg4 harg4 arg5 harg5 arg23 arg24 (M .f32 256 1024 x) (M .f32 1 1024 g) (M .bf16 1024 2048 w) (M .f32 1 512 lb)) (kernelRun0_A.sl.r_75 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v771 c arg2 harg2 arg3 harg3 arg4 harg4 arg24 (M .f32 256 1024 x) (M .f32 1 1024 g) (M .bf16 1024 2048 w))
      = M .f32 64 128 (hout x w lb ng g S 0 128) := by
  rw [r_2, r_5, r_29 h, r_34 h, r_75 h, v771]
  exact out_0_128

theorem tile_0_0 (h : ∀ b < 512, 0 < lb 0 b ∧ lb 0 b < 1) :
    kernelRun0_A.sl.r_89 c arg2 harg2 arg3 harg3 arg4 harg4 arg5 harg5 arg6 harg6 arg7 harg7 arg22 arg23 arg24 (M .f32 256 1024 x) (M .f32 1 1024 g) (M .bf16 1024 2048 w) (M .f32 1 512 lb) (M .f32 1 512 ng) (M3 .f32 4 128 128 S)
      = M .f32 64 128 (hout x w lb ng g S 0 0) := by
  unfold kernelRun0_A.sl.r_89
  rw [r_2, r_5, r_29 h, r_32 h, r_69, v743]
  exact out_0_0

/-- What the block leaves in the staging area of the outputs. -/
theorem out_value (h : ∀ b < 512, 0 < lb 0 b ∧ lb 0 b < 1) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) (M3 .f32 4 128 128 S) x6 x7 x8 x9 x10 x11 x12 x13 x14
      = M .f32 256 512 (blockR x w lb ng g S) := by
  unfold out0_A_15
  rw [View.read_writes_junk_eq_canon]
  funext y
  refine View.canon_eq_of_allAt _ _ _ (cover0_A_15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (by rw [tile_192_384 h]; exact tile_M 3 3 (H := hout x w lb ng g S) y) ?_
  refine View.allAt_cons_unit _ _ _ _ _ (by rw [tile_192_256 h]; exact tile_M 3 2 (H := hout x w lb ng g S) y) ?_
  refine View.allAt_cons_unit _ _ _ _ _ (by rw [tile_192_128 h]; exact tile_M 3 1 (H := hout x w lb ng g S) y) ?_
  refine View.allAt_cons_unit _ _ _ _ _ (by rw [tile_192_0 h]; exact tile_M 3 0 (H := hout x w lb ng g S) y) ?_
  refine View.allAt_cons_unit _ _ _ _ _ (by rw [tile_128_384 h]; exact tile_M 2 3 (H := hout x w lb ng g S) y) ?_
  refine View.allAt_cons_unit _ _ _ _ _ (by rw [tile_128_256 h]; exact tile_M 2 2 (H := hout x w lb ng g S) y) ?_
  refine View.allAt_cons_unit _ _ _ _ _ (by rw [tile_128_128 h]; exact tile_M 2 1 (H := hout x w lb ng g S) y) ?_
  refine View.allAt_cons_unit _ _ _ _ _ (by rw [tile_128_0 h]; exact tile_M 2 0 (H := hout x w lb ng g S) y) ?_
  refine View.allAt_cons_unit _ _ _ _ _ (by rw [tile_64_384 h]; exact tile_M 1 3 (H := hout x w lb ng g S) y) ?_
  refine View.allAt_cons_unit _ _ _ _ _ (by rw [tile_64_256 h]; exact tile_M 1 2 (H := hout x w lb ng g S) y) ?_
  refine View.allAt_cons_unit _ _ _ _ _ (by rw [tile_64_128 h]; exact tile_M 1 1 (H := hout x w lb ng g S) y) ?_
  refine View.allAt_cons_unit _ _ _ _ _ (by rw [tile_64_0 h]; exact tile_M 1 0 (H := hout x w lb ng g S) y) ?_
  refine View.allAt_cons_unit _ _ _ _ _ (by rw [tile_0_384 h]; exact tile_M 0 3 (H := hout x w lb ng g S) y) ?_
  refine View.allAt_cons_unit _ _ _ _ _ (by rw [tile_0_256 h]; exact tile_M 0 2 (H := hout x w lb ng g S) y) ?_
  refine View.allAt_cons_unit _ _ _ _ _ (by rw [tile_0_128 h]; exact tile_M 0 1 (H := hout x w lb ng g S) y) ?_
  refine View.allAt_cons_unit _ _ _ _ _ (by rw [tile_0_0 h]; exact tile_M 0 0 (H := hout x w lb ng g S) y) ?_
  exact View.allAt_nil _ _

/-- What the block leaves in the state. -/
theorem state_value (h : ∀ b < 512, 0 < lb 0 b ∧ lb 0 b < 1) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) (M3 .f32 4 128 128 S) x6 x7 x8 x9 x10 x11 x12 x13 x14
      = M3 .f32 4 128 128 (blockS x w lb g S) := by
  unfold sout0_A_0
  rw [View.read_writes_junk_eq_canon]
  change View.canon (⟨Rect.unit ![3, 0, 0] S1x128x128.size inb_S4x128x128_S1x128x128_3_0_0, k0_pay131 (F := Ideal) (kernelRun0_A.sl.r_59 c arg2 harg2 arg3 harg3 arg4 harg4 arg5 harg5 arg23 arg24 (M .f32 256 1024 x) (M .f32 1 1024 g) (M .bf16 1024 2048 w) (M .f32 1 512 lb)) (kernelRun0_A.sl.r_68 c arg2 harg2 arg3 harg3 arg4 harg4 arg5 harg5 arg23 arg24 (M .f32 256 1024 x) (M .f32 1 1024 g) (M .bf16 1024 2048 w) (M .f32 1 512 lb)) (kernelRun0_A.sl.r_86 c arg2 harg2 arg3 harg3 arg4 harg4 arg5 harg5 arg7 harg7 arg22 arg23 arg24 (M .f32 256 1024 x) (M .f32 1 1024 g) (M .bf16 1024 2048 w) (M .f32 1 512 lb) (M3 .f32 4 128 128 S)) (kernelRun0_A.sl.v714 c arg2 harg2 arg3 harg3 arg4 harg4 arg5 harg5 arg23 arg24 (M .f32 256 1024 x) (M .f32 1 1024 g) (M .bf16 1024 2048 w) (M .f32 1 512 lb)) (kernelRun0_A.sl.v720 c arg2 harg2 arg3 harg3 arg4 harg4 arg5 harg5 arg23 arg24 (M .f32 256 1024 x) (M .f32 1 1024 g) (M .bf16 1024 2048 w) (M .f32 1 512 lb))⟩ :: kernelRun0_A.sl.HS0_4 (F := Ideal) c arg2 harg2 arg3 harg3 arg4 harg4 arg5 harg5 arg7 harg7 arg22 arg23 arg24 (M .f32 256 1024 x) (M .f32 1 1024 g) (M .bf16 1024 2048 w) (M .f32 1 512 lb) (M3 .f32 4 128 128 S) : List (View.Piece (Elt Ideal) S4x128x128 .f32)) = _
  rw [head_3 h, HS0_4 h]
  exact canon_heads (H := blockS x w lb g S) _ _ _ _ _

end Hgrn.CaseA
-- ==== Proof.CaseB.lean ====
/- The middle block of a row, word by word: what each value the block computes is on real numbers. -/
module

public import proofs.«01_k».proof.Proof.Loads
public import proofs.«01_k».proof.Proof.BlockOut
public import proofs.«01_k».proof.Proof.Gen.KernelIdeal.Frame

@[expose] public section

set_option maxRecDepth 16384

open Idealize.ShloMosaic Idealize.SL Cert.KernelIdeal Cert.KernelIdeal.Gen

namespace Hgrn.CaseB

variable {c : Dev nD} {i : grid0.Coords} {arg2 : Memref sig .tc .vmem S256x1024 .f32} {harg2 : arg2.IsWhole} {arg3 : Memref sig .tc .vmem S1x1024 .f32} {harg3 : arg3.IsWhole} {arg4 : Memref sig .tc .vmem S1024x2048 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x128 .f32} {harg7 : arg7.IsWhole} {arg8 : Memref sig .tc .vmem S8x1024x256 .bf16} {harg8 : arg8.IsWhole} {arg9 : Memref sig .tc .vmem S4x1024 .f32} {harg9 : arg9.IsWhole} {arg10 : Memref sig .tc .vmem S1x1024 .f32} {harg10 : arg10.IsWhole} {arg11 : Memref sig .tc .vmem S8x128x256 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S1x1024 .f32} {harg14 : arg14.IsWhole} {arg15 : Memref sig .tc .vmem S1x1024 .f32} {harg15 : arg15.IsWhole} {arg16 : Memref sig .tc .vmem S8x1024 .f32} {harg16 : arg16.IsWhole} {arg17 : Memref sig .tc .vmem S256x512 .f32} {harg17 : arg17.IsWhole} {arg18 : Memref sig .tc .vmem S256x1024 .f32} {harg18 : arg18.IsWhole} {arg19 : Memref sig .tc .vmem S1x4x128x128 .f32} {harg19 : arg19.IsWhole} {arg20 : Memref sig .tc .vmem S1x1x1024 .f32} {harg20 : arg20.IsWhole} {arg21 : Memref sig .tc .vmem S1x8x1024 .f32} {harg21 : arg21.IsWhole} {arg22 : Memref sig .tc .vmem S4x128x128 .f32} {harg22 : arg22.IsWhole} {arg23 : Memref sig .tc .vmem S256x512 .f32} {harg23 : arg23.IsWhole} {arg24 : Memref sig .tc .vmem S256x2048 .f32} {harg24 : arg24.IsWhole} {arg25 : Memref sig .tc .vmem S8x1024 .f32} {harg25 : arg25.IsWhole} {arg26 : Memref sig .tc .vmem S1x1024 .f32} {harg26 : arg26.IsWhole} {arg27 : Memref sig .tc .vmem S8x256x128 .f32} {harg27 : arg27.IsWhole} {hc0 : ¬cond0_0 i} {hc1 : ¬cond0_1 i}
  {x g w lb ng : ℕ → ℕ → ℝ} {S : ℕ → ℕ → ℕ → ℝ}
  {x5 : Vec Ideal S4x128x128 .f32} {x6 : Vec Ideal S8x1024x256 .bf16} {x7 : Vec Ideal S4x1024 .f32} {x8 : Vec Ideal S1x1024 .f32} {x9 : Vec Ideal S8x128x256 .bf16} {x10 : Vec Ideal S1x1024 .f32} {x11 : Vec Ideal S1x1024 .f32} {x12 : Vec Ideal S1x1024 .f32} {x13 : Vec Ideal S1x1024 .f32} {x14 : Vec Ideal S8x1024 .f32} {xs3 : Vec Ideal S8x1024 .f32} {xs4 : Vec Ideal S1x1024 .f32}

theorem HS2_1 :
    kernelRun0_B.sl.HS2_1 (F := Ideal) c arg2 harg2 arg3 harg3 arg4 harg4 (M .f32 256 1024 x) (M .f32 1 1024 g) (M .bf16 1024 2048 w)
      = [⟨Rect.unit ![0, 0] S256x2048.size inb_S256x2048_S256x2048_0_0, M .f32 256 2048 (projR x g w)⟩] := by
  unfold kernelRun0_B.sl.HS2_1
  rw [readAt_whole, readAt_whole, readAt_whole_bf16, pay12_M]

theorem v52 :
    kernelRun0_B.sl.v52 (F := Ideal) c arg2 harg2 arg3 harg3 arg4 harg4 arg24 (M .f32 256 1024 x) (M .f32 1 1024 g) (M .bf16 1024 2048 w)
      = M .f32 256 512 (hv x w g) := by
  unfold kernelRun0_B.sl.v52
  rw [HS2_1]
  exact readCov_M _ _ _ _ _ _ _

theorem r_5 :
    kernelRun0_B.sl.r_5 (F := Ideal) c arg2 harg2 arg3 harg3 arg4 harg4 arg24 (M .f32 256 1024 x) (M .f32 1 1024 g) (M .bf16 1024 2048 w)
      = M .bf16 256 512 (hv x w g) := by
  unfold kernelRun0_B.sl.r_5
  rw [v52]
  exact pay17_M

theorem v30 :
    kernelRun0_B.sl.v30 (F := Ideal) c arg2 harg2 arg3 harg3 arg4 harg4 arg24 (M .f32 256 1024 x) (M .f32 1 1024 g) (M .bf16 1024 2048 w)
      = M .f32 256 512 (hq x w g) := by
  unfold kernelRun0_B.sl.v30
  rw [HS2_1]
  exact readCov_M _ _ _ _ _ _ _

theorem r_1 :
    kernelRun0_B.sl.r_1 (F := Ideal) c arg5 harg5 (M .f32 1 512 lb)
      = M .f32 1 512 lb := by
  unfold kernelRun0_B.sl.r_1
  rw [readAt_whole, pay10_M]

theorem v31 :
    kernelRun0_B.sl.v31 (F := Ideal) c arg2 harg2 arg3 harg3 arg4 harg4 arg24 (M .f32 256 1024 x) (M .f32 1 1024 g) (M .bf16 1024 2048 w)
      = M .f32 256 512 (hy x w g) := by
  unfold kernelRun0_B.sl.v31
  rw [HS2_1]
  exact readCov_M _ _ _ _ _ _ _

theorem r_3 (h : ∀ b < 512, 0 < lb 0 b ∧ lb 0 b < 1) :
    kernelRun0_B.sl.r_3 (F := Ideal) c arg2 harg2 arg3 harg3 arg4 harg4 arg5 harg5 arg24 (M .f32 256 1024 x) (M .f32 1 1024 g) (M .bf16 1024 2048 w) (M .f32 1 512 lb)
      = M .f32 256 512 (logfR lb (hy x w g)) := by
  unfold kernelRun0_B.sl.r_3
  rw [r_1, v31]
  exact pay15_M h

theorem r_6 (h : ∀ b < 512, 0 < lb 0 b ∧ lb 0 b < 1) :
    kernelRun0_B.sl.r_6 (F := Ideal) c arg2 harg2 arg3 harg3 arg4 harg4 arg5 harg5 arg24 (M .f32 256 1024 x) (M .f32 1 1024 g) (M .bf16 1024 2048 w) (M .f32 1 512 lb)
      = M .f32 256 512 (hG x w lb g) := by
  unfold kernelRun0_B.sl.r_6 kernelRun0_B.sl.v55
  rw [r_3 h]
  exact pay22_M

theorem HS1_1 (h : ∀ b < 512, 0 < lb 0 b ∧ lb 0 b < 1) :
    kernelRun0_B.sl.HS1_1 (F := Ideal) c arg2 harg2 arg3 harg3 arg4 harg4 arg5 harg5 arg24 (M .f32 256 1024 x) (M .f32 1 1024 g) (M .bf16 1024 2048 w) (M .f32 1 512 lb)
      = [⟨Rect.unit ![0, 0] S256x512.size inb_S256x512_S256x512_0_0, M .f32 256 512 (hG x w lb g)⟩] := by
  unfold kernelRun0_B.sl.HS1_1
  rw [r_6 h]
  rw [pay23_M]

theorem v126 (h : ∀ b < 512, 0 < lb 0 b ∧ lb 0 b < 1) :
    kernelRun0_B.sl.v126 (F := Ideal) c arg2 harg2 arg3 harg3 arg4 harg4 arg5 harg5 arg23 arg24 (M .f32 256 1024 x) (M .f32 1 1024 g) (M .bf16 1024 2048 w) (M .f32 1 512 lb)
      = M .f32 256 512 (hG x w lb g) := by
  unfold kernelRun0_B.sl.v126
  rw [HS1_1 h]
  exact readCov_whole _ _ _

theorem r_29 (h : ∀ b < 512, 0 < lb 0 b ∧ lb 0 b < 1) :
    kernelRun0_B.sl.r_29 (F := Ideal) c arg2 harg2 arg3 harg3 arg4 harg4 arg5 harg5 arg23 arg24 (M .f32 256 1024 x) (M .f32 1 1024 g) (M .bf16 1024 2048 w) (M .f32 1 512 lb)
      = M .bf16 256 512 (hqe x w lb g) := by
  unfold kernelRun0_B.sl.r_29
  rw [v30, v126 h]
  exact pay54_M

theorem v128 (h : ∀ b < 512, 0 < lb 0 b ∧ lb 0 b < 1) :
    kernelRun0_B.sl.v128 (F := Ideal) c arg2 harg2 arg3 harg3 arg4 harg4 arg5 harg5 arg23 arg24 (M .f32 256 1024 x) (M .f32 1 1024 g) (M .bf16 1024 2048 w) (M .f32 1 512 lb)
      = M .f32 1 512 (sh 15 0 (hG x w lb g)) := by
  unfold kernelRun0_B.sl.v128
  rw [HS1_1 h]
  exact readCov_M _ _ _ _ _ _ _

theorem r_7 (h : ∀ b < 512, 0 < lb 0 b ∧ lb 0 b < 1) :
    kernelRun0_B.sl.r_7 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 15 0 (hG x w lb g) 0 b) := by
  unfold kernelRun0_B.sl.r_7 k0_pay25
  rw [v128 h]
  exact row_16 _

theorem v131 (h : ∀ b < 512, 0 < lb 0 b ∧ lb 0 b < 1) :
    kernelRun0_B.sl.v131 (F := Ideal) c arg2 harg2 arg3 harg3 arg4 harg4 arg5 harg5 arg23 arg24 (M .f32 256 1024 x) (M .f32 1 1024 g) (M .bf16 1024 2048 w) (M .f32 1 512 lb)
      = M .f32 1 512 (sh 31 0 (hG x w lb g)) := by
  unfold kernelRun0_B.sl.v131
  rw [HS1_1 h]
  exact readCov_M _ _ _ _ _ _ _

theorem r_8 (h : ∀ b < 512, 0 < lb 0 b ∧ lb 0 b < 1) :
    kernelRun0_B.sl.r_8 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 31 0 (hG x w lb g) 0 b) := by
  unfold kernelRun0_B.sl.r_8 k0_pay26
  rw [v131 h]
  exact row_16 _

theorem v134 (h : ∀ b < 512, 0 < lb 0 b ∧ lb 0 b < 1) :
    kernelRun0_B.sl.v134 (F := Ideal) c arg2 harg2 arg3 harg3 arg4 harg4 arg5 harg5 arg23 arg24 (M .f32 256 1024 x) (M .f32 1 1024 g) (M .bf16 1024 2048 w) (M .f32 1 512 lb)
      = M .f32 1 512 (sh 47 0 (hG x w lb g)) := by
  unfold kernelRun0_B.sl.v134
  rw [HS1_1 h]
  exact readCov_M _ _ _ _ _ _ _

theorem r_9 (h : ∀ b < 512, 0 < lb 0 b ∧ lb 0 b < 1) :
    kernelRun0_B.sl.r_9 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 47 0 (hG x w lb g) 0 b) := by
  unfold kernelRun0_B.sl.r_9 k0_pay27
  rw [v134 h]
  exact row_16 _

theorem v137 (h : ∀ b < 512, 0 < lb 0 b ∧ lb 0 b < 1) :
    kernelRun0_B.sl.v137 (F := Ideal) c arg2 harg2 arg3 harg3 arg4 harg4 arg5 harg5 arg23 arg24 (M .f32 256 1024 x) (M .f32 1 1024 g) (M .bf16 1024 2048 w) (M .f32 1 512 lb)
      = M .f32 1 512 (sh 79 0 (hG x w lb g)) := by
  unfold kernelRun0_B.sl.v137
  rw [HS1_1 h]
  exact readCov_M _ _ _ _ _ _ _

theorem r_10 (h : ∀ b < 512, 0 < lb 0 b ∧ lb 0 b < 1) :
    kernelRun0_B.sl.r_10 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 79 0 (hG x w lb g) 0 b) := by
  unfold kernelRun0_B.sl.r_10 k0_pay28
  rw [v137 h]
  exact row_16 _

theorem v140 (h : ∀ b < 512, 0 < lb 0 b ∧ lb 0 b < 1) :
    kernelRun0_B.sl.v140 (F := Ideal) c arg2 harg2 arg3 harg3 arg4 harg4 arg5 harg5 arg23 arg24 (M .f32 256 1024 x) (M .f32 1 1024 g) (M .bf16 1024 2048 w) (M .f32 1 512 lb)
      = M .f32 1 512 (sh 95 0 (hG x w lb g)) := by
  unfold kernelRun0_B.sl.v140
  rw [HS1_1 h]
  exact readCov_M _ _ _ _ _ _ _

theorem r_11 (h : ∀ b < 512, 0 < lb 0 b ∧ lb 0 b < 1) :
    kernelRun0_B.sl.r_11 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 95 0 (hG x w lb g) 0 b) := by
  unfold kernelRun0_B.sl.r_11 k0_pay29
  rw [v140 h]
  exact row_16 _

theorem v143 (h : ∀ b < 512, 0 < lb 0 b ∧ lb 0 b < 1) :
    kernelRun0_B.sl.v143 (F := Ideal) c arg2 harg2 arg3 harg3 arg4 harg4 arg5 harg5 arg23 arg24 (M .f32 256 1024 x) (M .f32 1 1024 g) (M .bf16 1024 2048 w) (M .f32 1 512 lb)
      = M .f32 1 512 (sh 111 0 (hG x w lb g)) := by
  unfold kernelRun0_B.sl.v143
  rw [HS1_1 h]
  exact readCov_M _ _ _ _ _ _ _

theorem r_12 (h : ∀ b < 512, 0 < lb 0 b ∧ lb 0 b < 1) :
    kernelRun0_B.sl.r_12 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 111 0 (hG x w lb g) 0 b) := by
  unfold kernelRun0_B.sl.r_12 k0_pay30
  rw [v143 h]
  exact row_16 _

theorem v146 (h : ∀ b < 512, 0 < lb 0 b ∧ lb 0 b < 1) :
    kernelRun0_B.sl.v146 (F := Ideal) c arg2 harg2 arg3 harg3 arg4 harg4 arg5 harg5 arg23 arg24 (M .f32 256 1024 x) (M .f32 1 1024 g) (M .bf16 1024 2048 w) (M .f32 1 512 lb)
      = M .f32 1 512 (sh 143 0 (hG x w lb g)) := by
  unfold kernelRun0_B.sl.v146
  rw [HS1_1 h]
  exact readCov_M _ _ _ _ _ _ _

theorem r_13 (h : ∀ b < 512, 0 < lb 0 b ∧ lb 0 b < 1) :
    kernelRun0_B.sl.r_13 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 143 0 (hG x w lb g) 0 b) := by
  unfold kernelRun0_B.sl.r_13 k0_pay31
  rw [v146 h]
  exact row_16 _

theorem v149 (h : ∀ b < 512, 0 < lb 0 b ∧ lb 0 b < 1) :
    kernelRun0_B.sl.v149 (F := Ideal) c arg2 harg2 arg3 harg3 arg4 harg4 arg5 harg5 arg23 arg24 (M .f32 256 1024 x) (M .f32 1 1024 g) (M .bf16 1024 2048 w) (M .f32 1 512 lb)
      = M .f32 1 512 (sh 159 0 (hG x w lb g)) := by
  unfold kernelRun0_B.sl.v149
  rw [HS1_1 h]
  exact readCov_M _ _ _ _ _ _ _

theorem r_14 (h : ∀ b < 512, 0 < lb 0 b ∧ lb 0 b < 1) :
    kernelRun0_B.sl.r_14 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 159 0 (hG x w lb g) 0 b) := by
  unfold kernelRun0_B.sl.r_14 k0_pay32
  rw [v149 h]
  exact row_16 _

theorem v152 (h : ∀ b < 512, 0 < lb 0 b ∧ lb 0 b < 1) :
    kernelRun0_B.sl.v152 (F := Ideal) c arg2 harg2 arg3 harg3 arg4 harg4 arg5 harg5 arg23 arg24 (M .f32 256 1024 x) (M .f32 1 1024 g) (M .bf16 1024 2048 w) (M .f32 1 512 lb)
      = M .f32 1 512 (sh 175 0 (hG x w lb g)) := by
  unfold kernelRun0_B.sl.v152
  rw [HS1_1 h]
  exact readCov_M _ _ _ _ _ _ _

theorem r_15 (h : ∀ b < 512, 0 < lb 0 b ∧ lb 0 b < 1) :
    kernelRun0_B.sl.r_15 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 175 0 (hG x w lb g) 0 b) := by
  unfold kernelRun0_B.sl.r_15 k0_pay33
  rw [v152 h]
  exact row_16 _

theorem v155 (h : ∀ b < 512, 0 < lb 0 b ∧ lb 0 b < 1) :
    kernelRun0_B.sl.v155 (F := Ideal) c arg2 harg2 arg3 harg3 arg4 harg4 arg5 harg5 arg23 arg24 (M .f32 256 1024 x) (M .f32 1 1024 g) (M .bf16 1024 2048 w) (M .f32 1 512 lb)
      = M .f32 1 512 (sh 207 0 (hG x w lb g)) := by
  unfold kernelRun0_B.sl.v155
  rw [HS1_1 h]
  exact readCov_M _ _ _ _ _ _ _

theorem r_16 (h : ∀ b < 512, 0 < lb 0 b ∧ lb 0 b < 1) :
    kernelRun0_B.sl.r_16 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 207 0 (hG x w lb g) 0 b) := by
  unfold kernelRun0_B.sl.r_16 k0_pay34
  rw [v155 h]
  exact row_16 _

theorem v158 (h : ∀ b < 512, 0 < lb 0 b ∧ lb 0 b < 1) :
    kernelRun0_B.sl.v158 (F := Ideal) c arg2 harg2 arg3 harg3 arg4 harg4 arg5 harg5 arg23 arg24 (M .f32 256 1024 x) (M .f32 1 1024 g) (M .bf16 1024 2048 w) (M .f32 1 512 lb)
      = M .f32 1 512 (sh 223 0 (hG x w lb g)) := by
  unfold kernelRun0_B.sl.v158
  rw [HS1_1 h]
  exact readCov_M _ _ _ _ _ _ _

theorem v160 (h : ∀ b < 512, 0 < lb 0 b ∧ lb 0 b < 1) :
    kernelRun0_B.sl.v160 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 223 0 (hG x w lb g) 0 b) := by
  unfold kernelRun0_B.sl.v160 kernelRun0_B.sl.v159
  rw [v158 h]
  exact row_16 _

theorem v161 (h : ∀ b < 512, 0 < lb 0 b ∧ lb 0 b < 1) :
    kernelRun0_B.sl.v161 (F := Ideal) c arg2 harg2 arg3 harg3 arg4 harg4 arg5 harg5 arg23 arg24 (M .f32 256 1024 x) (M .f32 1 1024 g) (M .bf16 1024 2048 w) (M .f32 1 512 lb)
      = M .f32 1 512 (sh 239 0 (hG x w lb g)) := by
  unfold kernelRun0_B.sl.v161
  rw [HS1_1 h]
  exact readCov_M _ _ _ _ _ _ _

theorem v163 (h : ∀ b < 512, 0 < lb 0 b ∧ lb 0 b < 1) :
    kernelRun0_B.sl.v163 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 239 0 (hG x w lb g) 0 b) := by
  unfold kernelRun0_B.sl.v163 kernelRun0_B.sl.v162
  rw [v161 h]
  exact row_16 _

theorem v164 (h : ∀ b < 512, 0 < lb 0 b ∧ lb 0 b < 1) :
    kernelRun0_B.sl.v164 (F := Ideal) c arg2 harg2 arg3 harg3 arg4 harg4 arg5 harg5 arg23 arg24 (M .f32 256 1024 x) (M .f32 1 1024 g) (M .bf16 1024 2048 w) (M .f32 1 512 lb)
      = M .f32 256 512 (baseR (hG x w lb g)) := by
  unfold kernelRun0_B.sl.v164
  rw [r_7 h, r_8 h, r_9 h, r_10 h, r_11 h, r_12 h, r_13 h, r_14 h, r_15 h, r_16 h, v160 h, v163 h]
  exact cat_base

theorem r_18 (h : ∀ b < 512, 0 < lb 0 b ∧ lb 0 b < 1) :
    kernelRun0_B.sl.r_18 (F := Ideal) c arg2 harg2 arg3 harg3 arg4 harg4 arg5 harg5 arg23 arg24 (M .f32 256 1024 x) (M .f32 1 1024 g) (M .bf16 1024 2048 w) (M .f32 1 512 lb)
      = M .bf16 256 512 (qtR 0 (hq x w g) (hG x w lb g)) := by
  unfold kernelRun0_B.sl.r_18
  rw [v30, v126 h, v164 h]
  exact pay42_M

theorem r_19 (h : ∀ b < 512, 0 < lb 0 b ∧ lb 0 b < 1) :
    kernelRun0_B.sl.r_19 (F := Ideal) c arg2 harg2 arg3 harg3 arg4 harg4 arg5 harg5 arg23 arg24 (M .f32 256 1024 x) (M .f32 1 1024 g) (M .bf16 1024 2048 w) (M .f32 1 512 lb)
      = M .bf16 256 512 (qtR 1 (hq x w g) (hG x w lb g)) := by
  unfold kernelRun0_B.sl.r_19
  rw [v30, v126 h, v164 h]
  exact pay43_M

theorem r_20 (h : ∀ b < 512, 0 < lb 0 b ∧ lb 0 b < 1) :
    kernelRun0_B.sl.r_20 (F := Ideal) c arg2 harg2 arg3 harg3 arg4 harg4 arg5 harg5 arg23 arg24 (M .f32 256 1024 x) (M .f32 1 1024 g) (M .bf16 1024 2048 w) (M .f32 1 512 lb)
      = M .bf16 256 512 (qtR 2 (hq x w g) (hG x w lb g)) := by
  unfold kernelRun0_B.sl.r_20
  rw [v30, v126 h, v164 h]
  exact pay44_M

theorem r_17 (h : ∀ b < 512, 0 < lb 0 b ∧ lb 0 b < 1) :
    kernelRun0_B.sl.r_17 (F := Ideal) c arg2 harg2 arg3 harg3 arg4 harg4 arg5 harg5 arg23 arg24 (M .f32 256 1024 x) (M .f32 1 1024 g) (M .bf16 1024 2048 w) (M .f32 1 512 lb)
      = M .f32 256 512 (fun r c => (hq x w g) r c * Real.exp ((hG x w lb g) r c - baseR (hG x w lb g) r c)) := by
  unfold kernelRun0_B.sl.r_17
  rw [v30, v126 h, v164 h]
  exact pay41_M

theorem r_21 :
    kernelRun0_B.sl.r_21
      = B 256 512 (fun a _ => a % 64 / 16 = 3) := by
  unfold kernelRun0_B.sl.r_21
  exact pay45_M

theorem r_22 (h : ∀ b < 512, 0 < lb 0 b ∧ lb 0 b < 1) :
    kernelRun0_B.sl.r_22 (F := Ideal) c arg2 harg2 arg3 harg3 arg4 harg4 arg5 harg5 arg23 arg24 (M .f32 256 1024 x) (M .f32 1 1024 g) (M .bf16 1024 2048 w) (M .f32 1 512 lb)
      = M .bf16 256 512 (qtR 3 (hq x w g) (hG x w lb g)) := by
  unfold kernelRun0_B.sl.r_22
  rw [r_17 h, r_21]
  exact pay47_M

theorem r_4 :
    kernelRun0_B.sl.r_4 (F := Ideal) c arg2 harg2 arg3 harg3 arg4 harg4 arg5 harg5 arg24 (M .f32 256 1024 x) (M .f32 1 1024 g) (M .bf16 1024 2048 w) (M .f32 1 512 lb)
      = M .f32 256 512 (hk x w lb g) := by
  unfold kernelRun0_B.sl.r_4
  rw [r_1, v31]
  exact pay16_M

theorem r_23 (h : ∀ b < 512, 0 < lb 0 b ∧ lb 0 b < 1) :
    kernelRun0_B.sl.r_23 (F := Ideal) c arg2 harg2 arg3 harg3 arg4 harg4 arg5 harg5 arg23 arg24 (M .f32 256 1024 x) (M .f32 1 1024 g) (M .bf16 1024 2048 w) (M .f32 1 512 lb)
      = M .bf16 256 512 (ktR 0 (hk x w lb g) (hG x w lb g)) := by
  unfold kernelRun0_B.sl.r_23
  rw [r_4, v126 h]
  exact pay48_M

theorem r_24 (h : ∀ b < 512, 0 < lb 0 b ∧ lb 0 b < 1) :
    kernelRun0_B.sl.r_24 (F := Ideal) c arg2 harg2 arg3 harg3 arg4 harg4 arg5 harg5 arg23 arg24 (M .f32 256 1024 x) (M .f32 1 1024 g) (M .bf16 1024 2048 w) (M .f32 1 512 lb)
      = M .bf16 256 512 (ktR 1 (hk x w lb g) (hG x w lb g)) := by
  unfold kernelRun0_B.sl.r_24
  rw [r_4, v126 h, v128 h, v137 h, v146 h, v155 h]
  exact pay49_M

theorem r_25 (h : ∀ b < 512, 0 < lb 0 b ∧ lb 0 b < 1) :
    kernelRun0_B.sl.r_25 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 31 0 (hG x w lb g) 0 b) := by
  unfold kernelRun0_B.sl.r_25 k0_pay50
  rw [v131 h]
  exact row_64 _

theorem r_26 (h : ∀ b < 512, 0 < lb 0 b ∧ lb 0 b < 1) :
    kernelRun0_B.sl.r_26 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 95 0 (hG x w lb g) 0 b) := by
  unfold kernelRun0_B.sl.r_26 k0_pay51
  rw [v140 h]
  exact row_64 _

theorem r_27 (h : ∀ b < 512, 0 < lb 0 b ∧ lb 0 b < 1) :
    kernelRun0_B.sl.r_27 (F := Ideal) c arg2 harg2 arg3 harg3 arg4 harg4 arg5 harg5 arg23 arg24 (M .f32 256 1024 x) (M .f32 1 1024 g) (M .bf16 1024 2048 w) (M .f32 1 512 lb)
      = M .bf16 256 512 (ktR 2 (hk x w lb g) (hG x w lb g)) := by
  unfold kernelRun0_B.sl.r_27
  rw [r_4, v126 h, r_25 h, r_26 h, v149 h, v158 h]
  exact pay52_M

theorem v316 (h : ∀ b < 512, 0 < lb 0 b ∧ lb 0 b < 1) :
    kernelRun0_B.sl.v316 (F := Ideal) c arg2 harg2 arg3 harg3 arg4 harg4 arg5 harg5 arg23 arg24 (M .f32 256 1024 x) (M .f32 1 1024 g) (M .bf16 1024 2048 w) (M .f32 1 512 lb)
      = M .f32 1 512 (sh 239 0 (hG x w lb g)) := by
  unfold kernelRun0_B.sl.v316
  rw [HS1_1 h]
  exact readCov_M _ _ _ _ _ _ _

theorem r_28 (h : ∀ b < 512, 0 < lb 0 b ∧ lb 0 b < 1) :
    kernelRun0_B.sl.r_28 (F := Ideal) c arg2 harg2 arg3 harg3 arg4 harg4 arg5 harg5 arg23 arg24 (M .f32 256 1024 x) (M .f32 1 1024 g) (M .bf16 1024 2048 w) (M .f32 1 512 lb)
      = M .bf16 256 512 (ktR 3 (hk x w lb g) (hG x w lb g)) := by
  unfold kernelRun0_B.sl.r_28
  rw [r_4, v126 h, v134 h, v143 h, v152 h, v316 h]
  exact pay53_M

theorem r_67 (h : ∀ b < 512, 0 < lb 0 b ∧ lb 0 b < 1) :
    kernelRun0_B.sl.r_67 (F := Ideal) c arg2 harg2 arg3 harg3 arg4 harg4 arg5 harg5 arg23 arg24 (M .f32 256 1024 x) (M .f32 1 1024 g) (M .bf16 1024 2048 w) (M .f32 1 512 lb)
      = M .bf16 64 64 (probsR 192 384 (hq x w g) (hk x w lb g) (hG x w lb g)) := by
  unfold kernelRun0_B.sl.r_67
  rw [r_18 h, r_19 h, r_20 h, r_22 h, r_23 h, r_24 h, r_27 h, r_28 h]
  exact pay93_M

theorem v165 (h : ∀ b < 512, 0 < lb 0 b ∧ lb 0 b < 1) :
    kernelRun0_B.sl.v165 (F := Ideal) c arg2 harg2 arg3 harg3 arg4 harg4 arg5 harg5 arg23 arg24 (M .f32 256 1024 x) (M .f32 1 1024 g) (M .bf16 1024 2048 w) (M .f32 1 512 lb)
      = M .f32 1 512 (sh 63 0 (hG x w lb g)) := by
  unfold kernelRun0_B.sl.v165
  rw [HS1_1 h]
  exact readCov_M _ _ _ _ _ _ _

theorem v167 (h : ∀ b < 512, 0 < lb 0 b ∧ lb 0 b < 1) :
    kernelRun0_B.sl.v167 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 63 0 (hG x w lb g) 0 b) := by
  unfold kernelRun0_B.sl.v167 kernelRun0_B.sl.v166
  rw [v165 h]
  exact row_64 _

theorem v168 (h : ∀ b < 512, 0 < lb 0 b ∧ lb 0 b < 1) :
    kernelRun0_B.sl.v168 (F := Ideal) c arg2 harg2 arg3 harg3 arg4 harg4 arg5 harg5 arg23 arg24 (M .f32 256 1024 x) (M .f32 1 1024 g) (M .bf16 1024 2048 w) (M .f32 1 512 lb)
      = M .f32 1 512 (sh 127 0 (hG x w lb g)) := by
  unfold kernelRun0_B.sl.v168
  rw [HS1_1 h]
  exact readCov_M _ _ _ _ _ _ _

theorem v170 (h : ∀ b < 512, 0 < lb 0 b ∧ lb 0 b < 1) :
    kernelRun0_B.sl.v170 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 127 0 (hG x w lb g) 0 b) := by
  unfold kernelRun0_B.sl.v170 kernelRun0_B.sl.v169
  rw [v168 h]
  exact row_64 _

theorem v171 (h : ∀ b < 512, 0 < lb 0 b ∧ lb 0 b < 1) :
    kernelRun0_B.sl.v171 (F := Ideal) c arg2 harg2 arg3 harg3 arg4 harg4 arg5 harg5 arg23 arg24 (M .f32 256 1024 x) (M .f32 1 1024 g) (M .bf16 1024 2048 w) (M .f32 1 512 lb)
      = M .f32 1 512 (sh 191 0 (hG x w lb g)) := by
  unfold kernelRun0_B.sl.v171
  rw [HS1_1 h]
  exact readCov_M _ _ _ _ _ _ _

theorem v173 (h : ∀ b < 512, 0 < lb 0 b ∧ lb 0 b < 1) :
    kernelRun0_B.sl.v173 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 191 0 (hG x w lb g) 0 b) := by
  unfold kernelRun0_B.sl.v173 kernelRun0_B.sl.v172
  rw [v171 h]
  exact row_64 _

theorem v174 (h : ∀ b < 512, 0 < lb 0 b ∧ lb 0 b < 1) :
    kernelRun0_B.sl.v174 (F := Ideal) c arg2 harg2 arg3 harg3 arg4 harg4 arg5 harg5 arg23 arg24 (M .f32 256 1024 x) (M .f32 1 1024 g) (M .bf16 1024 2048 w) (M .f32 1 512 lb)
      = M .f32 1 512 (sh 255 0 (hG x w lb g)) := by
  unfold kernelRun0_B.sl.v174
  rw [HS1_1 h]
  exact readCov_M _ _ _ _ _ _ _

theorem v176 (h : ∀ b < 512, 0 < lb 0 b ∧ lb 0 b < 1) :
    kernelRun0_B.sl.v176 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 255 0 (hG x w lb g) 0 b) := by
  unfold kernelRun0_B.sl.v176 kernelRun0_B.sl.v175
  rw [v174 h]
  exact row_64 _

theorem v177 (h : ∀ b < 512, 0 < lb 0 b ∧ lb 0 b < 1) :
    kernelRun0_B.sl.v177 (F := Ideal) c arg2 harg2 arg3 harg3 arg4 harg4 arg5 harg5 arg23 arg24 (M .f32 256 1024 x) (M .f32 1 1024 g) (M .bf16 1024 2048 w) (M .f32 1 512 lb)
      = M .f32 256 512 (gendR (hG x w lb g)) := by
  unfold kernelRun0_B.sl.v177
  rw [v167 h, v170 h, v173 h, v176 h]
  exact cat_gend

theorem r_30 (h : ∀ b < 512, 0 < lb 0 b ∧ lb 0 b < 1) :
    kernelRun0_B.sl.r_30 (F := Ideal) c arg2 harg2 arg3 harg3 arg4 harg4 arg5 harg5 arg23 arg24 (M .f32 256 1024 x) (M .f32 1 1024 g) (M .bf16 1024 2048 w) (M .f32 1 512 lb)
      = M .f32 256 512 (fun a b => Real.exp (gendR (hG x w lb g) a b - (hG x w lb g) a b)) := by
  unfold kernelRun0_B.sl.r_30
  rw [v126 h, v177 h]
  exact pay55_M

theorem r_31 (h : ∀ b < 512, 0 < lb 0 b ∧ lb 0 b < 1) :
    kernelRun0_B.sl.r_31 (F := Ideal) c arg2 harg2 arg3 harg3 arg4 harg4 arg5 harg5 arg23 arg24 (M .f32 256 1024 x) (M .f32 1 1024 g) (M .bf16 1024 2048 w) (M .f32 1 512 lb)
      = M .bf16 256 512 (fun a b => (hk x w lb g) a b * Real.exp (gendR (hG x w lb g) a b - (hG x w lb g) a b)) := by
  unfold kernelRun0_B.sl.r_31
  rw [r_4, r_30 h]
  exact pay56_M

theorem r_59 (h : ∀ b < 512, 0 < lb 0 b ∧ lb 0 b < 1) :
    kernelRun0_B.sl.r_59 (F := Ideal) c arg2 harg2 arg3 harg3 arg4 harg4 arg5 harg5 arg23 arg24 (M .f32 256 1024 x) (M .f32 1 1024 g) (M .bf16 1024 2048 w) (M .f32 1 512 lb)
      = M .f32 128 128 (updR 128 384 (hv x w g) (hk x w lb g) (hG x w lb g)) := by
  unfold kernelRun0_B.sl.r_59
  rw [r_5, r_31 h]
  exact pay85_M

theorem r_40 (h : ∀ b < 512, 0 < lb 0 b ∧ lb 0 b < 1) :
    kernelRun0_B.sl.r_40 (F := Ideal) c arg2 harg2 arg3 harg3 arg4 harg4 arg5 harg5 arg23 arg24 (M .f32 256 1024 x) (M .f32 1 1024 g) (M .bf16 1024 2048 w) (M .f32 1 512 lb)
      = M .f32 128 128 (updR 0 384 (hv x w g) (hk x w lb g) (hG x w lb g)) := by
  unfold kernelRun0_B.sl.r_40
  rw [r_5, r_31 h]
  exact pay66_M

theorem r_49 (h : ∀ b < 512, 0 < lb 0 b ∧ lb 0 b < 1) :
    kernelRun0_B.sl.r_49 (F := Ideal) c arg2 harg2 arg3 harg3 arg4 harg4 arg5 harg5 arg23 arg24 (M .f32 256 1024 x) (M .f32 1 1024 g) (M .bf16 1024 2048 w) (M .f32 1 512 lb)
      = M .f32 128 128 (updR 64 384 (hv x w g) (hk x w lb g) (hG x w lb g)) := by
  unfold kernelRun0_B.sl.r_49
  rw [r_5, r_31 h]
  exact pay75_M

theorem v699 :
    kernelRun0_B.sl.v699 (F := Ideal) c arg22 harg22 (M3 .f32 4 128 128 S)
      = M3 .f32 1 128 128 (fun _ => S 3) := by
  unfold kernelRun0_B.sl.v699
  exact readAt_head _ _ _ _

theorem v702 (h : ∀ b < 512, 0 < lb 0 b ∧ lb 0 b < 1) :
    kernelRun0_B.sl.v702 (F := Ideal) c arg2 harg2 arg3 harg3 arg4 harg4 arg5 harg5 arg23 arg24 (M .f32 256 1024 x) (M .f32 1 1024 g) (M .bf16 1024 2048 w) (M .f32 1 512 lb)
      = M .f32 1 128 (sh 63 384 (hG x w lb g)) := by
  unfold kernelRun0_B.sl.v702
  rw [HS1_1 h]
  exact readCov_M _ _ _ _ _ _ _

theorem v708 (h : ∀ b < 512, 0 < lb 0 b ∧ lb 0 b < 1) :
    kernelRun0_B.sl.v708 (F := Ideal) c arg2 harg2 arg3 harg3 arg4 harg4 arg5 harg5 arg23 arg24 (M .f32 256 1024 x) (M .f32 1 1024 g) (M .bf16 1024 2048 w) (M .f32 1 512 lb)
      = M .f32 1 128 (sh 127 384 (hG x w lb g)) := by
  unfold kernelRun0_B.sl.v708
  rw [HS1_1 h]
  exact readCov_M _ _ _ _ _ _ _

theorem r_86 (h : ∀ b < 512, 0 < lb 0 b ∧ lb 0 b < 1) :
    kernelRun0_B.sl.r_86 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .f32 128 128 (hst x w lb g S 384 3 2) := by
  unfold kernelRun0_B.sl.r_86
  rw [r_40 h, r_49 h, v699, v702 h, v708 h]
  exact pay127_M (f := fun _ => S 3)

theorem v714 (h : ∀ b < 512, 0 < lb 0 b ∧ lb 0 b < 1) :
    kernelRun0_B.sl.v714 (F := Ideal) c arg2 harg2 arg3 harg3 arg4 harg4 arg5 harg5 arg23 arg24 (M .f32 256 1024 x) (M .f32 1 1024 g) (M .bf16 1024 2048 w) (M .f32 1 512 lb)
      = M .f32 1 128 (sh 191 384 (hG x w lb g)) := by
  unfold kernelRun0_B.sl.v714
  rw [HS1_1 h]
  exact readCov_M _ _ _ _ _ _ _

theorem r_88 (h : ∀ b < 512, 0 < lb 0 b ∧ lb 0 b < 1) :
    kernelRun0_B.sl.r_88 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 384 3 3) := by
  unfold kernelRun0_B.sl.r_88
  rw [r_59 h, r_86 h, v714 h]
  exact pay130_M (f := fun _ => S 3)

theorem v1163 :
    kernelRun0_B.sl.v1163 (F := Ideal) c arg2 harg2 arg3 harg3 arg4 harg4 arg24 (M .f32 256 1024 x) (M .f32 1 1024 g) (M .bf16 1024 2048 w)
      = M .f32 64 128 (sh 192 1920 (projR x g w)) := by
  unfold kernelRun0_B.sl.v1163
  rw [HS2_1]
  exact readCov_M _ _ _ _ _ _ _

theorem r_2 :
    kernelRun0_B.sl.r_2 (F := Ideal) c arg6 harg6 (M .f32 1 512 ng)
      = M .f32 1 512 ng := by
  unfold kernelRun0_B.sl.r_2
  rw [readAt_whole, pay11_M]

theorem r_38 (h : ∀ b < 512, 0 < lb 0 b ∧ lb 0 b < 1) :
    kernelRun0_B.sl.r_38 (F := Ideal) c arg2 harg2 arg3 harg3 arg4 harg4 arg5 harg5 arg23 arg24 (M .f32 256 1024 x) (M .f32 1 1024 g) (M .bf16 1024 2048 w) (M .f32 1 512 lb)
      = M .f32 128 128 (updR 0 256 (hv x w g) (hk x w lb g) (hG x w lb g)) := by
  unfold kernelRun0_B.sl.r_38
  rw [r_5, r_31 h]
  exact pay64_M

theorem r_47 (h : ∀ b < 512, 0 < lb 0 b ∧ lb 0 b < 1) :
    kernelRun0_B.sl.r_47 (F := Ideal) c arg2 harg2 arg3 harg3 arg4 harg4 arg5 harg5 arg23 arg24 (M .f32 256 1024 x) (M .f32 1 1024 g) (M .bf16 1024 2048 w) (M .f32 1 512 lb)
      = M .f32 128 128 (updR 64 256 (hv x w g) (hk x w lb g) (hG x w lb g)) := by
  unfold kernelRun0_B.sl.r_47
  rw [r_5, r_31 h]
  exact pay73_M

theorem r_56 (h : ∀ b < 512, 0 < lb 0 b ∧ lb 0 b < 1) :
    kernelRun0_B.sl.r_56 (F := Ideal) c arg2 harg2 arg3 harg3 arg4 harg4 arg5 harg5 arg23 arg24 (M .f32 256 1024 x) (M .f32 1 1024 g) (M .bf16 1024 2048 w) (M .f32 1 512 lb)
      = M .f32 128 128 (updR 128 256 (hv x w g) (hk x w lb g) (hG x w lb g)) := by
  unfold kernelRun0_B.sl.r_56
  rw [r_5, r_31 h]
  exact pay82_M

theorem v670 :
    kernelRun0_B.sl.v670 (F := Ideal) c arg22 harg22 (M3 .f32 4 128 128 S)
      = M3 .f32 1 128 128 (fun _ => S 2) := by
  unfold kernelRun0_B.sl.v670
  exact readAt_head _ _ _ _

theorem r_79 :
    kernelRun0_B.sl.r_79 (F := Ideal) c arg22 harg22 (M3 .f32 4 128 128 S)
      = M .f32 128 128 (hst x w lb g S 256 2 0) := by
  unfold kernelRun0_B.sl.r_79
  rw [v670]
  exact pay114_M (f := fun _ => S 2)

theorem v673 (h : ∀ b < 512, 0 < lb 0 b ∧ lb 0 b < 1) :
    kernelRun0_B.sl.v673 (F := Ideal) c arg2 harg2 arg3 harg3 arg4 harg4 arg5 harg5 arg23 arg24 (M .f32 256 1024 x) (M .f32 1 1024 g) (M .bf16 1024 2048 w) (M .f32 1 512 lb)
      = M .f32 1 128 (sh 63 256 (hG x w lb g)) := by
  unfold kernelRun0_B.sl.v673
  rw [HS1_1 h]
  exact readCov_M _ _ _ _ _ _ _

theorem v679 (h : ∀ b < 512, 0 < lb 0 b ∧ lb 0 b < 1) :
    kernelRun0_B.sl.v679 (F := Ideal) c arg2 harg2 arg3 harg3 arg4 harg4 arg5 harg5 arg23 arg24 (M .f32 256 1024 x) (M .f32 1 1024 g) (M .bf16 1024 2048 w) (M .f32 1 512 lb)
      = M .f32 1 128 (sh 127 256 (hG x w lb g)) := by
  unfold kernelRun0_B.sl.v679
  rw [HS1_1 h]
  exact readCov_M _ _ _ _ _ _ _

theorem v685 (h : ∀ b < 512, 0 < lb 0 b ∧ lb 0 b < 1) :
    kernelRun0_B.sl.v685 (F := Ideal) c arg2 harg2 arg3 harg3 arg4 harg4 arg5 harg5 arg23 arg24 (M .f32 256 1024 x) (M .f32 1 1024 g) (M .bf16 1024 2048 w) (M .f32 1 512 lb)
      = M .f32 1 128 (sh 191 256 (hG x w lb g)) := by
  unfold kernelRun0_B.sl.v685
  rw [HS1_1 h]
  exact readCov_M _ _ _ _ _ _ _

theorem r_83 (h : ∀ b < 512, 0 < lb 0 b ∧ lb 0 b < 1) :
    kernelRun0_B.sl.r_83 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 256 2 3) := by
  unfold kernelRun0_B.sl.r_83
  rw [r_38 h, r_47 h, r_56 h, r_79, v673 h, v679 h, v685 h]
  exact pay121_M (f := fun _ => S 2)

theorem r_64 (h : ∀ b < 512, 0 < lb 0 b ∧ lb 0 b < 1) :
    kernelRun0_B.sl.r_64 (F := Ideal) c arg2 harg2 arg3 harg3 arg4 harg4 arg5 harg5 arg23 arg24 (M .f32 256 1024 x) (M .f32 1 1024 g) (M .bf16 1024 2048 w) (M .f32 1 512 lb)
      = M .f32 64 64 (probsR 192 256 (hq x w g) (hk x w lb g) (hG x w lb g)) := by
  unfold kernelRun0_B.sl.r_64
  rw [r_18 h, r_19 h, r_20 h, r_22 h, r_23 h, r_24 h, r_27 h, r_28 h]
  exact pay90_M

theorem r_65 (h : ∀ b < 512, 0 < lb 0 b ∧ lb 0 b < 1) :
    kernelRun0_B.sl.r_65 (F := Ideal) c arg2 harg2 arg3 harg3 arg4 harg4 arg5 harg5 arg23 arg24 (M .f32 256 1024 x) (M .f32 1 1024 g) (M .bf16 1024 2048 w) (M .f32 1 512 lb)
      = M .bf16 64 64 (probsR 192 256 (hq x w g) (hk x w lb g) (hG x w lb g)) := by
  unfold kernelRun0_B.sl.r_65
  rw [r_64 h]
  rfl

theorem v1135 :
    kernelRun0_B.sl.v1135 (F := Ideal) c arg2 harg2 arg3 harg3 arg4 harg4 arg24 (M .f32 256 1024 x) (M .f32 1 1024 g) (M .bf16 1024 2048 w)
      = M .f32 64 128 (sh 192 1792 (projR x g w)) := by
  unfold kernelRun0_B.sl.v1135
  rw [HS2_1]
  exact readCov_M _ _ _ _ _ _ _

theorem r_62 (h : ∀ b < 512, 0 < lb 0 b ∧ lb 0 b < 1) :
    kernelRun0_B.sl.r_62 (F := Ideal) c arg2 harg2 arg3 harg3 arg4 harg4 arg5 harg5 arg23 arg24 (M .f32 256 1024 x) (M .f32 1 1024 g) (M .bf16 1024 2048 w) (M .f32 1 512 lb)
      = M .bf16 64 64 (probsR 192 128 (hq x w g) (hk x w lb g) (hG x w lb g)) := by
  unfold kernelRun0_B.sl.r_62
  rw [r_18 h, r_19 h, r_20 h, r_22 h, r_23 h, r_24 h, r_27 h, r_28 h]
  exact pay88_M

theorem r_35 (h : ∀ b < 512, 0 < lb 0 b ∧ lb 0 b < 1) :
    kernelRun0_B.sl.r_35 (F := Ideal) c arg2 harg2 arg3 harg3 arg4 harg4 arg5 harg5 arg23 arg24 (M .f32 256 1024 x) (M .f32 1 1024 g) (M .bf16 1024 2048 w) (M .f32 1 512 lb)
      = M .f32 128 128 (updR 0 128 (hv x w g) (hk x w lb g) (hG x w lb g)) := by
  unfold kernelRun0_B.sl.r_35
  rw [r_4, r_5, r_30 h]
  exact pay61_M

theorem r_45 (h : ∀ b < 512, 0 < lb 0 b ∧ lb 0 b < 1) :
    kernelRun0_B.sl.r_45 (F := Ideal) c arg2 harg2 arg3 harg3 arg4 harg4 arg5 harg5 arg23 arg24 (M .f32 256 1024 x) (M .f32 1 1024 g) (M .bf16 1024 2048 w) (M .f32 1 512 lb)
      = M .f32 128 128 (updR 64 128 (hv x w g) (hk x w lb g) (hG x w lb g)) := by
  unfold kernelRun0_B.sl.r_45
  rw [r_5, r_31 h]
  exact pay71_M

theorem r_54 (h : ∀ b < 512, 0 < lb 0 b ∧ lb 0 b < 1) :
    kernelRun0_B.sl.r_54 (F := Ideal) c arg2 harg2 arg3 harg3 arg4 harg4 arg5 harg5 arg23 arg24 (M .f32 256 1024 x) (M .f32 1 1024 g) (M .bf16 1024 2048 w) (M .f32 1 512 lb)
      = M .f32 128 128 (updR 128 128 (hv x w g) (hk x w lb g) (hG x w lb g)) := by
  unfold kernelRun0_B.sl.r_54
  rw [r_5, r_31 h]
  exact pay80_M

theorem v641 :
    kernelRun0_B.sl.v641 (F := Ideal) c arg22 harg22 (M3 .f32 4 128 128 S)
      = M3 .f32 1 128 128 (fun _ => S 1) := by
  unfold kernelRun0_B.sl.v641
  exact readAt_head _ _ _ _

theorem v644 (h : ∀ b < 512, 0 < lb 0 b ∧ lb 0 b < 1) :
    kernelRun0_B.sl.v644 (F := Ideal) c arg2 harg2 arg3 harg3 arg4 harg4 arg5 harg5 arg23 arg24 (M .f32 256 1024 x) (M .f32 1 1024 g) (M .bf16 1024 2048 w) (M .f32 1 512 lb)
      = M .f32 1 128 (sh 63 128 (hG x w lb g)) := by
  unfold kernelRun0_B.sl.v644
  rw [HS1_1 h]
  exact readCov_M _ _ _ _ _ _ _

theorem v650 (h : ∀ b < 512, 0 < lb 0 b ∧ lb 0 b < 1) :
    kernelRun0_B.sl.v650 (F := Ideal) c arg2 harg2 arg3 harg3 arg4 harg4 arg5 harg5 arg23 arg24 (M .f32 256 1024 x) (M .f32 1 1024 g) (M .bf16 1024 2048 w) (M .f32 1 512 lb)
      = M .f32 1 128 (sh 127 128 (hG x w lb g)) := by
  unfold kernelRun0_B.sl.v650
  rw [HS1_1 h]
  exact readCov_M _ _ _ _ _ _ _

theorem v656 (h : ∀ b < 512, 0 < lb 0 b ∧ lb 0 b < 1) :
    kernelRun0_B.sl.v656 (F := Ideal) c arg2 harg2 arg3 harg3 arg4 harg4 arg5 harg5 arg23 arg24 (M .f32 256 1024 x) (M .f32 1 1024 g) (M .bf16 1024 2048 w) (M .f32 1 512 lb)
      = M .f32 1 128 (sh 191 128 (hG x w lb g)) := by
  unfold kernelRun0_B.sl.v656
  rw [HS1_1 h]
  exact readCov_M _ _ _ _ _ _ _

theorem r_78 (h : ∀ b < 512, 0 < lb 0 b ∧ lb 0 b < 1) :
    kernelRun0_B.sl.r_78 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 128 1 3) := by
  unfold kernelRun0_B.sl.r_78
  rw [r_35 h, r_45 h, r_54 h, v641, v644 h, v650 h, v656 h]
  exact pay112_M (f := fun _ => S 1)

theorem v1107 :
    kernelRun0_B.sl.v1107 (F := Ideal) c arg2 harg2 arg3 harg3 arg4 harg4 arg24 (M .f32 256 1024 x) (M .f32 1 1024 g) (M .bf16 1024 2048 w)
      = M .f32 64 128 (sh 192 1664 (projR x g w)) := by
  unfold kernelRun0_B.sl.v1107
  rw [HS2_1]
  exact readCov_M _ _ _ _ _ _ _

theorem v1079 :
    kernelRun0_B.sl.v1079 (F := Ideal) c arg2 harg2 arg3 harg3 arg4 harg4 arg24 (M .f32 256 1024 x) (M .f32 1 1024 g) (M .bf16 1024 2048 w)
      = M .f32 64 128 (sh 192 1536 (projR x g w)) := by
  unfold kernelRun0_B.sl.v1079
  rw [HS2_1]
  exact readCov_M _ _ _ _ _ _ _

theorem r_60 (h : ∀ b < 512, 0 < lb 0 b ∧ lb 0 b < 1) :
    kernelRun0_B.sl.r_60 (F := Ideal) c arg2 harg2 arg3 harg3 arg4 harg4 arg5 harg5 arg23 arg24 (M .f32 256 1024 x) (M .f32 1 1024 g) (M .bf16 1024 2048 w) (M .f32 1 512 lb)
      = M .bf16 64 64 (probsR 192 0 (hq x w g) (hk x w lb g) (hG x w lb g)) := by
  unfold kernelRun0_B.sl.r_60
  rw [r_18 h, r_19 h, r_20 h, r_22 h, r_23 h, r_24 h, r_27 h, r_28 h]
  exact pay86_M

theorem r_33 (h : ∀ b < 512, 0 < lb 0 b ∧ lb 0 b < 1) :
    kernelRun0_B.sl.r_33 (F := Ideal) c arg2 harg2 arg3 harg3 arg4 harg4 arg5 harg5 arg23 arg24 (M .f32 256 1024 x) (M .f32 1 1024 g) (M .bf16 1024 2048 w) (M .f32 1 512 lb)
      = M .f32 128 128 (updR 0 0 (hv x w g) (hk x w lb g) (hG x w lb g)) := by
  unfold kernelRun0_B.sl.r_33
  rw [r_4, r_5, r_30 h]
  exact pay59_M

theorem r_42 (h : ∀ b < 512, 0 < lb 0 b ∧ lb 0 b < 1) :
    kernelRun0_B.sl.r_42 (F := Ideal) c arg2 harg2 arg3 harg3 arg4 harg4 arg5 harg5 arg23 arg24 (M .f32 256 1024 x) (M .f32 1 1024 g) (M .bf16 1024 2048 w) (M .f32 1 512 lb)
      = M .f32 128 128 (updR 64 0 (hv x w g) (hk x w lb g) (hG x w lb g)) := by
  unfold kernelRun0_B.sl.r_42
  rw [r_5, r_31 h]
  exact pay68_M

theorem r_52 (h : ∀ b < 512, 0 < lb 0 b ∧ lb 0 b < 1) :
    kernelRun0_B.sl.r_52 (F := Ideal) c arg2 harg2 arg3 harg3 arg4 harg4 arg5 harg5 arg23 arg24 (M .f32 256 1024 x) (M .f32 1 1024 g) (M .bf16 1024 2048 w) (M .f32 1 512 lb)
      = M .f32 128 128 (updR 128 0 (hv x w g) (hk x w lb g) (hG x w lb g)) := by
  unfold kernelRun0_B.sl.r_52
  rw [r_5, r_31 h]
  exact pay78_M

theorem v615 (h : ∀ b < 512, 0 < lb 0 b ∧ lb 0 b < 1) :
    kernelRun0_B.sl.v615 (F := Ideal) c arg2 harg2 arg3 harg3 arg4 harg4 arg5 harg5 arg23 arg24 (M .f32 256 1024 x) (M .f32 1 1024 g) (M .bf16 1024 2048 w) (M .f32 1 512 lb)
      = M .f32 1 128 (sh 63 0 (hG x w lb g)) := by
  unfold kernelRun0_B.sl.v615
  rw [HS1_1 h]
  exact readCov_M _ _ _ _ _ _ _

theorem v621 (h : ∀ b < 512, 0 < lb 0 b ∧ lb 0 b < 1) :
    kernelRun0_B.sl.v621 (F := Ideal) c arg2 harg2 arg3 harg3 arg4 harg4 arg5 harg5 arg23 arg24 (M .f32 256 1024 x) (M .f32 1 1024 g) (M .bf16 1024 2048 w) (M .f32 1 512 lb)
      = M .f32 1 128 (sh 127 0 (hG x w lb g)) := by
  unfold kernelRun0_B.sl.v621
  rw [HS1_1 h]
  exact readCov_M _ _ _ _ _ _ _

theorem v627 (h : ∀ b < 512, 0 < lb 0 b ∧ lb 0 b < 1) :
    kernelRun0_B.sl.v627 (F := Ideal) c arg2 harg2 arg3 harg3 arg4 harg4 arg5 harg5 arg23 arg24 (M .f32 256 1024 x) (M .f32 1 1024 g) (M .bf16 1024 2048 w) (M .f32 1 512 lb)
      = M .f32 1 128 (sh 191 0 (hG x w lb g)) := by
  unfold kernelRun0_B.sl.v627
  rw [HS1_1 h]
  exact readCov_M _ _ _ _ _ _ _

theorem r_73 (h : ∀ b < 512, 0 < lb 0 b ∧ lb 0 b < 1) :
    kernelRun0_B.sl.r_73 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 0 0 3) := by
  unfold kernelRun0_B.sl.r_73
  rw [readAt_head, r_33 h, r_42 h, r_52 h, v615 h, v621 h, v627 h]
  exact pay102_M (f := fun _ => S 0)

theorem r_57 (h : ∀ b < 512, 0 < lb 0 b ∧ lb 0 b < 1) :
    kernelRun0_B.sl.r_57 (F := Ideal) c arg2 harg2 arg3 harg3 arg4 harg4 arg5 harg5 arg23 arg24 (M .f32 256 1024 x) (M .f32 1 1024 g) (M .bf16 1024 2048 w) (M .f32 1 512 lb)
      = M .f32 64 64 (probsR 128 384 (hq x w g) (hk x w lb g) (hG x w lb g)) := by
  unfold kernelRun0_B.sl.r_57
  rw [r_18 h, r_19 h, r_20 h, r_22 h, r_23 h, r_24 h, r_27 h, r_28 h]
  exact pay83_M

theorem r_58 (h : ∀ b < 512, 0 < lb 0 b ∧ lb 0 b < 1) :
    kernelRun0_B.sl.r_58 (F := Ideal) c arg2 harg2 arg3 harg3 arg4 harg4 arg5 harg5 arg23 arg24 (M .f32 256 1024 x) (M .f32 1 1024 g) (M .bf16 1024 2048 w) (M .f32 1 512 lb)
      = M .bf16 64 64 (probsR 128 384 (hq x w g) (hk x w lb g) (hG x w lb g)) := by
  unfold kernelRun0_B.sl.r_58
  rw [r_57 h]
  rfl

theorem r_87 (h : ∀ b < 512, 0 < lb 0 b ∧ lb 0 b < 1) :
    kernelRun0_B.sl.r_87 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 384 3 2) := by
  unfold kernelRun0_B.sl.r_87
  rw [r_40 h, r_49 h, v699, v702 h, v708 h]
  exact pay128_M (f := fun _ => S 3)

theorem v1051 :
    kernelRun0_B.sl.v1051 (F := Ideal) c arg2 harg2 arg3 harg3 arg4 harg4 arg24 (M .f32 256 1024 x) (M .f32 1 1024 g) (M .bf16 1024 2048 w)
      = M .f32 64 128 (sh 128 1920 (projR x g w)) := by
  unfold kernelRun0_B.sl.v1051
  rw [HS2_1]
  exact readCov_M _ _ _ _ _ _ _

theorem r_55 (h : ∀ b < 512, 0 < lb 0 b ∧ lb 0 b < 1) :
    kernelRun0_B.sl.r_55 (F := Ideal) c arg2 harg2 arg3 harg3 arg4 harg4 arg5 harg5 arg23 arg24 (M .f32 256 1024 x) (M .f32 1 1024 g) (M .bf16 1024 2048 w) (M .f32 1 512 lb)
      = M .bf16 64 64 (probsR 128 256 (hq x w g) (hk x w lb g) (hG x w lb g)) := by
  unfold kernelRun0_B.sl.r_55
  rw [r_18 h, r_19 h, r_20 h, r_22 h, r_23 h, r_24 h, r_27 h, r_28 h]
  exact pay81_M

theorem r_82 (h : ∀ b < 512, 0 < lb 0 b ∧ lb 0 b < 1) :
    kernelRun0_B.sl.r_82 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 256 2 2) := by
  unfold kernelRun0_B.sl.r_82
  rw [r_38 h, r_47 h, r_79, v673 h, v679 h]
  exact pay119_M (f := fun _ => S 2)

theorem v1023 :
    kernelRun0_B.sl.v1023 (F := Ideal) c arg2 harg2 arg3 harg3 arg4 harg4 arg24 (M .f32 256 1024 x) (M .f32 1 1024 g) (M .bf16 1024 2048 w)
      = M .f32 64 128 (sh 128 1792 (projR x g w)) := by
  unfold kernelRun0_B.sl.v1023
  rw [HS2_1]
  exact readCov_M _ _ _ _ _ _ _

theorem r_53 (h : ∀ b < 512, 0 < lb 0 b ∧ lb 0 b < 1) :
    kernelRun0_B.sl.r_53 (F := Ideal) c arg2 harg2 arg3 harg3 arg4 harg4 arg5 harg5 arg23 arg24 (M .f32 256 1024 x) (M .f32 1 1024 g) (M .bf16 1024 2048 w) (M .f32 1 512 lb)
      = M .bf16 64 64 (probsR 128 128 (hq x w g) (hk x w lb g) (hG x w lb g)) := by
  unfold kernelRun0_B.sl.r_53
  rw [r_18 h, r_19 h, r_20 h, r_22 h, r_23 h, r_24 h, r_27 h, r_28 h]
  exact pay79_M

theorem r_77 (h : ∀ b < 512, 0 < lb 0 b ∧ lb 0 b < 1) :
    kernelRun0_B.sl.r_77 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 128 1 2) := by
  unfold kernelRun0_B.sl.r_77
  rw [r_35 h, r_45 h, v641, v644 h, v650 h]
  exact pay110_M (f := fun _ => S 1)

theorem v995 :
    kernelRun0_B.sl.v995 (F := Ideal) c arg2 harg2 arg3 harg3 arg4 harg4 arg24 (M .f32 256 1024 x) (M .f32 1 1024 g) (M .bf16 1024 2048 w)
      = M .f32 64 128 (sh 128 1664 (projR x g w)) := by
  unfold kernelRun0_B.sl.v995
  rw [HS2_1]
  exact readCov_M _ _ _ _ _ _ _

theorem r_50 (h : ∀ b < 512, 0 < lb 0 b ∧ lb 0 b < 1) :
    kernelRun0_B.sl.r_50 (F := Ideal) c arg2 harg2 arg3 harg3 arg4 harg4 arg5 harg5 arg23 arg24 (M .f32 256 1024 x) (M .f32 1 1024 g) (M .bf16 1024 2048 w) (M .f32 1 512 lb)
      = M .f32 64 64 (probsR 128 0 (hq x w g) (hk x w lb g) (hG x w lb g)) := by
  unfold kernelRun0_B.sl.r_50
  rw [r_18 h, r_19 h, r_20 h, r_22 h, r_23 h, r_24 h, r_27 h, r_28 h]
  exact pay76_M

theorem r_51 (h : ∀ b < 512, 0 < lb 0 b ∧ lb 0 b < 1) :
    kernelRun0_B.sl.r_51 (F := Ideal) c arg2 harg2 arg3 harg3 arg4 harg4 arg5 harg5 arg23 arg24 (M .f32 256 1024 x) (M .f32 1 1024 g) (M .bf16 1024 2048 w) (M .f32 1 512 lb)
      = M .bf16 64 64 (probsR 128 0 (hq x w g) (hk x w lb g) (hG x w lb g)) := by
  unfold kernelRun0_B.sl.r_51
  rw [r_50 h]
  rfl

theorem r_71 (h : ∀ b < 512, 0 < lb 0 b ∧ lb 0 b < 1) :
    kernelRun0_B.sl.r_71 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 0 0 2) := by
  unfold kernelRun0_B.sl.r_71
  rw [readAt_head, r_33 h, r_42 h, v615 h, v621 h]
  exact pay100_M (f := fun _ => S 0)

theorem v967 :
    kernelRun0_B.sl.v967 (F := Ideal) c arg2 harg2 arg3 harg3 arg4 harg4 arg24 (M .f32 256 1024 x) (M .f32 1 1024 g) (M .bf16 1024 2048 w)
      = M .f32 64 128 (sh 128 1536 (projR x g w)) := by
  unfold kernelRun0_B.sl.v967
  rw [HS2_1]
  exact readCov_M _ _ _ _ _ _ _

theorem r_48 (h : ∀ b < 512, 0 < lb 0 b ∧ lb 0 b < 1) :
    kernelRun0_B.sl.r_48 (F := Ideal) c arg2 harg2 arg3 harg3 arg4 harg4 arg5 harg5 arg23 arg24 (M .f32 256 1024 x) (M .f32 1 1024 g) (M .bf16 1024 2048 w) (M .f32 1 512 lb)
      = M .bf16 64 64 (probsR 64 384 (hq x w g) (hk x w lb g) (hG x w lb g)) := by
  unfold kernelRun0_B.sl.r_48
  rw [r_18 h, r_19 h, r_20 h, r_22 h, r_23 h, r_24 h, r_27 h, r_28 h]
  exact pay74_M

theorem r_85 (h : ∀ b < 512, 0 < lb 0 b ∧ lb 0 b < 1) :
    kernelRun0_B.sl.r_85 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 384 3 1) := by
  unfold kernelRun0_B.sl.r_85
  rw [r_40 h, v699, v702 h]
  exact pay126_M (f := fun _ => S 3)

theorem v939 :
    kernelRun0_B.sl.v939 (F := Ideal) c arg2 harg2 arg3 harg3 arg4 harg4 arg24 (M .f32 256 1024 x) (M .f32 1 1024 g) (M .bf16 1024 2048 w)
      = M .f32 64 128 (sh 64 1920 (projR x g w)) := by
  unfold kernelRun0_B.sl.v939
  rw [HS2_1]
  exact readCov_M _ _ _ _ _ _ _

theorem r_46 (h : ∀ b < 512, 0 < lb 0 b ∧ lb 0 b < 1) :
    kernelRun0_B.sl.r_46 (F := Ideal) c arg2 harg2 arg3 harg3 arg4 harg4 arg5 harg5 arg23 arg24 (M .f32 256 1024 x) (M .f32 1 1024 g) (M .bf16 1024 2048 w) (M .f32 1 512 lb)
      = M .bf16 64 64 (probsR 64 256 (hq x w g) (hk x w lb g) (hG x w lb g)) := by
  unfold kernelRun0_B.sl.r_46
  rw [r_18 h, r_19 h, r_20 h, r_22 h, r_23 h, r_24 h, r_27 h, r_28 h]
  exact pay72_M

theorem r_81 (h : ∀ b < 512, 0 < lb 0 b ∧ lb 0 b < 1) :
    kernelRun0_B.sl.r_81 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 256 2 1) := by
  unfold kernelRun0_B.sl.r_81
  rw [r_38 h, r_79, v673 h]
  exact pay117_M (f := fun _ => S 2)

theorem v911 :
    kernelRun0_B.sl.v911 (F := Ideal) c arg2 harg2 arg3 harg3 arg4 harg4 arg24 (M .f32 256 1024 x) (M .f32 1 1024 g) (M .bf16 1024 2048 w)
      = M .f32 64 128 (sh 64 1792 (projR x g w)) := by
  unfold kernelRun0_B.sl.v911
  rw [HS2_1]
  exact readCov_M _ _ _ _ _ _ _

theorem r_43 (h : ∀ b < 512, 0 < lb 0 b ∧ lb 0 b < 1) :
    kernelRun0_B.sl.r_43 (F := Ideal) c arg2 harg2 arg3 harg3 arg4 harg4 arg5 harg5 arg23 arg24 (M .f32 256 1024 x) (M .f32 1 1024 g) (M .bf16 1024 2048 w) (M .f32 1 512 lb)
      = M .f32 64 64 (probsR 64 128 (hq x w g) (hk x w lb g) (hG x w lb g)) := by
  unfold kernelRun0_B.sl.r_43
  rw [r_18 h, r_19 h, r_20 h, r_22 h, r_23 h, r_24 h, r_27 h, r_28 h]
  exact pay69_M

theorem r_44 (h : ∀ b < 512, 0 < lb 0 b ∧ lb 0 b < 1) :
    kernelRun0_B.sl.r_44 (F := Ideal) c arg2 harg2 arg3 harg3 arg4 harg4 arg5 harg5 arg23 arg24 (M .f32 256 1024 x) (M .f32 1 1024 g) (M .bf16 1024 2048 w) (M .f32 1 512 lb)
      = M .bf16 64 64 (probsR 64 128 (hq x w g) (hk x w lb g) (hG x w lb g)) := by
  unfold kernelRun0_B.sl.r_44
  rw [r_43 h]
  rfl

theorem r_76 (h : ∀ b < 512, 0 < lb 0 b ∧ lb 0 b < 1) :
    kernelRun0_B.sl.r_76 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 128 1 1) := by
  unfold kernelRun0_B.sl.r_76
  rw [r_35 h, v641, v644 h]
  exact pay108_M (f := fun _ => S 1)

theorem v883 :
    kernelRun0_B.sl.v883 (F := Ideal) c arg2 harg2 arg3 harg3 arg4 harg4 arg24 (M .f32 256 1024 x) (M .f32 1 1024 g) (M .bf16 1024 2048 w)
      = M .f32 64 128 (sh 64 1664 (projR x g w)) := by
  unfold kernelRun0_B.sl.v883
  rw [HS2_1]
  exact readCov_M _ _ _ _ _ _ _

theorem r_41 (h : ∀ b < 512, 0 < lb 0 b ∧ lb 0 b < 1) :
    kernelRun0_B.sl.r_41 (F := Ideal) c arg2 harg2 arg3 harg3 arg4 harg4 arg5 harg5 arg23 arg24 (M .f32 256 1024 x) (M .f32 1 1024 g) (M .bf16 1024 2048 w) (M .f32 1 512 lb)
      = M .bf16 64 64 (probsR 64 0 (hq x w g) (hk x w lb g) (hG x w lb g)) := by
  unfold kernelRun0_B.sl.r_41
  rw [r_18 h, r_19 h, r_20 h, r_22 h, r_23 h, r_24 h, r_27 h, r_28 h]
  exact pay67_M

theorem r_70 (h : ∀ b < 512, 0 < lb 0 b ∧ lb 0 b < 1) :
    kernelRun0_B.sl.r_70 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 0 0 1) := by
  unfold kernelRun0_B.sl.r_70
  rw [readAt_head, r_33 h, v615 h]
  exact pay98_M (f := fun _ => S 0)

theorem v855 :
    kernelRun0_B.sl.v855 (F := Ideal) c arg2 harg2 arg3 harg3 arg4 harg4 arg24 (M .f32 256 1024 x) (M .f32 1 1024 g) (M .bf16 1024 2048 w)
      = M .f32 64 128 (sh 64 1536 (projR x g w)) := by
  unfold kernelRun0_B.sl.v855
  rw [HS2_1]
  exact readCov_M _ _ _ _ _ _ _

theorem r_39 (h : ∀ b < 512, 0 < lb 0 b ∧ lb 0 b < 1) :
    kernelRun0_B.sl.r_39 (F := Ideal) c arg2 harg2 arg3 harg3 arg4 harg4 arg5 harg5 arg23 arg24 (M .f32 256 1024 x) (M .f32 1 1024 g) (M .bf16 1024 2048 w) (M .f32 1 512 lb)
      = M .bf16 64 64 (probsR 0 384 (hq x w g) (hk x w lb g) (hG x w lb g)) := by
  unfold kernelRun0_B.sl.r_39
  rw [r_18 h, r_19 h, r_20 h, r_22 h, r_23 h, r_24 h, r_27 h, r_28 h]
  exact pay65_M

theorem r_84 :
    kernelRun0_B.sl.r_84 (F := Ideal) c arg22 harg22 (M3 .f32 4 128 128 S)
      = M .bf16 128 128 (hst x w lb g S 384 3 0) := by
  unfold kernelRun0_B.sl.r_84
  rw [v699]
  exact pay124_M (f := fun _ => S 3)

theorem v827 :
    kernelRun0_B.sl.v827 (F := Ideal) c arg2 harg2 arg3 harg3 arg4 harg4 arg24 (M .f32 256 1024 x) (M .f32 1 1024 g) (M .bf16 1024 2048 w)
      = M .f32 64 128 (sh 0 1920 (projR x g w)) := by
  unfold kernelRun0_B.sl.v827
  rw [HS2_1]
  exact readCov_M _ _ _ _ _ _ _

theorem r_36 (h : ∀ b < 512, 0 < lb 0 b ∧ lb 0 b < 1) :
    kernelRun0_B.sl.r_36 (F := Ideal) c arg2 harg2 arg3 harg3 arg4 harg4 arg5 harg5 arg23 arg24 (M .f32 256 1024 x) (M .f32 1 1024 g) (M .bf16 1024 2048 w) (M .f32 1 512 lb)
      = M .f32 64 64 (probsR 0 256 (hq x w g) (hk x w lb g) (hG x w lb g)) := by
  unfold kernelRun0_B.sl.r_36
  rw [r_18 h, r_19 h, r_20 h, r_22 h, r_23 h, r_24 h, r_27 h, r_28 h]
  exact pay62_M

theorem r_37 (h : ∀ b < 512, 0 < lb 0 b ∧ lb 0 b < 1) :
    kernelRun0_B.sl.r_37 (F := Ideal) c arg2 harg2 arg3 harg3 arg4 harg4 arg5 harg5 arg23 arg24 (M .f32 256 1024 x) (M .f32 1 1024 g) (M .bf16 1024 2048 w) (M .f32 1 512 lb)
      = M .bf16 64 64 (probsR 0 256 (hq x w g) (hk x w lb g) (hG x w lb g)) := by
  unfold kernelRun0_B.sl.r_37
  rw [r_36 h]
  rfl

theorem r_80 :
    kernelRun0_B.sl.r_80 (F := Ideal) c arg22 harg22 (M3 .f32 4 128 128 S)
      = M .bf16 128 128 (hst x w lb g S 256 2 0) := by
  unfold kernelRun0_B.sl.r_80
  rw [v670]
  exact pay115_M (f := fun _ => S 2)

theorem v799 :
    kernelRun0_B.sl.v799 (F := Ideal) c arg2 harg2 arg3 harg3 arg4 harg4 arg24 (M .f32 256 1024 x) (M .f32 1 1024 g) (M .bf16 1024 2048 w)
      = M .f32 64 128 (sh 0 1792 (projR x g w)) := by
  unfold kernelRun0_B.sl.v799
  rw [HS2_1]
  exact readCov_M _ _ _ _ _ _ _

theorem r_34 (h : ∀ b < 512, 0 < lb 0 b ∧ lb 0 b < 1) :
    kernelRun0_B.sl.r_34 (F := Ideal) c arg2 harg2 arg3 harg3 arg4 harg4 arg5 harg5 arg23 arg24 (M .f32 256 1024 x) (M .f32 1 1024 g) (M .bf16 1024 2048 w) (M .f32 1 512 lb)
      = M .bf16 64 64 (probsR 0 128 (hq x w g) (hk x w lb g) (hG x w lb g)) := by
  unfold kernelRun0_B.sl.r_34
  rw [r_18 h, r_19 h, r_20 h, r_22 h, r_23 h, r_24 h, r_27 h, r_28 h]
  exact pay60_M

theorem r_75 :
    kernelRun0_B.sl.r_75 (F := Ideal) c arg22 harg22 (M3 .f32 4 128 128 S)
      = M .bf16 128 128 (hst x w lb g S 128 1 0) := by
  unfold kernelRun0_B.sl.r_75
  rw [v641]
  exact pay106_M (f := fun _ => S 1)

theorem v771 :
    kernelRun0_B.sl.v771 (F := Ideal) c arg2 harg2 arg3 harg3 arg4 harg4 arg24 (M .f32 256 1024 x) (M .f32 1 1024 g) (M .bf16 1024 2048 w)
      = M .f32 64 128 (sh 0 1664 (projR x g w)) := by
  unfold kernelRun0_B.sl.v771
  rw [HS2_1]
  exact readCov_M _ _ _ _ _ _ _

theorem r_32 (h : ∀ b < 512, 0 < lb 0 b ∧ lb 0 b < 1) :
    kernelRun0_B.sl.r_32 (F := Ideal) c arg2 harg2 arg3 harg3 arg4 harg4 arg5 harg5 arg23 arg24 (M .f32 256 1024 x) (M .f32 1 1024 g) (M .bf16 1024 2048 w) (M .f32 1 512 lb)
      = M .bf16 64 64 (probsR 0 0 (hq x w g) (hk x w lb g) (hG x w lb g)) := by
  unfold kernelRun0_B.sl.r_32
  rw [r_18 h, r_19 h, r_20 h, r_22 h, r_23 h, r_24 h, r_27 h, r_28 h]
  exact pay58_M

theorem r_69 :
    kernelRun0_B.sl.r_69 (F := Ideal) c arg22 harg22 (M3 .f32 4 128 128 S)
      = M .bf16 128 128 (hst x w lb g S 0 0 0) := by
  unfold kernelRun0_B.sl.r_69
  rw [readAt_head]
  exact pay96_M (f := fun _ => S 0)

theorem v743 :
    kernelRun0_B.sl.v743 (F := Ideal) c arg2 harg2 arg3 harg3 arg4 harg4 arg24 (M .f32 256 1024 x) (M .f32 1 1024 g) (M .bf16 1024 2048 w)
      = M .f32 64 128 (sh 0 1536 (projR x g w)) := by
  unfold kernelRun0_B.sl.v743
  rw [HS2_1]
  exact readCov_M _ _ _ _ _ _ _

theorem r_68 (h : ∀ b < 512, 0 < lb 0 b ∧ lb 0 b < 1) :
    kernelRun0_B.sl.r_68 (F := Ideal) c arg2 harg2 arg3 harg3 arg4 harg4 arg5 harg5 arg23 arg24 (M .f32 256 1024 x) (M .f32 1 1024 g) (M .bf16 1024 2048 w) (M .f32 1 512 lb)
      = M .f32 128 128 (updR 192 384 (hv x w g) (hk x w lb g) (hG x w lb g)) := by
  unfold kernelRun0_B.sl.r_68
  rw [r_5, r_31 h]
  exact pay94_M

theorem v720 (h : ∀ b < 512, 0 < lb 0 b ∧ lb 0 b < 1) :
    kernelRun0_B.sl.v720 (F := Ideal) c arg2 harg2 arg3 harg3 arg4 harg4 arg5 harg5 arg23 arg24 (M .f32 256 1024 x) (M .f32 1 1024 g) (M .bf16 1024 2048 w) (M .f32 1 512 lb)
      = M .f32 1 128 (sh 255 384 (hG x w lb g)) := by
  unfold kernelRun0_B.sl.v720
  rw [HS1_1 h]
  exact readCov_M _ _ _ _ _ _ _

theorem r_66 (h : ∀ b < 512, 0 < lb 0 b ∧ lb 0 b < 1) :
    kernelRun0_B.sl.r_66 (F := Ideal) c arg2 harg2 arg3 harg3 arg4 harg4 arg5 harg5 arg23 arg24 (M .f32 256 1024 x) (M .f32 1 1024 g) (M .bf16 1024 2048 w) (M .f32 1 512 lb)
      = M .f32 128 128 (updR 192 256 (hv x w g) (hk x w lb g) (hG x w lb g)) := by
  unfold kernelRun0_B.sl.r_66
  rw [r_5, r_31 h]
  exact pay92_M

theorem v691 (h : ∀ b < 512, 0 < lb 0 b ∧ lb 0 b < 1) :
    kernelRun0_B.sl.v691 (F := Ideal) c arg2 harg2 arg3 harg3 arg4 harg4 arg5 harg5 arg23 arg24 (M .f32 256 1024 x) (M .f32 1 1024 g) (M .bf16 1024 2048 w) (M .f32 1 512 lb)
      = M .f32 1 128 (sh 255 256 (hG x w lb g)) := by
  unfold kernelRun0_B.sl.v691
  rw [HS1_1 h]
  exact readCov_M _ _ _ _ _ _ _

theorem r_63 (h : ∀ b < 512, 0 < lb 0 b ∧ lb 0 b < 1) :
    kernelRun0_B.sl.r_63 (F := Ideal) c arg2 harg2 arg3 harg3 arg4 harg4 arg5 harg5 arg23 arg24 (M .f32 256 1024 x) (M .f32 1 1024 g) (M .bf16 1024 2048 w) (M .f32 1 512 lb)
      = M .f32 128 128 (updR 192 128 (hv x w g) (hk x w lb g) (hG x w lb g)) := by
  unfold kernelRun0_B.sl.r_63
  rw [r_5, r_31 h]
  exact pay89_M

theorem v662 (h : ∀ b < 512, 0 < lb 0 b ∧ lb 0 b < 1) :
    kernelRun0_B.sl.v662 (F := Ideal) c arg2 harg2 arg3 harg3 arg4 harg4 arg5 harg5 arg23 arg24 (M .f32 256 1024 x) (M .f32 1 1024 g) (M .bf16 1024 2048 w) (M .f32 1 512 lb)
      = M .f32 1 128 (sh 255 128 (hG x w lb g)) := by
  unfold kernelRun0_B.sl.v662
  rw [HS1_1 h]
  exact readCov_M _ _ _ _ _ _ _

theorem r_61 (h : ∀ b < 512, 0 < lb 0 b ∧ lb 0 b < 1) :
    kernelRun0_B.sl.r_61 (F := Ideal) c arg2 harg2 arg3 harg3 arg4 harg4 arg5 harg5 arg23 arg24 (M .f32 256 1024 x) (M .f32 1 1024 g) (M .bf16 1024 2048 w) (M .f32 1 512 lb)
      = M .f32 128 128 (updR 192 0 (hv x w g) (hk x w lb g) (hG x w lb g)) := by
  unfold kernelRun0_B.sl.r_61
  rw [r_5, r_31 h]
  exact pay87_M

theorem r_72 (h : ∀ b < 512, 0 < lb 0 b ∧ lb 0 b < 1) :
    kernelRun0_B.sl.r_72 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .f32 128 128 (hst x w lb g S 0 0 3) := by
  unfold kernelRun0_B.sl.r_72
  rw [readAt_head, r_33 h, r_42 h, r_52 h, v615 h, v621 h, v627 h]
  exact pay101_M (f := fun _ => S 0)

theorem v633 (h : ∀ b < 512, 0 < lb 0 b ∧ lb 0 b < 1) :
    kernelRun0_B.sl.v633 (F := Ideal) c arg2 harg2 arg3 harg3 arg4 harg4 arg5 harg5 arg23 arg24 (M .f32 256 1024 x) (M .f32 1 1024 g) (M .bf16 1024 2048 w) (M .f32 1 512 lb)
      = M .f32 1 128 (sh 255 0 (hG x w lb g)) := by
  unfold kernelRun0_B.sl.v633
  rw [HS1_1 h]
  exact readCov_M _ _ _ _ _ _ _

theorem r_74 (h : ∀ b < 512, 0 < lb 0 b ∧ lb 0 b < 1) :
    kernelRun0_B.sl.r_74 (F := Ideal) c arg2 harg2 arg3 harg3 arg4 harg4 arg5 harg5 arg23 arg24 (M .f32 256 1024 x) (M .f32 1 1024 g) (M .bf16 1024 2048 w) (M .f32 1 512 lb)
      = M .f32 128 128 (fun _ b => Real.exp (sh 255 0 (hG x w lb g) 0 b)) := by
  unfold kernelRun0_B.sl.r_74
  rw [v633 h]
  exact pay103_M

theorem head_0 (h : ∀ b < 512, 0 < lb 0 b ∧ lb 0 b < 1) :
    k0_pay104 (kernelRun0_B.sl.r_61 c arg2 harg2 arg3 harg3 arg4 harg4 arg5 harg5 arg23 arg24 (M .f32 256 1024 x) (M .f32 1 1024 g) (M .bf16 1024 2048 w) (M .f32 1 512 lb)) (kernelRun0_B.sl.r_72 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.r_74 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 0 0 4) := by
  rw [r_61 h, r_72 h, r_74 h]
  exact pay104_M (f := fun _ => S 0)

theorem head_1 (h : ∀ b < 512, 0 < lb 0 b ∧ lb 0 b < 1) :
    k0_pay113 (kernelRun0_B.sl.r_35 c arg2 harg2 arg3 harg3 arg4 harg4 arg5 harg5 arg23 arg24 (M .f32 256 1024 x) (M .f32 1 1024 g) (M .bf16 1024 2048 w) (M .f32 1 512 lb)) (kernelRun0_B.sl.r_45 c arg2 harg2 arg3 harg3 arg4 harg4 arg5 harg5 arg23 arg24 (M .f32 256 1024 x) (M .f32 1 1024 g) (M .bf16 1024 2048 w) (M .f32 1 512 lb)) (kernelRun0_B.sl.r_54 c arg2 harg2 arg3 harg3 arg4 harg4 arg5 harg5 arg23 arg24 (M .f32 256 1024 x) (M .f32 1 1024 g) (M .bf16 1024 2048 w) (M .f32 1 512 lb)) (kernelRun0_B.sl.r_63 c arg2 harg2 arg3 harg3 arg4 harg4 arg5 harg5 arg23 arg24 (M .f32 256 1024 x) (M .f32 1 1024 g) (M .bf16 1024 2048 w) (M .f32 1 512 lb)) (kernelRun0_B.sl.v641 c arg22 harg22 (M3 .f32 4 128 128 S)) (kernelRun0_B.sl.v644 c arg2 harg2 arg3 harg3 arg4 harg4 arg5 harg5 arg23 arg24 (M .f32 256 1024 x) (M .f32 1 1024 g) (M .bf16 1024 2048 w) (M .f32 1 512 lb)) (kernelRun0_B.sl.v650 c arg2 harg2 arg3 harg3 arg4 harg4 arg5 harg5 arg23 arg24 (M .f32 256 1024 x) (M .f32 1 1024 g) (M .bf16 1024 2048 w) (M .f32 1 512 lb)) (kernelRun0_B.sl.v656 c arg2 harg2 arg3 harg3 arg4 harg4 arg5 harg5 arg23 arg24 (M .f32 256 1024 x) (M .f32 1 1024 g) (M .bf16 1024 2048 w) (M .f32 1 512 lb)) (kernelRun0_B.sl.v662 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 128 1 4) := by
  rw [r_35 h, r_45 h, r_54 h, r_63 h, v641, v644 h, v650 h, v656 h, v662 h]
  exact pay113_M (f := fun _ => S 1)

theorem head_2 (h : ∀ b < 512, 0 < lb 0 b ∧ lb 0 b < 1) :
    k0_pay122 (kernelRun0_B.sl.r_38 c arg2 harg2 arg3 harg3 arg4 harg4 arg5 harg5 arg23 arg24 (M .f32 256 1024 x) (M .f32 1 1024 g) (M .bf16 1024 2048 w) (M .f32 1 512 lb)) (kernelRun0_B.sl.r_47 c arg2 harg2 arg3 harg3 arg4 harg4 arg5 harg5 arg23 arg24 (M .f32 256 1024 x) (M .f32 1 1024 g) (M .bf16 1024 2048 w) (M .f32 1 512 lb)) (kernelRun0_B.sl.r_56 c arg2 harg2 arg3 harg3 arg4 harg4 arg5 harg5 arg23 arg24 (M .f32 256 1024 x) (M .f32 1 1024 g) (M .bf16 1024 2048 w) (M .f32 1 512 lb)) (kernelRun0_B.sl.r_66 c arg2 harg2 arg3 harg3 arg4 harg4 arg5 harg5 arg23 arg24 (M .f32 256 1024 x) (M .f32 1 1024 g) (M .bf16 1024 2048 w) (M .f32 1 512 lb)) (kernelRun0_B.sl.r_79 c arg22 harg22 (M3 .f32 4 128 128 S)) (kernelRun0_B.sl.v673 c arg2 harg2 arg3 harg3 arg4 harg4 arg5 harg5 arg23 arg24 (M .f32 256 1024 x) (M .f32 1 1024 g) (M .bf16 1024 2048 w) (M .f32 1 512 lb)) (kernelRun0_B.sl.v679 c arg2 harg2 arg3 harg3 arg4 harg4 arg5 harg5 arg23 arg24 (M .f32 256 1024 x) (M .f32 1 1024 g) (M .bf16 1024 2048 w) (M .f32 1 512 lb)) (kernelRun0_B.sl.v685 c arg2 harg2 arg3 harg3 arg4 harg4 arg5 harg5 arg23 arg24 (M .f32 256 1024 x) (M .f32 1 1024 g) (M .bf16 1024 2048 w) (M .f32 1 512 lb)) (kernelRun0_B.sl.v691 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 256 2 4) := by
  rw [r_38 h, r_47 h, r_56 h, r_66 h, r_79, v673 h, v679 h, v685 h, v691 h]
  exact pay122_M (f := fun _ => S 2)

theorem head_3 (h : ∀ b < 512, 0 < lb 0 b ∧ lb 0 b < 1) :
    k0_pay131 (kernelRun0_B.sl.r_59 c arg2 harg2 arg3 harg3 arg4 harg4 arg5 harg5 arg23 arg24 (M .f32 256 1024 x) (M .f32 1 1024 g) (M .bf16 1024 2048 w) (M .f32 1 512 lb)) (kernelRun0_B.sl.r_68 c arg2 harg2 arg3 harg3 arg4 harg4 arg5 harg5 arg23 arg24 (M .f32 256 1024 x) (M .f32 1 1024 g) (M .bf16 1024 2048 w) (M .f32 1 512 lb)) (kernelRun0_B.sl.r_86 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v714 c arg2 harg2 arg3 harg3 arg4 harg4 arg5 harg5 arg23 arg24 (M .f32 256 1024 x) (M .f32 1 1024 g) (M .bf16 1024 2048 w) (M .f32 1 512 lb)) (kernelRun0_B.sl.v720 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 384 3 4) := by
  rw [r_59 h, r_68 h, r_86 h, v714 h, v720 h]
  exact pay131_M (f := fun _ => S 3)

theorem tile_192_384 (h : ∀ b < 512, 0 < lb 0 b ∧ lb 0 b < 1) :
    k0_pay166 (kernelRun0_B.sl.r_107 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v1163 c arg2 harg2 arg3 harg3 arg4 harg4 arg24 (M .f32 256 1024 x) (M .f32 1 1024 g) (M .bf16 1024 2048 w)) (kernelRun0_B.sl.r_108 c arg6 harg6 (M .f32 1 512 ng))
      = M .f32 64 128 (hout x w lb ng g S 192 384) := by
  unfold kernelRun0_B.sl.r_107 kernelRun0_B.sl.r_108
  rw [r_5, r_29 h, r_67 h, r_88 h, v1163, r_2]
  exact out_192_384

theorem tile_192_256 (h : ∀ b < 512, 0 < lb 0 b ∧ lb 0 b < 1) :
    k0_pay163 (kernelRun0_B.sl.r_2 c arg6 harg6 (M .f32 1 512 ng)) (kernelRun0_B.sl.r_83 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.r_105 c arg2 harg2 arg3 harg3 arg4 harg4 arg5 harg5 arg23 arg24 (M .f32 256 1024 x) (M .f32 1 1024 g) (M .bf16 1024 2048 w) (M .f32 1 512 lb)) (kernelRun0_B.sl.r_106 c arg2 harg2 arg3 harg3 arg4 harg4 arg5 harg5 arg23 arg24 (M .f32 256 1024 x) (M .f32 1 1024 g) (M .bf16 1024 2048 w) (M .f32 1 512 lb)) kernelRun0_B.sl.cst_373 (kernelRun0_B.sl.v1135 c arg2 harg2 arg3 harg3 arg4 harg4 arg24 (M .f32 256 1024 x) (M .f32 1 1024 g) (M .bf16 1024 2048 w))
      = M .f32 64 128 (hout x w lb ng g S 192 256) := by
  unfold kernelRun0_B.sl.r_105 kernelRun0_B.sl.r_106 kernelRun0_B.sl.cst_373
  rw [r_2, r_83 h, r_5, r_65 h, r_29 h, v1135]
  exact out_192_256

theorem tile_192_128 (h : ∀ b < 512, 0 < lb 0 b ∧ lb 0 b < 1) :
    k0_pay160 (kernelRun0_B.sl.r_2 c arg6 harg6 (M .f32 1 512 ng)) (kernelRun0_B.sl.r_5 c arg2 harg2 arg3 harg3 arg4 harg4 arg24 (M .f32 256 1024 x) (M .f32 1 1024 g) (M .bf16 1024 2048 w)) (kernelRun0_B.sl.r_29 c arg2 harg2 arg3 harg3 arg4 harg4 arg5 harg5 arg23 arg24 (M .f32 256 1024 x) (M .f32 1 1024 g) (M .bf16 1024 2048 w) (M .f32 1 512 lb)) (kernelRun0_B.sl.r_62 c arg2 harg2 arg3 harg3 arg4 harg4 arg5 harg5 arg23 arg24 (M .f32 256 1024 x) (M .f32 1 1024 g) (M .bf16 1024 2048 w) (M .f32 1 512 lb)) (kernelRun0_B.sl.r_78 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v1107 c arg2 harg2 arg3 harg3 arg4 harg4 arg24 (M .f32 256 1024 x) (M .f32 1 1024 g) (M .bf16 1024 2048 w))
      = M .f32 64 128 (hout x w lb ng g S 192 128) := by
  rw [r_2, r_5, r_29 h, r_62 h, r_78 h, v1107]
  exact out_192_128

theorem tile_192_0 (h : ∀ b < 512, 0 < lb 0 b ∧ lb 0 b < 1) :
    k0_pay159 (kernelRun0_B.sl.v1079 c arg2 harg2 arg3 harg3 arg4 harg4 arg24 (M .f32 256 1024 x) (M .f32 1 1024 g) (M .bf16 1024 2048 w)) (kernelRun0_B.sl.r_104 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) kernelRun0_B.sl.cst_355
      = M .f32 64 128 (hout x w lb ng g S 192 0) := by
  unfold kernelRun0_B.sl.r_104 kernelRun0_B.sl.cst_355
  rw [v1079, r_2, r_5, r_29 h, r_60 h, r_73 h]
  exact out_192_0

theorem tile_128_384 (h : ∀ b < 512, 0 < lb 0 b ∧ lb 0 b < 1) :
    k0_pay157 (kernelRun0_B.sl.r_2 c arg6 harg6 (M .f32 1 512 ng)) (kernelRun0_B.sl.r_102 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.r_103 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v1051 c arg2 harg2 arg3 harg3 arg4 harg4 arg24 (M .f32 256 1024 x) (M .f32 1 1024 g) (M .bf16 1024 2048 w))
      = M .f32 64 128 (hout x w lb ng g S 128 384) := by
  unfold kernelRun0_B.sl.r_102 kernelRun0_B.sl.r_103
  rw [r_2, r_5, r_29 h, r_58 h, r_87 h, v1051]
  exact out_128_384

theorem tile_128_256 (h : ∀ b < 512, 0 < lb 0 b ∧ lb 0 b < 1) :
    k0_pay154 (kernelRun0_B.sl.r_2 c arg6 harg6 (M .f32 1 512 ng)) (kernelRun0_B.sl.r_5 c arg2 harg2 arg3 harg3 arg4 harg4 arg24 (M .f32 256 1024 x) (M .f32 1 1024 g) (M .bf16 1024 2048 w)) (kernelRun0_B.sl.r_29 c arg2 harg2 arg3 harg3 arg4 harg4 arg5 harg5 arg23 arg24 (M .f32 256 1024 x) (M .f32 1 1024 g) (M .bf16 1024 2048 w) (M .f32 1 512 lb)) (kernelRun0_B.sl.r_55 c arg2 harg2 arg3 harg3 arg4 harg4 arg5 harg5 arg23 arg24 (M .f32 256 1024 x) (M .f32 1 1024 g) (M .bf16 1024 2048 w) (M .f32 1 512 lb)) (kernelRun0_B.sl.r_82 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v1023 c arg2 harg2 arg3 harg3 arg4 harg4 arg24 (M .f32 256 1024 x) (M .f32 1 1024 g) (M .bf16 1024 2048 w))
      = M .f32 64 128 (hout x w lb ng g S 128 256) := by
  rw [r_2, r_5, r_29 h, r_55 h, r_82 h, v1023]
  exact out_128_256

theorem tile_128_128 (h : ∀ b < 512, 0 < lb 0 b ∧ lb 0 b < 1) :
    k0_pay153 (kernelRun0_B.sl.r_100 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) (kernelRun0_B.sl.r_101 c arg2 harg2 arg3 harg3 arg4 harg4 arg24 (M .f32 256 1024 x) (M .f32 1 1024 g) (M .bf16 1024 2048 w))
      = M .f32 64 128 (hout x w lb ng g S 128 128) := by
  unfold kernelRun0_B.sl.r_100 kernelRun0_B.sl.r_101
  rw [r_2, r_5, r_29 h, r_53 h, r_77 h, v995]
  exact out_128_128

theorem tile_128_0 (h : ∀ b < 512, 0 < lb 0 b ∧ lb 0 b < 1) :
    k0_pay150 (kernelRun0_B.sl.r_2 c arg6 harg6 (M .f32 1 512 ng)) (kernelRun0_B.sl.r_98 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.r_99 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v967 c arg2 harg2 arg3 harg3 arg4 harg4 arg24 (M .f32 256 1024 x) (M .f32 1 1024 g) (M .bf16 1024 2048 w))
      = M .f32 64 128 (hout x w lb ng g S 128 0) := by
  unfold kernelRun0_B.sl.r_98 kernelRun0_B.sl.r_99
  rw [r_2, r_5, r_29 h, r_51 h, r_71 h, v967]
  exact out_128_0

theorem tile_64_384 (h : ∀ b < 512, 0 < lb 0 b ∧ lb 0 b < 1) :
    k0_pay147 (kernelRun0_B.sl.r_2 c arg6 harg6 (M .f32 1 512 ng)) (kernelRun0_B.sl.r_5 c arg2 harg2 arg3 harg3 arg4 harg4 arg24 (M .f32 256 1024 x) (M .f32 1 1024 g) (M .bf16 1024 2048 w)) (kernelRun0_B.sl.r_29 c arg2 harg2 arg3 harg3 arg4 harg4 arg5 harg5 arg23 arg24 (M .f32 256 1024 x) (M .f32 1 1024 g) (M .bf16 1024 2048 w) (M .f32 1 512 lb)) (kernelRun0_B.sl.r_48 c arg2 harg2 arg3 harg3 arg4 harg4 arg5 harg5 arg23 arg24 (M .f32 256 1024 x) (M .f32 1 1024 g) (M .bf16 1024 2048 w) (M .f32 1 512 lb)) (kernelRun0_B.sl.r_85 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v939 c arg2 harg2 arg3 harg3 arg4 harg4 arg24 (M .f32 256 1024 x) (M .f32 1 1024 g) (M .bf16 1024 2048 w))
      = M .f32 64 128 (hout x w lb ng g S 64 384) := by
  rw [r_2, r_5, r_29 h, r_48 h, r_85 h, v939]
  exact out_64_384

theorem tile_64_256 (h : ∀ b < 512, 0 < lb 0 b ∧ lb 0 b < 1) :
    k0_pay146 (kernelRun0_B.sl.r_96 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) (kernelRun0_B.sl.r_97 c arg2 harg2 arg3 harg3 arg4 harg4 arg24 (M .f32 256 1024 x) (M .f32 1 1024 g) (M .bf16 1024 2048 w))
      = M .f32 64 128 (hout x w lb ng g S 64 256) := by
  unfold kernelRun0_B.sl.r_96 kernelRun0_B.sl.r_97
  rw [r_2, r_5, r_29 h, r_46 h, r_81 h, v911]
  exact out_64_256

theorem tile_64_128 (h : ∀ b < 512, 0 < lb 0 b ∧ lb 0 b < 1) :
    k0_pay143 (kernelRun0_B.sl.r_2 c arg6 harg6 (M .f32 1 512 ng)) (kernelRun0_B.sl.r_94 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.r_95 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v883 c arg2 harg2 arg3 harg3 arg4 harg4 arg24 (M .f32 256 1024 x) (M .f32 1 1024 g) (M .bf16 1024 2048 w))
      = M .f32 64 128 (hout x w lb ng g S 64 128) := by
  unfold kernelRun0_B.sl.r_94 kernelRun0_B.sl.r_95
  rw [r_2, r_5, r_29 h, r_44 h, r_76 h, v883]
  exact out_64_128

theorem tile_64_0 (h : ∀ b < 512, 0 < lb 0 b ∧ lb 0 b < 1) :
    k0_pay140 (kernelRun0_B.sl.r_2 c arg6 harg6 (M .f32 1 512 ng)) (kernelRun0_B.sl.r_5 c arg2 harg2 arg3 harg3 arg4 harg4 arg24 (M .f32 256 1024 x) (M .f32 1 1024 g) (M .bf16 1024 2048 w)) (kernelRun0_B.sl.r_29 c arg2 harg2 arg3 harg3 arg4 harg4 arg5 harg5 arg23 arg24 (M .f32 256 1024 x) (M .f32 1 1024 g) (M .bf16 1024 2048 w) (M .f32 1 512 lb)) (kernelRun0_B.sl.r_41 c arg2 harg2 arg3 harg3 arg4 harg4 arg5 harg5 arg23 arg24 (M .f32 256 1024 x) (M .f32 1 1024 g) (M .bf16 1024 2048 w) (M .f32 1 512 lb)) (kernelRun0_B.sl.r_70 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v855 c arg2 harg2 arg3 harg3 arg4 harg4 arg24 (M .f32 256 1024 x) (M .f32 1 1024 g) (M .bf16 1024 2048 w))
      = M .f32 64 128 (hout x w lb ng g S 64 0) := by
  rw [r_2, r_5, r_29 h, r_41 h, r_70 h, v855]
  exact out_64_0

theorem tile_0_384 (h : ∀ b < 512, 0 < lb 0 b ∧ lb 0 b < 1) :
    k0_pay139 (kernelRun0_B.sl.r_92 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) (kernelRun0_B.sl.r_93 c arg2 harg2 arg3 harg3 arg4 harg4 arg24 (M .f32 256 1024 x) (M .f32 1 1024 g) (M .bf16 1024 2048 w))
      = M .f32 64 128 (hout x w lb ng g S 0 384) := by
  unfold kernelRun0_B.sl.r_92 kernelRun0_B.sl.r_93
  rw [r_2, r_5, r_29 h, r_39 h, r_84, v827]
  exact out_0_384

theorem tile_0_256 (h : ∀ b < 512, 0 < lb 0 b ∧ lb 0 b < 1) :
    k0_pay136 (kernelRun0_B.sl.r_2 c arg6 harg6 (M .f32 1 512 ng)) (kernelRun0_B.sl.r_90 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.r_91 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v799 c arg2 harg2 arg3 harg3 arg4 harg4 arg24 (M .f32 256 1024 x) (M .f32 1 1024 g) (M .bf16 1024 2048 w))
      = M .f32 64 128 (hout x w lb ng g S 0 256) := by
  unfold kernelRun0_B.sl.r_90 kernelRun0_B.sl.r_91
  rw [r_2, r_5, r_29 h, r_37 h, r_80, v799]
  exact out_0_256

theorem tile_0_128 (h : ∀ b < 512, 0 < lb 0 b ∧ lb 0 b < 1) :
    k0_pay133 (kernelRun0_B.sl.r_2 c arg6 harg6 (M .f32 1 512 ng)) (kernelRun0_B.sl.r_5 c arg2 harg2 arg3 harg3 arg4 harg4 arg24 (M .f32 256 1024 x) (M .f32 1 1024 g) (M .bf16 1024 2048 w)) (kernelRun0_B.sl.r_29 c arg2 harg2 arg3 harg3 arg4 harg4 arg5 harg5 arg23 arg24 (M .f32 256 1024 x) (M .f32 1 1024 g) (M .bf16 1024 2048 w) (M .f32 1 512 lb)) (kernelRun0_B.sl.r_34 c arg2 harg2 arg3 harg3 arg4 harg4 arg5 harg5 arg23 arg24 (M .f32 256 1024 x) (M .f32 1 1024 g) (M .bf16 1024 2048 w) (M .f32 1 512 lb)) (kernelRun0_B.sl.r_75 c arg22 harg22 (M3 .f32 4 128 128 S)) (kernelRun0_B.sl.v771 c arg2 harg2 arg3 harg3 arg4 harg4 arg24 (M .f32 256 1024 x) (M .f32 1 1024 g) (M .bf16 1024 2048 w))
      = M .f32 64 128 (hout x w lb ng g S 0 128) := by
  rw [r_2, r_5, r_29 h, r_34 h, r_75, v771]
  exact out_0_128

theorem tile_0_0 (h : ∀ b < 512, 0 < lb 0 b ∧ lb 0 b < 1) :
    kernelRun0_B.sl.r_89 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)
      = M .f32 64 128 (hout x w lb ng g S 0 0) := by
  unfold kernelRun0_B.sl.r_89
  rw [r_2, r_5, r_29 h, r_32 h, r_69, v743]
  exact out_0_0

/-- What the block leaves in the staging area of the outputs. -/
theorem out_value (h : ∀ b < 512, 0 < lb 0 b ∧ lb 0 b < 1) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) x5 x6 x7 x8 x9 x10 x11 x12 x13 x14 (M3 .f32 4 128 128 S) xs3 xs4
      = M .f32 256 512 (blockR x w lb ng g S) := by
  unfold out0_B_15
  rw [View.read_writes_junk_eq_canon]
  funext y
  refine View.canon_eq_of_allAt _ _ _ (cover0_B_15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (by rw [tile_192_384 h]; exact tile_M 3 3 (H := hout x w lb ng g S) y) ?_
  refine View.allAt_cons_unit _ _ _ _ _ (by rw [tile_192_256 h]; exact tile_M 3 2 (H := hout x w lb ng g S) y) ?_
  refine View.allAt_cons_unit _ _ _ _ _ (by rw [tile_192_128 h]; exact tile_M 3 1 (H := hout x w lb ng g S) y) ?_
  refine View.allAt_cons_unit _ _ _ _ _ (by rw [tile_192_0 h]; exact tile_M 3 0 (H := hout x w lb ng g S) y) ?_
  refine View.allAt_cons_unit _ _ _ _ _ (by rw [tile_128_384 h]; exact tile_M 2 3 (H := hout x w lb ng g S) y) ?_
  refine View.allAt_cons_unit _ _ _ _ _ (by rw [tile_128_256 h]; exact tile_M 2 2 (H := hout x w lb ng g S) y) ?_
  refine View.allAt_cons_unit _ _ _ _ _ (by rw [tile_128_128 h]; exact tile_M 2 1 (H := hout x w lb ng g S) y) ?_
  refine View.allAt_cons_unit _ _ _ _ _ (by rw [tile_128_0 h]; exact tile_M 2 0 (H := hout x w lb ng g S) y) ?_
  refine View.allAt_cons_unit _ _ _ _ _ (by rw [tile_64_384 h]; exact tile_M 1 3 (H := hout x w lb ng g S) y) ?_
  refine View.allAt_cons_unit _ _ _ _ _ (by rw [tile_64_256 h]; exact tile_M 1 2 (H := hout x w lb ng g S) y) ?_
  refine View.allAt_cons_unit _ _ _ _ _ (by rw [tile_64_128 h]; exact tile_M 1 1 (H := hout x w lb ng g S) y) ?_
  refine View.allAt_cons_unit _ _ _ _ _ (by rw [tile_64_0 h]; exact tile_M 1 0 (H := hout x w lb ng g S) y) ?_
  refine View.allAt_cons_unit _ _ _ _ _ (by rw [tile_0_384 h]; exact tile_M 0 3 (H := hout x w lb ng g S) y) ?_
  refine View.allAt_cons_unit _ _ _ _ _ (by rw [tile_0_256 h]; exact tile_M 0 2 (H := hout x w lb ng g S) y) ?_
  refine View.allAt_cons_unit _ _ _ _ _ (by rw [tile_0_128 h]; exact tile_M 0 1 (H := hout x w lb ng g S) y) ?_
  refine View.allAt_cons_unit _ _ _ _ _ (by rw [tile_0_0 h]; exact tile_M 0 0 (H := hout x w lb ng g S) y) ?_
  exact View.allAt_nil _ _

/-- What the block leaves in the state. -/
theorem state_value (h : ∀ b < 512, 0 < lb 0 b ∧ lb 0 b < 1) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) x5 x6 x7 x8 x9 x10 x11 x12 x13 x14 (M3 .f32 4 128 128 S) xs3 xs4
      = M3 .f32 4 128 128 (blockS x w lb g S) := by
  unfold sout0_B_0
  rw [View.read_writes_junk_eq_canon]
  change View.canon ([⟨Rect.unit ![3, 0, 0] S1x128x128.size inb_S4x128x128_S1x128x128_3_0_0, k0_pay131 (F := Ideal) (kernelRun0_B.sl.r_59 c arg2 harg2 arg3 harg3 arg4 harg4 arg5 harg5 arg23 arg24 (M .f32 256 1024 x) (M .f32 1 1024 g) (M .bf16 1024 2048 w) (M .f32 1 512 lb)) (kernelRun0_B.sl.r_68 c arg2 harg2 arg3 harg3 arg4 harg4 arg5 harg5 arg23 arg24 (M .f32 256 1024 x) (M .f32 1 1024 g) (M .bf16 1024 2048 w) (M .f32 1 512 lb)) (kernelRun0_B.sl.r_86 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.v714 c arg2 harg2 arg3 harg3 arg4 harg4 arg5 harg5 arg23 arg24 (M .f32 256 1024 x) (M .f32 1 1024 g) (M .bf16 1024 2048 w) (M .f32 1 512 lb)) (kernelRun0_B.sl.v720 c arg2 harg2 arg3 harg3 arg4 harg4 arg5 harg5 arg23 arg24 (M .f32 256 1024 x) (M .f32 1 1024 g) (M .bf16 1024 2048 w) (M .f32 1 512 lb))⟩, ⟨Rect.unit ![2, 0, 0] S1x128x128.size inb_S4x128x128_S1x128x128_2_0_0, k0_pay122 (F := Ideal) (kernelRun0_B.sl.r_38 c arg2 harg2 arg3 harg3 arg4 harg4 arg5 harg5 arg23 arg24 (M .f32 256 1024 x) (M .f32 1 1024 g) (M .bf16 1024 2048 w) (M .f32 1 512 lb)) (kernelRun0_B.sl.r_47 c arg2 harg2 arg3 harg3 arg4 harg4 arg5 harg5 arg23 arg24 (M .f32 256 1024 x) (M .f32 1 1024 g) (M .bf16 1024 2048 w) (M .f32 1 512 lb)) (kernelRun0_B.sl.r_56 c arg2 harg2 arg3 harg3 arg4 harg4 arg5 harg5 arg23 arg24 (M .f32 256 1024 x) (M .f32 1 1024 g) (M .bf16 1024 2048 w) (M .f32 1 512 lb)) (kernelRun0_B.sl.r_66 c arg2 harg2 arg3 harg3 arg4 harg4 arg5 harg5 arg23 arg24 (M .f32 256 1024 x) (M .f32 1 1024 g) (M .bf16 1024 2048 w) (M .f32 1 512 lb)) (kernelRun0_B.sl.r_79 c arg22 harg22 (M3 .f32 4 128 128 S)) (kernelRun0_B.sl.v673 c arg2 harg2 arg3 harg3 arg4 harg4 arg5 harg5 arg23 arg24 (M .f32 256 1024 x) (M .f32 1 1024 g) (M .bf16 1024 2048 w) (M .f32 1 512 lb)) (kernelRun0_B.sl.v679 c arg2 harg2 arg3 harg3 arg4 harg4 arg5 harg5 arg23 arg24 (M .f32 256 1024 x) (M .f32 1 1024 g) (M .bf16 1024 2048 w) (M .f32 1 512 lb)) (kernelRun0_B.sl.v685 c arg2 harg2 arg3 harg3 arg4 harg4 arg5 harg5 arg23 arg24 (M .f32 256 1024 x) (M .f32 1 1024 g) (M .bf16 1024 2048 w) (M .f32 1 512 lb)) (kernelRun0_B.sl.v691 c arg2 harg2 arg3 harg3 arg4 harg4 arg5 harg5 arg23 arg24 (M .f32 256 1024 x) (M .f32 1 1024 g) (M .bf16 1024 2048 w) (M .f32 1 512 lb))⟩, ⟨Rect.unit ![1, 0, 0] S1x128x128.size inb_S4x128x128_S1x128x128_1_0_0, k0_pay113 (F := Ideal) (kernelRun0_B.sl.r_35 c arg2 harg2 arg3 harg3 arg4 harg4 arg5 harg5 arg23 arg24 (M .f32 256 1024 x) (M .f32 1 1024 g) (M .bf16 1024 2048 w) (M .f32 1 512 lb)) (kernelRun0_B.sl.r_45 c arg2 harg2 arg3 harg3 arg4 harg4 arg5 harg5 arg23 arg24 (M .f32 256 1024 x) (M .f32 1 1024 g) (M .bf16 1024 2048 w) (M .f32 1 512 lb)) (kernelRun0_B.sl.r_54 c arg2 harg2 arg3 harg3 arg4 harg4 arg5 harg5 arg23 arg24 (M .f32 256 1024 x) (M .f32 1 1024 g) (M .bf16 1024 2048 w) (M .f32 1 512 lb)) (kernelRun0_B.sl.r_63 c arg2 harg2 arg3 harg3 arg4 harg4 arg5 harg5 arg23 arg24 (M .f32 256 1024 x) (M .f32 1 1024 g) (M .bf16 1024 2048 w) (M .f32 1 512 lb)) (kernelRun0_B.sl.v641 c arg22 harg22 (M3 .f32 4 128 128 S)) (kernelRun0_B.sl.v644 c arg2 harg2 arg3 harg3 arg4 harg4 arg5 harg5 arg23 arg24 (M .f32 256 1024 x) (M .f32 1 1024 g) (M .bf16 1024 2048 w) (M .f32 1 512 lb)) (kernelRun0_B.sl.v650 c arg2 harg2 arg3 harg3 arg4 harg4 arg5 harg5 arg23 arg24 (M .f32 256 1024 x) (M .f32 1 1024 g) (M .bf16 1024 2048 w) (M .f32 1 512 lb)) (kernelRun0_B.sl.v656 c arg2 harg2 arg3 harg3 arg4 harg4 arg5 harg5 arg23 arg24 (M .f32 256 1024 x) (M .f32 1 1024 g) (M .bf16 1024 2048 w) (M .f32 1 512 lb)) (kernelRun0_B.sl.v662 c arg2 harg2 arg3 harg3 arg4 harg4 arg5 harg5 arg23 arg24 (M .f32 256 1024 x) (M .f32 1 1024 g) (M .bf16 1024 2048 w) (M .f32 1 512 lb))⟩, ⟨Rect.unit ![0, 0, 0] S1x128x128.size inb_S4x128x128_S1x128x128_0_0_0, k0_pay104 (F := Ideal) (kernelRun0_B.sl.r_61 c arg2 harg2 arg3 harg3 arg4 harg4 arg5 harg5 arg23 arg24 (M .f32 256 1024 x) (M .f32 1 1024 g) (M .bf16 1024 2048 w) (M .f32 1 512 lb)) (kernelRun0_B.sl.r_72 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_B.sl.r_74 c arg2 harg2 arg3 harg3 arg4 harg4 arg5 harg5 arg23 arg24 (M .f32 256 1024 x) (M .f32 1 1024 g) (M .bf16 1024 2048 w) (M .f32 1 512 lb))⟩] : List (View.Piece (Elt Ideal) S4x128x128 .f32)) = _
  rw [head_3 h, head_2 h, head_1 h, head_0 h]
  exact canon_heads (H := blockS x w lb g S) _ _ _ _ _

end Hgrn.CaseB
-- ==== Proof.CaseC.lean ====
/- The last block of a row, word by word: what each value the block computes is on real numbers. -/
module

public import proofs.«01_k».proof.Proof.Loads
public import proofs.«01_k».proof.Proof.BlockOut
public import proofs.«01_k».proof.Proof.Gen.KernelIdeal.Frame

@[expose] public section

set_option maxRecDepth 16384

open Idealize.ShloMosaic Idealize.SL Cert.KernelIdeal Cert.KernelIdeal.Gen

namespace Hgrn.CaseC

variable {c : Dev nD} {i : grid0.Coords} {arg2 : Memref sig .tc .vmem S256x1024 .f32} {harg2 : arg2.IsWhole} {arg3 : Memref sig .tc .vmem S1x1024 .f32} {harg3 : arg3.IsWhole} {arg4 : Memref sig .tc .vmem S1024x2048 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x128 .f32} {harg7 : arg7.IsWhole} {arg8 : Memref sig .tc .vmem S8x1024x256 .bf16} {harg8 : arg8.IsWhole} {arg9 : Memref sig .tc .vmem S4x1024 .f32} {harg9 : arg9.IsWhole} {arg10 : Memref sig .tc .vmem S1x1024 .f32} {harg10 : arg10.IsWhole} {arg11 : Memref sig .tc .vmem S8x128x256 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S1x1024 .f32} {harg14 : arg14.IsWhole} {arg15 : Memref sig .tc .vmem S1x1024 .f32} {harg15 : arg15.IsWhole} {arg16 : Memref sig .tc .vmem S8x1024 .f32} {harg16 : arg16.IsWhole} {arg17 : Memref sig .tc .vmem S256x512 .f32} {harg17 : arg17.IsWhole} {arg18 : Memref sig .tc .vmem S256x1024 .f32} {harg18 : arg18.IsWhole} {arg19 : Memref sig .tc .vmem S1x4x128x128 .f32} {harg19 : arg19.IsWhole} {arg20 : Memref sig .tc .vmem S1x1x1024 .f32} {harg20 : arg20.IsWhole} {arg21 : Memref sig .tc .vmem S1x8x1024 .f32} {harg21 : arg21.IsWhole} {arg22 : Memref sig .tc .vmem S4x128x128 .f32} {harg22 : arg22.IsWhole} {arg23 : Memref sig .tc .vmem S256x512 .f32} {harg23 : arg23.IsWhole} {arg24 : Memref sig .tc .vmem S256x2048 .f32} {harg24 : arg24.IsWhole} {arg25 : Memref sig .tc .vmem S8x1024 .f32} {harg25 : arg25.IsWhole} {arg26 : Memref sig .tc .vmem S1x1024 .f32} {harg26 : arg26.IsWhole} {arg27 : Memref sig .tc .vmem S8x256x128 .f32} {harg27 : arg27.IsWhole} {hc0 : ¬cond0_0 i} {hc1 : cond0_1 i}
  {x g w lb ng : ℕ → ℕ → ℝ} {S : ℕ → ℕ → ℕ → ℝ}
  {x5 : Vec Ideal S4x128x128 .f32} {x6 : Vec Ideal S8x1024x256 .bf16} {x7 : Vec Ideal S4x1024 .f32} {x8 : Vec Ideal S1x1024 .f32} {x9 : Vec Ideal S8x128x256 .bf16} {x10 : Vec Ideal S1x1024 .f32} {x11 : Vec Ideal S1x1024 .f32} {x12 : Vec Ideal S1x1024 .f32} {x13 : Vec Ideal S1x1024 .f32} {x14 : Vec Ideal S8x1024 .f32} {xs3 : Vec Ideal S8x1024 .f32} {xs4 : Vec Ideal S1x1024 .f32}

theorem HS2_1 :
    kernelRun0_C.sl.HS2_1 (F := Ideal) c arg2 harg2 arg3 harg3 arg4 harg4 (M .f32 256 1024 x) (M .f32 1 1024 g) (M .bf16 1024 2048 w)
      = [⟨Rect.unit ![0, 0] S256x2048.size inb_S256x2048_S256x2048_0_0, M .f32 256 2048 (projR x g w)⟩] := by
  unfold kernelRun0_C.sl.HS2_1
  rw [readAt_whole, readAt_whole, readAt_whole_bf16, pay12_M]

theorem v52 :
    kernelRun0_C.sl.v52 (F := Ideal) c arg2 harg2 arg3 harg3 arg4 harg4 arg24 (M .f32 256 1024 x) (M .f32 1 1024 g) (M .bf16 1024 2048 w)
      = M .f32 256 512 (hv x w g) := by
  unfold kernelRun0_C.sl.v52
  rw [HS2_1]
  exact readCov_M _ _ _ _ _ _ _

theorem r_5 :
    kernelRun0_C.sl.r_5 (F := Ideal) c arg2 harg2 arg3 harg3 arg4 harg4 arg24 (M .f32 256 1024 x) (M .f32 1 1024 g) (M .bf16 1024 2048 w)
      = M .bf16 256 512 (hv x w g) := by
  unfold kernelRun0_C.sl.r_5
  rw [v52]
  exact pay17_M

theorem v30 :
    kernelRun0_C.sl.v30 (F := Ideal) c arg2 harg2 arg3 harg3 arg4 harg4 arg24 (M .f32 256 1024 x) (M .f32 1 1024 g) (M .bf16 1024 2048 w)
      = M .f32 256 512 (hq x w g) := by
  unfold kernelRun0_C.sl.v30
  rw [HS2_1]
  exact readCov_M _ _ _ _ _ _ _

theorem r_1 :
    kernelRun0_C.sl.r_1 (F := Ideal) c arg5 harg5 (M .f32 1 512 lb)
      = M .f32 1 512 lb := by
  unfold kernelRun0_C.sl.r_1
  rw [readAt_whole, pay10_M]

theorem v31 :
    kernelRun0_C.sl.v31 (F := Ideal) c arg2 harg2 arg3 harg3 arg4 harg4 arg24 (M .f32 256 1024 x) (M .f32 1 1024 g) (M .bf16 1024 2048 w)
      = M .f32 256 512 (hy x w g) := by
  unfold kernelRun0_C.sl.v31
  rw [HS2_1]
  exact readCov_M _ _ _ _ _ _ _

theorem r_3 (h : ∀ b < 512, 0 < lb 0 b ∧ lb 0 b < 1) :
    kernelRun0_C.sl.r_3 (F := Ideal) c arg2 harg2 arg3 harg3 arg4 harg4 arg5 harg5 arg24 (M .f32 256 1024 x) (M .f32 1 1024 g) (M .bf16 1024 2048 w) (M .f32 1 512 lb)
      = M .f32 256 512 (logfR lb (hy x w g)) := by
  unfold kernelRun0_C.sl.r_3
  rw [r_1, v31]
  exact pay15_M h

theorem r_6 (h : ∀ b < 512, 0 < lb 0 b ∧ lb 0 b < 1) :
    kernelRun0_C.sl.r_6 (F := Ideal) c arg2 harg2 arg3 harg3 arg4 harg4 arg5 harg5 arg24 (M .f32 256 1024 x) (M .f32 1 1024 g) (M .bf16 1024 2048 w) (M .f32 1 512 lb)
      = M .f32 256 512 (hG x w lb g) := by
  unfold kernelRun0_C.sl.r_6 kernelRun0_C.sl.v55
  rw [r_3 h]
  exact pay22_M

theorem HS1_1 (h : ∀ b < 512, 0 < lb 0 b ∧ lb 0 b < 1) :
    kernelRun0_C.sl.HS1_1 (F := Ideal) c arg2 harg2 arg3 harg3 arg4 harg4 arg5 harg5 arg24 (M .f32 256 1024 x) (M .f32 1 1024 g) (M .bf16 1024 2048 w) (M .f32 1 512 lb)
      = [⟨Rect.unit ![0, 0] S256x512.size inb_S256x512_S256x512_0_0, M .f32 256 512 (hG x w lb g)⟩] := by
  unfold kernelRun0_C.sl.HS1_1
  rw [r_6 h]
  rw [pay23_M]

theorem v126 (h : ∀ b < 512, 0 < lb 0 b ∧ lb 0 b < 1) :
    kernelRun0_C.sl.v126 (F := Ideal) c arg2 harg2 arg3 harg3 arg4 harg4 arg5 harg5 arg23 arg24 (M .f32 256 1024 x) (M .f32 1 1024 g) (M .bf16 1024 2048 w) (M .f32 1 512 lb)
      = M .f32 256 512 (hG x w lb g) := by
  unfold kernelRun0_C.sl.v126
  rw [HS1_1 h]
  exact readCov_whole _ _ _

theorem r_29 (h : ∀ b < 512, 0 < lb 0 b ∧ lb 0 b < 1) :
    kernelRun0_C.sl.r_29 (F := Ideal) c arg2 harg2 arg3 harg3 arg4 harg4 arg5 harg5 arg23 arg24 (M .f32 256 1024 x) (M .f32 1 1024 g) (M .bf16 1024 2048 w) (M .f32 1 512 lb)
      = M .bf16 256 512 (hqe x w lb g) := by
  unfold kernelRun0_C.sl.r_29
  rw [v30, v126 h]
  exact pay54_M

theorem v128 (h : ∀ b < 512, 0 < lb 0 b ∧ lb 0 b < 1) :
    kernelRun0_C.sl.v128 (F := Ideal) c arg2 harg2 arg3 harg3 arg4 harg4 arg5 harg5 arg23 arg24 (M .f32 256 1024 x) (M .f32 1 1024 g) (M .bf16 1024 2048 w) (M .f32 1 512 lb)
      = M .f32 1 512 (sh 15 0 (hG x w lb g)) := by
  unfold kernelRun0_C.sl.v128
  rw [HS1_1 h]
  exact readCov_M _ _ _ _ _ _ _

theorem r_7 (h : ∀ b < 512, 0 < lb 0 b ∧ lb 0 b < 1) :
    kernelRun0_C.sl.r_7 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 15 0 (hG x w lb g) 0 b) := by
  unfold kernelRun0_C.sl.r_7 k0_pay25
  rw [v128 h]
  exact row_16 _

theorem v131 (h : ∀ b < 512, 0 < lb 0 b ∧ lb 0 b < 1) :
    kernelRun0_C.sl.v131 (F := Ideal) c arg2 harg2 arg3 harg3 arg4 harg4 arg5 harg5 arg23 arg24 (M .f32 256 1024 x) (M .f32 1 1024 g) (M .bf16 1024 2048 w) (M .f32 1 512 lb)
      = M .f32 1 512 (sh 31 0 (hG x w lb g)) := by
  unfold kernelRun0_C.sl.v131
  rw [HS1_1 h]
  exact readCov_M _ _ _ _ _ _ _

theorem r_8 (h : ∀ b < 512, 0 < lb 0 b ∧ lb 0 b < 1) :
    kernelRun0_C.sl.r_8 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 31 0 (hG x w lb g) 0 b) := by
  unfold kernelRun0_C.sl.r_8 k0_pay26
  rw [v131 h]
  exact row_16 _

theorem v134 (h : ∀ b < 512, 0 < lb 0 b ∧ lb 0 b < 1) :
    kernelRun0_C.sl.v134 (F := Ideal) c arg2 harg2 arg3 harg3 arg4 harg4 arg5 harg5 arg23 arg24 (M .f32 256 1024 x) (M .f32 1 1024 g) (M .bf16 1024 2048 w) (M .f32 1 512 lb)
      = M .f32 1 512 (sh 47 0 (hG x w lb g)) := by
  unfold kernelRun0_C.sl.v134
  rw [HS1_1 h]
  exact readCov_M _ _ _ _ _ _ _

theorem r_9 (h : ∀ b < 512, 0 < lb 0 b ∧ lb 0 b < 1) :
    kernelRun0_C.sl.r_9 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 47 0 (hG x w lb g) 0 b) := by
  unfold kernelRun0_C.sl.r_9 k0_pay27
  rw [v134 h]
  exact row_16 _

theorem v137 (h : ∀ b < 512, 0 < lb 0 b ∧ lb 0 b < 1) :
    kernelRun0_C.sl.v137 (F := Ideal) c arg2 harg2 arg3 harg3 arg4 harg4 arg5 harg5 arg23 arg24 (M .f32 256 1024 x) (M .f32 1 1024 g) (M .bf16 1024 2048 w) (M .f32 1 512 lb)
      = M .f32 1 512 (sh 79 0 (hG x w lb g)) := by
  unfold kernelRun0_C.sl.v137
  rw [HS1_1 h]
  exact readCov_M _ _ _ _ _ _ _

theorem r_10 (h : ∀ b < 512, 0 < lb 0 b ∧ lb 0 b < 1) :
    kernelRun0_C.sl.r_10 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 79 0 (hG x w lb g) 0 b) := by
  unfold kernelRun0_C.sl.r_10 k0_pay28
  rw [v137 h]
  exact row_16 _

theorem v140 (h : ∀ b < 512, 0 < lb 0 b ∧ lb 0 b < 1) :
    kernelRun0_C.sl.v140 (F := Ideal) c arg2 harg2 arg3 harg3 arg4 harg4 arg5 harg5 arg23 arg24 (M .f32 256 1024 x) (M .f32 1 1024 g) (M .bf16 1024 2048 w) (M .f32 1 512 lb)
      = M .f32 1 512 (sh 95 0 (hG x w lb g)) := by
  unfold kernelRun0_C.sl.v140
  rw [HS1_1 h]
  exact readCov_M _ _ _ _ _ _ _

theorem r_11 (h : ∀ b < 512, 0 < lb 0 b ∧ lb 0 b < 1) :
    kernelRun0_C.sl.r_11 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 95 0 (hG x w lb g) 0 b) := by
  unfold kernelRun0_C.sl.r_11 k0_pay29
  rw [v140 h]
  exact row_16 _

theorem v143 (h : ∀ b < 512, 0 < lb 0 b ∧ lb 0 b < 1) :
    kernelRun0_C.sl.v143 (F := Ideal) c arg2 harg2 arg3 harg3 arg4 harg4 arg5 harg5 arg23 arg24 (M .f32 256 1024 x) (M .f32 1 1024 g) (M .bf16 1024 2048 w) (M .f32 1 512 lb)
      = M .f32 1 512 (sh 111 0 (hG x w lb g)) := by
  unfold kernelRun0_C.sl.v143
  rw [HS1_1 h]
  exact readCov_M _ _ _ _ _ _ _

theorem r_12 (h : ∀ b < 512, 0 < lb 0 b ∧ lb 0 b < 1) :
    kernelRun0_C.sl.r_12 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 111 0 (hG x w lb g) 0 b) := by
  unfold kernelRun0_C.sl.r_12 k0_pay30
  rw [v143 h]
  exact row_16 _

theorem v146 (h : ∀ b < 512, 0 < lb 0 b ∧ lb 0 b < 1) :
    kernelRun0_C.sl.v146 (F := Ideal) c arg2 harg2 arg3 harg3 arg4 harg4 arg5 harg5 arg23 arg24 (M .f32 256 1024 x) (M .f32 1 1024 g) (M .bf16 1024 2048 w) (M .f32 1 512 lb)
      = M .f32 1 512 (sh 143 0 (hG x w lb g)) := by
  unfold kernelRun0_C.sl.v146
  rw [HS1_1 h]
  exact readCov_M _ _ _ _ _ _ _

theorem r_13 (h : ∀ b < 512, 0 < lb 0 b ∧ lb 0 b < 1) :
    kernelRun0_C.sl.r_13 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 143 0 (hG x w lb g) 0 b) := by
  unfold kernelRun0_C.sl.r_13 k0_pay31
  rw [v146 h]
  exact row_16 _

theorem v149 (h : ∀ b < 512, 0 < lb 0 b ∧ lb 0 b < 1) :
    kernelRun0_C.sl.v149 (F := Ideal) c arg2 harg2 arg3 harg3 arg4 harg4 arg5 harg5 arg23 arg24 (M .f32 256 1024 x) (M .f32 1 1024 g) (M .bf16 1024 2048 w) (M .f32 1 512 lb)
      = M .f32 1 512 (sh 159 0 (hG x w lb g)) := by
  unfold kernelRun0_C.sl.v149
  rw [HS1_1 h]
  exact readCov_M _ _ _ _ _ _ _

theorem r_14 (h : ∀ b < 512, 0 < lb 0 b ∧ lb 0 b < 1) :
    kernelRun0_C.sl.r_14 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 159 0 (hG x w lb g) 0 b) := by
  unfold kernelRun0_C.sl.r_14 k0_pay32
  rw [v149 h]
  exact row_16 _

theorem v152 (h : ∀ b < 512, 0 < lb 0 b ∧ lb 0 b < 1) :
    kernelRun0_C.sl.v152 (F := Ideal) c arg2 harg2 arg3 harg3 arg4 harg4 arg5 harg5 arg23 arg24 (M .f32 256 1024 x) (M .f32 1 1024 g) (M .bf16 1024 2048 w) (M .f32 1 512 lb)
      = M .f32 1 512 (sh 175 0 (hG x w lb g)) := by
  unfold kernelRun0_C.sl.v152
  rw [HS1_1 h]
  exact readCov_M _ _ _ _ _ _ _

theorem r_15 (h : ∀ b < 512, 0 < lb 0 b ∧ lb 0 b < 1) :
    kernelRun0_C.sl.r_15 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 175 0 (hG x w lb g) 0 b) := by
  unfold kernelRun0_C.sl.r_15 k0_pay33
  rw [v152 h]
  exact row_16 _

theorem v155 (h : ∀ b < 512, 0 < lb 0 b ∧ lb 0 b < 1) :
    kernelRun0_C.sl.v155 (F := Ideal) c arg2 harg2 arg3 harg3 arg4 harg4 arg5 harg5 arg23 arg24 (M .f32 256 1024 x) (M .f32 1 1024 g) (M .bf16 1024 2048 w) (M .f32 1 512 lb)
      = M .f32 1 512 (sh 207 0 (hG x w lb g)) := by
  unfold kernelRun0_C.sl.v155
  rw [HS1_1 h]
  exact readCov_M _ _ _ _ _ _ _

theorem r_16 (h : ∀ b < 512, 0 < lb 0 b ∧ lb 0 b < 1) :
    kernelRun0_C.sl.r_16 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 207 0 (hG x w lb g) 0 b) := by
  unfold kernelRun0_C.sl.r_16 k0_pay34
  rw [v155 h]
  exact row_16 _

theorem v158 (h : ∀ b < 512, 0 < lb 0 b ∧ lb 0 b < 1) :
    kernelRun0_C.sl.v158 (F := Ideal) c arg2 harg2 arg3 harg3 arg4 harg4 arg5 harg5 arg23 arg24 (M .f32 256 1024 x) (M .f32 1 1024 g) (M .bf16 1024 2048 w) (M .f32 1 512 lb)
      = M .f32 1 512 (sh 223 0 (hG x w lb g)) := by
  unfold kernelRun0_C.sl.v158
  rw [HS1_1 h]
  exact readCov_M _ _ _ _ _ _ _

theorem v160 (h : ∀ b < 512, 0 < lb 0 b ∧ lb 0 b < 1) :
    kernelRun0_C.sl.v160 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 223 0 (hG x w lb g) 0 b) := by
  unfold kernelRun0_C.sl.v160 kernelRun0_C.sl.v159
  rw [v158 h]
  exact row_16 _

theorem v161 (h : ∀ b < 512, 0 < lb 0 b ∧ lb 0 b < 1) :
    kernelRun0_C.sl.v161 (F := Ideal) c arg2 harg2 arg3 harg3 arg4 harg4 arg5 harg5 arg23 arg24 (M .f32 256 1024 x) (M .f32 1 1024 g) (M .bf16 1024 2048 w) (M .f32 1 512 lb)
      = M .f32 1 512 (sh 239 0 (hG x w lb g)) := by
  unfold kernelRun0_C.sl.v161
  rw [HS1_1 h]
  exact readCov_M _ _ _ _ _ _ _

theorem v163 (h : ∀ b < 512, 0 < lb 0 b ∧ lb 0 b < 1) :
    kernelRun0_C.sl.v163 (F := Ideal) c arg2 harg2 arg3 harg3 arg4 harg4 arg5 harg5 arg23 arg24 (M .f32 256 1024 x) (M .f32 1 1024 g) (M .bf16 1024 2048 w) (M .f32 1 512 lb)
      = M .f32 16 512 (fun _ b => sh 239 0 (hG x w lb g) 0 b) := by
  unfold kernelRun0_C.sl.v163 kernelRun0_C.sl.v162
  rw [v161 h]
  exact row_16 _

theorem v164 (h : ∀ b < 512, 0 < lb 0 b ∧ lb 0 b < 1) :
    kernelRun0_C.sl.v164 (F := Ideal) c arg2 harg2 arg3 harg3 arg4 harg4 arg5 harg5 arg23 arg24 (M .f32 256 1024 x) (M .f32 1 1024 g) (M .bf16 1024 2048 w) (M .f32 1 512 lb)
      = M .f32 256 512 (baseR (hG x w lb g)) := by
  unfold kernelRun0_C.sl.v164
  rw [r_7 h, r_8 h, r_9 h, r_10 h, r_11 h, r_12 h, r_13 h, r_14 h, r_15 h, r_16 h, v160 h, v163 h]
  exact cat_base

theorem r_18 (h : ∀ b < 512, 0 < lb 0 b ∧ lb 0 b < 1) :
    kernelRun0_C.sl.r_18 (F := Ideal) c arg2 harg2 arg3 harg3 arg4 harg4 arg5 harg5 arg23 arg24 (M .f32 256 1024 x) (M .f32 1 1024 g) (M .bf16 1024 2048 w) (M .f32 1 512 lb)
      = M .bf16 256 512 (qtR 0 (hq x w g) (hG x w lb g)) := by
  unfold kernelRun0_C.sl.r_18
  rw [v30, v126 h, v164 h]
  exact pay42_M

theorem r_19 (h : ∀ b < 512, 0 < lb 0 b ∧ lb 0 b < 1) :
    kernelRun0_C.sl.r_19 (F := Ideal) c arg2 harg2 arg3 harg3 arg4 harg4 arg5 harg5 arg23 arg24 (M .f32 256 1024 x) (M .f32 1 1024 g) (M .bf16 1024 2048 w) (M .f32 1 512 lb)
      = M .bf16 256 512 (qtR 1 (hq x w g) (hG x w lb g)) := by
  unfold kernelRun0_C.sl.r_19
  rw [v30, v126 h, v164 h]
  exact pay43_M

theorem r_20 (h : ∀ b < 512, 0 < lb 0 b ∧ lb 0 b < 1) :
    kernelRun0_C.sl.r_20 (F := Ideal) c arg2 harg2 arg3 harg3 arg4 harg4 arg5 harg5 arg23 arg24 (M .f32 256 1024 x) (M .f32 1 1024 g) (M .bf16 1024 2048 w) (M .f32 1 512 lb)
      = M .bf16 256 512 (qtR 2 (hq x w g) (hG x w lb g)) := by
  unfold kernelRun0_C.sl.r_20
  rw [v30, v126 h, v164 h]
  exact pay44_M

theorem r_17 (h : ∀ b < 512, 0 < lb 0 b ∧ lb 0 b < 1) :
    kernelRun0_C.sl.r_17 (F := Ideal) c arg2 harg2 arg3 harg3 arg4 harg4 arg5 harg5 arg23 arg24 (M .f32 256 1024 x) (M .f32 1 1024 g) (M .bf16 1024 2048 w) (M .f32 1 512 lb)
      = M .f32 256 512 (fun r c => (hq x w g) r c * Real.exp ((hG x w lb g) r c - baseR (hG x w lb g) r c)) := by
  unfold kernelRun0_C.sl.r_17
  rw [v30, v126 h, v164 h]
  exact pay41_M

theorem r_21 :
    kernelRun0_C.sl.r_21
      = B 256 512 (fun a _ => a % 64 / 16 = 3) := by
  unfold kernelRun0_C.sl.r_21
  exact pay45_M

theorem r_22 (h : ∀ b < 512, 0 < lb 0 b ∧ lb 0 b < 1) :
    kernelRun0_C.sl.r_22 (F := Ideal) c arg2 harg2 arg3 harg3 arg4 harg4 arg5 harg5 arg23 arg24 (M .f32 256 1024 x) (M .f32 1 1024 g) (M .bf16 1024 2048 w) (M .f32 1 512 lb)
      = M .bf16 256 512 (qtR 3 (hq x w g) (hG x w lb g)) := by
  unfold kernelRun0_C.sl.r_22
  rw [r_17 h, r_21]
  exact pay47_M

theorem r_4 :
    kernelRun0_C.sl.r_4 (F := Ideal) c arg2 harg2 arg3 harg3 arg4 harg4 arg5 harg5 arg24 (M .f32 256 1024 x) (M .f32 1 1024 g) (M .bf16 1024 2048 w) (M .f32 1 512 lb)
      = M .f32 256 512 (hk x w lb g) := by
  unfold kernelRun0_C.sl.r_4
  rw [r_1, v31]
  exact pay16_M

theorem r_23 (h : ∀ b < 512, 0 < lb 0 b ∧ lb 0 b < 1) :
    kernelRun0_C.sl.r_23 (F := Ideal) c arg2 harg2 arg3 harg3 arg4 harg4 arg5 harg5 arg23 arg24 (M .f32 256 1024 x) (M .f32 1 1024 g) (M .bf16 1024 2048 w) (M .f32 1 512 lb)
      = M .bf16 256 512 (ktR 0 (hk x w lb g) (hG x w lb g)) := by
  unfold kernelRun0_C.sl.r_23
  rw [r_4, v126 h]
  exact pay48_M

theorem r_24 (h : ∀ b < 512, 0 < lb 0 b ∧ lb 0 b < 1) :
    kernelRun0_C.sl.r_24 (F := Ideal) c arg2 harg2 arg3 harg3 arg4 harg4 arg5 harg5 arg23 arg24 (M .f32 256 1024 x) (M .f32 1 1024 g) (M .bf16 1024 2048 w) (M .f32 1 512 lb)
      = M .bf16 256 512 (ktR 1 (hk x w lb g) (hG x w lb g)) := by
  unfold kernelRun0_C.sl.r_24
  rw [r_4, v126 h, v128 h, v137 h, v146 h, v155 h]
  exact pay49_M

theorem r_25 (h : ∀ b < 512, 0 < lb 0 b ∧ lb 0 b < 1) :
    kernelRun0_C.sl.r_25 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 31 0 (hG x w lb g) 0 b) := by
  unfold kernelRun0_C.sl.r_25 k0_pay50
  rw [v131 h]
  exact row_64 _

theorem r_26 (h : ∀ b < 512, 0 < lb 0 b ∧ lb 0 b < 1) :
    kernelRun0_C.sl.r_26 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 95 0 (hG x w lb g) 0 b) := by
  unfold kernelRun0_C.sl.r_26 k0_pay51
  rw [v140 h]
  exact row_64 _

theorem r_27 (h : ∀ b < 512, 0 < lb 0 b ∧ lb 0 b < 1) :
    kernelRun0_C.sl.r_27 (F := Ideal) c arg2 harg2 arg3 harg3 arg4 harg4 arg5 harg5 arg23 arg24 (M .f32 256 1024 x) (M .f32 1 1024 g) (M .bf16 1024 2048 w) (M .f32 1 512 lb)
      = M .bf16 256 512 (ktR 2 (hk x w lb g) (hG x w lb g)) := by
  unfold kernelRun0_C.sl.r_27
  rw [r_4, v126 h, r_25 h, r_26 h, v149 h, v158 h]
  exact pay52_M

theorem v316 (h : ∀ b < 512, 0 < lb 0 b ∧ lb 0 b < 1) :
    kernelRun0_C.sl.v316 (F := Ideal) c arg2 harg2 arg3 harg3 arg4 harg4 arg5 harg5 arg23 arg24 (M .f32 256 1024 x) (M .f32 1 1024 g) (M .bf16 1024 2048 w) (M .f32 1 512 lb)
      = M .f32 1 512 (sh 239 0 (hG x w lb g)) := by
  unfold kernelRun0_C.sl.v316
  rw [HS1_1 h]
  exact readCov_M _ _ _ _ _ _ _

theorem r_28 (h : ∀ b < 512, 0 < lb 0 b ∧ lb 0 b < 1) :
    kernelRun0_C.sl.r_28 (F := Ideal) c arg2 harg2 arg3 harg3 arg4 harg4 arg5 harg5 arg23 arg24 (M .f32 256 1024 x) (M .f32 1 1024 g) (M .bf16 1024 2048 w) (M .f32 1 512 lb)
      = M .bf16 256 512 (ktR 3 (hk x w lb g) (hG x w lb g)) := by
  unfold kernelRun0_C.sl.r_28
  rw [r_4, v126 h, v134 h, v143 h, v152 h, v316 h]
  exact pay53_M

theorem r_67 (h : ∀ b < 512, 0 < lb 0 b ∧ lb 0 b < 1) :
    kernelRun0_C.sl.r_67 (F := Ideal) c arg2 harg2 arg3 harg3 arg4 harg4 arg5 harg5 arg23 arg24 (M .f32 256 1024 x) (M .f32 1 1024 g) (M .bf16 1024 2048 w) (M .f32 1 512 lb)
      = M .bf16 64 64 (probsR 192 384 (hq x w g) (hk x w lb g) (hG x w lb g)) := by
  unfold kernelRun0_C.sl.r_67
  rw [r_18 h, r_19 h, r_20 h, r_22 h, r_23 h, r_24 h, r_27 h, r_28 h]
  exact pay93_M

theorem v165 (h : ∀ b < 512, 0 < lb 0 b ∧ lb 0 b < 1) :
    kernelRun0_C.sl.v165 (F := Ideal) c arg2 harg2 arg3 harg3 arg4 harg4 arg5 harg5 arg23 arg24 (M .f32 256 1024 x) (M .f32 1 1024 g) (M .bf16 1024 2048 w) (M .f32 1 512 lb)
      = M .f32 1 512 (sh 63 0 (hG x w lb g)) := by
  unfold kernelRun0_C.sl.v165
  rw [HS1_1 h]
  exact readCov_M _ _ _ _ _ _ _

theorem v167 (h : ∀ b < 512, 0 < lb 0 b ∧ lb 0 b < 1) :
    kernelRun0_C.sl.v167 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 63 0 (hG x w lb g) 0 b) := by
  unfold kernelRun0_C.sl.v167 kernelRun0_C.sl.v166
  rw [v165 h]
  exact row_64 _

theorem v168 (h : ∀ b < 512, 0 < lb 0 b ∧ lb 0 b < 1) :
    kernelRun0_C.sl.v168 (F := Ideal) c arg2 harg2 arg3 harg3 arg4 harg4 arg5 harg5 arg23 arg24 (M .f32 256 1024 x) (M .f32 1 1024 g) (M .bf16 1024 2048 w) (M .f32 1 512 lb)
      = M .f32 1 512 (sh 127 0 (hG x w lb g)) := by
  unfold kernelRun0_C.sl.v168
  rw [HS1_1 h]
  exact readCov_M _ _ _ _ _ _ _

theorem v170 (h : ∀ b < 512, 0 < lb 0 b ∧ lb 0 b < 1) :
    kernelRun0_C.sl.v170 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 127 0 (hG x w lb g) 0 b) := by
  unfold kernelRun0_C.sl.v170 kernelRun0_C.sl.v169
  rw [v168 h]
  exact row_64 _

theorem v171 (h : ∀ b < 512, 0 < lb 0 b ∧ lb 0 b < 1) :
    kernelRun0_C.sl.v171 (F := Ideal) c arg2 harg2 arg3 harg3 arg4 harg4 arg5 harg5 arg23 arg24 (M .f32 256 1024 x) (M .f32 1 1024 g) (M .bf16 1024 2048 w) (M .f32 1 512 lb)
      = M .f32 1 512 (sh 191 0 (hG x w lb g)) := by
  unfold kernelRun0_C.sl.v171
  rw [HS1_1 h]
  exact readCov_M _ _ _ _ _ _ _

theorem v173 (h : ∀ b < 512, 0 < lb 0 b ∧ lb 0 b < 1) :
    kernelRun0_C.sl.v173 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 191 0 (hG x w lb g) 0 b) := by
  unfold kernelRun0_C.sl.v173 kernelRun0_C.sl.v172
  rw [v171 h]
  exact row_64 _

theorem v174 (h : ∀ b < 512, 0 < lb 0 b ∧ lb 0 b < 1) :
    kernelRun0_C.sl.v174 (F := Ideal) c arg2 harg2 arg3 harg3 arg4 harg4 arg5 harg5 arg23 arg24 (M .f32 256 1024 x) (M .f32 1 1024 g) (M .bf16 1024 2048 w) (M .f32 1 512 lb)
      = M .f32 1 512 (sh 255 0 (hG x w lb g)) := by
  unfold kernelRun0_C.sl.v174
  rw [HS1_1 h]
  exact readCov_M _ _ _ _ _ _ _

theorem v176 (h : ∀ b < 512, 0 < lb 0 b ∧ lb 0 b < 1) :
    kernelRun0_C.sl.v176 (F := Ideal) c arg2 harg2 arg3 harg3 arg4 harg4 arg5 harg5 arg23 arg24 (M .f32 256 1024 x) (M .f32 1 1024 g) (M .bf16 1024 2048 w) (M .f32 1 512 lb)
      = M .f32 64 512 (fun _ b => sh 255 0 (hG x w lb g) 0 b) := by
  unfold kernelRun0_C.sl.v176 kernelRun0_C.sl.v175
  rw [v174 h]
  exact row_64 _

theorem v177 (h : ∀ b < 512, 0 < lb 0 b ∧ lb 0 b < 1) :
    kernelRun0_C.sl.v177 (F := Ideal) c arg2 harg2 arg3 harg3 arg4 harg4 arg5 harg5 arg23 arg24 (M .f32 256 1024 x) (M .f32 1 1024 g) (M .bf16 1024 2048 w) (M .f32 1 512 lb)
      = M .f32 256 512 (gendR (hG x w lb g)) := by
  unfold kernelRun0_C.sl.v177
  rw [v167 h, v170 h, v173 h, v176 h]
  exact cat_gend

theorem r_30 (h : ∀ b < 512, 0 < lb 0 b ∧ lb 0 b < 1) :
    kernelRun0_C.sl.r_30 (F := Ideal) c arg2 harg2 arg3 harg3 arg4 harg4 arg5 harg5 arg23 arg24 (M .f32 256 1024 x) (M .f32 1 1024 g) (M .bf16 1024 2048 w) (M .f32 1 512 lb)
      = M .f32 256 512 (fun a b => Real.exp (gendR (hG x w lb g) a b - (hG x w lb g) a b)) := by
  unfold kernelRun0_C.sl.r_30
  rw [v126 h, v177 h]
  exact pay55_M

theorem r_31 (h : ∀ b < 512, 0 < lb 0 b ∧ lb 0 b < 1) :
    kernelRun0_C.sl.r_31 (F := Ideal) c arg2 harg2 arg3 harg3 arg4 harg4 arg5 harg5 arg23 arg24 (M .f32 256 1024 x) (M .f32 1 1024 g) (M .bf16 1024 2048 w) (M .f32 1 512 lb)
      = M .bf16 256 512 (fun a b => (hk x w lb g) a b * Real.exp (gendR (hG x w lb g) a b - (hG x w lb g) a b)) := by
  unfold kernelRun0_C.sl.r_31
  rw [r_4, r_30 h]
  exact pay56_M

theorem r_59 (h : ∀ b < 512, 0 < lb 0 b ∧ lb 0 b < 1) :
    kernelRun0_C.sl.r_59 (F := Ideal) c arg2 harg2 arg3 harg3 arg4 harg4 arg5 harg5 arg23 arg24 (M .f32 256 1024 x) (M .f32 1 1024 g) (M .bf16 1024 2048 w) (M .f32 1 512 lb)
      = M .f32 128 128 (updR 128 384 (hv x w g) (hk x w lb g) (hG x w lb g)) := by
  unfold kernelRun0_C.sl.r_59
  rw [r_5, r_31 h]
  exact pay85_M

theorem r_40 (h : ∀ b < 512, 0 < lb 0 b ∧ lb 0 b < 1) :
    kernelRun0_C.sl.r_40 (F := Ideal) c arg2 harg2 arg3 harg3 arg4 harg4 arg5 harg5 arg23 arg24 (M .f32 256 1024 x) (M .f32 1 1024 g) (M .bf16 1024 2048 w) (M .f32 1 512 lb)
      = M .f32 128 128 (updR 0 384 (hv x w g) (hk x w lb g) (hG x w lb g)) := by
  unfold kernelRun0_C.sl.r_40
  rw [r_5, r_31 h]
  exact pay66_M

theorem r_49 (h : ∀ b < 512, 0 < lb 0 b ∧ lb 0 b < 1) :
    kernelRun0_C.sl.r_49 (F := Ideal) c arg2 harg2 arg3 harg3 arg4 harg4 arg5 harg5 arg23 arg24 (M .f32 256 1024 x) (M .f32 1 1024 g) (M .bf16 1024 2048 w) (M .f32 1 512 lb)
      = M .f32 128 128 (updR 64 384 (hv x w g) (hk x w lb g) (hG x w lb g)) := by
  unfold kernelRun0_C.sl.r_49
  rw [r_5, r_31 h]
  exact pay75_M

theorem v699 :
    kernelRun0_C.sl.v699 (F := Ideal) c arg22 harg22 (M3 .f32 4 128 128 S)
      = M3 .f32 1 128 128 (fun _ => S 3) := by
  unfold kernelRun0_C.sl.v699
  exact readAt_head _ _ _ _

theorem v702 (h : ∀ b < 512, 0 < lb 0 b ∧ lb 0 b < 1) :
    kernelRun0_C.sl.v702 (F := Ideal) c arg2 harg2 arg3 harg3 arg4 harg4 arg5 harg5 arg23 arg24 (M .f32 256 1024 x) (M .f32 1 1024 g) (M .bf16 1024 2048 w) (M .f32 1 512 lb)
      = M .f32 1 128 (sh 63 384 (hG x w lb g)) := by
  unfold kernelRun0_C.sl.v702
  rw [HS1_1 h]
  exact readCov_M _ _ _ _ _ _ _

theorem v708 (h : ∀ b < 512, 0 < lb 0 b ∧ lb 0 b < 1) :
    kernelRun0_C.sl.v708 (F := Ideal) c arg2 harg2 arg3 harg3 arg4 harg4 arg5 harg5 arg23 arg24 (M .f32 256 1024 x) (M .f32 1 1024 g) (M .bf16 1024 2048 w) (M .f32 1 512 lb)
      = M .f32 1 128 (sh 127 384 (hG x w lb g)) := by
  unfold kernelRun0_C.sl.v708
  rw [HS1_1 h]
  exact readCov_M _ _ _ _ _ _ _

theorem r_86 (h : ∀ b < 512, 0 < lb 0 b ∧ lb 0 b < 1) :
    kernelRun0_C.sl.r_86 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .f32 128 128 (hst x w lb g S 384 3 2) := by
  unfold kernelRun0_C.sl.r_86
  rw [r_40 h, r_49 h, v699, v702 h, v708 h]
  exact pay127_M (f := fun _ => S 3)

theorem v714 (h : ∀ b < 512, 0 < lb 0 b ∧ lb 0 b < 1) :
    kernelRun0_C.sl.v714 (F := Ideal) c arg2 harg2 arg3 harg3 arg4 harg4 arg5 harg5 arg23 arg24 (M .f32 256 1024 x) (M .f32 1 1024 g) (M .bf16 1024 2048 w) (M .f32 1 512 lb)
      = M .f32 1 128 (sh 191 384 (hG x w lb g)) := by
  unfold kernelRun0_C.sl.v714
  rw [HS1_1 h]
  exact readCov_M _ _ _ _ _ _ _

theorem r_88 (h : ∀ b < 512, 0 < lb 0 b ∧ lb 0 b < 1) :
    kernelRun0_C.sl.r_88 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 384 3 3) := by
  unfold kernelRun0_C.sl.r_88
  rw [r_59 h, r_86 h, v714 h]
  exact pay130_M (f := fun _ => S 3)

theorem v1163 :
    kernelRun0_C.sl.v1163 (F := Ideal) c arg2 harg2 arg3 harg3 arg4 harg4 arg24 (M .f32 256 1024 x) (M .f32 1 1024 g) (M .bf16 1024 2048 w)
      = M .f32 64 128 (sh 192 1920 (projR x g w)) := by
  unfold kernelRun0_C.sl.v1163
  rw [HS2_1]
  exact readCov_M _ _ _ _ _ _ _

theorem r_2 :
    kernelRun0_C.sl.r_2 (F := Ideal) c arg6 harg6 (M .f32 1 512 ng)
      = M .f32 1 512 ng := by
  unfold kernelRun0_C.sl.r_2
  rw [readAt_whole, pay11_M]

theorem r_38 (h : ∀ b < 512, 0 < lb 0 b ∧ lb 0 b < 1) :
    kernelRun0_C.sl.r_38 (F := Ideal) c arg2 harg2 arg3 harg3 arg4 harg4 arg5 harg5 arg23 arg24 (M .f32 256 1024 x) (M .f32 1 1024 g) (M .bf16 1024 2048 w) (M .f32 1 512 lb)
      = M .f32 128 128 (updR 0 256 (hv x w g) (hk x w lb g) (hG x w lb g)) := by
  unfold kernelRun0_C.sl.r_38
  rw [r_5, r_31 h]
  exact pay64_M

theorem r_47 (h : ∀ b < 512, 0 < lb 0 b ∧ lb 0 b < 1) :
    kernelRun0_C.sl.r_47 (F := Ideal) c arg2 harg2 arg3 harg3 arg4 harg4 arg5 harg5 arg23 arg24 (M .f32 256 1024 x) (M .f32 1 1024 g) (M .bf16 1024 2048 w) (M .f32 1 512 lb)
      = M .f32 128 128 (updR 64 256 (hv x w g) (hk x w lb g) (hG x w lb g)) := by
  unfold kernelRun0_C.sl.r_47
  rw [r_5, r_31 h]
  exact pay73_M

theorem r_56 (h : ∀ b < 512, 0 < lb 0 b ∧ lb 0 b < 1) :
    kernelRun0_C.sl.r_56 (F := Ideal) c arg2 harg2 arg3 harg3 arg4 harg4 arg5 harg5 arg23 arg24 (M .f32 256 1024 x) (M .f32 1 1024 g) (M .bf16 1024 2048 w) (M .f32 1 512 lb)
      = M .f32 128 128 (updR 128 256 (hv x w g) (hk x w lb g) (hG x w lb g)) := by
  unfold kernelRun0_C.sl.r_56
  rw [r_5, r_31 h]
  exact pay82_M

theorem v670 :
    kernelRun0_C.sl.v670 (F := Ideal) c arg22 harg22 (M3 .f32 4 128 128 S)
      = M3 .f32 1 128 128 (fun _ => S 2) := by
  unfold kernelRun0_C.sl.v670
  exact readAt_head _ _ _ _

theorem r_79 :
    kernelRun0_C.sl.r_79 (F := Ideal) c arg22 harg22 (M3 .f32 4 128 128 S)
      = M .f32 128 128 (hst x w lb g S 256 2 0) := by
  unfold kernelRun0_C.sl.r_79
  rw [v670]
  exact pay114_M (f := fun _ => S 2)

theorem v673 (h : ∀ b < 512, 0 < lb 0 b ∧ lb 0 b < 1) :
    kernelRun0_C.sl.v673 (F := Ideal) c arg2 harg2 arg3 harg3 arg4 harg4 arg5 harg5 arg23 arg24 (M .f32 256 1024 x) (M .f32 1 1024 g) (M .bf16 1024 2048 w) (M .f32 1 512 lb)
      = M .f32 1 128 (sh 63 256 (hG x w lb g)) := by
  unfold kernelRun0_C.sl.v673
  rw [HS1_1 h]
  exact readCov_M _ _ _ _ _ _ _

theorem v679 (h : ∀ b < 512, 0 < lb 0 b ∧ lb 0 b < 1) :
    kernelRun0_C.sl.v679 (F := Ideal) c arg2 harg2 arg3 harg3 arg4 harg4 arg5 harg5 arg23 arg24 (M .f32 256 1024 x) (M .f32 1 1024 g) (M .bf16 1024 2048 w) (M .f32 1 512 lb)
      = M .f32 1 128 (sh 127 256 (hG x w lb g)) := by
  unfold kernelRun0_C.sl.v679
  rw [HS1_1 h]
  exact readCov_M _ _ _ _ _ _ _

theorem v685 (h : ∀ b < 512, 0 < lb 0 b ∧ lb 0 b < 1) :
    kernelRun0_C.sl.v685 (F := Ideal) c arg2 harg2 arg3 harg3 arg4 harg4 arg5 harg5 arg23 arg24 (M .f32 256 1024 x) (M .f32 1 1024 g) (M .bf16 1024 2048 w) (M .f32 1 512 lb)
      = M .f32 1 128 (sh 191 256 (hG x w lb g)) := by
  unfold kernelRun0_C.sl.v685
  rw [HS1_1 h]
  exact readCov_M _ _ _ _ _ _ _

theorem r_83 (h : ∀ b < 512, 0 < lb 0 b ∧ lb 0 b < 1) :
    kernelRun0_C.sl.r_83 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 256 2 3) := by
  unfold kernelRun0_C.sl.r_83
  rw [r_38 h, r_47 h, r_56 h, r_79, v673 h, v679 h, v685 h]
  exact pay121_M (f := fun _ => S 2)

theorem r_64 (h : ∀ b < 512, 0 < lb 0 b ∧ lb 0 b < 1) :
    kernelRun0_C.sl.r_64 (F := Ideal) c arg2 harg2 arg3 harg3 arg4 harg4 arg5 harg5 arg23 arg24 (M .f32 256 1024 x) (M .f32 1 1024 g) (M .bf16 1024 2048 w) (M .f32 1 512 lb)
      = M .f32 64 64 (probsR 192 256 (hq x w g) (hk x w lb g) (hG x w lb g)) := by
  unfold kernelRun0_C.sl.r_64
  rw [r_18 h, r_19 h, r_20 h, r_22 h, r_23 h, r_24 h, r_27 h, r_28 h]
  exact pay90_M

theorem r_65 (h : ∀ b < 512, 0 < lb 0 b ∧ lb 0 b < 1) :
    kernelRun0_C.sl.r_65 (F := Ideal) c arg2 harg2 arg3 harg3 arg4 harg4 arg5 harg5 arg23 arg24 (M .f32 256 1024 x) (M .f32 1 1024 g) (M .bf16 1024 2048 w) (M .f32 1 512 lb)
      = M .bf16 64 64 (probsR 192 256 (hq x w g) (hk x w lb g) (hG x w lb g)) := by
  unfold kernelRun0_C.sl.r_65
  rw [r_64 h]
  rfl

theorem v1135 :
    kernelRun0_C.sl.v1135 (F := Ideal) c arg2 harg2 arg3 harg3 arg4 harg4 arg24 (M .f32 256 1024 x) (M .f32 1 1024 g) (M .bf16 1024 2048 w)
      = M .f32 64 128 (sh 192 1792 (projR x g w)) := by
  unfold kernelRun0_C.sl.v1135
  rw [HS2_1]
  exact readCov_M _ _ _ _ _ _ _

theorem r_62 (h : ∀ b < 512, 0 < lb 0 b ∧ lb 0 b < 1) :
    kernelRun0_C.sl.r_62 (F := Ideal) c arg2 harg2 arg3 harg3 arg4 harg4 arg5 harg5 arg23 arg24 (M .f32 256 1024 x) (M .f32 1 1024 g) (M .bf16 1024 2048 w) (M .f32 1 512 lb)
      = M .bf16 64 64 (probsR 192 128 (hq x w g) (hk x w lb g) (hG x w lb g)) := by
  unfold kernelRun0_C.sl.r_62
  rw [r_18 h, r_19 h, r_20 h, r_22 h, r_23 h, r_24 h, r_27 h, r_28 h]
  exact pay88_M

theorem r_35 (h : ∀ b < 512, 0 < lb 0 b ∧ lb 0 b < 1) :
    kernelRun0_C.sl.r_35 (F := Ideal) c arg2 harg2 arg3 harg3 arg4 harg4 arg5 harg5 arg23 arg24 (M .f32 256 1024 x) (M .f32 1 1024 g) (M .bf16 1024 2048 w) (M .f32 1 512 lb)
      = M .f32 128 128 (updR 0 128 (hv x w g) (hk x w lb g) (hG x w lb g)) := by
  unfold kernelRun0_C.sl.r_35
  rw [r_4, r_5, r_30 h]
  exact pay61_M

theorem r_45 (h : ∀ b < 512, 0 < lb 0 b ∧ lb 0 b < 1) :
    kernelRun0_C.sl.r_45 (F := Ideal) c arg2 harg2 arg3 harg3 arg4 harg4 arg5 harg5 arg23 arg24 (M .f32 256 1024 x) (M .f32 1 1024 g) (M .bf16 1024 2048 w) (M .f32 1 512 lb)
      = M .f32 128 128 (updR 64 128 (hv x w g) (hk x w lb g) (hG x w lb g)) := by
  unfold kernelRun0_C.sl.r_45
  rw [r_5, r_31 h]
  exact pay71_M

theorem r_54 (h : ∀ b < 512, 0 < lb 0 b ∧ lb 0 b < 1) :
    kernelRun0_C.sl.r_54 (F := Ideal) c arg2 harg2 arg3 harg3 arg4 harg4 arg5 harg5 arg23 arg24 (M .f32 256 1024 x) (M .f32 1 1024 g) (M .bf16 1024 2048 w) (M .f32 1 512 lb)
      = M .f32 128 128 (updR 128 128 (hv x w g) (hk x w lb g) (hG x w lb g)) := by
  unfold kernelRun0_C.sl.r_54
  rw [r_5, r_31 h]
  exact pay80_M

theorem v641 :
    kernelRun0_C.sl.v641 (F := Ideal) c arg22 harg22 (M3 .f32 4 128 128 S)
      = M3 .f32 1 128 128 (fun _ => S 1) := by
  unfold kernelRun0_C.sl.v641
  exact readAt_head _ _ _ _

theorem v644 (h : ∀ b < 512, 0 < lb 0 b ∧ lb 0 b < 1) :
    kernelRun0_C.sl.v644 (F := Ideal) c arg2 harg2 arg3 harg3 arg4 harg4 arg5 harg5 arg23 arg24 (M .f32 256 1024 x) (M .f32 1 1024 g) (M .bf16 1024 2048 w) (M .f32 1 512 lb)
      = M .f32 1 128 (sh 63 128 (hG x w lb g)) := by
  unfold kernelRun0_C.sl.v644
  rw [HS1_1 h]
  exact readCov_M _ _ _ _ _ _ _

theorem v650 (h : ∀ b < 512, 0 < lb 0 b ∧ lb 0 b < 1) :
    kernelRun0_C.sl.v650 (F := Ideal) c arg2 harg2 arg3 harg3 arg4 harg4 arg5 harg5 arg23 arg24 (M .f32 256 1024 x) (M .f32 1 1024 g) (M .bf16 1024 2048 w) (M .f32 1 512 lb)
      = M .f32 1 128 (sh 127 128 (hG x w lb g)) := by
  unfold kernelRun0_C.sl.v650
  rw [HS1_1 h]
  exact readCov_M _ _ _ _ _ _ _

theorem v656 (h : ∀ b < 512, 0 < lb 0 b ∧ lb 0 b < 1) :
    kernelRun0_C.sl.v656 (F := Ideal) c arg2 harg2 arg3 harg3 arg4 harg4 arg5 harg5 arg23 arg24 (M .f32 256 1024 x) (M .f32 1 1024 g) (M .bf16 1024 2048 w) (M .f32 1 512 lb)
      = M .f32 1 128 (sh 191 128 (hG x w lb g)) := by
  unfold kernelRun0_C.sl.v656
  rw [HS1_1 h]
  exact readCov_M _ _ _ _ _ _ _

theorem r_78 (h : ∀ b < 512, 0 < lb 0 b ∧ lb 0 b < 1) :
    kernelRun0_C.sl.r_78 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 128 1 3) := by
  unfold kernelRun0_C.sl.r_78
  rw [r_35 h, r_45 h, r_54 h, v641, v644 h, v650 h, v656 h]
  exact pay112_M (f := fun _ => S 1)

theorem v1107 :
    kernelRun0_C.sl.v1107 (F := Ideal) c arg2 harg2 arg3 harg3 arg4 harg4 arg24 (M .f32 256 1024 x) (M .f32 1 1024 g) (M .bf16 1024 2048 w)
      = M .f32 64 128 (sh 192 1664 (projR x g w)) := by
  unfold kernelRun0_C.sl.v1107
  rw [HS2_1]
  exact readCov_M _ _ _ _ _ _ _

theorem v1079 :
    kernelRun0_C.sl.v1079 (F := Ideal) c arg2 harg2 arg3 harg3 arg4 harg4 arg24 (M .f32 256 1024 x) (M .f32 1 1024 g) (M .bf16 1024 2048 w)
      = M .f32 64 128 (sh 192 1536 (projR x g w)) := by
  unfold kernelRun0_C.sl.v1079
  rw [HS2_1]
  exact readCov_M _ _ _ _ _ _ _

theorem r_60 (h : ∀ b < 512, 0 < lb 0 b ∧ lb 0 b < 1) :
    kernelRun0_C.sl.r_60 (F := Ideal) c arg2 harg2 arg3 harg3 arg4 harg4 arg5 harg5 arg23 arg24 (M .f32 256 1024 x) (M .f32 1 1024 g) (M .bf16 1024 2048 w) (M .f32 1 512 lb)
      = M .bf16 64 64 (probsR 192 0 (hq x w g) (hk x w lb g) (hG x w lb g)) := by
  unfold kernelRun0_C.sl.r_60
  rw [r_18 h, r_19 h, r_20 h, r_22 h, r_23 h, r_24 h, r_27 h, r_28 h]
  exact pay86_M

theorem r_33 (h : ∀ b < 512, 0 < lb 0 b ∧ lb 0 b < 1) :
    kernelRun0_C.sl.r_33 (F := Ideal) c arg2 harg2 arg3 harg3 arg4 harg4 arg5 harg5 arg23 arg24 (M .f32 256 1024 x) (M .f32 1 1024 g) (M .bf16 1024 2048 w) (M .f32 1 512 lb)
      = M .f32 128 128 (updR 0 0 (hv x w g) (hk x w lb g) (hG x w lb g)) := by
  unfold kernelRun0_C.sl.r_33
  rw [r_4, r_5, r_30 h]
  exact pay59_M

theorem r_42 (h : ∀ b < 512, 0 < lb 0 b ∧ lb 0 b < 1) :
    kernelRun0_C.sl.r_42 (F := Ideal) c arg2 harg2 arg3 harg3 arg4 harg4 arg5 harg5 arg23 arg24 (M .f32 256 1024 x) (M .f32 1 1024 g) (M .bf16 1024 2048 w) (M .f32 1 512 lb)
      = M .f32 128 128 (updR 64 0 (hv x w g) (hk x w lb g) (hG x w lb g)) := by
  unfold kernelRun0_C.sl.r_42
  rw [r_5, r_31 h]
  exact pay68_M

theorem r_52 (h : ∀ b < 512, 0 < lb 0 b ∧ lb 0 b < 1) :
    kernelRun0_C.sl.r_52 (F := Ideal) c arg2 harg2 arg3 harg3 arg4 harg4 arg5 harg5 arg23 arg24 (M .f32 256 1024 x) (M .f32 1 1024 g) (M .bf16 1024 2048 w) (M .f32 1 512 lb)
      = M .f32 128 128 (updR 128 0 (hv x w g) (hk x w lb g) (hG x w lb g)) := by
  unfold kernelRun0_C.sl.r_52
  rw [r_5, r_31 h]
  exact pay78_M

theorem v615 (h : ∀ b < 512, 0 < lb 0 b ∧ lb 0 b < 1) :
    kernelRun0_C.sl.v615 (F := Ideal) c arg2 harg2 arg3 harg3 arg4 harg4 arg5 harg5 arg23 arg24 (M .f32 256 1024 x) (M .f32 1 1024 g) (M .bf16 1024 2048 w) (M .f32 1 512 lb)
      = M .f32 1 128 (sh 63 0 (hG x w lb g)) := by
  unfold kernelRun0_C.sl.v615
  rw [HS1_1 h]
  exact readCov_M _ _ _ _ _ _ _

theorem v621 (h : ∀ b < 512, 0 < lb 0 b ∧ lb 0 b < 1) :
    kernelRun0_C.sl.v621 (F := Ideal) c arg2 harg2 arg3 harg3 arg4 harg4 arg5 harg5 arg23 arg24 (M .f32 256 1024 x) (M .f32 1 1024 g) (M .bf16 1024 2048 w) (M .f32 1 512 lb)
      = M .f32 1 128 (sh 127 0 (hG x w lb g)) := by
  unfold kernelRun0_C.sl.v621
  rw [HS1_1 h]
  exact readCov_M _ _ _ _ _ _ _

theorem v627 (h : ∀ b < 512, 0 < lb 0 b ∧ lb 0 b < 1) :
    kernelRun0_C.sl.v627 (F := Ideal) c arg2 harg2 arg3 harg3 arg4 harg4 arg5 harg5 arg23 arg24 (M .f32 256 1024 x) (M .f32 1 1024 g) (M .bf16 1024 2048 w) (M .f32 1 512 lb)
      = M .f32 1 128 (sh 191 0 (hG x w lb g)) := by
  unfold kernelRun0_C.sl.v627
  rw [HS1_1 h]
  exact readCov_M _ _ _ _ _ _ _

theorem r_73 (h : ∀ b < 512, 0 < lb 0 b ∧ lb 0 b < 1) :
    kernelRun0_C.sl.r_73 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 0 0 3) := by
  unfold kernelRun0_C.sl.r_73
  rw [readAt_head, r_33 h, r_42 h, r_52 h, v615 h, v621 h, v627 h]
  exact pay102_M (f := fun _ => S 0)

theorem r_57 (h : ∀ b < 512, 0 < lb 0 b ∧ lb 0 b < 1) :
    kernelRun0_C.sl.r_57 (F := Ideal) c arg2 harg2 arg3 harg3 arg4 harg4 arg5 harg5 arg23 arg24 (M .f32 256 1024 x) (M .f32 1 1024 g) (M .bf16 1024 2048 w) (M .f32 1 512 lb)
      = M .f32 64 64 (probsR 128 384 (hq x w g) (hk x w lb g) (hG x w lb g)) := by
  unfold kernelRun0_C.sl.r_57
  rw [r_18 h, r_19 h, r_20 h, r_22 h, r_23 h, r_24 h, r_27 h, r_28 h]
  exact pay83_M

theorem r_58 (h : ∀ b < 512, 0 < lb 0 b ∧ lb 0 b < 1) :
    kernelRun0_C.sl.r_58 (F := Ideal) c arg2 harg2 arg3 harg3 arg4 harg4 arg5 harg5 arg23 arg24 (M .f32 256 1024 x) (M .f32 1 1024 g) (M .bf16 1024 2048 w) (M .f32 1 512 lb)
      = M .bf16 64 64 (probsR 128 384 (hq x w g) (hk x w lb g) (hG x w lb g)) := by
  unfold kernelRun0_C.sl.r_58
  rw [r_57 h]
  rfl

theorem r_87 (h : ∀ b < 512, 0 < lb 0 b ∧ lb 0 b < 1) :
    kernelRun0_C.sl.r_87 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 384 3 2) := by
  unfold kernelRun0_C.sl.r_87
  rw [r_40 h, r_49 h, v699, v702 h, v708 h]
  exact pay128_M (f := fun _ => S 3)

theorem v1051 :
    kernelRun0_C.sl.v1051 (F := Ideal) c arg2 harg2 arg3 harg3 arg4 harg4 arg24 (M .f32 256 1024 x) (M .f32 1 1024 g) (M .bf16 1024 2048 w)
      = M .f32 64 128 (sh 128 1920 (projR x g w)) := by
  unfold kernelRun0_C.sl.v1051
  rw [HS2_1]
  exact readCov_M _ _ _ _ _ _ _

theorem r_55 (h : ∀ b < 512, 0 < lb 0 b ∧ lb 0 b < 1) :
    kernelRun0_C.sl.r_55 (F := Ideal) c arg2 harg2 arg3 harg3 arg4 harg4 arg5 harg5 arg23 arg24 (M .f32 256 1024 x) (M .f32 1 1024 g) (M .bf16 1024 2048 w) (M .f32 1 512 lb)
      = M .bf16 64 64 (probsR 128 256 (hq x w g) (hk x w lb g) (hG x w lb g)) := by
  unfold kernelRun0_C.sl.r_55
  rw [r_18 h, r_19 h, r_20 h, r_22 h, r_23 h, r_24 h, r_27 h, r_28 h]
  exact pay81_M

theorem r_82 (h : ∀ b < 512, 0 < lb 0 b ∧ lb 0 b < 1) :
    kernelRun0_C.sl.r_82 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 256 2 2) := by
  unfold kernelRun0_C.sl.r_82
  rw [r_38 h, r_47 h, r_79, v673 h, v679 h]
  exact pay119_M (f := fun _ => S 2)

theorem v1023 :
    kernelRun0_C.sl.v1023 (F := Ideal) c arg2 harg2 arg3 harg3 arg4 harg4 arg24 (M .f32 256 1024 x) (M .f32 1 1024 g) (M .bf16 1024 2048 w)
      = M .f32 64 128 (sh 128 1792 (projR x g w)) := by
  unfold kernelRun0_C.sl.v1023
  rw [HS2_1]
  exact readCov_M _ _ _ _ _ _ _

theorem r_53 (h : ∀ b < 512, 0 < lb 0 b ∧ lb 0 b < 1) :
    kernelRun0_C.sl.r_53 (F := Ideal) c arg2 harg2 arg3 harg3 arg4 harg4 arg5 harg5 arg23 arg24 (M .f32 256 1024 x) (M .f32 1 1024 g) (M .bf16 1024 2048 w) (M .f32 1 512 lb)
      = M .bf16 64 64 (probsR 128 128 (hq x w g) (hk x w lb g) (hG x w lb g)) := by
  unfold kernelRun0_C.sl.r_53
  rw [r_18 h, r_19 h, r_20 h, r_22 h, r_23 h, r_24 h, r_27 h, r_28 h]
  exact pay79_M

theorem r_77 (h : ∀ b < 512, 0 < lb 0 b ∧ lb 0 b < 1) :
    kernelRun0_C.sl.r_77 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 128 1 2) := by
  unfold kernelRun0_C.sl.r_77
  rw [r_35 h, r_45 h, v641, v644 h, v650 h]
  exact pay110_M (f := fun _ => S 1)

theorem v995 :
    kernelRun0_C.sl.v995 (F := Ideal) c arg2 harg2 arg3 harg3 arg4 harg4 arg24 (M .f32 256 1024 x) (M .f32 1 1024 g) (M .bf16 1024 2048 w)
      = M .f32 64 128 (sh 128 1664 (projR x g w)) := by
  unfold kernelRun0_C.sl.v995
  rw [HS2_1]
  exact readCov_M _ _ _ _ _ _ _

theorem r_50 (h : ∀ b < 512, 0 < lb 0 b ∧ lb 0 b < 1) :
    kernelRun0_C.sl.r_50 (F := Ideal) c arg2 harg2 arg3 harg3 arg4 harg4 arg5 harg5 arg23 arg24 (M .f32 256 1024 x) (M .f32 1 1024 g) (M .bf16 1024 2048 w) (M .f32 1 512 lb)
      = M .f32 64 64 (probsR 128 0 (hq x w g) (hk x w lb g) (hG x w lb g)) := by
  unfold kernelRun0_C.sl.r_50
  rw [r_18 h, r_19 h, r_20 h, r_22 h, r_23 h, r_24 h, r_27 h, r_28 h]
  exact pay76_M

theorem r_51 (h : ∀ b < 512, 0 < lb 0 b ∧ lb 0 b < 1) :
    kernelRun0_C.sl.r_51 (F := Ideal) c arg2 harg2 arg3 harg3 arg4 harg4 arg5 harg5 arg23 arg24 (M .f32 256 1024 x) (M .f32 1 1024 g) (M .bf16 1024 2048 w) (M .f32 1 512 lb)
      = M .bf16 64 64 (probsR 128 0 (hq x w g) (hk x w lb g) (hG x w lb g)) := by
  unfold kernelRun0_C.sl.r_51
  rw [r_50 h]
  rfl

theorem r_71 (h : ∀ b < 512, 0 < lb 0 b ∧ lb 0 b < 1) :
    kernelRun0_C.sl.r_71 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 0 0 2) := by
  unfold kernelRun0_C.sl.r_71
  rw [readAt_head, r_33 h, r_42 h, v615 h, v621 h]
  exact pay100_M (f := fun _ => S 0)

theorem v967 :
    kernelRun0_C.sl.v967 (F := Ideal) c arg2 harg2 arg3 harg3 arg4 harg4 arg24 (M .f32 256 1024 x) (M .f32 1 1024 g) (M .bf16 1024 2048 w)
      = M .f32 64 128 (sh 128 1536 (projR x g w)) := by
  unfold kernelRun0_C.sl.v967
  rw [HS2_1]
  exact readCov_M _ _ _ _ _ _ _

theorem r_48 (h : ∀ b < 512, 0 < lb 0 b ∧ lb 0 b < 1) :
    kernelRun0_C.sl.r_48 (F := Ideal) c arg2 harg2 arg3 harg3 arg4 harg4 arg5 harg5 arg23 arg24 (M .f32 256 1024 x) (M .f32 1 1024 g) (M .bf16 1024 2048 w) (M .f32 1 512 lb)
      = M .bf16 64 64 (probsR 64 384 (hq x w g) (hk x w lb g) (hG x w lb g)) := by
  unfold kernelRun0_C.sl.r_48
  rw [r_18 h, r_19 h, r_20 h, r_22 h, r_23 h, r_24 h, r_27 h, r_28 h]
  exact pay74_M

theorem r_85 (h : ∀ b < 512, 0 < lb 0 b ∧ lb 0 b < 1) :
    kernelRun0_C.sl.r_85 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 384 3 1) := by
  unfold kernelRun0_C.sl.r_85
  rw [r_40 h, v699, v702 h]
  exact pay126_M (f := fun _ => S 3)

theorem v939 :
    kernelRun0_C.sl.v939 (F := Ideal) c arg2 harg2 arg3 harg3 arg4 harg4 arg24 (M .f32 256 1024 x) (M .f32 1 1024 g) (M .bf16 1024 2048 w)
      = M .f32 64 128 (sh 64 1920 (projR x g w)) := by
  unfold kernelRun0_C.sl.v939
  rw [HS2_1]
  exact readCov_M _ _ _ _ _ _ _

theorem r_46 (h : ∀ b < 512, 0 < lb 0 b ∧ lb 0 b < 1) :
    kernelRun0_C.sl.r_46 (F := Ideal) c arg2 harg2 arg3 harg3 arg4 harg4 arg5 harg5 arg23 arg24 (M .f32 256 1024 x) (M .f32 1 1024 g) (M .bf16 1024 2048 w) (M .f32 1 512 lb)
      = M .bf16 64 64 (probsR 64 256 (hq x w g) (hk x w lb g) (hG x w lb g)) := by
  unfold kernelRun0_C.sl.r_46
  rw [r_18 h, r_19 h, r_20 h, r_22 h, r_23 h, r_24 h, r_27 h, r_28 h]
  exact pay72_M

theorem r_81 (h : ∀ b < 512, 0 < lb 0 b ∧ lb 0 b < 1) :
    kernelRun0_C.sl.r_81 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 256 2 1) := by
  unfold kernelRun0_C.sl.r_81
  rw [r_38 h, r_79, v673 h]
  exact pay117_M (f := fun _ => S 2)

theorem v911 :
    kernelRun0_C.sl.v911 (F := Ideal) c arg2 harg2 arg3 harg3 arg4 harg4 arg24 (M .f32 256 1024 x) (M .f32 1 1024 g) (M .bf16 1024 2048 w)
      = M .f32 64 128 (sh 64 1792 (projR x g w)) := by
  unfold kernelRun0_C.sl.v911
  rw [HS2_1]
  exact readCov_M _ _ _ _ _ _ _

theorem r_43 (h : ∀ b < 512, 0 < lb 0 b ∧ lb 0 b < 1) :
    kernelRun0_C.sl.r_43 (F := Ideal) c arg2 harg2 arg3 harg3 arg4 harg4 arg5 harg5 arg23 arg24 (M .f32 256 1024 x) (M .f32 1 1024 g) (M .bf16 1024 2048 w) (M .f32 1 512 lb)
      = M .f32 64 64 (probsR 64 128 (hq x w g) (hk x w lb g) (hG x w lb g)) := by
  unfold kernelRun0_C.sl.r_43
  rw [r_18 h, r_19 h, r_20 h, r_22 h, r_23 h, r_24 h, r_27 h, r_28 h]
  exact pay69_M

theorem r_44 (h : ∀ b < 512, 0 < lb 0 b ∧ lb 0 b < 1) :
    kernelRun0_C.sl.r_44 (F := Ideal) c arg2 harg2 arg3 harg3 arg4 harg4 arg5 harg5 arg23 arg24 (M .f32 256 1024 x) (M .f32 1 1024 g) (M .bf16 1024 2048 w) (M .f32 1 512 lb)
      = M .bf16 64 64 (probsR 64 128 (hq x w g) (hk x w lb g) (hG x w lb g)) := by
  unfold kernelRun0_C.sl.r_44
  rw [r_43 h]
  rfl

theorem r_76 (h : ∀ b < 512, 0 < lb 0 b ∧ lb 0 b < 1) :
    kernelRun0_C.sl.r_76 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 128 1 1) := by
  unfold kernelRun0_C.sl.r_76
  rw [r_35 h, v641, v644 h]
  exact pay108_M (f := fun _ => S 1)

theorem v883 :
    kernelRun0_C.sl.v883 (F := Ideal) c arg2 harg2 arg3 harg3 arg4 harg4 arg24 (M .f32 256 1024 x) (M .f32 1 1024 g) (M .bf16 1024 2048 w)
      = M .f32 64 128 (sh 64 1664 (projR x g w)) := by
  unfold kernelRun0_C.sl.v883
  rw [HS2_1]
  exact readCov_M _ _ _ _ _ _ _

theorem r_41 (h : ∀ b < 512, 0 < lb 0 b ∧ lb 0 b < 1) :
    kernelRun0_C.sl.r_41 (F := Ideal) c arg2 harg2 arg3 harg3 arg4 harg4 arg5 harg5 arg23 arg24 (M .f32 256 1024 x) (M .f32 1 1024 g) (M .bf16 1024 2048 w) (M .f32 1 512 lb)
      = M .bf16 64 64 (probsR 64 0 (hq x w g) (hk x w lb g) (hG x w lb g)) := by
  unfold kernelRun0_C.sl.r_41
  rw [r_18 h, r_19 h, r_20 h, r_22 h, r_23 h, r_24 h, r_27 h, r_28 h]
  exact pay67_M

theorem r_70 (h : ∀ b < 512, 0 < lb 0 b ∧ lb 0 b < 1) :
    kernelRun0_C.sl.r_70 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .bf16 128 128 (hst x w lb g S 0 0 1) := by
  unfold kernelRun0_C.sl.r_70
  rw [readAt_head, r_33 h, v615 h]
  exact pay98_M (f := fun _ => S 0)

theorem v855 :
    kernelRun0_C.sl.v855 (F := Ideal) c arg2 harg2 arg3 harg3 arg4 harg4 arg24 (M .f32 256 1024 x) (M .f32 1 1024 g) (M .bf16 1024 2048 w)
      = M .f32 64 128 (sh 64 1536 (projR x g w)) := by
  unfold kernelRun0_C.sl.v855
  rw [HS2_1]
  exact readCov_M _ _ _ _ _ _ _

theorem r_39 (h : ∀ b < 512, 0 < lb 0 b ∧ lb 0 b < 1) :
    kernelRun0_C.sl.r_39 (F := Ideal) c arg2 harg2 arg3 harg3 arg4 harg4 arg5 harg5 arg23 arg24 (M .f32 256 1024 x) (M .f32 1 1024 g) (M .bf16 1024 2048 w) (M .f32 1 512 lb)
      = M .bf16 64 64 (probsR 0 384 (hq x w g) (hk x w lb g) (hG x w lb g)) := by
  unfold kernelRun0_C.sl.r_39
  rw [r_18 h, r_19 h, r_20 h, r_22 h, r_23 h, r_24 h, r_27 h, r_28 h]
  exact pay65_M

theorem r_84 :
    kernelRun0_C.sl.r_84 (F := Ideal) c arg22 harg22 (M3 .f32 4 128 128 S)
      = M .bf16 128 128 (hst x w lb g S 384 3 0) := by
  unfold kernelRun0_C.sl.r_84
  rw [v699]
  exact pay124_M (f := fun _ => S 3)

theorem v827 :
    kernelRun0_C.sl.v827 (F := Ideal) c arg2 harg2 arg3 harg3 arg4 harg4 arg24 (M .f32 256 1024 x) (M .f32 1 1024 g) (M .bf16 1024 2048 w)
      = M .f32 64 128 (sh 0 1920 (projR x g w)) := by
  unfold kernelRun0_C.sl.v827
  rw [HS2_1]
  exact readCov_M _ _ _ _ _ _ _

theorem r_36 (h : ∀ b < 512, 0 < lb 0 b ∧ lb 0 b < 1) :
    kernelRun0_C.sl.r_36 (F := Ideal) c arg2 harg2 arg3 harg3 arg4 harg4 arg5 harg5 arg23 arg24 (M .f32 256 1024 x) (M .f32 1 1024 g) (M .bf16 1024 2048 w) (M .f32 1 512 lb)
      = M .f32 64 64 (probsR 0 256 (hq x w g) (hk x w lb g) (hG x w lb g)) := by
  unfold kernelRun0_C.sl.r_36
  rw [r_18 h, r_19 h, r_20 h, r_22 h, r_23 h, r_24 h, r_27 h, r_28 h]
  exact pay62_M

theorem r_37 (h : ∀ b < 512, 0 < lb 0 b ∧ lb 0 b < 1) :
    kernelRun0_C.sl.r_37 (F := Ideal) c arg2 harg2 arg3 harg3 arg4 harg4 arg5 harg5 arg23 arg24 (M .f32 256 1024 x) (M .f32 1 1024 g) (M .bf16 1024 2048 w) (M .f32 1 512 lb)
      = M .bf16 64 64 (probsR 0 256 (hq x w g) (hk x w lb g) (hG x w lb g)) := by
  unfold kernelRun0_C.sl.r_37
  rw [r_36 h]
  rfl

theorem r_80 :
    kernelRun0_C.sl.r_80 (F := Ideal) c arg22 harg22 (M3 .f32 4 128 128 S)
      = M .bf16 128 128 (hst x w lb g S 256 2 0) := by
  unfold kernelRun0_C.sl.r_80
  rw [v670]
  exact pay115_M (f := fun _ => S 2)

theorem v799 :
    kernelRun0_C.sl.v799 (F := Ideal) c arg2 harg2 arg3 harg3 arg4 harg4 arg24 (M .f32 256 1024 x) (M .f32 1 1024 g) (M .bf16 1024 2048 w)
      = M .f32 64 128 (sh 0 1792 (projR x g w)) := by
  unfold kernelRun0_C.sl.v799
  rw [HS2_1]
  exact readCov_M _ _ _ _ _ _ _

theorem r_34 (h : ∀ b < 512, 0 < lb 0 b ∧ lb 0 b < 1) :
    kernelRun0_C.sl.r_34 (F := Ideal) c arg2 harg2 arg3 harg3 arg4 harg4 arg5 harg5 arg23 arg24 (M .f32 256 1024 x) (M .f32 1 1024 g) (M .bf16 1024 2048 w) (M .f32 1 512 lb)
      = M .bf16 64 64 (probsR 0 128 (hq x w g) (hk x w lb g) (hG x w lb g)) := by
  unfold kernelRun0_C.sl.r_34
  rw [r_18 h, r_19 h, r_20 h, r_22 h, r_23 h, r_24 h, r_27 h, r_28 h]
  exact pay60_M

theorem r_75 :
    kernelRun0_C.sl.r_75 (F := Ideal) c arg22 harg22 (M3 .f32 4 128 128 S)
      = M .bf16 128 128 (hst x w lb g S 128 1 0) := by
  unfold kernelRun0_C.sl.r_75
  rw [v641]
  exact pay106_M (f := fun _ => S 1)

theorem v771 :
    kernelRun0_C.sl.v771 (F := Ideal) c arg2 harg2 arg3 harg3 arg4 harg4 arg24 (M .f32 256 1024 x) (M .f32 1 1024 g) (M .bf16 1024 2048 w)
      = M .f32 64 128 (sh 0 1664 (projR x g w)) := by
  unfold kernelRun0_C.sl.v771
  rw [HS2_1]
  exact readCov_M _ _ _ _ _ _ _

theorem r_32 (h : ∀ b < 512, 0 < lb 0 b ∧ lb 0 b < 1) :
    kernelRun0_C.sl.r_32 (F := Ideal) c arg2 harg2 arg3 harg3 arg4 harg4 arg5 harg5 arg23 arg24 (M .f32 256 1024 x) (M .f32 1 1024 g) (M .bf16 1024 2048 w) (M .f32 1 512 lb)
      = M .bf16 64 64 (probsR 0 0 (hq x w g) (hk x w lb g) (hG x w lb g)) := by
  unfold kernelRun0_C.sl.r_32
  rw [r_18 h, r_19 h, r_20 h, r_22 h, r_23 h, r_24 h, r_27 h, r_28 h]
  exact pay58_M

theorem r_69 :
    kernelRun0_C.sl.r_69 (F := Ideal) c arg22 harg22 (M3 .f32 4 128 128 S)
      = M .bf16 128 128 (hst x w lb g S 0 0 0) := by
  unfold kernelRun0_C.sl.r_69
  rw [readAt_head]
  exact pay96_M (f := fun _ => S 0)

theorem v743 :
    kernelRun0_C.sl.v743 (F := Ideal) c arg2 harg2 arg3 harg3 arg4 harg4 arg24 (M .f32 256 1024 x) (M .f32 1 1024 g) (M .bf16 1024 2048 w)
      = M .f32 64 128 (sh 0 1536 (projR x g w)) := by
  unfold kernelRun0_C.sl.v743
  rw [HS2_1]
  exact readCov_M _ _ _ _ _ _ _

theorem r_68 (h : ∀ b < 512, 0 < lb 0 b ∧ lb 0 b < 1) :
    kernelRun0_C.sl.r_68 (F := Ideal) c arg2 harg2 arg3 harg3 arg4 harg4 arg5 harg5 arg23 arg24 (M .f32 256 1024 x) (M .f32 1 1024 g) (M .bf16 1024 2048 w) (M .f32 1 512 lb)
      = M .f32 128 128 (updR 192 384 (hv x w g) (hk x w lb g) (hG x w lb g)) := by
  unfold kernelRun0_C.sl.r_68
  rw [r_5, r_31 h]
  exact pay94_M

theorem v720 (h : ∀ b < 512, 0 < lb 0 b ∧ lb 0 b < 1) :
    kernelRun0_C.sl.v720 (F := Ideal) c arg2 harg2 arg3 harg3 arg4 harg4 arg5 harg5 arg23 arg24 (M .f32 256 1024 x) (M .f32 1 1024 g) (M .bf16 1024 2048 w) (M .f32 1 512 lb)
      = M .f32 1 128 (sh 255 384 (hG x w lb g)) := by
  unfold kernelRun0_C.sl.v720
  rw [HS1_1 h]
  exact readCov_M _ _ _ _ _ _ _

theorem r_66 (h : ∀ b < 512, 0 < lb 0 b ∧ lb 0 b < 1) :
    kernelRun0_C.sl.r_66 (F := Ideal) c arg2 harg2 arg3 harg3 arg4 harg4 arg5 harg5 arg23 arg24 (M .f32 256 1024 x) (M .f32 1 1024 g) (M .bf16 1024 2048 w) (M .f32 1 512 lb)
      = M .f32 128 128 (updR 192 256 (hv x w g) (hk x w lb g) (hG x w lb g)) := by
  unfold kernelRun0_C.sl.r_66
  rw [r_5, r_31 h]
  exact pay92_M

theorem v691 (h : ∀ b < 512, 0 < lb 0 b ∧ lb 0 b < 1) :
    kernelRun0_C.sl.v691 (F := Ideal) c arg2 harg2 arg3 harg3 arg4 harg4 arg5 harg5 arg23 arg24 (M .f32 256 1024 x) (M .f32 1 1024 g) (M .bf16 1024 2048 w) (M .f32 1 512 lb)
      = M .f32 1 128 (sh 255 256 (hG x w lb g)) := by
  unfold kernelRun0_C.sl.v691
  rw [HS1_1 h]
  exact readCov_M _ _ _ _ _ _ _

theorem r_63 (h : ∀ b < 512, 0 < lb 0 b ∧ lb 0 b < 1) :
    kernelRun0_C.sl.r_63 (F := Ideal) c arg2 harg2 arg3 harg3 arg4 harg4 arg5 harg5 arg23 arg24 (M .f32 256 1024 x) (M .f32 1 1024 g) (M .bf16 1024 2048 w) (M .f32 1 512 lb)
      = M .f32 128 128 (updR 192 128 (hv x w g) (hk x w lb g) (hG x w lb g)) := by
  unfold kernelRun0_C.sl.r_63
  rw [r_5, r_31 h]
  exact pay89_M

theorem v662 (h : ∀ b < 512, 0 < lb 0 b ∧ lb 0 b < 1) :
    kernelRun0_C.sl.v662 (F := Ideal) c arg2 harg2 arg3 harg3 arg4 harg4 arg5 harg5 arg23 arg24 (M .f32 256 1024 x) (M .f32 1 1024 g) (M .bf16 1024 2048 w) (M .f32 1 512 lb)
      = M .f32 1 128 (sh 255 128 (hG x w lb g)) := by
  unfold kernelRun0_C.sl.v662
  rw [HS1_1 h]
  exact readCov_M _ _ _ _ _ _ _

theorem r_61 (h : ∀ b < 512, 0 < lb 0 b ∧ lb 0 b < 1) :
    kernelRun0_C.sl.r_61 (F := Ideal) c arg2 harg2 arg3 harg3 arg4 harg4 arg5 harg5 arg23 arg24 (M .f32 256 1024 x) (M .f32 1 1024 g) (M .bf16 1024 2048 w) (M .f32 1 512 lb)
      = M .f32 128 128 (updR 192 0 (hv x w g) (hk x w lb g) (hG x w lb g)) := by
  unfold kernelRun0_C.sl.r_61
  rw [r_5, r_31 h]
  exact pay87_M

theorem r_72 (h : ∀ b < 512, 0 < lb 0 b ∧ lb 0 b < 1) :
    kernelRun0_C.sl.r_72 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)
      = M .f32 128 128 (hst x w lb g S 0 0 3) := by
  unfold kernelRun0_C.sl.r_72
  rw [readAt_head, r_33 h, r_42 h, r_52 h, v615 h, v621 h, v627 h]
  exact pay101_M (f := fun _ => S 0)

theorem v633 (h : ∀ b < 512, 0 < lb 0 b ∧ lb 0 b < 1) :
    kernelRun0_C.sl.v633 (F := Ideal) c arg2 harg2 arg3 harg3 arg4 harg4 arg5 harg5 arg23 arg24 (M .f32 256 1024 x) (M .f32 1 1024 g) (M .bf16 1024 2048 w) (M .f32 1 512 lb)
      = M .f32 1 128 (sh 255 0 (hG x w lb g)) := by
  unfold kernelRun0_C.sl.v633
  rw [HS1_1 h]
  exact readCov_M _ _ _ _ _ _ _

theorem r_74 (h : ∀ b < 512, 0 < lb 0 b ∧ lb 0 b < 1) :
    kernelRun0_C.sl.r_74 (F := Ideal) c arg2 harg2 arg3 harg3 arg4 harg4 arg5 harg5 arg23 arg24 (M .f32 256 1024 x) (M .f32 1 1024 g) (M .bf16 1024 2048 w) (M .f32 1 512 lb)
      = M .f32 128 128 (fun _ b => Real.exp (sh 255 0 (hG x w lb g) 0 b)) := by
  unfold kernelRun0_C.sl.r_74
  rw [v633 h]
  exact pay103_M

theorem head_0 (h : ∀ b < 512, 0 < lb 0 b ∧ lb 0 b < 1) :
    k0_pay104 (kernelRun0_C.sl.r_61 c arg2 harg2 arg3 harg3 arg4 harg4 arg5 harg5 arg23 arg24 (M .f32 256 1024 x) (M .f32 1 1024 g) (M .bf16 1024 2048 w) (M .f32 1 512 lb)) (kernelRun0_C.sl.r_72 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.r_74 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 0 0 4) := by
  rw [r_61 h, r_72 h, r_74 h]
  exact pay104_M (f := fun _ => S 0)

theorem head_1 (h : ∀ b < 512, 0 < lb 0 b ∧ lb 0 b < 1) :
    k0_pay113 (kernelRun0_C.sl.r_35 c arg2 harg2 arg3 harg3 arg4 harg4 arg5 harg5 arg23 arg24 (M .f32 256 1024 x) (M .f32 1 1024 g) (M .bf16 1024 2048 w) (M .f32 1 512 lb)) (kernelRun0_C.sl.r_45 c arg2 harg2 arg3 harg3 arg4 harg4 arg5 harg5 arg23 arg24 (M .f32 256 1024 x) (M .f32 1 1024 g) (M .bf16 1024 2048 w) (M .f32 1 512 lb)) (kernelRun0_C.sl.r_54 c arg2 harg2 arg3 harg3 arg4 harg4 arg5 harg5 arg23 arg24 (M .f32 256 1024 x) (M .f32 1 1024 g) (M .bf16 1024 2048 w) (M .f32 1 512 lb)) (kernelRun0_C.sl.r_63 c arg2 harg2 arg3 harg3 arg4 harg4 arg5 harg5 arg23 arg24 (M .f32 256 1024 x) (M .f32 1 1024 g) (M .bf16 1024 2048 w) (M .f32 1 512 lb)) (kernelRun0_C.sl.v641 c arg22 harg22 (M3 .f32 4 128 128 S)) (kernelRun0_C.sl.v644 c arg2 harg2 arg3 harg3 arg4 harg4 arg5 harg5 arg23 arg24 (M .f32 256 1024 x) (M .f32 1 1024 g) (M .bf16 1024 2048 w) (M .f32 1 512 lb)) (kernelRun0_C.sl.v650 c arg2 harg2 arg3 harg3 arg4 harg4 arg5 harg5 arg23 arg24 (M .f32 256 1024 x) (M .f32 1 1024 g) (M .bf16 1024 2048 w) (M .f32 1 512 lb)) (kernelRun0_C.sl.v656 c arg2 harg2 arg3 harg3 arg4 harg4 arg5 harg5 arg23 arg24 (M .f32 256 1024 x) (M .f32 1 1024 g) (M .bf16 1024 2048 w) (M .f32 1 512 lb)) (kernelRun0_C.sl.v662 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 128 1 4) := by
  rw [r_35 h, r_45 h, r_54 h, r_63 h, v641, v644 h, v650 h, v656 h, v662 h]
  exact pay113_M (f := fun _ => S 1)

theorem head_2 (h : ∀ b < 512, 0 < lb 0 b ∧ lb 0 b < 1) :
    k0_pay122 (kernelRun0_C.sl.r_38 c arg2 harg2 arg3 harg3 arg4 harg4 arg5 harg5 arg23 arg24 (M .f32 256 1024 x) (M .f32 1 1024 g) (M .bf16 1024 2048 w) (M .f32 1 512 lb)) (kernelRun0_C.sl.r_47 c arg2 harg2 arg3 harg3 arg4 harg4 arg5 harg5 arg23 arg24 (M .f32 256 1024 x) (M .f32 1 1024 g) (M .bf16 1024 2048 w) (M .f32 1 512 lb)) (kernelRun0_C.sl.r_56 c arg2 harg2 arg3 harg3 arg4 harg4 arg5 harg5 arg23 arg24 (M .f32 256 1024 x) (M .f32 1 1024 g) (M .bf16 1024 2048 w) (M .f32 1 512 lb)) (kernelRun0_C.sl.r_66 c arg2 harg2 arg3 harg3 arg4 harg4 arg5 harg5 arg23 arg24 (M .f32 256 1024 x) (M .f32 1 1024 g) (M .bf16 1024 2048 w) (M .f32 1 512 lb)) (kernelRun0_C.sl.r_79 c arg22 harg22 (M3 .f32 4 128 128 S)) (kernelRun0_C.sl.v673 c arg2 harg2 arg3 harg3 arg4 harg4 arg5 harg5 arg23 arg24 (M .f32 256 1024 x) (M .f32 1 1024 g) (M .bf16 1024 2048 w) (M .f32 1 512 lb)) (kernelRun0_C.sl.v679 c arg2 harg2 arg3 harg3 arg4 harg4 arg5 harg5 arg23 arg24 (M .f32 256 1024 x) (M .f32 1 1024 g) (M .bf16 1024 2048 w) (M .f32 1 512 lb)) (kernelRun0_C.sl.v685 c arg2 harg2 arg3 harg3 arg4 harg4 arg5 harg5 arg23 arg24 (M .f32 256 1024 x) (M .f32 1 1024 g) (M .bf16 1024 2048 w) (M .f32 1 512 lb)) (kernelRun0_C.sl.v691 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 256 2 4) := by
  rw [r_38 h, r_47 h, r_56 h, r_66 h, r_79, v673 h, v679 h, v685 h, v691 h]
  exact pay122_M (f := fun _ => S 2)

theorem head_3 (h : ∀ b < 512, 0 < lb 0 b ∧ lb 0 b < 1) :
    k0_pay131 (kernelRun0_C.sl.r_59 c arg2 harg2 arg3 harg3 arg4 harg4 arg5 harg5 arg23 arg24 (M .f32 256 1024 x) (M .f32 1 1024 g) (M .bf16 1024 2048 w) (M .f32 1 512 lb)) (kernelRun0_C.sl.r_68 c arg2 harg2 arg3 harg3 arg4 harg4 arg5 harg5 arg23 arg24 (M .f32 256 1024 x) (M .f32 1 1024 g) (M .bf16 1024 2048 w) (M .f32 1 512 lb)) (kernelRun0_C.sl.r_86 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v714 c arg2 harg2 arg3 harg3 arg4 harg4 arg5 harg5 arg23 arg24 (M .f32 256 1024 x) (M .f32 1 1024 g) (M .bf16 1024 2048 w) (M .f32 1 512 lb)) (kernelRun0_C.sl.v720 c arg2 harg2 arg3 harg3 arg4 harg4 arg5 harg5 arg23 arg24 (M .f32 256 1024 x) (M .f32 1 1024 g) (M .bf16 1024 2048 w) (M .f32 1 512 lb))
      = M3 .f32 1 128 128 (fun _ => hst x w lb g S 384 3 4) := by
  rw [r_59 h, r_68 h, r_86 h, v714 h, v720 h]
  exact pay131_M (f := fun _ => S 3)

theorem tile_192_384 (h : ∀ b < 512, 0 < lb 0 b ∧ lb 0 b < 1) :
    k0_pay166 (kernelRun0_C.sl.r_107 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v1163 c arg2 harg2 arg3 harg3 arg4 harg4 arg24 (M .f32 256 1024 x) (M .f32 1 1024 g) (M .bf16 1024 2048 w)) (kernelRun0_C.sl.r_108 c arg6 harg6 (M .f32 1 512 ng))
      = M .f32 64 128 (hout x w lb ng g S 192 384) := by
  unfold kernelRun0_C.sl.r_107 kernelRun0_C.sl.r_108
  rw [r_5, r_29 h, r_67 h, r_88 h, v1163, r_2]
  exact out_192_384

theorem tile_192_256 (h : ∀ b < 512, 0 < lb 0 b ∧ lb 0 b < 1) :
    k0_pay163 (kernelRun0_C.sl.r_2 c arg6 harg6 (M .f32 1 512 ng)) (kernelRun0_C.sl.r_83 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.r_105 c arg2 harg2 arg3 harg3 arg4 harg4 arg5 harg5 arg23 arg24 (M .f32 256 1024 x) (M .f32 1 1024 g) (M .bf16 1024 2048 w) (M .f32 1 512 lb)) (kernelRun0_C.sl.r_106 c arg2 harg2 arg3 harg3 arg4 harg4 arg5 harg5 arg23 arg24 (M .f32 256 1024 x) (M .f32 1 1024 g) (M .bf16 1024 2048 w) (M .f32 1 512 lb)) kernelRun0_C.sl.cst_373 (kernelRun0_C.sl.v1135 c arg2 harg2 arg3 harg3 arg4 harg4 arg24 (M .f32 256 1024 x) (M .f32 1 1024 g) (M .bf16 1024 2048 w))
      = M .f32 64 128 (hout x w lb ng g S 192 256) := by
  unfold kernelRun0_C.sl.r_105 kernelRun0_C.sl.r_106 kernelRun0_C.sl.cst_373
  rw [r_2, r_83 h, r_5, r_65 h, r_29 h, v1135]
  exact out_192_256

theorem tile_192_128 (h : ∀ b < 512, 0 < lb 0 b ∧ lb 0 b < 1) :
    k0_pay160 (kernelRun0_C.sl.r_2 c arg6 harg6 (M .f32 1 512 ng)) (kernelRun0_C.sl.r_5 c arg2 harg2 arg3 harg3 arg4 harg4 arg24 (M .f32 256 1024 x) (M .f32 1 1024 g) (M .bf16 1024 2048 w)) (kernelRun0_C.sl.r_29 c arg2 harg2 arg3 harg3 arg4 harg4 arg5 harg5 arg23 arg24 (M .f32 256 1024 x) (M .f32 1 1024 g) (M .bf16 1024 2048 w) (M .f32 1 512 lb)) (kernelRun0_C.sl.r_62 c arg2 harg2 arg3 harg3 arg4 harg4 arg5 harg5 arg23 arg24 (M .f32 256 1024 x) (M .f32 1 1024 g) (M .bf16 1024 2048 w) (M .f32 1 512 lb)) (kernelRun0_C.sl.r_78 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v1107 c arg2 harg2 arg3 harg3 arg4 harg4 arg24 (M .f32 256 1024 x) (M .f32 1 1024 g) (M .bf16 1024 2048 w))
      = M .f32 64 128 (hout x w lb ng g S 192 128) := by
  rw [r_2, r_5, r_29 h, r_62 h, r_78 h, v1107]
  exact out_192_128

theorem tile_192_0 (h : ∀ b < 512, 0 < lb 0 b ∧ lb 0 b < 1) :
    k0_pay159 (kernelRun0_C.sl.v1079 c arg2 harg2 arg3 harg3 arg4 harg4 arg24 (M .f32 256 1024 x) (M .f32 1 1024 g) (M .bf16 1024 2048 w)) (kernelRun0_C.sl.r_104 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) kernelRun0_C.sl.cst_355
      = M .f32 64 128 (hout x w lb ng g S 192 0) := by
  unfold kernelRun0_C.sl.r_104 kernelRun0_C.sl.cst_355
  rw [v1079, r_2, r_5, r_29 h, r_60 h, r_73 h]
  exact out_192_0

theorem tile_128_384 (h : ∀ b < 512, 0 < lb 0 b ∧ lb 0 b < 1) :
    k0_pay157 (kernelRun0_C.sl.r_2 c arg6 harg6 (M .f32 1 512 ng)) (kernelRun0_C.sl.r_102 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.r_103 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v1051 c arg2 harg2 arg3 harg3 arg4 harg4 arg24 (M .f32 256 1024 x) (M .f32 1 1024 g) (M .bf16 1024 2048 w))
      = M .f32 64 128 (hout x w lb ng g S 128 384) := by
  unfold kernelRun0_C.sl.r_102 kernelRun0_C.sl.r_103
  rw [r_2, r_5, r_29 h, r_58 h, r_87 h, v1051]
  exact out_128_384

theorem tile_128_256 (h : ∀ b < 512, 0 < lb 0 b ∧ lb 0 b < 1) :
    k0_pay154 (kernelRun0_C.sl.r_2 c arg6 harg6 (M .f32 1 512 ng)) (kernelRun0_C.sl.r_5 c arg2 harg2 arg3 harg3 arg4 harg4 arg24 (M .f32 256 1024 x) (M .f32 1 1024 g) (M .bf16 1024 2048 w)) (kernelRun0_C.sl.r_29 c arg2 harg2 arg3 harg3 arg4 harg4 arg5 harg5 arg23 arg24 (M .f32 256 1024 x) (M .f32 1 1024 g) (M .bf16 1024 2048 w) (M .f32 1 512 lb)) (kernelRun0_C.sl.r_55 c arg2 harg2 arg3 harg3 arg4 harg4 arg5 harg5 arg23 arg24 (M .f32 256 1024 x) (M .f32 1 1024 g) (M .bf16 1024 2048 w) (M .f32 1 512 lb)) (kernelRun0_C.sl.r_82 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v1023 c arg2 harg2 arg3 harg3 arg4 harg4 arg24 (M .f32 256 1024 x) (M .f32 1 1024 g) (M .bf16 1024 2048 w))
      = M .f32 64 128 (hout x w lb ng g S 128 256) := by
  rw [r_2, r_5, r_29 h, r_55 h, r_82 h, v1023]
  exact out_128_256

theorem tile_128_128 (h : ∀ b < 512, 0 < lb 0 b ∧ lb 0 b < 1) :
    k0_pay153 (kernelRun0_C.sl.r_100 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) (kernelRun0_C.sl.r_101 c arg2 harg2 arg3 harg3 arg4 harg4 arg24 (M .f32 256 1024 x) (M .f32 1 1024 g) (M .bf16 1024 2048 w))
      = M .f32 64 128 (hout x w lb ng g S 128 128) := by
  unfold kernelRun0_C.sl.r_100 kernelRun0_C.sl.r_101
  rw [r_2, r_5, r_29 h, r_53 h, r_77 h, v995]
  exact out_128_128

theorem tile_128_0 (h : ∀ b < 512, 0 < lb 0 b ∧ lb 0 b < 1) :
    k0_pay150 (kernelRun0_C.sl.r_2 c arg6 harg6 (M .f32 1 512 ng)) (kernelRun0_C.sl.r_98 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.r_99 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v967 c arg2 harg2 arg3 harg3 arg4 harg4 arg24 (M .f32 256 1024 x) (M .f32 1 1024 g) (M .bf16 1024 2048 w))
      = M .f32 64 128 (hout x w lb ng g S 128 0) := by
  unfold kernelRun0_C.sl.r_98 kernelRun0_C.sl.r_99
  rw [r_2, r_5, r_29 h, r_51 h, r_71 h, v967]
  exact out_128_0

theorem tile_64_384 (h : ∀ b < 512, 0 < lb 0 b ∧ lb 0 b < 1) :
    k0_pay147 (kernelRun0_C.sl.r_2 c arg6 harg6 (M .f32 1 512 ng)) (kernelRun0_C.sl.r_5 c arg2 harg2 arg3 harg3 arg4 harg4 arg24 (M .f32 256 1024 x) (M .f32 1 1024 g) (M .bf16 1024 2048 w)) (kernelRun0_C.sl.r_29 c arg2 harg2 arg3 harg3 arg4 harg4 arg5 harg5 arg23 arg24 (M .f32 256 1024 x) (M .f32 1 1024 g) (M .bf16 1024 2048 w) (M .f32 1 512 lb)) (kernelRun0_C.sl.r_48 c arg2 harg2 arg3 harg3 arg4 harg4 arg5 harg5 arg23 arg24 (M .f32 256 1024 x) (M .f32 1 1024 g) (M .bf16 1024 2048 w) (M .f32 1 512 lb)) (kernelRun0_C.sl.r_85 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v939 c arg2 harg2 arg3 harg3 arg4 harg4 arg24 (M .f32 256 1024 x) (M .f32 1 1024 g) (M .bf16 1024 2048 w))
      = M .f32 64 128 (hout x w lb ng g S 64 384) := by
  rw [r_2, r_5, r_29 h, r_48 h, r_85 h, v939]
  exact out_64_384

theorem tile_64_256 (h : ∀ b < 512, 0 < lb 0 b ∧ lb 0 b < 1) :
    k0_pay146 (kernelRun0_C.sl.r_96 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) (kernelRun0_C.sl.r_97 c arg2 harg2 arg3 harg3 arg4 harg4 arg24 (M .f32 256 1024 x) (M .f32 1 1024 g) (M .bf16 1024 2048 w))
      = M .f32 64 128 (hout x w lb ng g S 64 256) := by
  unfold kernelRun0_C.sl.r_96 kernelRun0_C.sl.r_97
  rw [r_2, r_5, r_29 h, r_46 h, r_81 h, v911]
  exact out_64_256

theorem tile_64_128 (h : ∀ b < 512, 0 < lb 0 b ∧ lb 0 b < 1) :
    k0_pay143 (kernelRun0_C.sl.r_2 c arg6 harg6 (M .f32 1 512 ng)) (kernelRun0_C.sl.r_94 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.r_95 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v883 c arg2 harg2 arg3 harg3 arg4 harg4 arg24 (M .f32 256 1024 x) (M .f32 1 1024 g) (M .bf16 1024 2048 w))
      = M .f32 64 128 (hout x w lb ng g S 64 128) := by
  unfold kernelRun0_C.sl.r_94 kernelRun0_C.sl.r_95
  rw [r_2, r_5, r_29 h, r_44 h, r_76 h, v883]
  exact out_64_128

theorem tile_64_0 (h : ∀ b < 512, 0 < lb 0 b ∧ lb 0 b < 1) :
    k0_pay140 (kernelRun0_C.sl.r_2 c arg6 harg6 (M .f32 1 512 ng)) (kernelRun0_C.sl.r_5 c arg2 harg2 arg3 harg3 arg4 harg4 arg24 (M .f32 256 1024 x) (M .f32 1 1024 g) (M .bf16 1024 2048 w)) (kernelRun0_C.sl.r_29 c arg2 harg2 arg3 harg3 arg4 harg4 arg5 harg5 arg23 arg24 (M .f32 256 1024 x) (M .f32 1 1024 g) (M .bf16 1024 2048 w) (M .f32 1 512 lb)) (kernelRun0_C.sl.r_41 c arg2 harg2 arg3 harg3 arg4 harg4 arg5 harg5 arg23 arg24 (M .f32 256 1024 x) (M .f32 1 1024 g) (M .bf16 1024 2048 w) (M .f32 1 512 lb)) (kernelRun0_C.sl.r_70 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v855 c arg2 harg2 arg3 harg3 arg4 harg4 arg24 (M .f32 256 1024 x) (M .f32 1 1024 g) (M .bf16 1024 2048 w))
      = M .f32 64 128 (hout x w lb ng g S 64 0) := by
  rw [r_2, r_5, r_29 h, r_41 h, r_70 h, v855]
  exact out_64_0

theorem tile_0_384 (h : ∀ b < 512, 0 < lb 0 b ∧ lb 0 b < 1) :
    k0_pay139 (kernelRun0_C.sl.r_92 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)) (kernelRun0_C.sl.r_93 c arg2 harg2 arg3 harg3 arg4 harg4 arg24 (M .f32 256 1024 x) (M .f32 1 1024 g) (M .bf16 1024 2048 w))
      = M .f32 64 128 (hout x w lb ng g S 0 384) := by
  unfold kernelRun0_C.sl.r_92 kernelRun0_C.sl.r_93
  rw [r_2, r_5, r_29 h, r_39 h, r_84, v827]
  exact out_0_384

theorem tile_0_256 (h : ∀ b < 512, 0 < lb 0 b ∧ lb 0 b < 1) :
    k0_pay136 (kernelRun0_C.sl.r_2 c arg6 harg6 (M .f32 1 512 ng)) (kernelRun0_C.sl.r_90 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.r_91 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v799 c arg2 harg2 arg3 harg3 arg4 harg4 arg24 (M .f32 256 1024 x) (M .f32 1 1024 g) (M .bf16 1024 2048 w))
      = M .f32 64 128 (hout x w lb ng g S 0 256) := by
  unfold kernelRun0_C.sl.r_90 kernelRun0_C.sl.r_91
  rw [r_2, r_5, r_29 h, r_37 h, r_80, v799]
  exact out_0_256

theorem tile_0_128 (h : ∀ b < 512, 0 < lb 0 b ∧ lb 0 b < 1) :
    k0_pay133 (kernelRun0_C.sl.r_2 c arg6 harg6 (M .f32 1 512 ng)) (kernelRun0_C.sl.r_5 c arg2 harg2 arg3 harg3 arg4 harg4 arg24 (M .f32 256 1024 x) (M .f32 1 1024 g) (M .bf16 1024 2048 w)) (kernelRun0_C.sl.r_29 c arg2 harg2 arg3 harg3 arg4 harg4 arg5 harg5 arg23 arg24 (M .f32 256 1024 x) (M .f32 1 1024 g) (M .bf16 1024 2048 w) (M .f32 1 512 lb)) (kernelRun0_C.sl.r_34 c arg2 harg2 arg3 harg3 arg4 harg4 arg5 harg5 arg23 arg24 (M .f32 256 1024 x) (M .f32 1 1024 g) (M .bf16 1024 2048 w) (M .f32 1 512 lb)) (kernelRun0_C.sl.r_75 c arg22 harg22 (M3 .f32 4 128 128 S)) (kernelRun0_C.sl.v771 c arg2 harg2 arg3 harg3 arg4 harg4 arg24 (M .f32 256 1024 x) (M .f32 1 1024 g) (M .bf16 1024 2048 w))
      = M .f32 64 128 (hout x w lb ng g S 0 128) := by
  rw [r_2, r_5, r_29 h, r_34 h, r_75, v771]
  exact out_0_128

theorem tile_0_0 (h : ∀ b < 512, 0 < lb 0 b ∧ lb 0 b < 1) :
    kernelRun0_C.sl.r_89 c arg2 harg2 arg3 harg3 arg4 harg4 arg5 harg5 arg6 harg6 arg22 harg22 arg23 arg24 (M .f32 256 1024 x) (M .f32 1 1024 g) (M .bf16 1024 2048 w) (M .f32 1 512 lb) (M .f32 1 512 ng) (M3 .f32 4 128 128 S)
      = M .f32 64 128 (hout x w lb ng g S 0 0) := by
  unfold kernelRun0_C.sl.r_89
  rw [r_2, r_5, r_29 h, r_32 h, r_69, v743]
  exact out_0_0

/-- What the block leaves in the staging area of the outputs. -/
theorem out_value (h : ∀ b < 512, 0 < lb 0 b ∧ lb 0 b < 1) :
    out0_C_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) x5 x6 x7 x8 x9 x10 x11 x12 x13 x14 (M3 .f32 4 128 128 S) xs3 xs4
      = M .f32 256 512 (blockR x w lb ng g S) := by
  unfold out0_C_15
  rw [View.read_writes_junk_eq_canon]
  funext y
  refine View.canon_eq_of_allAt _ _ _ (cover0_C_15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (by rw [tile_192_384 h]; exact tile_M 3 3 (H := hout x w lb ng g S) y) ?_
  refine View.allAt_cons_unit _ _ _ _ _ (by rw [tile_192_256 h]; exact tile_M 3 2 (H := hout x w lb ng g S) y) ?_
  refine View.allAt_cons_unit _ _ _ _ _ (by rw [tile_192_128 h]; exact tile_M 3 1 (H := hout x w lb ng g S) y) ?_
  refine View.allAt_cons_unit _ _ _ _ _ (by rw [tile_192_0 h]; exact tile_M 3 0 (H := hout x w lb ng g S) y) ?_
  refine View.allAt_cons_unit _ _ _ _ _ (by rw [tile_128_384 h]; exact tile_M 2 3 (H := hout x w lb ng g S) y) ?_
  refine View.allAt_cons_unit _ _ _ _ _ (by rw [tile_128_256 h]; exact tile_M 2 2 (H := hout x w lb ng g S) y) ?_
  refine View.allAt_cons_unit _ _ _ _ _ (by rw [tile_128_128 h]; exact tile_M 2 1 (H := hout x w lb ng g S) y) ?_
  refine View.allAt_cons_unit _ _ _ _ _ (by rw [tile_128_0 h]; exact tile_M 2 0 (H := hout x w lb ng g S) y) ?_
  refine View.allAt_cons_unit _ _ _ _ _ (by rw [tile_64_384 h]; exact tile_M 1 3 (H := hout x w lb ng g S) y) ?_
  refine View.allAt_cons_unit _ _ _ _ _ (by rw [tile_64_256 h]; exact tile_M 1 2 (H := hout x w lb ng g S) y) ?_
  refine View.allAt_cons_unit _ _ _ _ _ (by rw [tile_64_128 h]; exact tile_M 1 1 (H := hout x w lb ng g S) y) ?_
  refine View.allAt_cons_unit _ _ _ _ _ (by rw [tile_64_0 h]; exact tile_M 1 0 (H := hout x w lb ng g S) y) ?_
  refine View.allAt_cons_unit _ _ _ _ _ (by rw [tile_0_384 h]; exact tile_M 0 3 (H := hout x w lb ng g S) y) ?_
  refine View.allAt_cons_unit _ _ _ _ _ (by rw [tile_0_256 h]; exact tile_M 0 2 (H := hout x w lb ng g S) y) ?_
  refine View.allAt_cons_unit _ _ _ _ _ (by rw [tile_0_128 h]; exact tile_M 0 1 (H := hout x w lb ng g S) y) ?_
  refine View.allAt_cons_unit _ _ _ _ _ (by rw [tile_0_0 h]; exact tile_M 0 0 (H := hout x w lb ng g S) y) ?_
  exact View.allAt_nil _ _

/-- What the block leaves in the state. -/
theorem state_value (h : ∀ b < 512, 0 < lb 0 b ∧ lb 0 b < 1) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) x5 x6 x7 x8 x9 x10 x11 x12 x13 x14 (M3 .f32 4 128 128 S) xs3 xs4
      = M3 .f32 4 128 128 (blockS x w lb g S) := by
  unfold sout0_C_0
  rw [View.read_writes_junk_eq_canon]
  change View.canon ([⟨Rect.unit ![3, 0, 0] S1x128x128.size inb_S4x128x128_S1x128x128_3_0_0, k0_pay131 (F := Ideal) (kernelRun0_C.sl.r_59 c arg2 harg2 arg3 harg3 arg4 harg4 arg5 harg5 arg23 arg24 (M .f32 256 1024 x) (M .f32 1 1024 g) (M .bf16 1024 2048 w) (M .f32 1 512 lb)) (kernelRun0_C.sl.r_68 c arg2 harg2 arg3 harg3 arg4 harg4 arg5 harg5 arg23 arg24 (M .f32 256 1024 x) (M .f32 1 1024 g) (M .bf16 1024 2048 w) (M .f32 1 512 lb)) (kernelRun0_C.sl.r_86 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.v714 c arg2 harg2 arg3 harg3 arg4 harg4 arg5 harg5 arg23 arg24 (M .f32 256 1024 x) (M .f32 1 1024 g) (M .bf16 1024 2048 w) (M .f32 1 512 lb)) (kernelRun0_C.sl.v720 c arg2 harg2 arg3 harg3 arg4 harg4 arg5 harg5 arg23 arg24 (M .f32 256 1024 x) (M .f32 1 1024 g) (M .bf16 1024 2048 w) (M .f32 1 512 lb))⟩, ⟨Rect.unit ![2, 0, 0] S1x128x128.size inb_S4x128x128_S1x128x128_2_0_0, k0_pay122 (F := Ideal) (kernelRun0_C.sl.r_38 c arg2 harg2 arg3 harg3 arg4 harg4 arg5 harg5 arg23 arg24 (M .f32 256 1024 x) (M .f32 1 1024 g) (M .bf16 1024 2048 w) (M .f32 1 512 lb)) (kernelRun0_C.sl.r_47 c arg2 harg2 arg3 harg3 arg4 harg4 arg5 harg5 arg23 arg24 (M .f32 256 1024 x) (M .f32 1 1024 g) (M .bf16 1024 2048 w) (M .f32 1 512 lb)) (kernelRun0_C.sl.r_56 c arg2 harg2 arg3 harg3 arg4 harg4 arg5 harg5 arg23 arg24 (M .f32 256 1024 x) (M .f32 1 1024 g) (M .bf16 1024 2048 w) (M .f32 1 512 lb)) (kernelRun0_C.sl.r_66 c arg2 harg2 arg3 harg3 arg4 harg4 arg5 harg5 arg23 arg24 (M .f32 256 1024 x) (M .f32 1 1024 g) (M .bf16 1024 2048 w) (M .f32 1 512 lb)) (kernelRun0_C.sl.r_79 c arg22 harg22 (M3 .f32 4 128 128 S)) (kernelRun0_C.sl.v673 c arg2 harg2 arg3 harg3 arg4 harg4 arg5 harg5 arg23 arg24 (M .f32 256 1024 x) (M .f32 1 1024 g) (M .bf16 1024 2048 w) (M .f32 1 512 lb)) (kernelRun0_C.sl.v679 c arg2 harg2 arg3 harg3 arg4 harg4 arg5 harg5 arg23 arg24 (M .f32 256 1024 x) (M .f32 1 1024 g) (M .bf16 1024 2048 w) (M .f32 1 512 lb)) (kernelRun0_C.sl.v685 c arg2 harg2 arg3 harg3 arg4 harg4 arg5 harg5 arg23 arg24 (M .f32 256 1024 x) (M .f32 1 1024 g) (M .bf16 1024 2048 w) (M .f32 1 512 lb)) (kernelRun0_C.sl.v691 c arg2 harg2 arg3 harg3 arg4 harg4 arg5 harg5 arg23 arg24 (M .f32 256 1024 x) (M .f32 1 1024 g) (M .bf16 1024 2048 w) (M .f32 1 512 lb))⟩, ⟨Rect.unit ![1, 0, 0] S1x128x128.size inb_S4x128x128_S1x128x128_1_0_0, k0_pay113 (F := Ideal) (kernelRun0_C.sl.r_35 c arg2 harg2 arg3 harg3 arg4 harg4 arg5 harg5 arg23 arg24 (M .f32 256 1024 x) (M .f32 1 1024 g) (M .bf16 1024 2048 w) (M .f32 1 512 lb)) (kernelRun0_C.sl.r_45 c arg2 harg2 arg3 harg3 arg4 harg4 arg5 harg5 arg23 arg24 (M .f32 256 1024 x) (M .f32 1 1024 g) (M .bf16 1024 2048 w) (M .f32 1 512 lb)) (kernelRun0_C.sl.r_54 c arg2 harg2 arg3 harg3 arg4 harg4 arg5 harg5 arg23 arg24 (M .f32 256 1024 x) (M .f32 1 1024 g) (M .bf16 1024 2048 w) (M .f32 1 512 lb)) (kernelRun0_C.sl.r_63 c arg2 harg2 arg3 harg3 arg4 harg4 arg5 harg5 arg23 arg24 (M .f32 256 1024 x) (M .f32 1 1024 g) (M .bf16 1024 2048 w) (M .f32 1 512 lb)) (kernelRun0_C.sl.v641 c arg22 harg22 (M3 .f32 4 128 128 S)) (kernelRun0_C.sl.v644 c arg2 harg2 arg3 harg3 arg4 harg4 arg5 harg5 arg23 arg24 (M .f32 256 1024 x) (M .f32 1 1024 g) (M .bf16 1024 2048 w) (M .f32 1 512 lb)) (kernelRun0_C.sl.v650 c arg2 harg2 arg3 harg3 arg4 harg4 arg5 harg5 arg23 arg24 (M .f32 256 1024 x) (M .f32 1 1024 g) (M .bf16 1024 2048 w) (M .f32 1 512 lb)) (kernelRun0_C.sl.v656 c arg2 harg2 arg3 harg3 arg4 harg4 arg5 harg5 arg23 arg24 (M .f32 256 1024 x) (M .f32 1 1024 g) (M .bf16 1024 2048 w) (M .f32 1 512 lb)) (kernelRun0_C.sl.v662 c arg2 harg2 arg3 harg3 arg4 harg4 arg5 harg5 arg23 arg24 (M .f32 256 1024 x) (M .f32 1 1024 g) (M .bf16 1024 2048 w) (M .f32 1 512 lb))⟩, ⟨Rect.unit ![0, 0, 0] S1x128x128.size inb_S4x128x128_S1x128x128_0_0_0, k0_pay104 (F := Ideal) (kernelRun0_C.sl.r_61 c arg2 harg2 arg3 harg3 arg4 harg4 arg5 harg5 arg23 arg24 (M .f32 256 1024 x) (M .f32 1 1024 g) (M .bf16 1024 2048 w) (M .f32 1 512 lb)) (kernelRun0_C.sl.r_72 c arg2 harg2 arg3 harg3 arg4 harg4 arg5 harg5 arg22 harg22 arg23 arg24 (M .f32 256 1024 x) (M .f32 1 1024 g) (M .bf16 1024 2048 w) (M .f32 1 512 lb) (M3 .f32 4 128 128 S)) (kernelRun0_C.sl.r_74 c arg2 harg2 arg3 harg3 arg4 harg4 arg5 harg5 arg23 arg24 (M .f32 256 1024 x) (M .f32 1 1024 g) (M .bf16 1024 2048 w) (M .f32 1 512 lb))⟩] : List (View.Piece (Elt Ideal) S4x128x128 .f32)) = _
  rw [head_3 h, head_2 h, head_1 h, head_0 h]
  exact canon_heads (H := blockS x w lb g S) _ _ _ _ _

end Hgrn.CaseC
-- ==== Proof.Fold.lean ====
/- The blocks of the grid one after another: what each point reads of the arrays, and, by induction
   on the point, what the output block and the carried state hold after it. -/
module

public import proofs.«01_k».proof.Proof.CaseA
public import proofs.«01_k».proof.Proof.CaseB
public import proofs.«01_k».proof.Proof.CaseC
public import proofs.«01_k».proof.Proof.Gen.KernelIdeal.Value
public import Idealize.ShloMosaic.Lib.Pipeline.ValueKit.Point

@[expose] public section

set_option maxRecDepth 16384

open Idealize.ShloMosaic Idealize.ShloMosaic.TcCoe Idealize.SL Cert.KernelIdeal Cert.KernelIdeal.Gen Cert.KernelIdeal.Value

namespace Hgrn

variable (m : (ℓ : Loc nD τ sig) → Buf (Elt Ideal) ℓ) (c : Dev nD)

theorem at0 : ∀ t : Fin cfg0.N, win0_0.index t 0 = t.val ∧ win0_0.index t 1 = 0 := by decide +kernel
theorem at1 : ∀ t : Fin cfg0.N, win0_1.index t 0 = 0 ∧ win0_1.index t 1 = 0 := by decide +kernel
theorem at2 : ∀ t : Fin cfg0.N, win0_2.index t 0 = 0 ∧ win0_2.index t 1 = 0 := by decide +kernel
theorem at3 : ∀ t : Fin cfg0.N, win0_3.index t 0 = 0 ∧ win0_3.index t 1 = 0 := by decide +kernel
theorem at4 : ∀ t : Fin cfg0.N, win0_4.index t 0 = 0 ∧ win0_4.index t 1 = 0 := by decide +kernel
theorem at5 : ∀ t : Fin cfg0.N, win0_5.index t 0 = 0 ∧ win0_5.index t 1 = 0 ∧ win0_5.index t 2 = 0 := by decide +kernel

variable {m c} {X g w lb ng : ℕ → ℕ → ℝ} {S : ℕ → ℕ → ℕ → ℝ}

/-- The rows of `X` from row `r` on. -/
def rows (r : ℕ) (X : ℕ → ℕ → ℝ) : ℕ → ℕ → ℝ := fun a b => X (r + a) b

theorem iblk_x (hX : V m c main_v39 = M .f32 65536 1024 X) (t : Fin cfg0.N) :
    iblk m c 0 t = M .f32 256 1024 (rows (256 * t.val) X) := by
  funext y
  blk_simp [iblk]
  rw [hX]
  unfold M rows
  blk_simp [(at0 t).1, (at0 t).2]
  rw [Nat.mul_comm]

theorem iblk_g (hg : V m c main_v16 = M .f32 1 1024 g) (t : Fin cfg0.N) : iblk m c 1 t = M .f32 1 1024 g := by
  rw [← hg]; blk_ext! [iblk, (at1 t).1, (at1 t).2]

theorem iblk_w (hw : V m c main_v34 = M .bf16 1024 2048 w) (t : Fin cfg0.N) : iblk m c 2 t = M .bf16 1024 2048 w := by
  rw [← hw]; blk_ext! [iblk, (at2 t).1, (at2 t).2]

theorem iblk_lb (hlb : V m c main_v14 = M .f32 1 512 lb) (t : Fin cfg0.N) : iblk m c 3 t = M .f32 1 512 lb := by
  rw [← hlb]; blk_ext! [iblk, (at3 t).1, (at3 t).2]

theorem iblk_ng (hng : V m c main_v20 = M .f32 1 512 ng) (t : Fin cfg0.N) : iblk m c 4 t = M .f32 1 512 ng := by
  rw [← hng]; blk_ext! [iblk, (at4 t).1, (at4 t).2]

theorem iblk_S (hS : V m c main_arg12 = M3 .f32 4 128 128 S) (t : Fin cfg0.N) : iblk m c 5 t = M3 .f32 4 128 128 S := by
  rw [← hS]; blk_ext! [iblk, (at5 t).1, (at5 t).2.1, (at5 t).2.2]

/-- The state a point starts from: the initial one at the first block of each row of the batch. -/
noncomputable def startR (X g w lb : ℕ → ℕ → ℝ) (S : ℕ → ℕ → ℕ → ℝ) : ℕ → ℕ → ℕ → ℕ → ℝ
  | 0 => S
  | n + 1 => if (n + 1) % 8 = 0 then S else blockS (rows (256 * n) X) w lb g (startR X g w lb S n)

theorem outs_eq (hX : V m c main_v39 = M .f32 65536 1024 X) (hg : V m c main_v16 = M .f32 1 1024 g)
    (hw : V m c main_v34 = M .bf16 1024 2048 w) (hlb : V m c main_v14 = M .f32 1 512 lb)
    (hng : V m c main_v20 = M .f32 1 512 ng) (hS : V m c main_arg12 = M3 .f32 4 128 128 S)
    (h : ∀ b < 512, 0 < lb 0 b ∧ lb 0 b < 1) (n : ℕ) (hn : n < cfg0.N) :
    (outsAt0 m c n hn).1 = M .f32 256 512 (blockR (rows (256 * n) X) w lb ng g (startR X g w lb S n))
    ∧ (outsAt0 m c n hn).2.2.2.2.2.1 = M3 .f32 4 128 128 (blockS (rows (256 * n) X) w lb g (startR X g w lb S n)) := by
  induction n with
  | zero =>
    rw [outsAt0_zero, stAt0_A m c ⟨0, hn⟩ _ (Nat.zero_mod _) (show ¬ 0 % 8 = 7 by decide)]
    dsimp only
    rw [iblk_x hX, iblk_g hg, iblk_w hw, iblk_lb hlb, iblk_ng hng, iblk_S hS]
    exact ⟨CaseA.out_value h, CaseA.state_value h⟩
  | succ n ih =>
    have ih := (ih (Nat.lt_of_succ_lt hn)).2
    rw [outsAt0_succ]
    by_cases h0 : (n + 1) % 8 = 0
    · rw [stAt0_A m c ⟨n + 1, hn⟩ _ h0 (by dsimp only; omega)]
      dsimp only
      rw [iblk_x hX, iblk_g hg, iblk_w hw, iblk_lb hlb, iblk_ng hng, iblk_S hS, startR, if_pos h0]
      exact ⟨CaseA.out_value h, CaseA.state_value h⟩
    · by_cases h1 : (n + 1) % 8 = 7
      · rw [stAt0_C m c ⟨n + 1, hn⟩ _ h0 h1]
        dsimp only
        rw [iblk_x hX, iblk_g hg, iblk_w hw, iblk_lb hlb, iblk_ng hng, ih, startR, if_neg h0]
        exact ⟨CaseC.out_value h, CaseC.state_value h⟩
      · rw [stAt0_B m c ⟨n + 1, hn⟩ _ h0 h1]
        dsimp only
        rw [iblk_x hX, iblk_g hg, iblk_w hw, iblk_lb hlb, iblk_ng hng, ih, startR, if_neg h0]
        exact ⟨CaseB.out_value h, CaseB.state_value h⟩

/-- The result array. -/
theorem result_eq (hX : V m c main_v39 = M .f32 65536 1024 X) (hg : V m c main_v16 = M .f32 1 1024 g)
    (hw : V m c main_v34 = M .bf16 1024 2048 w) (hlb : V m c main_v14 = M .f32 1 512 lb)
    (hng : V m c main_v20 = M .f32 1 512 ng) (hS : V m c main_arg12 = M3 .f32 4 128 128 S)
    (h : ∀ b < 512, 0 < lb 0 b ∧ lb 0 b < 1) :
    G15 m c = M .f32 65536 512 fun r j =>
      blockR (rows (256 * (r / 256)) X) w lb ng g (startR X g w lb S (r / 256)) (r % 256) j := by
  funext i
  have h0 : (i 0).val < 65536 := (i 0).isLt
  have h1 : (i 1).val < 512 := (i 1).isLt
  have hp : pt15Of i = (i 0).val / 256 := by
    show 1 * ((i 0).val / 256 - 0) + 1 * ((i 1).val / 512 - 0) = _
    omega
  have hN : pt15Of i < cfg0.N := by rw [hp, show cfg0.N = 256 from N_0]; omega
  unfold G15
  rw [dif_pos hN, ← outsAt0_sweep m c _ hN, (outs_eq hX hg hw hlb hng hS h _ hN).1]
  show ((blockR (rows (256 * pt15Of i) X) w lb ng g (startR X g w lb S (pt15Of i)) ((i 0).val % 256)
    ((i 1).val % 512) : ℝ) : EReal) = _
  rw [hp, Nat.mod_eq_of_lt h1]
  rfl

end Hgrn
-- ==== Proof.Host.lean ====
/- What the kernel's host code prepares for it, on arrays of real numbers. -/
module

public import proofs.«01_k».proof.Proof.Bounds
public import proofs.«01_k».proof.Proof.Gen.KernelIdeal.Value
public import Idealize.ShloMosaic.Lib.Pipeline.ValueKit.Point

@[expose] public section

set_option maxRecDepth 8192

open Idealize.ShloMosaic Idealize.ShloMosaic.TcCoe Idealize.SL Cert.KernelIdeal Cert.KernelIdeal.Gen
open Idealize.ShloMosaic.StableHlo

namespace Hgrn

variable {m : (ℓ : Loc nD τ sig) → Buf (Elt Ideal) ℓ} {c : Dev nD}

/-- The rows of `X`, the batch's one after another. -/
def flatX (X : ℕ → ℕ → ℕ → ℝ) : ℕ → ℕ → ℝ := fun r j => X (r / 2048) (r % 2048) j

theorem host_x {X : ℕ → ℕ → ℕ → ℝ} (h : m ((c : Thread nD τ).loc main_arg0) = M3 .f32 32 2048 1024 X) :
    V m c main_v39 = M .f32 65536 1024 (flatX X) := by
  unfold V
  simp only [hostOps0, hostOps0_1, hostOps0_2, List.flatten_cons, List.flatten_nil, List.append_nil, List.cons_append,
    List.nil_append]
  after_results_simp
  erw [h]
  funext i
  idx_vars i
  pointwise
  rfl

theorem host_g {g : ℕ → ℕ → ℝ} (h : m ((c : Thread nD τ).loc main_arg1) = M .f32 1 1024 g) :
    V m c main_v16 = M .f32 1 1024 g := by
  unfold V
  simp only [hostOps0, hostOps0_1, hostOps0_2, List.flatten_cons, List.flatten_nil, List.append_nil, List.cons_append,
    List.nil_append]
  after_results_simp
  erw [h]
  funext i
  idx_vars i
  pointwise
  obtain rfl : i0 = 0 := Subsingleton.elim _ _
  rfl

theorem host_ng {g : ℕ → ℕ → ℝ} (h : m ((c : Thread nD τ).loc main_arg4) = M .f32 1 512 g) :
    V m c main_v20 = M .f32 1 512 g := by
  unfold V
  simp only [hostOps0, hostOps0_1, hostOps0_2, List.flatten_cons, List.flatten_nil, List.append_nil, List.cons_append,
    List.nil_append]
  after_results_simp
  erw [h]
  funext i
  idx_vars i
  pointwise
  obtain rfl : i0 = 0 := Subsingleton.elim _ _
  rfl

theorem host_w {w : ℕ → ℕ → ℕ → ℝ} (h : m ((c : Thread nD τ).loc main_arg2) = M3 .f32 1 1024 6144 w) :
    V m c main_v34 = M .bf16 1024 2048 (w 0) := by
  unfold V
  simp only [hostOps0, hostOps0_1, hostOps0_2, List.flatten_cons, List.flatten_nil, List.append_nil, List.cons_append,
    List.nil_append]
  after_results_simp
  erw [h]
  funext i
  idx_vars i
  pointwise
  rfl

theorem host_bounds {a : ℕ → ℕ → ℝ} (h : m ((c : Thread nD τ).loc main_arg3) = M .f32 2 512 a) :
    V m c main_v13 = fun i => ((lbR a 0 (i 0).val : ℝ) : EReal) := by
  unfold V
  simp only [hostOps0, hostOps0_1, hostOps0_2, List.flatten_cons, List.flatten_nil, List.append_nil, List.cons_append,
    List.nil_append]
  after_results_simp
  simp -implicitDefEqProofs only [StableHlo.TRef.toBuf, StableHlo.TRef.ofBuf, cast_cast, cast_eq]
  erw [h]
  erw [exps_first a]
  exact bounds_eq a reducesTo_S2x512_S512_d0 h_S_
    bcast_S1x512_S2x512_0_1 bcast_S512_S1x512_1 reduceWindows_S2x512_S2x512_w2s1p1_0_w1s1p0_0 slices_S2x512_S1x512_0_0
    shapeCasts_S1x512_S512 rfl

theorem host_lb {a : ℕ → ℕ → ℝ} (h : m ((c : Thread nD τ).loc main_arg3) = M .f32 2 512 a) :
    V m c main_v14 = M .f32 1 512 (lbR a) := by
  have e : V m c main_v14 = broadcastInDim S1x512 ![1] bcast_S512_S1x512_1 (V m c main_v13) := by
    unfold V
    simp only [hostOps0, hostOps0_1, hostOps0_2, List.flatten_cons, List.flatten_nil, List.append_nil, List.cons_append,
      List.nil_append]
    after_results_simp
  rw [e, host_bounds h]
  funext i
  idx_vars i
  pointwise
  rfl

end Hgrn
-- ==== Proof.Join.lean ====
/- The kernel's blocks against the reference's steps, on real numbers.

   The kernel works on 256 rows at a time and keeps the state between them; eight such blocks make
   one sequence of 2048 tokens. Here the state at the start of a block is shown to be the state the
   token-by-token recurrence has reached there, and a row of a block to be the reference's output at
   that token. -/
module

public import proofs.«01_k».proof.Proof.Fold
public import proofs.«01_k».proof.Proof.Host
public import proofs.«01_k».proof.Proof.Reference

@[expose] public section

set_option maxRecDepth 8192

namespace Hgrn

variable {X : ℕ → ℕ → ℕ → ℝ} {g w lb ng : ℕ → ℕ → ℝ} {S : ℕ → ℕ → ℕ → ℝ}

/-- The projection of the flattened tokens, read at a token of a sequence. -/
theorem projR_flat (b t c : ℕ) (ht : t < 2048) : projR (flatX X) g w (2048 * b + t) c = projR (X b) g w t c := by
  have e : ∀ j, flatX X (2048 * b + t) j = X b t j := fun j => by
    unfold flatX
    rw [show (2048 * b + t) / 2048 = b by omega, show (2048 * b + t) % 2048 = t by omega]
  unfold projR xnR
  simp only [e]

/-- The logistic function of the negated argument. -/
theorem sgR_neg (y : ℝ) : sgR (-y) = 1 - sgR y := by
  unfold sgR
  have h : Real.exp (0 - y) * Real.exp (0 - -y) = 1 := by rw [← Real.exp_add]; simp
  have h1 : (0 : ℝ) < 1 + Real.exp (0 - y) := by positivity
  have h2 : (0 : ℝ) < 1 + Real.exp (0 - -y) := by positivity
  field_simp
  nlinarith

/-- The recurrence inside the rows from `r` on is the recurrence of all rows, started at `r`. -/
theorem seqR_block (r : ℕ) {x : ℕ → ℕ → ℝ} {h t : ℕ} {s : ℕ → ℕ → ℝ} :
    seqR 0 (128 * h) s (logfR lb (hy (rows r x) w g)) (hk (rows r x) w lb g) (hv (rows r x) w g) t
      = seqR (r + 0) (128 * h) s (logfR lb (hy x w g)) (hk x w lb g) (hv x w g) t := by
  have hp : ∀ a c, projR (rows r x) g w a c = projR x g w (r + a) c := fun _ _ => rfl
  refine seqR_shift r (128 * h) (fun a c => ?_) (fun a c => ?_) (fun a c => ?_) 0 t
  · simp only [logfR, hy, sh, Nat.zero_add, hp]
  · simp only [hk, keyR, hy, sh, Nat.zero_add, hp]
  · simp only [hv, sh, Nat.zero_add, hp]

/-- The state at the start of block `i` of sequence `b`. -/
theorem start_eq (x : ℕ → ℕ → ℝ) (b h : ℕ) : ∀ i < 8, startR x g w lb S (8 * b + i) h
    = seqR (2048 * b) (128 * h) (S h) (logfR lb (hy x w g)) (hk x w lb g) (hv x w g) (256 * i)
  | 0, _ => by
    cases b with
    | zero => rfl
    | succ b =>
      show (if (8 * b + 7 + 1) % 8 = 0 then S else _) h = _
      rw [if_pos (by omega)]
      rfl
  | i + 1, hi => by
    show (if (8 * b + i + 1) % 8 = 0 then S else blockS (rows (256 * (8 * b + i)) x) w lb g (startR x g w lb S (8 * b + i))) h = _
    rw [if_neg (by omega), blockS_eq _ _, start_eq x b h i (by omega), Nat.mul_succ, seqR_add,
      seqR_block (256 * (8 * b + i))]
    rw [show 256 * (8 * b + i) + 0 = 2048 * b + 256 * i by omega]

/-- The quantities of the recurrence, by token, sequence, head and place in the head. -/
noncomputable def qT (X : ℕ → ℕ → ℕ → ℝ) (g w : ℕ → ℕ → ℝ) : ℕ → ℕ → ℕ → ℕ → ℝ := fun t b h d =>
  projR (X b) g w t (128 * h + d)
noncomputable def kT (X : ℕ → ℕ → ℕ → ℝ) (g w lb : ℕ → ℕ → ℝ) : ℕ → ℕ → ℕ → ℕ → ℝ := fun t b h d =>
  (1 - lb 0 (128 * h + d)) * sgR (-projR (X b) g w t (512 + (128 * h + d)))
noncomputable def vT (X : ℕ → ℕ → ℕ → ℝ) (g w : ℕ → ℕ → ℝ) : ℕ → ℕ → ℕ → ℕ → ℝ := fun t b h d =>
  projR (X b) g w t (1024 + (128 * h + d))
noncomputable def fT (X : ℕ → ℕ → ℕ → ℝ) (g w lb : ℕ → ℕ → ℝ) : ℕ → ℕ → ℕ → ℕ → ℝ := fun t b h d =>
  lb 0 (128 * h + d) + (1 - lb 0 (128 * h + d)) * sgR (projR (X b) g w t (512 + (128 * h + d)))
noncomputable def zT (X : ℕ → ℕ → ℕ → ℝ) (g w : ℕ → ℕ → ℝ) : ℕ → ℕ → ℕ → ℕ → ℝ := fun t b h d =>
  projR (X b) g w t (1536 + (128 * h + d))
def sT (S : ℕ → ℕ → ℕ → ℝ) : ℕ → ℕ → ℕ → ℕ → ℝ := fun _ h e d => S h d e

/-- The reference's output at a token, in the layout of the result. -/
noncomputable def resultR (X : ℕ → ℕ → ℕ → ℝ) (g w lb ng : ℕ → ℕ → ℝ) (S : ℕ → ℕ → ℕ → ℝ) : ℕ → ℕ → ℝ := fun r j =>
  loopO (qT X g w) (kT X g w lb) (vT X g w) (fT X g w lb) (zT X g w) ng (sT S) (r % 2048) (r / 2048) (j / 128) (j % 128)

/-- The state of the flattened recurrence is the state of the reference's loop. -/
theorem seq_loop (hlb : ∀ c < 512, 0 < lb 0 c ∧ lb 0 c < 1) (b h a e : ℕ) (hh : h < 4) (he : e < 128) : ∀ t ≤ 2048,
    seqR (2048 * b) (128 * h) (S h) (logfR lb (hy (flatX X) w g)) (hk (flatX X) w lb g) (hv (flatX X) w g) t a e
      = loopS (kT X g w lb) (vT X g w) (fT X g w lb) (sT S) t b h e a
  | 0, _ => rfl
  | t + 1, ht => by
    have ih := seq_loop hlb b h a e hh he t (by omega)
    have hp : ∀ c, projR (flatX X) g w (2048 * b + t) c = projR (X b) g w t c := fun c => projR_flat b t c (by omega)
    obtain ⟨h0, h1⟩ := hlb (128 * h + e) (by omega)
    show seqR _ _ _ _ _ _ t a e * Real.exp (logfR lb (hy (flatX X) w g) (2048 * b + t) (128 * h + e))
      + hv (flatX X) w g (2048 * b + t) (128 * h + a) * hk (flatX X) w lb g (2048 * b + t) (128 * h + e)
      = fT X g w lb t b h e * loopS (kT X g w lb) (vT X g w) (fT X g w lb) (sT S) t b h e a
        + kT X g w lb t b h e * vT X g w t b h a
    rw [ih]
    simp only [logfR, hk, hv, hy, keyR, sh, Nat.zero_add, hp, fT, kT, vT, sgR_neg]
    rw [Real.exp_log (gate_pos h0 h1 _)]
    ring

/-- A row of the kernel's result is the reference's output at that token. -/
theorem join (hlb : ∀ c < 512, 0 < lb 0 c ∧ lb 0 c < 1) (r j : ℕ) (hj : j < 512) :
    blockR (rows (256 * (r / 256)) (flatX X)) w lb ng g (startR (flatX X) g w lb S (r / 256)) (r % 256) j
      = resultR X g w lb ng S r j := by
  have hr : 256 * (r / 256) + r % 256 = 2048 * (r / 2048) + r % 2048 := by omega
  have hp : ∀ c, projR (rows (256 * (r / 256)) (flatX X)) g w (r % 256) c = projR (X (r / 2048)) g w (r % 2048) c := fun c => by
    rw [← projR_flat (r / 2048) (r % 2048) c (by omega), ← hr]
    rfl
  have hs := start_eq (g := g) (w := w) (lb := lb) (S := S) (flatX X) (r / 2048) (j / 128) (r % 2048 / 256) (by omega)
  rw [show 8 * (r / 2048) + r % 2048 / 256 = r / 256 by omega] at hs
  rw [blockR_eq _ _ _ (by omega) (fun d => loopQ (qT X g w) (kT X g w lb) (vT X g w) (fT X g w lb) (sT S) (r % 2048)
    (r / 2048) (j / 128) d) fun d => ?_]
  · unfold resultR loopO zT
    rw [hp, Nat.div_add_mod]
  · unfold loopQ qT
    refine Finset.sum_congr rfl fun e he => ?_
    rw [Finset.mem_range] at he
    rw [← seq_loop hlb (r / 2048) (j / 128) d e (by omega) he (r % 2048 + 1) (by omega), hs,
      seqR_block (256 * (r / 256)),
      show 256 * (r / 256) + 0 = 2048 * (r / 2048) + 256 * (r % 2048 / 256) by omega, ← seqR_add,
      show 256 * (r % 2048 / 256) + (r % 256 + 1) = r % 2048 + 1 by omega]
    unfold hq sh
    rw [Nat.zero_add, Nat.zero_add, hp]

end Hgrn
-- ==== Proof.Result.lean ====
/- The reference's results on arrays of real numbers. -/
module

public import proofs.«01_k».proof.Proof.Entry
public import proofs.«01_k».proof.Proof.Join

@[expose] public section

set_option maxRecDepth 8192

open Idealize.ShloMosaic Idealize.ShloMosaic.TcCoe Idealize.SL Cert.ReferenceIdeal Cert.ReferenceIdeal.Gen Cert.ReferenceIdeal.Value
open Idealize.ShloMosaic.StableHlo

namespace Hgrn

variable {X w : ℕ → ℕ → ℕ → ℝ} {g a ng : ℕ → ℕ → ℝ} {S : ℕ → ℕ → ℕ → ℝ}

/-- The first result's layout: tokens by rows, heads side by side. -/
theorem out_layout {f : ℕ → ℕ → ℕ → ℕ → ℝ} {V : Valuation τ sig (Elt Ideal)}
    (h : V (Proc.devRef .tc main_v74_8) = M4 .f32 2048 32 4 128 f) :
    out_main_v76 V = M .f32 65536 512 fun r j => f (r % 2048) (r / 2048) (j / 128) (j % 128) := by
  unfold out_main_v76
  rw [h]
  funext i
  idx_vars i
  pointwise
  rfl

/-- The second result's layout: the two dimensions of a head's state exchanged. -/
theorem state_layout {f : ℕ → ℕ → ℕ → ℕ → ℝ} {V : Valuation τ sig (Elt Ideal)}
    (h : V (Proc.devRef .tc main_v74_7) = M4 .f32 32 4 128 128 f) :
    out_main_v77 V = M4 .f32 32 4 128 128 fun b h a e => f b h e a := by
  unfold out_main_v77
  rw [h]
  funext i
  idx_vars i
  pointwise
  rfl

/-- The reference's results. -/
theorem reference_eq (m : (ℓ : Loc nD τ sig) → Buf (Elt Ideal) ℓ) (c : Dev nD)
    (h0 : m ((c.tc : Thread nD τ).loc main_arg0) = M3 .f32 32 2048 1024 X)
    (h1 : m ((c.tc : Thread nD τ).loc main_arg1) = M .f32 1 1024 g)
    (h2 : m ((c.tc : Thread nD τ).loc main_arg2) = M3 .f32 1 1024 6144 w)
    (h3 : m ((c.tc : Thread nD τ).loc main_arg3) = M .f32 2 512 a)
    (h4 : m ((c.tc : Thread nD τ).loc main_arg4) = M .f32 1 512 ng)
    (h12 : m ((c.tc : Thread nD τ).loc main_arg12) = M3 .f32 4 128 128 S) :
    out_main_v76 (STEP^[2048] (entryContents preI m c)) = M .f32 65536 512 (resultR X g (w 0) (lbR a) ng S)
    ∧ out_main_v77 (STEP^[2048] (entryContents preI m c)) = M4 .f32 32 4 128 128 fun b h a' e =>
      loopS (kT X g (w 0) (lbR a)) (vT X g (w 0)) (fT X g (w 0) (lbR a)) (sT S) 2048 b h e a' := by
  have k0 : after hostOps0_1 (after hostOps0 (fun j => m (c, j))) (Proc.devRef .tc main_arg0) = M3 .f32 32 2048 1024 X := by
    rw [keep_main_arg0_hostOps0_1, keep_main_arg0_hostOps0]; exact h0
  have k1 : after hostOps0_1 (after hostOps0 (fun j => m (c, j))) (Proc.devRef .tc main_arg1) = M .f32 1 1024 g := by
    rw [keep_main_arg1_hostOps0_1, keep_main_arg1_hostOps0]; exact h1
  have k2 : after hostOps0_1 (after hostOps0 (fun j => m (c, j))) (Proc.devRef .tc main_arg2) = M3 .f32 1 1024 6144 w := by
    rw [keep_main_arg2_hostOps0_1, keep_main_arg2_hostOps0]; exact h2
  have k4 : after hostOps0_1 (after hostOps0 (fun j => m (c, j))) (Proc.devRef .tc main_arg4) = M .f32 1 512 ng := by
    rw [keep_main_arg4_hostOps0_1, keep_main_arg4_hostOps0]; exact h4
  have k12 : after hostOps0_1 (after hostOps0 (fun j => m (c, j))) (Proc.devRef .tc main_arg12) = M3 .f32 4 128 128 S := by
    rw [keep_main_arg12_hostOps0_1, keep_main_arg12_hostOps0]; exact h12
  have kl := entry_lb (V := fun j => m (c, j)) h3
  have e : entryContents preI m c = after hostOps0_2 (after hostOps0_1 (after hostOps0 fun j => m (c, j))) := by
    simp only [entryContents, afterL_cons, afterL_nil]
  rw [e]
  obtain ⟨-, -, -, -, -, -, -, hs, ho⟩ := loop_eq (q := qT X g (w 0)) (k := kT X g (w 0) (lbR a)) (v := vT X g (w 0))
    (f := fT X g (w 0) (lbR a)) (z := zT X g (w 0)) (ng := ng) (s := sT S) (o := fun _ _ _ _ => 0)
    (entry_q k0 k1 k2) (entry_k k0 k1 k2 kl) (entry_v k0 k1 k2) (entry_f k0 k1 k2 kl) (entry_z k0 k1 k2)
    (entry_n.trans k4) entry_c (entry_s k12) entry_o 2048 (Nat.le_refl _)
  refine ⟨?_, state_layout hs⟩
  rw [out_layout ho]
  refine M_congr fun r hr j hj => ?_
  rw [if_pos (by omega)]
  rfl

end Hgrn
-- ==== Proof.State.lean ====
/- The state after the last token. The last block of a sequence writes the state it has reached to
   the call's third array, one sequence after another; on real numbers that is the state of the
   reference's loop after its last token. -/
module

public import proofs.«01_k».proof.Proof.Result

@[expose] public section

set_option maxRecDepth 16384

namespace Hgrn.CaseC

open Idealize.ShloMosaic Idealize.SL Cert.KernelIdeal Cert.KernelIdeal.Gen

variable {c : Dev nD} {i : grid0.Coords} {arg2 : Memref sig .tc .vmem S256x1024 .f32} {harg2 : arg2.IsWhole} {arg3 : Memref sig .tc .vmem S1x1024 .f32} {harg3 : arg3.IsWhole} {arg4 : Memref sig .tc .vmem S1024x2048 .bf16} {harg4 : arg4.IsWhole} {arg5 : Memref sig .tc .vmem S1x512 .f32} {harg5 : arg5.IsWhole} {arg6 : Memref sig .tc .vmem S1x512 .f32} {harg6 : arg6.IsWhole} {arg7 : Memref sig .tc .vmem S4x128x128 .f32} {harg7 : arg7.IsWhole} {arg8 : Memref sig .tc .vmem S8x1024x256 .bf16} {harg8 : arg8.IsWhole} {arg9 : Memref sig .tc .vmem S4x1024 .f32} {harg9 : arg9.IsWhole} {arg10 : Memref sig .tc .vmem S1x1024 .f32} {harg10 : arg10.IsWhole} {arg11 : Memref sig .tc .vmem S8x128x256 .bf16} {harg11 : arg11.IsWhole} {arg12 : Memref sig .tc .vmem S1x1024 .f32} {harg12 : arg12.IsWhole} {arg13 : Memref sig .tc .vmem S1x1024 .f32} {harg13 : arg13.IsWhole} {arg14 : Memref sig .tc .vmem S1x1024 .f32} {harg14 : arg14.IsWhole} {arg15 : Memref sig .tc .vmem S1x1024 .f32} {harg15 : arg15.IsWhole} {arg16 : Memref sig .tc .vmem S8x1024 .f32} {harg16 : arg16.IsWhole} {arg17 : Memref sig .tc .vmem S256x512 .f32} {harg17 : arg17.IsWhole} {arg18 : Memref sig .tc .vmem S256x1024 .f32} {harg18 : arg18.IsWhole} {arg19 : Memref sig .tc .vmem S1x4x128x128 .f32} {harg19 : arg19.IsWhole} {arg20 : Memref sig .tc .vmem S1x1x1024 .f32} {harg20 : arg20.IsWhole} {arg21 : Memref sig .tc .vmem S1x8x1024 .f32} {harg21 : arg21.IsWhole} {arg22 : Memref sig .tc .vmem S4x128x128 .f32} {harg22 : arg22.IsWhole} {arg23 : Memref sig .tc .vmem S256x512 .f32} {harg23 : arg23.IsWhole} {arg24 : Memref sig .tc .vmem S256x2048 .f32} {harg24 : arg24.IsWhole} {arg25 : Memref sig .tc .vmem S8x1024 .f32} {harg25 : arg25.IsWhole} {arg26 : Memref sig .tc .vmem S1x1024 .f32} {harg26 : arg26.IsWhole} {arg27 : Memref sig .tc .vmem S8x256x128 .f32} {harg27 : arg27.IsWhole} {hc0 : ¬cond0_0 i} {hc1 : cond0_1 i}
  {x g w lb ng : ℕ → ℕ → ℝ} {S : ℕ → ℕ → ℕ → ℝ}
  {x5 : Vec Ideal S4x128x128 .f32} {x6 : Vec Ideal S8x1024x256 .bf16} {x7 : Vec Ideal S4x1024 .f32} {x8 : Vec Ideal S1x1024 .f32} {x9 : Vec Ideal S8x128x256 .bf16} {x10 : Vec Ideal S1x1024 .f32} {x11 : Vec Ideal S1x1024 .f32} {x12 : Vec Ideal S1x1024 .f32} {x13 : Vec Ideal S1x1024 .f32} {x14 : Vec Ideal S8x1024 .f32} {xs3 : Vec Ideal S8x1024 .f32} {xs4 : Vec Ideal S1x1024 .f32}

/-- What the last block of a sequence writes to the array of states: the state it leaves. -/
theorem final_value (h : ∀ b < 512, 0 < lb 0 b ∧ lb 0 b < 1) :
    out0_C_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) x5 x6 x7 x8 x9 x10 x11 x12 x13 x14 (M3 .f32 4 128 128 S) xs3 xs4
      = M4 .f32 1 4 128 128 (fun _ => blockS x w lb g S) := by
  have e : sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 hc1 (M .f32 256 1024 x) (M .f32 1 1024 g) (M .bf16 1024 2048 w) (M .f32 1 512 lb) (M .f32 1 512 ng) x5 x6 x7 x8 x9 x10 x11 x12 x13 x14 (M3 .f32 4 128 128 S) xs3 xs4
      = M3 .f32 4 128 128 (blockS x w lb g S) := state_value h
  unfold sout0_C_0 at e
  rw [View.read_writes_junk_eq_canon] at e
  change View.canon (kernelRun0_C.sl.HS0_4 (F := Ideal) c arg2 harg2 arg3 harg3 arg4 harg4 arg5 harg5 arg22 harg22 arg23 arg24 (M .f32 256 1024 x) (M .f32 1 1024 g) (M .bf16 1024 2048 w) (M .f32 1 512 lb) (M3 .f32 4 128 128 S)) = _ at e
  unfold out0_C_17
  rw [View.read_writes_junk_eq_canon]
  unfold kernelRun0_C
  dsimp only
  rw [View.canon_cons_unit_lit]
  · unfold kernelRun0_C.sl.v8820
    rw [View.readCov_eq_canon', e]
    funext y
    unfold k0_pay3
    idx_vars y
    pointwise
    rfl
  · intro i; fin_cases i <;> rfl

end Hgrn.CaseC

namespace Hgrn

section Kernel

open Idealize.ShloMosaic Idealize.ShloMosaic.TcCoe Idealize.SL Cert.KernelIdeal Cert.KernelIdeal.Gen Cert.KernelIdeal.Value

variable {m : (ℓ : Loc nD τ sig) → Buf (Elt Ideal) ℓ} {c : Dev nD} {X g w lb ng : ℕ → ℕ → ℝ} {S : ℕ → ℕ → ℕ → ℝ}

/-- The block of the array of states after the last block of a sequence. -/
theorem last_eq (hX : V m c main_v39 = M .f32 65536 1024 X) (hg : V m c main_v16 = M .f32 1 1024 g)
    (hw : V m c main_v34 = M .bf16 1024 2048 w) (hlb : V m c main_v14 = M .f32 1 512 lb)
    (hng : V m c main_v20 = M .f32 1 512 ng) (hS : V m c main_arg12 = M3 .f32 4 128 128 S)
    (h : ∀ b < 512, 0 < lb 0 b ∧ lb 0 b < 1) (n : ℕ) (hn : n + 1 < cfg0.N) (h7 : (n + 1) % 8 = 7) :
    (outsAt0 m c (n + 1) hn).2.2.1
      = M4 .f32 1 4 128 128 fun _ => blockS (rows (256 * (n + 1)) X) w lb g (startR X g w lb S (n + 1)) := by
  have ih := (outs_eq hX hg hw hlb hng hS h n (Nat.lt_of_succ_lt hn)).2
  have h0 : ¬ (n + 1) % 8 = 0 := by omega
  rw [outsAt0_succ, stAt0_C m c ⟨n + 1, hn⟩ _ h0 h7]
  dsimp only
  rw [iblk_x hX, iblk_g hg, iblk_w hw, iblk_lb hlb, iblk_ng hng, ih, startR, if_neg h0]
  exact CaseC.final_value h

/-- The array of states. -/
theorem states_eq (hX : V m c main_v39 = M .f32 65536 1024 X) (hg : V m c main_v16 = M .f32 1 1024 g)
    (hw : V m c main_v34 = M .bf16 1024 2048 w) (hlb : V m c main_v14 = M .f32 1 512 lb)
    (hng : V m c main_v20 = M .f32 1 512 ng) (hS : V m c main_arg12 = M3 .f32 4 128 128 S)
    (h : ∀ b < 512, 0 < lb 0 b ∧ lb 0 b < 1) :
    G17 m c = M4 .f32 32 4 128 128 fun b =>
      blockS (rows (256 * (8 * b + 6 + 1)) X) w lb g (startR X g w lb S (8 * b + 6 + 1)) := by
  funext i
  have h0 : (i 0).val < 32 := (i 0).isLt
  have h1 : (i 1).val < 4 := (i 1).isLt
  have h2 : (i 2).val < 128 := (i 2).isLt
  have h3 : (i 3).val < 128 := (i 3).isLt
  have hp : pt17Of i = 8 * (i 0).val + 6 + 1 := by
    show 8 * (1 * ((i 0).val / 1 - 0) + 1 * ((i 1).val / 4 - 0) + 1 * ((i 2).val / 128 - 0) + 1 * ((i 3).val / 128 - 0)) + 7 = _
    omega
  have hN : 8 * (i 0).val + 6 + 1 < cfg0.N := by rw [show cfg0.N = 256 from N_0]; omega
  unfold G17
  rw [dif_pos (by rw [hp]; exact hN), ← outsAt0_sweep m c _ (by rw [hp]; exact hN)]
  simp only [hp]
  rw [last_eq hX hg hw hlb hng hS h _ hN (by omega)]
  show ((blockS (rows (256 * (8 * (i 0).val + 6 + 1)) X) w lb g (startR X g w lb S (8 * (i 0).val + 6 + 1)) ((i 1).val % 4)
    ((i 2).val % 128) ((i 3).val % 128) : ℝ) : EReal) = _
  rw [Nat.mod_eq_of_lt h1, Nat.mod_eq_of_lt h2, Nat.mod_eq_of_lt h3]
  rfl

end Kernel

section Join

variable {X : ℕ → ℕ → ℕ → ℝ} {g w lb ng : ℕ → ℕ → ℝ} {S : ℕ → ℕ → ℕ → ℝ}

/-- The state after the last block of a sequence is the state after the last token. -/
theorem join_state (hlb : ∀ c < 512, 0 < lb 0 c ∧ lb 0 c < 1) (b h a e : ℕ) (hh : h < 4) (he : e < 128) :
    blockS (rows (256 * (8 * b + 6 + 1)) (flatX X)) w lb g (startR (flatX X) g w lb S (8 * b + 6 + 1)) h a e
      = loopS (kT X g w lb) (vT X g w) (fT X g w lb) (sT S) 2048 b h e a := by
  rw [← seq_loop hlb b h a e hh he 2048 (by omega), blockS_eq _ _,
    start_eq (flatX X) b h 7 (by omega), seqR_block (256 * (8 * b + 6 + 1)),
    show 256 * (8 * b + 6 + 1) + 0 = 2048 * b + 256 * 7 by omega, ← seqR_add]

end Join

end Hgrn
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.Reference2Ideal.Run
public import proofs.«01_k».proof.Proof.Gen.Kernel2.Frame
public import proofs.«01_k».proof.Proof.Gen.Kernel2.Skeleton
public import proofs.«01_k».proof.Proof.Gen.Kernel2.Points
public import proofs.«01_k».proof.Proof.Gen.Kernel2Ideal.Frame
public import proofs.«01_k».proof.Proof.Gen.Kernel2Ideal.Skeleton
public import proofs.«01_k».proof.Proof.Gen.Kernel2Ideal.Points
public import proofs.«01_k».proof.Proof.MergeFrame
public import proofs.«01_k».proof.Proof.MergeValue
public import proofs.«01_k».proof.Proof.MergeReference
public import proofs.«01_k».proof.Proof.Finite
public import proofs.«01_k».proof.Proof.State
public import Idealize.ShloMosaic.Adequacy
public import Idealize.ShloMosaic.Init

@[expose] public section

noncomputable section

namespace Cert.Proof

open Idealize.ShloMosaic Idealize.SL.Sem Hgrn

/-- The kernel runs, leaving its arguments and every semaphore as they were. -/
theorem frame_kernel : Cert.quiescent_Kernel := fun m ρ _ => Cert.Kernel.Gen.frame m ρ

/-- So does the kernel on the extended reals. -/
theorem frame_ideal : Cert.quiescent_KernelIdeal := fun m ρ _ => Cert.KernelIdeal.Gen.frame m ρ

theorem frame_ideal_pre : Cert.quiescent_KernelIdeal_pre_finite := fun m ρ _ => Cert.KernelIdeal.Gen.frame m ρ

/-- The reference runs, and has no semaphore. -/
theorem frame_reference : Cert.quiescent_ReferenceIdeal := fun m ρ _ =>
  (θ_run _ _ _).mono (fun r h => ⟨fun c => (h c).2.2, Idealize.ShloMosaic.sem_eq_zero_of_no_sems (by decide) r.2⟩) (Cert.ReferenceIdeal.Value.run m ρ)

theorem frame_reference_pre : Cert.quiescent_ReferenceIdeal_pre_finite := fun m ρ _ => frame_reference m ρ trivial

/-- The results of the two sides, the outputs and the last states, are the same arrays of real numbers. -/
theorem algebraic : Cert.algebraic_KernelIdeal_ReferenceIdeal_pre_finite := by
  intro m ρ m' ρ' hpre hargs
  refine ⟨fun c => Cert.KernelIdeal.Value.G15 m c, fun c => Cert.KernelIdeal.Value.G17 m c, ?_, ?_⟩
  · exact (θ_run _ _ _).mono (fun _ h c => ⟨(h c).1, (h c).2.2.1, (h c).2.2.2.2.2⟩) (Cert.KernelIdeal.Value.run m ρ)
  · refine (θ_run _ _ _).mono (fun r h c => ?_) (Cert.ReferenceIdeal.Value.run m' ρ')
    obtain ⟨⟨X, hX⟩, ⟨g, hg⟩, ⟨w, hw⟩, ⟨a, ha⟩, ⟨ng, hng⟩, S, hS⟩ := reals_of_finite (hpre c)
    obtain ⟨e0, e1, e2, e3, e4, -, -, -, -, -, -, -, e12, -, -⟩ := hargs c
    obtain ⟨r0, r1⟩ := reference_eq m' c (e0.trans hX) (e1.trans hg) (e2.trans hw) (e3.trans ha) (e4.trans hng) (e12.trans hS)
    have hl : ∀ b < 512, 0 < lbR a 0 b ∧ lbR a 0 b < 1 := fun b _ => lbR_pos a b
    refine ⟨(h c).1.trans (r0.trans ?_), (h c).2.1.trans (r1.trans ?_), (h c).2.2⟩
    · refine Eq.trans ?_ (result_eq (host_x hX) (host_g hg) (host_w hw) (host_lb ha) (host_ng hng)
        ((Cert.KernelIdeal.Gen.V_main_arg12 m c).trans hS) hl).symm
      exact M_congr fun r _ j hj => (join hl r j hj).symm
    · refine Eq.trans ?_ (states_eq (host_x hX) (host_g hg) (host_w hw) (host_lb ha) (host_ng hng)
        ((Cert.KernelIdeal.Gen.V_main_arg12 m c).trans hS) hl).symm
      funext i
      exact congrArg _ (join_state hl (i 0).val (i 1).val (i 2).val (i 3).val (i 1).isLt (i 3).isLt).symm

/-! ### The merge -/

/-- The merge runs, leaving its arguments and every semaphore as they were. -/
theorem frame_kernel2 : Cert.quiescent_Kernel2 := fun m ρ _ => Cert.Kernel2.Body.frame m ρ

/-- So does the merge on the extended reals. -/
theorem frame_ideal2 : Cert.quiescent_Kernel2Ideal := fun m ρ _ => Cert.Kernel2Ideal.Body.frame m ρ

/-- Its reference runs, and has no semaphore. -/
theorem frame_reference2 : Cert.quiescent_Reference2Ideal := fun m ρ _ =>
  (θ_run _ _ _).mono (fun r h => ⟨fun c => (h c).2.2, Idealize.ShloMosaic.sem_eq_zero_of_no_sems (by decide) r.2⟩) (Cert.Reference2Ideal.Value.run m ρ)

/-- The merge's two results are the same arrays of extended real numbers on the two sides. -/
theorem algebraic2 : Cert.algebraic_Kernel2Ideal_Reference2Ideal := by
  intro m ρ m' ρ' _ hargs
  refine ⟨fun c => (Cert.Kernel2Ideal.Body.dats m 0 c).arrAt 12 Cert.Kernel2Ideal.cfg0.N,
    fun c => (Cert.Kernel2Ideal.Body.dats m 0 c).arrAt 13 Cert.Kernel2Ideal.cfg0.N, ?_, ?_⟩
  · exact (θ_run _ _ _).mono (fun _ h c => ⟨(h.1 c).1, (h.1 c).2, h.2 c⟩) (Merge.run m ρ)
  · refine (θ_run _ _ _).mono (fun r h c => ?_) (Cert.Reference2Ideal.Value.run m' ρ')
    obtain ⟨x, hx⟩ := Merge.exists_N3 (l := 32) (m := 2048) (n := 1024) (m ((c.tc : Thread Cert.Kernel2Ideal.nD Cert.Kernel2Ideal.τ).loc Cert.Kernel2Ideal.main_arg0))
    obtain ⟨g, hg⟩ := Merge.exists_N (m := 1) (n := 1024) (m ((c.tc : Thread Cert.Kernel2Ideal.nD Cert.Kernel2Ideal.τ).loc Cert.Kernel2Ideal.main_arg1))
    obtain ⟨wi, hwi⟩ := Merge.exists_N3 (l := 1) (m := 1024) (n := 6144) (m ((c.tc : Thread Cert.Kernel2Ideal.nD Cert.Kernel2Ideal.τ).loc Cert.Kernel2Ideal.main_arg2))
    obtain ⟨oa, hoa⟩ := Merge.exists_N (m := 65536) (n := 512) (m ((c.tc : Thread Cert.Kernel2Ideal.nD Cert.Kernel2Ideal.τ).loc Cert.Kernel2Ideal.main_arg3))
    obtain ⟨ob, hob⟩ := Merge.exists_N (m := 65536) (n := 1024) (m ((c.tc : Thread Cert.Kernel2Ideal.nD Cert.Kernel2Ideal.τ).loc Cert.Kernel2Ideal.main_arg4))
    obtain ⟨wa, hwa⟩ := Merge.exists_N3 (l := 1) (m := 512) (n := 1024) (m ((c.tc : Thread Cert.Kernel2Ideal.nD Cert.Kernel2Ideal.τ).loc Cert.Kernel2Ideal.main_arg5))
    obtain ⟨wb, hwb⟩ := Merge.exists_N3 (l := 1) (m := 1024) (n := 1024) (m ((c.tc : Thread Cert.Kernel2Ideal.nD Cert.Kernel2Ideal.τ).loc Cert.Kernel2Ideal.main_arg6))
    obtain ⟨wo, hwo⟩ := Merge.exists_N3 (l := 1) (m := 1024) (n := 1024) (m ((c.tc : Thread Cert.Kernel2Ideal.nD Cert.Kernel2Ideal.τ).loc Cert.Kernel2Ideal.main_arg7))
    obtain ⟨g2, hg2⟩ := Merge.exists_N (m := 1) (n := 1024) (m ((c.tc : Thread Cert.Kernel2Ideal.nD Cert.Kernel2Ideal.τ).loc Cert.Kernel2Ideal.main_arg8))
    obtain ⟨e0, e1, e2, e3, e4, e5, e6, e7, e8, -⟩ := hargs c
    refine ⟨(h c).1.trans ?_, (h c).2.1.trans ?_, (h c).2.2⟩
    · rw [e0.trans hx, e1.trans hg, e2.trans hwi, e3.trans hoa, e4.trans hob, e5.trans hwa, e6.trans hwb, e7.trans hwo]
      refine (Merge.reference_eq (x := x) (w := g) (wi := wi) (oa := oa) (ob := ob) (wa := wa) (wb := wb) (wo := wo)).trans ?_
      exact (Merge.result_eq (Merge.host_x hx) (Merge.host_g hg) (Merge.host_wg hwi)
        ((Cert.Kernel2Ideal.Gen.V_main_arg3 m c).trans hoa) ((Cert.Kernel2Ideal.Gen.V_main_arg4 m c).trans hob)
        (Merge.host_wa hwa) (Merge.host_wb hwb) (Merge.host_wo hwo)).symm
    · unfold Cert.Reference2Ideal.Value.res_main_v56
      rw [e0.trans hx, e1.trans hg, e2.trans hwi, e3.trans hoa, e4.trans hob, e5.trans hwa, e6.trans hwb, e7.trans hwo,
        e8.trans hg2]
      refine (Merge.norm_reference_eq (x := x) (w := g) (wi := wi) (oa := oa) (ob := ob) (wa := wa) (wb := wb) (wo := wo)
        (g := g2)).trans ?_
      exact (Merge.norm_result_eq (Merge.host_x hx) (Merge.host_g hg) (Merge.host_wg hwi)
        ((Cert.Kernel2Ideal.Gen.V_main_arg3 m c).trans hoa) ((Cert.Kernel2Ideal.Gen.V_main_arg4 m c).trans hob)
        (Merge.host_wa hwa) (Merge.host_wb hwb) (Merge.host_wo hwo) (Merge.host_g2 hg2)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  frame_kernel, frame_ideal, frame_ideal_pre, frame_reference, frame_reference_pre, frame_kernel2, frame_ideal2, frame_reference2,
  trivial, algebraic, trivial, algebraic2⟩

end Cert.Proof

end
